-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_qk [hPre_finite_qk : Cert.Pre_finite_qk.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_qk.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2))) = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_qk [hPre_finite_qk : Cert.Pre_finite_qk.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_qk.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2))) = (fun _ => 1#1)

def Pre_KernelIo (m : (ℓ : Loc Cert.KernelIo.nD Cert.KernelIo.τ Cert.KernelIo.sig) → Buf (Elt Bits) ℓ) : Prop :=
  True

def Pre_KernelIoIdeal (m : (ℓ : Loc Cert.KernelIoIdeal.nD Cert.KernelIoIdeal.τ Cert.KernelIoIdeal.sig) → Buf (Elt Ideal) ℓ) : Prop :=
  True

def Pre_ReferenceIoIdeal (m : (ℓ : Loc Cert.ReferenceIoIdeal.nD Cert.ReferenceIoIdeal.τ Cert.ReferenceIoIdeal.sig) → Buf (Elt Ideal) ℓ) : Prop :=
  True

def Pre_KernelOo (m : (ℓ : Loc Cert.KernelOo.nD Cert.KernelOo.τ Cert.KernelOo.sig) → Buf (Elt Bits) ℓ) : Prop :=
  True

def Pre_KernelOoIdeal (m : (ℓ : Loc Cert.KernelOoIdeal.nD Cert.KernelOoIdeal.τ Cert.KernelOoIdeal.sig) → Buf (Elt Ideal) ℓ) : Prop :=
  True

def Pre_ReferenceOoIdeal (m : (ℓ : Loc Cert.ReferenceOoIdeal.nD Cert.ReferenceOoIdeal.τ Cert.ReferenceOoIdeal.sig) → Buf (Elt Ideal) ℓ) : Prop :=
  True

def Pre_KernelIe (m : (ℓ : Loc Cert.KernelIe.nD Cert.KernelIe.τ Cert.KernelIe.sig) → Buf (Elt Bits) ℓ) : Prop :=
  True

def Pre_KernelIeIdeal (m : (ℓ : Loc Cert.KernelIeIdeal.nD Cert.KernelIeIdeal.τ Cert.KernelIeIdeal.sig) → Buf (Elt Ideal) ℓ) : Prop :=
  True

def Pre_KernelIeIdeal_finite_rows [hPre_finite_rows : Cert.Pre_finite_rows.Facts] (m : (ℓ : Loc Cert.KernelIeIdeal.nD Cert.KernelIeIdeal.τ Cert.KernelIeIdeal.sig) → Buf (Elt Ideal) ℓ) : Prop :=
  ∀ c : Dev Cert.KernelIeIdeal.nD,
    (Cert.Pre_finite_rows.fn (F := Ideal) (m ((c.tc : Thread Cert.KernelIeIdeal.nD Cert.KernelIeIdeal.τ).loc Cert.KernelIeIdeal.main_arg0)) (m ((c.tc : Thread Cert.KernelIeIdeal.nD Cert.KernelIeIdeal.τ).loc Cert.KernelIeIdeal.main_arg1)) (m ((c.tc : Thread Cert.KernelIeIdeal.nD Cert.KernelIeIdeal.τ).loc Cert.KernelIeIdeal.main_arg2)) (m ((c.tc : Thread Cert.KernelIeIdeal.nD Cert.KernelIeIdeal.τ).loc Cert.KernelIeIdeal.main_arg3)) (m ((c.tc : Thread Cert.KernelIeIdeal.nD Cert.KernelIeIdeal.τ).loc Cert.KernelIeIdeal.main_arg4))) = (fun _ => 1#1)

def Pre_ReferenceIeIdeal (m : (ℓ : Loc Cert.ReferenceIeIdeal.nD Cert.ReferenceIeIdeal.τ Cert.ReferenceIeIdeal.sig) → Buf (Elt Ideal) ℓ) : Prop :=
  True

def Pre_ReferenceIeIdeal_finite_rows [hPre_finite_rows : Cert.Pre_finite_rows.Facts] (m : (ℓ : Loc Cert.ReferenceIeIdeal.nD Cert.ReferenceIeIdeal.τ Cert.ReferenceIeIdeal.sig) → Buf (Elt Ideal) ℓ) : Prop :=
  ∀ c : Dev Cert.ReferenceIeIdeal.nD,
    (Cert.Pre_finite_rows.fn (F := Ideal) (m ((c.tc : Thread Cert.ReferenceIeIdeal.nD Cert.ReferenceIeIdeal.τ).loc Cert.ReferenceIeIdeal.main_arg0)) (m ((c.tc : Thread Cert.ReferenceIeIdeal.nD Cert.ReferenceIeIdeal.τ).loc Cert.ReferenceIeIdeal.main_arg1)) (m ((c.tc : Thread Cert.ReferenceIeIdeal.nD Cert.ReferenceIeIdeal.τ).loc Cert.ReferenceIeIdeal.main_arg2)) (m ((c.tc : Thread Cert.ReferenceIeIdeal.nD Cert.ReferenceIeIdeal.τ).loc Cert.ReferenceIeIdeal.main_arg3)) (m ((c.tc : Thread Cert.ReferenceIeIdeal.nD Cert.ReferenceIeIdeal.τ).loc Cert.ReferenceIeIdeal.main_arg4))) = (fun _ => 1#1)

def Pre_KernelOe (m : (ℓ : Loc Cert.KernelOe.nD Cert.KernelOe.τ Cert.KernelOe.sig) → Buf (Elt Bits) ℓ) : Prop :=
  True

def Pre_KernelOeIdeal (m : (ℓ : Loc Cert.KernelOeIdeal.nD Cert.KernelOeIdeal.τ Cert.KernelOeIdeal.sig) → Buf (Elt Ideal) ℓ) : Prop :=
  True

def Pre_ReferenceOeIdeal (m : (ℓ : Loc Cert.ReferenceOeIdeal.nD Cert.ReferenceOeIdeal.τ Cert.ReferenceOeIdeal.sig) → Buf (Elt Ideal) ℓ) : Prop :=
  True

def Pre_KernelBa (m : (ℓ : Loc Cert.KernelBa.nD Cert.KernelBa.τ Cert.KernelBa.sig) → Buf (Elt Bits) ℓ) : Prop :=
  True

def Pre_KernelBaIdeal (m : (ℓ : Loc Cert.KernelBaIdeal.nD Cert.KernelBaIdeal.τ Cert.KernelBaIdeal.sig) → Buf (Elt Ideal) ℓ) : Prop :=
  True

def Pre_KernelBaIdeal_finite_band [hPre_finite_band : Cert.Pre_finite_band.Facts] (m : (ℓ : Loc Cert.KernelBaIdeal.nD Cert.KernelBaIdeal.τ Cert.KernelBaIdeal.sig) → Buf (Elt Ideal) ℓ) : Prop :=
  ∀ c : Dev Cert.KernelBaIdeal.nD,
    (Cert.Pre_finite_band.fn (F := Ideal) (m ((c.tc : Thread Cert.KernelBaIdeal.nD Cert.KernelBaIdeal.τ).loc Cert.KernelBaIdeal.main_arg0)) (m ((c.tc : Thread Cert.KernelBaIdeal.nD Cert.KernelBaIdeal.τ).loc Cert.KernelBaIdeal.main_arg1)) (m ((c.tc : Thread Cert.KernelBaIdeal.nD Cert.KernelBaIdeal.τ).loc Cert.KernelBaIdeal.main_arg2)) (m ((c.tc : Thread Cert.KernelBaIdeal.nD Cert.KernelBaIdeal.τ).loc Cert.KernelBaIdeal.main_arg3))) = (fun _ => 1#1)

def Pre_ReferenceBaIdeal (m : (ℓ : Loc Cert.ReferenceBaIdeal.nD Cert.ReferenceBaIdeal.τ Cert.ReferenceBaIdeal.sig) → Buf (Elt Ideal) ℓ) : Prop :=
  True

def Pre_ReferenceBaIdeal_finite_band [hPre_finite_band : Cert.Pre_finite_band.Facts] (m : (ℓ : Loc Cert.ReferenceBaIdeal.nD Cert.ReferenceBaIdeal.τ Cert.ReferenceBaIdeal.sig) → Buf (Elt Ideal) ℓ) : Prop :=
  ∀ c : Dev Cert.ReferenceBaIdeal.nD,
    (Cert.Pre_finite_band.fn (F := Ideal) (m ((c.tc : Thread Cert.ReferenceBaIdeal.nD Cert.ReferenceBaIdeal.τ).loc Cert.ReferenceBaIdeal.main_arg0)) (m ((c.tc : Thread Cert.ReferenceBaIdeal.nD Cert.ReferenceBaIdeal.τ).loc Cert.ReferenceBaIdeal.main_arg1)) (m ((c.tc : Thread Cert.ReferenceBaIdeal.nD Cert.ReferenceBaIdeal.τ).loc Cert.ReferenceBaIdeal.main_arg2)) (m ((c.tc : Thread Cert.ReferenceBaIdeal.nD Cert.ReferenceBaIdeal.τ).loc Cert.ReferenceBaIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1)
      ∧ r.2.mem ((c.tc : Thread Cert.KernelSb.nD Cert.KernelSb.τ).loc Cert.KernelSb.main_arg2) = m ((c.tc : Thread Cert.KernelSb.nD Cert.KernelSb.τ).loc Cert.KernelSb.main_arg2))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ r.2.sem = fun _ => 0)

def quiescent_KernelSbIdeal_pre_finite_qk [hKernelSbIdeal : Cert.KernelSbIdeal.Facts] [hPre_finite_qk : Cert.Pre_finite_qk.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_qk m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_ReferenceSbIdeal_pre_finite_qk [hReferenceSbIdeal : Cert.ReferenceSbIdeal.Facts] [hPre_finite_qk : Cert.Pre_finite_qk.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_qk m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_KernelIo [hKernelIo : Cert.KernelIo.Facts] : Prop :=
  ∀ (m : (ℓ : Loc Cert.KernelIo.nD Cert.KernelIo.τ Cert.KernelIo.sig) → Buf (Elt Bits) ℓ) (g : Dev Cert.KernelIo.nD → PrngReg), Pre_KernelIo m →
    θ_run (Cert.KernelIo.defs (F := Bits)) (onTc (τ := Cert.KernelIo.τ) (Cert.KernelIo.main (F := Bits))) ⟨m, fun _ => 0, g⟩ (fun r => (∀ c : Dev Cert.KernelIo.nD,
      r.2.mem ((c.tc : Thread Cert.KernelIo.nD Cert.KernelIo.τ).loc Cert.KernelIo.main_arg0) = m ((c.tc : Thread Cert.KernelIo.nD Cert.KernelIo.τ).loc Cert.KernelIo.main_arg0)
      ∧ r.2.mem ((c.tc : Thread Cert.KernelIo.nD Cert.KernelIo.τ).loc Cert.KernelIo.main_arg1) = m ((c.tc : Thread Cert.KernelIo.nD Cert.KernelIo.τ).loc Cert.KernelIo.main_arg1)
      ∧ r.2.mem ((c.tc : Thread Cert.KernelIo.nD Cert.KernelIo.τ).loc Cert.KernelIo.main_arg2) = m ((c.tc : Thread Cert.KernelIo.nD Cert.KernelIo.τ).loc Cert.KernelIo.main_arg2)
      ∧ r.2.mem ((c.tc : Thread Cert.KernelIo.nD Cert.KernelIo.τ).loc Cert.KernelIo.main_arg3) = m ((c.tc : Thread Cert.KernelIo.nD Cert.KernelIo.τ).loc Cert.KernelIo.main_arg3))
      ∧ r.2.sem = fun _ => 0)

def quiescent_KernelIoIdeal [hKernelIoIdeal : Cert.KernelIoIdeal.Facts] : Prop :=
  ∀ (m : (ℓ : Loc Cert.KernelIoIdeal.nD Cert.KernelIoIdeal.τ Cert.KernelIoIdeal.sig) → Buf (Elt Ideal) ℓ) (g : Dev Cert.KernelIoIdeal.nD → PrngReg), Pre_KernelIoIdeal m →
    θ_run (Cert.KernelIoIdeal.defs (F := Ideal)) (onTc (τ := Cert.KernelIoIdeal.τ) (Cert.KernelIoIdeal.main (F := Ideal))) ⟨m, fun _ => 0, g⟩ (fun r => (∀ c : Dev Cert.KernelIoIdeal.nD,
      r.2.mem ((c.tc : Thread Cert.KernelIoIdeal.nD Cert.KernelIoIdeal.τ).loc Cert.KernelIoIdeal.main_arg0) = m ((c.tc : Thread Cert.KernelIoIdeal.nD Cert.KernelIoIdeal.τ).loc Cert.KernelIoIdeal.main_arg0)
      ∧ r.2.mem ((c.tc : Thread Cert.KernelIoIdeal.nD Cert.KernelIoIdeal.τ).loc Cert.KernelIoIdeal.main_arg1) = m ((c.tc : Thread Cert.KernelIoIdeal.nD Cert.KernelIoIdeal.τ).loc Cert.KernelIoIdeal.main_arg1)
      ∧ r.2.mem ((c.tc : Thread Cert.KernelIoIdeal.nD Cert.KernelIoIdeal.τ).loc Cert.KernelIoIdeal.main_arg2) = m ((c.tc : Thread Cert.KernelIoIdeal.nD Cert.KernelIoIdeal.τ).loc Cert.KernelIoIdeal.main_arg2)
      ∧ r.2.mem ((c.tc : Thread Cert.KernelIoIdeal.nD Cert.KernelIoIdeal.τ).loc Cert.KernelIoIdeal.main_arg3) = m ((c.tc : Thread Cert.KernelIoIdeal.nD Cert.KernelIoIdeal.τ).loc Cert.KernelIoIdeal.main_arg3))
      ∧ r.2.sem = fun _ => 0)

def quiescent_ReferenceIoIdeal [hReferenceIoIdeal : Cert.ReferenceIoIdeal.Facts] : Prop :=
  ∀ (m : (ℓ : Loc Cert.ReferenceIoIdeal.nD Cert.ReferenceIoIdeal.τ Cert.ReferenceIoIdeal.sig) → Buf (Elt Ideal) ℓ) (g : Dev Cert.ReferenceIoIdeal.nD → PrngReg), Pre_ReferenceIoIdeal m →
    θ_run (Cert.ReferenceIoIdeal.defs (F := Ideal)) (onTc (τ := Cert.ReferenceIoIdeal.τ) (Cert.ReferenceIoIdeal.main (F := Ideal))) ⟨m, fun _ => 0, g⟩ (fun r => (∀ c : Dev Cert.ReferenceIoIdeal.nD,
      r.2.mem ((c.tc : Thread Cert.ReferenceIoIdeal.nD Cert.ReferenceIoIdeal.τ).loc Cert.ReferenceIoIdeal.main_arg0) = m ((c.tc : Thread Cert.ReferenceIoIdeal.nD Cert.ReferenceIoIdeal.τ).loc Cert.ReferenceIoIdeal.main_arg0)
      ∧ r.2.mem ((c.tc : Thread Cert.ReferenceIoIdeal.nD Cert.ReferenceIoIdeal.τ).loc Cert.ReferenceIoIdeal.main_arg1) = m ((c.tc : Thread Cert.ReferenceIoIdeal.nD Cert.ReferenceIoIdeal.τ).loc Cert.ReferenceIoIdeal.main_arg1)
      ∧ r.2.mem ((c.tc : Thread Cert.ReferenceIoIdeal.nD Cert.ReferenceIoIdeal.τ).loc Cert.ReferenceIoIdeal.main_arg2) = m ((c.tc : Thread Cert.ReferenceIoIdeal.nD Cert.ReferenceIoIdeal.τ).loc Cert.ReferenceIoIdeal.main_arg2)
      ∧ r.2.mem ((c.tc : Thread Cert.ReferenceIoIdeal.nD Cert.ReferenceIoIdeal.τ).loc Cert.ReferenceIoIdeal.main_arg3) = m ((c.tc : Thread Cert.ReferenceIoIdeal.nD Cert.ReferenceIoIdeal.τ).loc Cert.ReferenceIoIdeal.main_arg3))
      ∧ r.2.sem = fun _ => 0)

def quiescent_KernelOo [hKernelOo : Cert.KernelOo.Facts] : Prop :=
  ∀ (m : (ℓ : Loc Cert.KernelOo.nD Cert.KernelOo.τ Cert.KernelOo.sig) → Buf (Elt Bits) ℓ) (g : Dev Cert.KernelOo.nD → PrngReg), Pre_KernelOo m →
    θ_run (Cert.KernelOo.defs (F := Bits)) (onTc (τ := Cert.KernelOo.τ) (Cert.KernelOo.main (F := Bits))) ⟨m, fun _ => 0, g⟩ (fun r => (∀ c : Dev Cert.KernelOo.nD,
      r.2.mem ((c.tc : Thread Cert.KernelOo.nD Cert.KernelOo.τ).loc Cert.KernelOo.main_arg0) = m ((c.tc : Thread Cert.KernelOo.nD Cert.KernelOo.τ).loc Cert.KernelOo.main_arg0)
      ∧ r.2.mem ((c.tc : Thread Cert.KernelOo.nD Cert.KernelOo.τ).loc Cert.KernelOo.main_arg1) = m ((c.tc : Thread Cert.KernelOo.nD Cert.KernelOo.τ).loc Cert.KernelOo.main_arg1)
      ∧ r.2.mem ((c.tc : Thread Cert.KernelOo.nD Cert.KernelOo.τ).loc Cert.KernelOo.main_arg2) = m ((c.tc : Thread Cert.KernelOo.nD Cert.KernelOo.τ).loc Cert.KernelOo.main_arg2)
      ∧ r.2.mem ((c.tc : Thread Cert.KernelOo.nD Cert.KernelOo.τ).loc Cert.KernelOo.main_arg3) = m ((c.tc : Thread Cert.KernelOo.nD Cert.KernelOo.τ).loc Cert.KernelOo.main_arg3)
      ∧ r.2.mem ((c.tc : Thread Cert.KernelOo.nD Cert.KernelOo.τ).loc Cert.KernelOo.main_arg4) = m ((c.tc : Thread Cert.KernelOo.nD Cert.KernelOo.τ).loc Cert.KernelOo.main_arg4)
      ∧ r.2.mem ((c.tc : Thread Cert.KernelOo.nD Cert.KernelOo.τ).loc Cert.KernelOo.main_arg5) = m ((c.tc : Thread Cert.KernelOo.nD Cert.KernelOo.τ).loc Cert.KernelOo.main_arg5)
      ∧ r.2.mem ((c.tc : Thread Cert.KernelOo.nD Cert.KernelOo.τ).loc Cert.KernelOo.main_arg6) = m ((c.tc : Thread Cert.KernelOo.nD Cert.KernelOo.τ).loc Cert.KernelOo.main_arg6))
      ∧ r.2.sem = fun _ => 0)

def quiescent_KernelOoIdeal [hKernelOoIdeal : Cert.KernelOoIdeal.Facts] : Prop :=
  ∀ (m : (ℓ : Loc Cert.KernelOoIdeal.nD Cert.KernelOoIdeal.τ Cert.KernelOoIdeal.sig) → Buf (Elt Ideal) ℓ) (g : Dev Cert.KernelOoIdeal.nD → PrngReg), Pre_KernelOoIdeal m →
    θ_run (Cert.KernelOoIdeal.defs (F := Ideal)) (onTc (τ := Cert.KernelOoIdeal.τ) (Cert.KernelOoIdeal.main (F := Ideal))) ⟨m, fun _ => 0, g⟩ (fun r => (∀ c : Dev Cert.KernelOoIdeal.nD,
      r.2.mem ((c.tc : Thread Cert.KernelOoIdeal.nD Cert.KernelOoIdeal.τ).loc Cert.KernelOoIdeal.main_arg0) = m ((c.tc : Thread Cert.KernelOoIdeal.nD Cert.KernelOoIdeal.τ).loc Cert.KernelOoIdeal.main_arg0)
      ∧ r.2.mem ((c.tc : Thread Cert.KernelOoIdeal.nD Cert.KernelOoIdeal.τ).loc Cert.KernelOoIdeal.main_arg1) = m ((c.tc : Thread Cert.KernelOoIdeal.nD Cert.KernelOoIdeal.τ).loc Cert.KernelOoIdeal.main_arg1)
      ∧ r.2.mem ((c.tc : Thread Cert.KernelOoIdeal.nD Cert.KernelOoIdeal.τ).loc Cert.KernelOoIdeal.main_arg2) = m ((c.tc : Thread Cert.KernelOoIdeal.nD Cert.KernelOoIdeal.τ).loc Cert.KernelOoIdeal.main_arg2)
      ∧ r.2.mem ((c.tc : Thread Cert.KernelOoIdeal.nD Cert.KernelOoIdeal.τ).loc Cert.KernelOoIdeal.main_arg3) = m ((c.tc : Thread Cert.KernelOoIdeal.nD Cert.KernelOoIdeal.τ).loc Cert.KernelOoIdeal.main_arg3)
      ∧ r.2.mem ((c.tc : Thread Cert.KernelOoIdeal.nD Cert.KernelOoIdeal.τ).loc Cert.KernelOoIdeal.main_arg4) = m ((c.tc : Thread Cert.KernelOoIdeal.nD Cert.KernelOoIdeal.τ).loc Cert.KernelOoIdeal.main_arg4)
      ∧ r.2.mem ((c.tc : Thread Cert.KernelOoIdeal.nD Cert.KernelOoIdeal.τ).loc Cert.KernelOoIdeal.main_arg5) = m ((c.tc : Thread Cert.KernelOoIdeal.nD Cert.KernelOoIdeal.τ).loc Cert.KernelOoIdeal.main_arg5)
      ∧ r.2.mem ((c.tc : Thread Cert.KernelOoIdeal.nD Cert.KernelOoIdeal.τ).loc Cert.KernelOoIdeal.main_arg6) = m ((c.tc : Thread Cert.KernelOoIdeal.nD Cert.KernelOoIdeal.τ).loc Cert.KernelOoIdeal.main_arg6))
      ∧ r.2.sem = fun _ => 0)

def quiescent_ReferenceOoIdeal [hReferenceOoIdeal : Cert.ReferenceOoIdeal.Facts] : Prop :=
  ∀ (m : (ℓ : Loc Cert.ReferenceOoIdeal.nD Cert.ReferenceOoIdeal.τ Cert.ReferenceOoIdeal.sig) → Buf (Elt Ideal) ℓ) (g : Dev Cert.ReferenceOoIdeal.nD → PrngReg), Pre_ReferenceOoIdeal m →
    θ_run (Cert.ReferenceOoIdeal.defs (F := Ideal)) (onTc (τ := Cert.ReferenceOoIdeal.τ) (Cert.ReferenceOoIdeal.main (F := Ideal))) ⟨m, fun _ => 0, g⟩ (fun r => (∀ c : Dev Cert.ReferenceOoIdeal.nD,
      r.2.mem ((c.tc : Thread Cert.ReferenceOoIdeal.nD Cert.ReferenceOoIdeal.τ).loc Cert.ReferenceOoIdeal.main_arg0) = m ((c.tc : Thread Cert.ReferenceOoIdeal.nD Cert.ReferenceOoIdeal.τ).loc Cert.ReferenceOoIdeal.main_arg0)
      ∧ r.2.mem ((c.tc : Thread Cert.ReferenceOoIdeal.nD Cert.ReferenceOoIdeal.τ).loc Cert.ReferenceOoIdeal.main_arg1) = m ((c.tc : Thread Cert.ReferenceOoIdeal.nD Cert.ReferenceOoIdeal.τ).loc Cert.ReferenceOoIdeal.main_arg1)
      ∧ r.2.mem ((c.tc : Thread Cert.ReferenceOoIdeal.nD Cert.ReferenceOoIdeal.τ).loc Cert.ReferenceOoIdeal.main_arg2) = m ((c.tc : Thread Cert.ReferenceOoIdeal.nD Cert.ReferenceOoIdeal.τ).loc Cert.ReferenceOoIdeal.main_arg2)
      ∧ r.2.mem ((c.tc : Thread Cert.ReferenceOoIdeal.nD Cert.ReferenceOoIdeal.τ).loc Cert.ReferenceOoIdeal.main_arg3) = m ((c.tc : Thread Cert.ReferenceOoIdeal.nD Cert.ReferenceOoIdeal.τ).loc Cert.ReferenceOoIdeal.main_arg3)
      ∧ r.2.mem ((c.tc : Thread Cert.ReferenceOoIdeal.nD Cert.ReferenceOoIdeal.τ).loc Cert.ReferenceOoIdeal.main_arg4) = m ((c.tc : Thread Cert.ReferenceOoIdeal.nD Cert.ReferenceOoIdeal.τ).loc Cert.ReferenceOoIdeal.main_arg4)
      ∧ r.2.mem ((c.tc : Thread Cert.ReferenceOoIdeal.nD Cert.ReferenceOoIdeal.τ).loc Cert.ReferenceOoIdeal.main_arg5) = m ((c.tc : Thread Cert.ReferenceOoIdeal.nD Cert.ReferenceOoIdeal.τ).loc Cert.ReferenceOoIdeal.main_arg5)
      ∧ r.2.mem ((c.tc : Thread Cert.ReferenceOoIdeal.nD Cert.ReferenceOoIdeal.τ).loc Cert.ReferenceOoIdeal.main_arg6) = m ((c.tc : Thread Cert.ReferenceOoIdeal.nD Cert.ReferenceOoIdeal.τ).loc Cert.ReferenceOoIdeal.main_arg6))
      ∧ r.2.sem = fun _ => 0)

def quiescent_KernelIe [hKernelIe : Cert.KernelIe.Facts] : Prop :=
  ∀ (m : (ℓ : Loc Cert.KernelIe.nD Cert.KernelIe.τ Cert.KernelIe.sig) → Buf (Elt Bits) ℓ) (g : Dev Cert.KernelIe.nD → PrngReg), Pre_KernelIe m →
    θ_run (Cert.KernelIe.defs (F := Bits)) (onTc (τ := Cert.KernelIe.τ) (Cert.KernelIe.main (F := Bits))) ⟨m, fun _ => 0, g⟩ (fun r => (∀ c : Dev Cert.KernelIe.nD,
      r.2.mem ((c.tc : Thread Cert.KernelIe.nD Cert.KernelIe.τ).loc Cert.KernelIe.main_arg0) = m ((c.tc : Thread Cert.KernelIe.nD Cert.KernelIe.τ).loc Cert.KernelIe.main_arg0)
      ∧ r.2.mem ((c.tc : Thread Cert.KernelIe.nD Cert.KernelIe.τ).loc Cert.KernelIe.main_arg1) = m ((c.tc : Thread Cert.KernelIe.nD Cert.KernelIe.τ).loc Cert.KernelIe.main_arg1)
      ∧ r.2.mem ((c.tc : Thread Cert.KernelIe.nD Cert.KernelIe.τ).loc Cert.KernelIe.main_arg2) = m ((c.tc : Thread Cert.KernelIe.nD Cert.KernelIe.τ).loc Cert.KernelIe.main_arg2)
      ∧ r.2.mem ((c.tc : Thread Cert.KernelIe.nD Cert.KernelIe.τ).loc Cert.KernelIe.main_arg3) = m ((c.tc : Thread Cert.KernelIe.nD Cert.KernelIe.τ).loc Cert.KernelIe.main_arg3)
      ∧ r.2.mem ((c.tc : Thread Cert.KernelIe.nD Cert.KernelIe.τ).loc Cert.KernelIe.main_arg4) = m ((c.tc : Thread Cert.KernelIe.nD Cert.KernelIe.τ).loc Cert.KernelIe.main_arg4))
      ∧ r.2.sem = fun _ => 0)

def quiescent_KernelIeIdeal [hKernelIeIdeal : Cert.KernelIeIdeal.Facts] : Prop :=
  ∀ (m : (ℓ : Loc Cert.KernelIeIdeal.nD Cert.KernelIeIdeal.τ Cert.KernelIeIdeal.sig) → Buf (Elt Ideal) ℓ) (g : Dev Cert.KernelIeIdeal.nD → PrngReg), Pre_KernelIeIdeal m →
    θ_run (Cert.KernelIeIdeal.defs (F := Ideal)) (onTc (τ := Cert.KernelIeIdeal.τ) (Cert.KernelIeIdeal.main (F := Ideal))) ⟨m, fun _ => 0, g⟩ (fun r => (∀ c : Dev Cert.KernelIeIdeal.nD,
      r.2.mem ((c.tc : Thread Cert.KernelIeIdeal.nD Cert.KernelIeIdeal.τ).loc Cert.KernelIeIdeal.main_arg0) = m ((c.tc : Thread Cert.KernelIeIdeal.nD Cert.KernelIeIdeal.τ).loc Cert.KernelIeIdeal.main_arg0)
      ∧ r.2.mem ((c.tc : Thread Cert.KernelIeIdeal.nD Cert.KernelIeIdeal.τ).loc Cert.KernelIeIdeal.main_arg1) = m ((c.tc : Thread Cert.KernelIeIdeal.nD Cert.KernelIeIdeal.τ).loc Cert.KernelIeIdeal.main_arg1)
      ∧ r.2.mem ((c.tc : Thread Cert.KernelIeIdeal.nD Cert.KernelIeIdeal.τ).loc Cert.KernelIeIdeal.main_arg2) = m ((c.tc : Thread Cert.KernelIeIdeal.nD Cert.KernelIeIdeal.τ).loc Cert.KernelIeIdeal.main_arg2)
      ∧ r.2.mem ((c.tc : Thread Cert.KernelIeIdeal.nD Cert.KernelIeIdeal.τ).loc Cert.KernelIeIdeal.main_arg3) = m ((c.tc : Thread Cert.KernelIeIdeal.nD Cert.KernelIeIdeal.τ).loc Cert.KernelIeIdeal.main_arg3)
      ∧ r.2.mem ((c.tc : Thread Cert.KernelIeIdeal.nD Cert.KernelIeIdeal.τ).loc Cert.KernelIeIdeal.main_arg4) = m ((c.tc : Thread Cert.KernelIeIdeal.nD Cert.KernelIeIdeal.τ).loc Cert.KernelIeIdeal.main_arg4))
      ∧ r.2.sem = fun _ => 0)

def quiescent_KernelIeIdeal_pre_finite_rows [hKernelIeIdeal : Cert.KernelIeIdeal.Facts] [hPre_finite_rows : Cert.Pre_finite_rows.Facts] : Prop :=
  ∀ (m : (ℓ : Loc Cert.KernelIeIdeal.nD Cert.KernelIeIdeal.τ Cert.KernelIeIdeal.sig) → Buf (Elt Ideal) ℓ) (g : Dev Cert.KernelIeIdeal.nD → PrngReg), Pre_KernelIeIdeal_finite_rows m →
    θ_run (Cert.KernelIeIdeal.defs (F := Ideal)) (onTc (τ := Cert.KernelIeIdeal.τ) (Cert.KernelIeIdeal.main (F := Ideal))) ⟨m, fun _ => 0, g⟩ (fun r => (∀ c : Dev Cert.KernelIeIdeal.nD,
      r.2.mem ((c.tc : Thread Cert.KernelIeIdeal.nD Cert.KernelIeIdeal.τ).loc Cert.KernelIeIdeal.main_arg0) = m ((c.tc : Thread Cert.KernelIeIdeal.nD Cert.KernelIeIdeal.τ).loc Cert.KernelIeIdeal.main_arg0)
      ∧ r.2.mem ((c.tc : Thread Cert.KernelIeIdeal.nD Cert.KernelIeIdeal.τ).loc Cert.KernelIeIdeal.main_arg1) = m ((c.tc : Thread Cert.KernelIeIdeal.nD Cert.KernelIeIdeal.τ).loc Cert.KernelIeIdeal.main_arg1)
      ∧ r.2.mem ((c.tc : Thread Cert.KernelIeIdeal.nD Cert.KernelIeIdeal.τ).loc Cert.KernelIeIdeal.main_arg2) = m ((c.tc : Thread Cert.KernelIeIdeal.nD Cert.KernelIeIdeal.τ).loc Cert.KernelIeIdeal.main_arg2)
      ∧ r.2.mem ((c.tc : Thread Cert.KernelIeIdeal.nD Cert.KernelIeIdeal.τ).loc Cert.KernelIeIdeal.main_arg3) = m ((c.tc : Thread Cert.KernelIeIdeal.nD Cert.KernelIeIdeal.τ).loc Cert.KernelIeIdeal.main_arg3)
      ∧ r.2.mem ((c.tc : Thread Cert.KernelIeIdeal.nD Cert.KernelIeIdeal.τ).loc Cert.KernelIeIdeal.main_arg4) = m ((c.tc : Thread Cert.KernelIeIdeal.nD Cert.KernelIeIdeal.τ).loc Cert.KernelIeIdeal.main_arg4))
      ∧ r.2.sem = fun _ => 0)

def quiescent_ReferenceIeIdeal [hReferenceIeIdeal : Cert.ReferenceIeIdeal.Facts] : Prop :=
  ∀ (m : (ℓ : Loc Cert.ReferenceIeIdeal.nD Cert.ReferenceIeIdeal.τ Cert.ReferenceIeIdeal.sig) → Buf (Elt Ideal) ℓ) (g : Dev Cert.ReferenceIeIdeal.nD → PrngReg), Pre_ReferenceIeIdeal m →
    θ_run (Cert.ReferenceIeIdeal.defs (F := Ideal)) (onTc (τ := Cert.ReferenceIeIdeal.τ) (Cert.ReferenceIeIdeal.main (F := Ideal))) ⟨m, fun _ => 0, g⟩ (fun r => (∀ c : Dev Cert.ReferenceIeIdeal.nD,
      r.2.mem ((c.tc : Thread Cert.ReferenceIeIdeal.nD Cert.ReferenceIeIdeal.τ).loc Cert.ReferenceIeIdeal.main_arg0) = m ((c.tc : Thread Cert.ReferenceIeIdeal.nD Cert.ReferenceIeIdeal.τ).loc Cert.ReferenceIeIdeal.main_arg0)
      ∧ r.2.mem ((c.tc : Thread Cert.ReferenceIeIdeal.nD Cert.ReferenceIeIdeal.τ).loc Cert.ReferenceIeIdeal.main_arg1) = m ((c.tc : Thread Cert.ReferenceIeIdeal.nD Cert.ReferenceIeIdeal.τ).loc Cert.ReferenceIeIdeal.main_arg1)
      ∧ r.2.mem ((c.tc : Thread Cert.ReferenceIeIdeal.nD Cert.ReferenceIeIdeal.τ).loc Cert.ReferenceIeIdeal.main_arg2) = m ((c.tc : Thread Cert.ReferenceIeIdeal.nD Cert.ReferenceIeIdeal.τ).loc Cert.ReferenceIeIdeal.main_arg2)
      ∧ r.2.mem ((c.tc : Thread Cert.ReferenceIeIdeal.nD Cert.ReferenceIeIdeal.τ).loc Cert.ReferenceIeIdeal.main_arg3) = m ((c.tc : Thread Cert.ReferenceIeIdeal.nD Cert.ReferenceIeIdeal.τ).loc Cert.ReferenceIeIdeal.main_arg3)
      ∧ r.2.mem ((c.tc : Thread Cert.ReferenceIeIdeal.nD Cert.ReferenceIeIdeal.τ).loc Cert.ReferenceIeIdeal.main_arg4) = m ((c.tc : Thread Cert.ReferenceIeIdeal.nD Cert.ReferenceIeIdeal.τ).loc Cert.ReferenceIeIdeal.main_arg4))
      ∧ r.2.sem = fun _ => 0)

def quiescent_ReferenceIeIdeal_pre_finite_rows [hReferenceIeIdeal : Cert.ReferenceIeIdeal.Facts] [hPre_finite_rows : Cert.Pre_finite_rows.Facts] : Prop :=
  ∀ (m : (ℓ : Loc Cert.ReferenceIeIdeal.nD Cert.ReferenceIeIdeal.τ Cert.ReferenceIeIdeal.sig) → Buf (Elt Ideal) ℓ) (g : Dev Cert.ReferenceIeIdeal.nD → PrngReg), Pre_ReferenceIeIdeal_finite_rows m →
    θ_run (Cert.ReferenceIeIdeal.defs (F := Ideal)) (onTc (τ := Cert.ReferenceIeIdeal.τ) (Cert.ReferenceIeIdeal.main (F := Ideal))) ⟨m, fun _ => 0, g⟩ (fun r => (∀ c : Dev Cert.ReferenceIeIdeal.nD,
      r.2.mem ((c.tc : Thread Cert.ReferenceIeIdeal.nD Cert.ReferenceIeIdeal.τ).loc Cert.ReferenceIeIdeal.main_arg0) = m ((c.tc : Thread Cert.ReferenceIeIdeal.nD Cert.ReferenceIeIdeal.τ).loc Cert.ReferenceIeIdeal.main_arg0)
      ∧ r.2.mem ((c.tc : Thread Cert.ReferenceIeIdeal.nD Cert.ReferenceIeIdeal.τ).loc Cert.ReferenceIeIdeal.main_arg1) = m ((c.tc : Thread Cert.ReferenceIeIdeal.nD Cert.ReferenceIeIdeal.τ).loc Cert.ReferenceIeIdeal.main_arg1)
      ∧ r.2.mem ((c.tc : Thread Cert.ReferenceIeIdeal.nD Cert.ReferenceIeIdeal.τ).loc Cert.ReferenceIeIdeal.main_arg2) = m ((c.tc : Thread Cert.ReferenceIeIdeal.nD Cert.ReferenceIeIdeal.τ).loc Cert.ReferenceIeIdeal.main_arg2)
      ∧ r.2.mem ((c.tc : Thread Cert.ReferenceIeIdeal.nD Cert.ReferenceIeIdeal.τ).loc Cert.ReferenceIeIdeal.main_arg3) = m ((c.tc : Thread Cert.ReferenceIeIdeal.nD Cert.ReferenceIeIdeal.τ).loc Cert.ReferenceIeIdeal.main_arg3)
      ∧ r.2.mem ((c.tc : Thread Cert.ReferenceIeIdeal.nD Cert.ReferenceIeIdeal.τ).loc Cert.ReferenceIeIdeal.main_arg4) = m ((c.tc : Thread Cert.ReferenceIeIdeal.nD Cert.ReferenceIeIdeal.τ).loc Cert.ReferenceIeIdeal.main_arg4))
      ∧ r.2.sem = fun _ => 0)

def quiescent_KernelOe [hKernelOe : Cert.KernelOe.Facts] : Prop :=
  ∀ (m : (ℓ : Loc Cert.KernelOe.nD Cert.KernelOe.τ Cert.KernelOe.sig) → Buf (Elt Bits) ℓ) (g : Dev Cert.KernelOe.nD → PrngReg), Pre_KernelOe m →
    θ_run (Cert.KernelOe.defs (F := Bits)) (onTc (τ := Cert.KernelOe.τ) (Cert.KernelOe.main (F := Bits))) ⟨m, fun _ => 0, g⟩ (fun r => (∀ c : Dev Cert.KernelOe.nD,
      r.2.mem ((c.tc : Thread Cert.KernelOe.nD Cert.KernelOe.τ).loc Cert.KernelOe.main_arg0) = m ((c.tc : Thread Cert.KernelOe.nD Cert.KernelOe.τ).loc Cert.KernelOe.main_arg0)
      ∧ r.2.mem ((c.tc : Thread Cert.KernelOe.nD Cert.KernelOe.τ).loc Cert.KernelOe.main_arg1) = m ((c.tc : Thread Cert.KernelOe.nD Cert.KernelOe.τ).loc Cert.KernelOe.main_arg1)
      ∧ r.2.mem ((c.tc : Thread Cert.KernelOe.nD Cert.KernelOe.τ).loc Cert.KernelOe.main_arg2) = m ((c.tc : Thread Cert.KernelOe.nD Cert.KernelOe.τ).loc Cert.KernelOe.main_arg2)
      ∧ r.2.mem ((c.tc : Thread Cert.KernelOe.nD Cert.KernelOe.τ).loc Cert.KernelOe.main_arg3) = m ((c.tc : Thread Cert.KernelOe.nD Cert.KernelOe.τ).loc Cert.KernelOe.main_arg3)
      ∧ r.2.mem ((c.tc : Thread Cert.KernelOe.nD Cert.KernelOe.τ).loc Cert.KernelOe.main_arg4) = m ((c.tc : Thread Cert.KernelOe.nD Cert.KernelOe.τ).loc Cert.KernelOe.main_arg4)
      ∧ r.2.mem ((c.tc : Thread Cert.KernelOe.nD Cert.KernelOe.τ).loc Cert.KernelOe.main_arg5) = m ((c.tc : Thread Cert.KernelOe.nD Cert.KernelOe.τ).loc Cert.KernelOe.main_arg5))
      ∧ r.2.sem = fun _ => 0)

def quiescent_KernelOeIdeal [hKernelOeIdeal : Cert.KernelOeIdeal.Facts] : Prop :=
  ∀ (m : (ℓ : Loc Cert.KernelOeIdeal.nD Cert.KernelOeIdeal.τ Cert.KernelOeIdeal.sig) → Buf (Elt Ideal) ℓ) (g : Dev Cert.KernelOeIdeal.nD → PrngReg), Pre_KernelOeIdeal m →
    θ_run (Cert.KernelOeIdeal.defs (F := Ideal)) (onTc (τ := Cert.KernelOeIdeal.τ) (Cert.KernelOeIdeal.main (F := Ideal))) ⟨m, fun _ => 0, g⟩ (fun r => (∀ c : Dev Cert.KernelOeIdeal.nD,
      r.2.mem ((c.tc : Thread Cert.KernelOeIdeal.nD Cert.KernelOeIdeal.τ).loc Cert.KernelOeIdeal.main_arg0) = m ((c.tc : Thread Cert.KernelOeIdeal.nD Cert.KernelOeIdeal.τ).loc Cert.KernelOeIdeal.main_arg0)
      ∧ r.2.mem ((c.tc : Thread Cert.KernelOeIdeal.nD Cert.KernelOeIdeal.τ).loc Cert.KernelOeIdeal.main_arg1) = m ((c.tc : Thread Cert.KernelOeIdeal.nD Cert.KernelOeIdeal.τ).loc Cert.KernelOeIdeal.main_arg1)
      ∧ r.2.mem ((c.tc : Thread Cert.KernelOeIdeal.nD Cert.KernelOeIdeal.τ).loc Cert.KernelOeIdeal.main_arg2) = m ((c.tc : Thread Cert.KernelOeIdeal.nD Cert.KernelOeIdeal.τ).loc Cert.KernelOeIdeal.main_arg2)
      ∧ r.2.mem ((c.tc : Thread Cert.KernelOeIdeal.nD Cert.KernelOeIdeal.τ).loc Cert.KernelOeIdeal.main_arg3) = m ((c.tc : Thread Cert.KernelOeIdeal.nD Cert.KernelOeIdeal.τ).loc Cert.KernelOeIdeal.main_arg3)
      ∧ r.2.mem ((c.tc : Thread Cert.KernelOeIdeal.nD Cert.KernelOeIdeal.τ).loc Cert.KernelOeIdeal.main_arg4) = m ((c.tc : Thread Cert.KernelOeIdeal.nD Cert.KernelOeIdeal.τ).loc Cert.KernelOeIdeal.main_arg4)
      ∧ r.2.mem ((c.tc : Thread Cert.KernelOeIdeal.nD Cert.KernelOeIdeal.τ).loc Cert.KernelOeIdeal.main_arg5) = m ((c.tc : Thread Cert.KernelOeIdeal.nD Cert.KernelOeIdeal.τ).loc Cert.KernelOeIdeal.main_arg5))
      ∧ r.2.sem = fun _ => 0)

def quiescent_ReferenceOeIdeal [hReferenceOeIdeal : Cert.ReferenceOeIdeal.Facts] : Prop :=
  ∀ (m : (ℓ : Loc Cert.ReferenceOeIdeal.nD Cert.ReferenceOeIdeal.τ Cert.ReferenceOeIdeal.sig) → Buf (Elt Ideal) ℓ) (g : Dev Cert.ReferenceOeIdeal.nD → PrngReg), Pre_ReferenceOeIdeal m →
    θ_run (Cert.ReferenceOeIdeal.defs (F := Ideal)) (onTc (τ := Cert.ReferenceOeIdeal.τ) (Cert.ReferenceOeIdeal.main (F := Ideal))) ⟨m, fun _ => 0, g⟩ (fun r => (∀ c : Dev Cert.ReferenceOeIdeal.nD,
      r.2.mem ((c.tc : Thread Cert.ReferenceOeIdeal.nD Cert.ReferenceOeIdeal.τ).loc Cert.ReferenceOeIdeal.main_arg0) = m ((c.tc : Thread Cert.ReferenceOeIdeal.nD Cert.ReferenceOeIdeal.τ).loc Cert.ReferenceOeIdeal.main_arg0)
      ∧ r.2.mem ((c.tc : Thread Cert.ReferenceOeIdeal.nD Cert.ReferenceOeIdeal.τ).loc Cert.ReferenceOeIdeal.main_arg1) = m ((c.tc : Thread Cert.ReferenceOeIdeal.nD Cert.ReferenceOeIdeal.τ).loc Cert.ReferenceOeIdeal.main_arg1)
      ∧ r.2.mem ((c.tc : Thread Cert.ReferenceOeIdeal.nD Cert.ReferenceOeIdeal.τ).loc Cert.ReferenceOeIdeal.main_arg2) = m ((c.tc : Thread Cert.ReferenceOeIdeal.nD Cert.ReferenceOeIdeal.τ).loc Cert.ReferenceOeIdeal.main_arg2)
      ∧ r.2.mem ((c.tc : Thread Cert.ReferenceOeIdeal.nD Cert.ReferenceOeIdeal.τ).loc Cert.ReferenceOeIdeal.main_arg3) = m ((c.tc : Thread Cert.ReferenceOeIdeal.nD Cert.ReferenceOeIdeal.τ).loc Cert.ReferenceOeIdeal.main_arg3)
      ∧ r.2.mem ((c.tc : Thread Cert.ReferenceOeIdeal.nD Cert.ReferenceOeIdeal.τ).loc Cert.ReferenceOeIdeal.main_arg4) = m ((c.tc : Thread Cert.ReferenceOeIdeal.nD Cert.ReferenceOeIdeal.τ).loc Cert.ReferenceOeIdeal.main_arg4)
      ∧ r.2.mem ((c.tc : Thread Cert.ReferenceOeIdeal.nD Cert.ReferenceOeIdeal.τ).loc Cert.ReferenceOeIdeal.main_arg5) = m ((c.tc : Thread Cert.ReferenceOeIdeal.nD Cert.ReferenceOeIdeal.τ).loc Cert.ReferenceOeIdeal.main_arg5))
      ∧ r.2.sem = fun _ => 0)

def quiescent_KernelBa [hKernelBa : Cert.KernelBa.Facts] : Prop :=
  ∀ (m : (ℓ : Loc Cert.KernelBa.nD Cert.KernelBa.τ Cert.KernelBa.sig) → Buf (Elt Bits) ℓ) (g : Dev Cert.KernelBa.nD → PrngReg), Pre_KernelBa m →
    θ_run (Cert.KernelBa.defs (F := Bits)) (onTc (τ := Cert.KernelBa.τ) (Cert.KernelBa.main (F := Bits))) ⟨m, fun _ => 0, g⟩ (fun r => (∀ c : Dev Cert.KernelBa.nD,
      r.2.mem ((c.tc : Thread Cert.KernelBa.nD Cert.KernelBa.τ).loc Cert.KernelBa.main_arg0) = m ((c.tc : Thread Cert.KernelBa.nD Cert.KernelBa.τ).loc Cert.KernelBa.main_arg0)
      ∧ r.2.mem ((c.tc : Thread Cert.KernelBa.nD Cert.KernelBa.τ).loc Cert.KernelBa.main_arg1) = m ((c.tc : Thread Cert.KernelBa.nD Cert.KernelBa.τ).loc Cert.KernelBa.main_arg1)
      ∧ r.2.mem ((c.tc : Thread Cert.KernelBa.nD Cert.KernelBa.τ).loc Cert.KernelBa.main_arg2) = m ((c.tc : Thread Cert.KernelBa.nD Cert.KernelBa.τ).loc Cert.KernelBa.main_arg2)
      ∧ r.2.mem ((c.tc : Thread Cert.KernelBa.nD Cert.KernelBa.τ).loc Cert.KernelBa.main_arg3) = m ((c.tc : Thread Cert.KernelBa.nD Cert.KernelBa.τ).loc Cert.KernelBa.main_arg3))
      ∧ r.2.sem = fun _ => 0)

def quiescent_KernelBaIdeal [hKernelBaIdeal : Cert.KernelBaIdeal.Facts] : Prop :=
  ∀ (m : (ℓ : Loc Cert.KernelBaIdeal.nD Cert.KernelBaIdeal.τ Cert.KernelBaIdeal.sig) → Buf (Elt Ideal) ℓ) (g : Dev Cert.KernelBaIdeal.nD → PrngReg), Pre_KernelBaIdeal m →
    θ_run (Cert.KernelBaIdeal.defs (F := Ideal)) (onTc (τ := Cert.KernelBaIdeal.τ) (Cert.KernelBaIdeal.main (F := Ideal))) ⟨m, fun _ => 0, g⟩ (fun r => (∀ c : Dev Cert.KernelBaIdeal.nD,
      r.2.mem ((c.tc : Thread Cert.KernelBaIdeal.nD Cert.KernelBaIdeal.τ).loc Cert.KernelBaIdeal.main_arg0) = m ((c.tc : Thread Cert.KernelBaIdeal.nD Cert.KernelBaIdeal.τ).loc Cert.KernelBaIdeal.main_arg0)
      ∧ r.2.mem ((c.tc : Thread Cert.KernelBaIdeal.nD Cert.KernelBaIdeal.τ).loc Cert.KernelBaIdeal.main_arg1) = m ((c.tc : Thread Cert.KernelBaIdeal.nD Cert.KernelBaIdeal.τ).loc Cert.KernelBaIdeal.main_arg1)
      ∧ r.2.mem ((c.tc : Thread Cert.KernelBaIdeal.nD Cert.KernelBaIdeal.τ).loc Cert.KernelBaIdeal.main_arg2) = m ((c.tc : Thread Cert.KernelBaIdeal.nD Cert.KernelBaIdeal.τ).loc Cert.KernelBaIdeal.main_arg2)
      ∧ r.2.mem ((c.tc : Thread Cert.KernelBaIdeal.nD Cert.KernelBaIdeal.τ).loc Cert.KernelBaIdeal.main_arg3) = m ((c.tc : Thread Cert.KernelBaIdeal.nD Cert.KernelBaIdeal.τ).loc Cert.KernelBaIdeal.main_arg3))
      ∧ r.2.sem = fun _ => 0)

def quiescent_KernelBaIdeal_pre_finite_band [hKernelBaIdeal : Cert.KernelBaIdeal.Facts] [hPre_finite_band : Cert.Pre_finite_band.Facts] : Prop :=
  ∀ (m : (ℓ : Loc Cert.KernelBaIdeal.nD Cert.KernelBaIdeal.τ Cert.KernelBaIdeal.sig) → Buf (Elt Ideal) ℓ) (g : Dev Cert.KernelBaIdeal.nD → PrngReg), Pre_KernelBaIdeal_finite_band m →
    θ_run (Cert.KernelBaIdeal.defs (F := Ideal)) (onTc (τ := Cert.KernelBaIdeal.τ) (Cert.KernelBaIdeal.main (F := Ideal))) ⟨m, fun _ => 0, g⟩ (fun r => (∀ c : Dev Cert.KernelBaIdeal.nD,
      r.2.mem ((c.tc : Thread Cert.KernelBaIdeal.nD Cert.KernelBaIdeal.τ).loc Cert.KernelBaIdeal.main_arg0) = m ((c.tc : Thread Cert.KernelBaIdeal.nD Cert.KernelBaIdeal.τ).loc Cert.KernelBaIdeal.main_arg0)
      ∧ r.2.mem ((c.tc : Thread Cert.KernelBaIdeal.nD Cert.KernelBaIdeal.τ).loc Cert.KernelBaIdeal.main_arg1) = m ((c.tc : Thread Cert.KernelBaIdeal.nD Cert.KernelBaIdeal.τ).loc Cert.KernelBaIdeal.main_arg1)
      ∧ r.2.mem ((c.tc : Thread Cert.KernelBaIdeal.nD Cert.KernelBaIdeal.τ).loc Cert.KernelBaIdeal.main_arg2) = m ((c.tc : Thread Cert.KernelBaIdeal.nD Cert.KernelBaIdeal.τ).loc Cert.KernelBaIdeal.main_arg2)
      ∧ r.2.mem ((c.tc : Thread Cert.KernelBaIdeal.nD Cert.KernelBaIdeal.τ).loc Cert.KernelBaIdeal.main_arg3) = m ((c.tc : Thread Cert.KernelBaIdeal.nD Cert.KernelBaIdeal.τ).loc Cert.KernelBaIdeal.main_arg3))
      ∧ r.2.sem = fun _ => 0)

def quiescent_ReferenceBaIdeal [hReferenceBaIdeal : Cert.ReferenceBaIdeal.Facts] : Prop :=
  ∀ (m : (ℓ : Loc Cert.ReferenceBaIdeal.nD Cert.ReferenceBaIdeal.τ Cert.ReferenceBaIdeal.sig) → Buf (Elt Ideal) ℓ) (g : Dev Cert.ReferenceBaIdeal.nD → PrngReg), Pre_ReferenceBaIdeal m →
    θ_run (Cert.ReferenceBaIdeal.defs (F := Ideal)) (onTc (τ := Cert.ReferenceBaIdeal.τ) (Cert.ReferenceBaIdeal.main (F := Ideal))) ⟨m, fun _ => 0, g⟩ (fun r => (∀ c : Dev Cert.ReferenceBaIdeal.nD,
      r.2.mem ((c.tc : Thread Cert.ReferenceBaIdeal.nD Cert.ReferenceBaIdeal.τ).loc Cert.ReferenceBaIdeal.main_arg0) = m ((c.tc : Thread Cert.ReferenceBaIdeal.nD Cert.ReferenceBaIdeal.τ).loc Cert.ReferenceBaIdeal.main_arg0)
      ∧ r.2.mem ((c.tc : Thread Cert.ReferenceBaIdeal.nD Cert.ReferenceBaIdeal.τ).loc Cert.ReferenceBaIdeal.main_arg1) = m ((c.tc : Thread Cert.ReferenceBaIdeal.nD Cert.ReferenceBaIdeal.τ).loc Cert.ReferenceBaIdeal.main_arg1)
      ∧ r.2.mem ((c.tc : Thread Cert.ReferenceBaIdeal.nD Cert.ReferenceBaIdeal.τ).loc Cert.ReferenceBaIdeal.main_arg2) = m ((c.tc : Thread Cert.ReferenceBaIdeal.nD Cert.ReferenceBaIdeal.τ).loc Cert.ReferenceBaIdeal.main_arg2)
      ∧ r.2.mem ((c.tc : Thread Cert.ReferenceBaIdeal.nD Cert.ReferenceBaIdeal.τ).loc Cert.ReferenceBaIdeal.main_arg3) = m ((c.tc : Thread Cert.ReferenceBaIdeal.nD Cert.ReferenceBaIdeal.τ).loc Cert.ReferenceBaIdeal.main_arg3))
      ∧ r.2.sem = fun _ => 0)

def quiescent_ReferenceBaIdeal_pre_finite_band [hReferenceBaIdeal : Cert.ReferenceBaIdeal.Facts] [hPre_finite_band : Cert.Pre_finite_band.Facts] : Prop :=
  ∀ (m : (ℓ : Loc Cert.ReferenceBaIdeal.nD Cert.ReferenceBaIdeal.τ Cert.ReferenceBaIdeal.sig) → Buf (Elt Ideal) ℓ) (g : Dev Cert.ReferenceBaIdeal.nD → PrngReg), Pre_ReferenceBaIdeal_finite_band m →
    θ_run (Cert.ReferenceBaIdeal.defs (F := Ideal)) (onTc (τ := Cert.ReferenceBaIdeal.τ) (Cert.ReferenceBaIdeal.main (F := Ideal))) ⟨m, fun _ => 0, g⟩ (fun r => (∀ c : Dev Cert.ReferenceBaIdeal.nD,
      r.2.mem ((c.tc : Thread Cert.ReferenceBaIdeal.nD Cert.ReferenceBaIdeal.τ).loc Cert.ReferenceBaIdeal.main_arg0) = m ((c.tc : Thread Cert.ReferenceBaIdeal.nD Cert.ReferenceBaIdeal.τ).loc Cert.ReferenceBaIdeal.main_arg0)
      ∧ r.2.mem ((c.tc : Thread Cert.ReferenceBaIdeal.nD Cert.ReferenceBaIdeal.τ).loc Cert.ReferenceBaIdeal.main_arg1) = m ((c.tc : Thread Cert.ReferenceBaIdeal.nD Cert.ReferenceBaIdeal.τ).loc Cert.ReferenceBaIdeal.main_arg1)
      ∧ r.2.mem ((c.tc : Thread Cert.ReferenceBaIdeal.nD Cert.ReferenceBaIdeal.τ).loc Cert.ReferenceBaIdeal.main_arg2) = m ((c.tc : Thread Cert.ReferenceBaIdeal.nD Cert.ReferenceBaIdeal.τ).loc Cert.ReferenceBaIdeal.main_arg2)
      ∧ r.2.mem ((c.tc : Thread Cert.ReferenceBaIdeal.nD Cert.ReferenceBaIdeal.τ).loc Cert.ReferenceBaIdeal.main_arg3) = m ((c.tc : Thread Cert.ReferenceBaIdeal.nD Cert.ReferenceBaIdeal.τ).loc Cert.ReferenceBaIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelSb_KernelSbIdeal : Prop :=
  True

def algebraic_KernelSbIdeal_ReferenceSbIdeal_pre_finite_qk [hKernelSbIdeal : Cert.KernelSbIdeal.Facts] [hReferenceSbIdeal : Cert.ReferenceSbIdeal.Facts] [hPre_finite_qk : Cert.Pre_finite_qk.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_qk m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)
      ∧ m' ((c.tc : Thread Cert.ReferenceSbIdeal.nD Cert.ReferenceSbIdeal.τ).loc Cert.ReferenceSbIdeal.main_arg2) = m ((c.tc : Thread Cert.KernelSbIdeal.nD Cert.KernelSbIdeal.τ).loc Cert.KernelSbIdeal.main_arg2)) →
    ∃ (v0 : (c : Dev Cert.KernelSbIdeal.nD) → Buf (Elt Ideal) ((c.tc : Thread Cert.KernelSbIdeal.nD Cert.KernelSbIdeal.τ).loc Cert.KernelSbIdeal.main_v0)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v0) = v0 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
          ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v25) = v0 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2))

def preserves_KernelIo_KernelIoIdeal : Prop :=
  True

def algebraic_KernelIoIdeal_ReferenceIoIdeal [hKernelIoIdeal : Cert.KernelIoIdeal.Facts] [hReferenceIoIdeal : Cert.ReferenceIoIdeal.Facts] : Prop :=
  ∀ (m : (ℓ : Loc Cert.KernelIoIdeal.nD Cert.KernelIoIdeal.τ Cert.KernelIoIdeal.sig) → Buf (Elt Ideal) ℓ) (g : Dev Cert.KernelIoIdeal.nD → PrngReg)
    (m' : (ℓ : Loc Cert.ReferenceIoIdeal.nD Cert.ReferenceIoIdeal.τ Cert.ReferenceIoIdeal.sig) → Buf (Elt Ideal) ℓ) (g' : Dev Cert.ReferenceIoIdeal.nD → PrngReg), Pre_KernelIoIdeal m →
    (∀ c : Dev Cert.KernelIoIdeal.nD,
      m' ((c.tc : Thread Cert.ReferenceIoIdeal.nD Cert.ReferenceIoIdeal.τ).loc Cert.ReferenceIoIdeal.main_arg0) = m ((c.tc : Thread Cert.KernelIoIdeal.nD Cert.KernelIoIdeal.τ).loc Cert.KernelIoIdeal.main_arg0)
      ∧ m' ((c.tc : Thread Cert.ReferenceIoIdeal.nD Cert.ReferenceIoIdeal.τ).loc Cert.ReferenceIoIdeal.main_arg1) = m ((c.tc : Thread Cert.KernelIoIdeal.nD Cert.KernelIoIdeal.τ).loc Cert.KernelIoIdeal.main_arg1)
      ∧ m' ((c.tc : Thread Cert.ReferenceIoIdeal.nD Cert.ReferenceIoIdeal.τ).loc Cert.ReferenceIoIdeal.main_arg2) = m ((c.tc : Thread Cert.KernelIoIdeal.nD Cert.KernelIoIdeal.τ).loc Cert.KernelIoIdeal.main_arg2)
      ∧ m' ((c.tc : Thread Cert.ReferenceIoIdeal.nD Cert.ReferenceIoIdeal.τ).loc Cert.ReferenceIoIdeal.main_arg3) = m ((c.tc : Thread Cert.KernelIoIdeal.nD Cert.KernelIoIdeal.τ).loc Cert.KernelIoIdeal.main_arg3)) →
    ∃ (v0 : (c : Dev Cert.KernelIoIdeal.nD) → Buf (Elt Ideal) ((c.tc : Thread Cert.KernelIoIdeal.nD Cert.KernelIoIdeal.τ).loc Cert.KernelIoIdeal.main_v3_0)) (v1 : (c : Dev Cert.KernelIoIdeal.nD) → Buf (Elt Ideal) ((c.tc : Thread Cert.KernelIoIdeal.nD Cert.KernelIoIdeal.τ).loc Cert.KernelIoIdeal.main_v3_1)) (v2 : (c : Dev Cert.KernelIoIdeal.nD) → Buf (Elt Ideal) ((c.tc : Thread Cert.KernelIoIdeal.nD Cert.KernelIoIdeal.τ).loc Cert.KernelIoIdeal.main_v3_2)) (v3 : (c : Dev Cert.KernelIoIdeal.nD) → Buf (Elt Ideal) ((c.tc : Thread Cert.KernelIoIdeal.nD Cert.KernelIoIdeal.τ).loc Cert.KernelIoIdeal.main_v3_3)) (v4 : (c : Dev Cert.KernelIoIdeal.nD) → Buf (Elt Ideal) ((c.tc : Thread Cert.KernelIoIdeal.nD Cert.KernelIoIdeal.τ).loc Cert.KernelIoIdeal.main_v3_4)),
      θ_run (Cert.KernelIoIdeal.defs (F := Ideal)) (onTc (τ := Cert.KernelIoIdeal.τ) (Cert.KernelIoIdeal.main (F := Ideal))) ⟨m, fun _ => 0, g⟩ (fun r => ∀ c : Dev Cert.KernelIoIdeal.nD,
          r.2.mem ((c.tc : Thread Cert.KernelIoIdeal.nD Cert.KernelIoIdeal.τ).loc Cert.KernelIoIdeal.main_v3_0) = v0 c
          ∧ r.2.mem ((c.tc : Thread Cert.KernelIoIdeal.nD Cert.KernelIoIdeal.τ).loc Cert.KernelIoIdeal.main_v3_1) = v1 c
          ∧ r.2.mem ((c.tc : Thread Cert.KernelIoIdeal.nD Cert.KernelIoIdeal.τ).loc Cert.KernelIoIdeal.main_v3_2) = v2 c
          ∧ r.2.mem ((c.tc : Thread Cert.KernelIoIdeal.nD Cert.KernelIoIdeal.τ).loc Cert.KernelIoIdeal.main_v3_3) = v3 c
          ∧ r.2.mem ((c.tc : Thread Cert.KernelIoIdeal.nD Cert.KernelIoIdeal.τ).loc Cert.KernelIoIdeal.main_v3_4) = v4 c
          ∧ r.2.mem ((c.tc : Thread Cert.KernelIoIdeal.nD Cert.KernelIoIdeal.τ).loc Cert.KernelIoIdeal.main_arg0) = m ((c.tc : Thread Cert.KernelIoIdeal.nD Cert.KernelIoIdeal.τ).loc Cert.KernelIoIdeal.main_arg0)
          ∧ r.2.mem ((c.tc : Thread Cert.KernelIoIdeal.nD Cert.KernelIoIdeal.τ).loc Cert.KernelIoIdeal.main_arg1) = m ((c.tc : Thread Cert.KernelIoIdeal.nD Cert.KernelIoIdeal.τ).loc Cert.KernelIoIdeal.main_arg1)
          ∧ r.2.mem ((c.tc : Thread Cert.KernelIoIdeal.nD Cert.KernelIoIdeal.τ).loc Cert.KernelIoIdeal.main_arg2) = m ((c.tc : Thread Cert.KernelIoIdeal.nD Cert.KernelIoIdeal.τ).loc Cert.KernelIoIdeal.main_arg2)
          ∧ r.2.mem ((c.tc : Thread Cert.KernelIoIdeal.nD Cert.KernelIoIdeal.τ).loc Cert.KernelIoIdeal.main_arg3) = m ((c.tc : Thread Cert.KernelIoIdeal.nD Cert.KernelIoIdeal.τ).loc Cert.KernelIoIdeal.main_arg3))
      ∧ θ_run (Cert.ReferenceIoIdeal.defs (F := Ideal)) (onTc (τ := Cert.ReferenceIoIdeal.τ) (Cert.ReferenceIoIdeal.main (F := Ideal))) ⟨m', fun _ => 0, g'⟩ (fun r => ∀ c : Dev Cert.ReferenceIoIdeal.nD,
          r.2.mem ((c.tc : Thread Cert.ReferenceIoIdeal.nD Cert.ReferenceIoIdeal.τ).loc Cert.ReferenceIoIdeal.main_v48) = v0 c
          ∧ r.2.mem ((c.tc : Thread Cert.ReferenceIoIdeal.nD Cert.ReferenceIoIdeal.τ).loc Cert.ReferenceIoIdeal.main_v49) = v1 c
          ∧ r.2.mem ((c.tc : Thread Cert.ReferenceIoIdeal.nD Cert.ReferenceIoIdeal.τ).loc Cert.ReferenceIoIdeal.main_v50) = v2 c
          ∧ r.2.mem ((c.tc : Thread Cert.ReferenceIoIdeal.nD Cert.ReferenceIoIdeal.τ).loc Cert.ReferenceIoIdeal.main_v51) = v3 c
          ∧ r.2.mem ((c.tc : Thread Cert.ReferenceIoIdeal.nD Cert.ReferenceIoIdeal.τ).loc Cert.ReferenceIoIdeal.main_v52) = v4 c
          ∧ r.2.mem ((c.tc : Thread Cert.ReferenceIoIdeal.nD Cert.ReferenceIoIdeal.τ).loc Cert.ReferenceIoIdeal.main_arg0) = m' ((c.tc : Thread Cert.ReferenceIoIdeal.nD Cert.ReferenceIoIdeal.τ).loc Cert.ReferenceIoIdeal.main_arg0)
          ∧ r.2.mem ((c.tc : Thread Cert.ReferenceIoIdeal.nD Cert.ReferenceIoIdeal.τ).loc Cert.ReferenceIoIdeal.main_arg1) = m' ((c.tc : Thread Cert.ReferenceIoIdeal.nD Cert.ReferenceIoIdeal.τ).loc Cert.ReferenceIoIdeal.main_arg1)
          ∧ r.2.mem ((c.tc : Thread Cert.ReferenceIoIdeal.nD Cert.ReferenceIoIdeal.τ).loc Cert.ReferenceIoIdeal.main_arg2) = m' ((c.tc : Thread Cert.ReferenceIoIdeal.nD Cert.ReferenceIoIdeal.τ).loc Cert.ReferenceIoIdeal.main_arg2)
          ∧ r.2.mem ((c.tc : Thread Cert.ReferenceIoIdeal.nD Cert.ReferenceIoIdeal.τ).loc Cert.ReferenceIoIdeal.main_arg3) = m' ((c.tc : Thread Cert.ReferenceIoIdeal.nD Cert.ReferenceIoIdeal.τ).loc Cert.ReferenceIoIdeal.main_arg3))

def preserves_KernelOo_KernelOoIdeal : Prop :=
  True

def algebraic_KernelOoIdeal_ReferenceOoIdeal [hKernelOoIdeal : Cert.KernelOoIdeal.Facts] [hReferenceOoIdeal : Cert.ReferenceOoIdeal.Facts] : Prop :=
  ∀ (m : (ℓ : Loc Cert.KernelOoIdeal.nD Cert.KernelOoIdeal.τ Cert.KernelOoIdeal.sig) → Buf (Elt Ideal) ℓ) (g : Dev Cert.KernelOoIdeal.nD → PrngReg)
    (m' : (ℓ : Loc Cert.ReferenceOoIdeal.nD Cert.ReferenceOoIdeal.τ Cert.ReferenceOoIdeal.sig) → Buf (Elt Ideal) ℓ) (g' : Dev Cert.ReferenceOoIdeal.nD → PrngReg), Pre_KernelOoIdeal m →
    (∀ c : Dev Cert.KernelOoIdeal.nD,
      m' ((c.tc : Thread Cert.ReferenceOoIdeal.nD Cert.ReferenceOoIdeal.τ).loc Cert.ReferenceOoIdeal.main_arg0) = m ((c.tc : Thread Cert.KernelOoIdeal.nD Cert.KernelOoIdeal.τ).loc Cert.KernelOoIdeal.main_arg0)
      ∧ m' ((c.tc : Thread Cert.ReferenceOoIdeal.nD Cert.ReferenceOoIdeal.τ).loc Cert.ReferenceOoIdeal.main_arg1) = m ((c.tc : Thread Cert.KernelOoIdeal.nD Cert.KernelOoIdeal.τ).loc Cert.KernelOoIdeal.main_arg1)
      ∧ m' ((c.tc : Thread Cert.ReferenceOoIdeal.nD Cert.ReferenceOoIdeal.τ).loc Cert.ReferenceOoIdeal.main_arg2) = m ((c.tc : Thread Cert.KernelOoIdeal.nD Cert.KernelOoIdeal.τ).loc Cert.KernelOoIdeal.main_arg2)
      ∧ m' ((c.tc : Thread Cert.ReferenceOoIdeal.nD Cert.ReferenceOoIdeal.τ).loc Cert.ReferenceOoIdeal.main_arg3) = m ((c.tc : Thread Cert.KernelOoIdeal.nD Cert.KernelOoIdeal.τ).loc Cert.KernelOoIdeal.main_arg3)
      ∧ m' ((c.tc : Thread Cert.ReferenceOoIdeal.nD Cert.ReferenceOoIdeal.τ).loc Cert.ReferenceOoIdeal.main_arg4) = m ((c.tc : Thread Cert.KernelOoIdeal.nD Cert.KernelOoIdeal.τ).loc Cert.KernelOoIdeal.main_arg4)
      ∧ m' ((c.tc : Thread Cert.ReferenceOoIdeal.nD Cert.ReferenceOoIdeal.τ).loc Cert.ReferenceOoIdeal.main_arg5) = m ((c.tc : Thread Cert.KernelOoIdeal.nD Cert.KernelOoIdeal.τ).loc Cert.KernelOoIdeal.main_arg5)
      ∧ m' ((c.tc : Thread Cert.ReferenceOoIdeal.nD Cert.ReferenceOoIdeal.τ).loc Cert.ReferenceOoIdeal.main_arg6) = m ((c.tc : Thread Cert.KernelOoIdeal.nD Cert.KernelOoIdeal.τ).loc Cert.KernelOoIdeal.main_arg6)) →
    ∃ (v0 : (c : Dev Cert.KernelOoIdeal.nD) → Buf (Elt Ideal) ((c.tc : Thread Cert.KernelOoIdeal.nD Cert.KernelOoIdeal.τ).loc Cert.KernelOoIdeal.main_v4)),
      θ_run (Cert.KernelOoIdeal.defs (F := Ideal)) (onTc (τ := Cert.KernelOoIdeal.τ) (Cert.KernelOoIdeal.main (F := Ideal))) ⟨m, fun _ => 0, g⟩ (fun r => ∀ c : Dev Cert.KernelOoIdeal.nD,
          r.2.mem ((c.tc : Thread Cert.KernelOoIdeal.nD Cert.KernelOoIdeal.τ).loc Cert.KernelOoIdeal.main_v4) = v0 c
          ∧ r.2.mem ((c.tc : Thread Cert.KernelOoIdeal.nD Cert.KernelOoIdeal.τ).loc Cert.KernelOoIdeal.main_arg0) = m ((c.tc : Thread Cert.KernelOoIdeal.nD Cert.KernelOoIdeal.τ).loc Cert.KernelOoIdeal.main_arg0)
          ∧ r.2.mem ((c.tc : Thread Cert.KernelOoIdeal.nD Cert.KernelOoIdeal.τ).loc Cert.KernelOoIdeal.main_arg1) = m ((c.tc : Thread Cert.KernelOoIdeal.nD Cert.KernelOoIdeal.τ).loc Cert.KernelOoIdeal.main_arg1)
          ∧ r.2.mem ((c.tc : Thread Cert.KernelOoIdeal.nD Cert.KernelOoIdeal.τ).loc Cert.KernelOoIdeal.main_arg2) = m ((c.tc : Thread Cert.KernelOoIdeal.nD Cert.KernelOoIdeal.τ).loc Cert.KernelOoIdeal.main_arg2)
          ∧ r.2.mem ((c.tc : Thread Cert.KernelOoIdeal.nD Cert.KernelOoIdeal.τ).loc Cert.KernelOoIdeal.main_arg3) = m ((c.tc : Thread Cert.KernelOoIdeal.nD Cert.KernelOoIdeal.τ).loc Cert.KernelOoIdeal.main_arg3)
          ∧ r.2.mem ((c.tc : Thread Cert.KernelOoIdeal.nD Cert.KernelOoIdeal.τ).loc Cert.KernelOoIdeal.main_arg4) = m ((c.tc : Thread Cert.KernelOoIdeal.nD Cert.KernelOoIdeal.τ).loc Cert.KernelOoIdeal.main_arg4)
          ∧ r.2.mem ((c.tc : Thread Cert.KernelOoIdeal.nD Cert.KernelOoIdeal.τ).loc Cert.KernelOoIdeal.main_arg5) = m ((c.tc : Thread Cert.KernelOoIdeal.nD Cert.KernelOoIdeal.τ).loc Cert.KernelOoIdeal.main_arg5)
          ∧ r.2.mem ((c.tc : Thread Cert.KernelOoIdeal.nD Cert.KernelOoIdeal.τ).loc Cert.KernelOoIdeal.main_arg6) = m ((c.tc : Thread Cert.KernelOoIdeal.nD Cert.KernelOoIdeal.τ).loc Cert.KernelOoIdeal.main_arg6))
      ∧ θ_run (Cert.ReferenceOoIdeal.defs (F := Ideal)) (onTc (τ := Cert.ReferenceOoIdeal.τ) (Cert.ReferenceOoIdeal.main (F := Ideal))) ⟨m', fun _ => 0, g'⟩ (fun r => ∀ c : Dev Cert.ReferenceOoIdeal.nD,
          r.2.mem ((c.tc : Thread Cert.ReferenceOoIdeal.nD Cert.ReferenceOoIdeal.τ).loc Cert.ReferenceOoIdeal.main_v20) = v0 c
          ∧ r.2.mem ((c.tc : Thread Cert.ReferenceOoIdeal.nD Cert.ReferenceOoIdeal.τ).loc Cert.ReferenceOoIdeal.main_arg0) = m' ((c.tc : Thread Cert.ReferenceOoIdeal.nD Cert.ReferenceOoIdeal.τ).loc Cert.ReferenceOoIdeal.main_arg0)
          ∧ r.2.mem ((c.tc : Thread Cert.ReferenceOoIdeal.nD Cert.ReferenceOoIdeal.τ).loc Cert.ReferenceOoIdeal.main_arg1) = m' ((c.tc : Thread Cert.ReferenceOoIdeal.nD Cert.ReferenceOoIdeal.τ).loc Cert.ReferenceOoIdeal.main_arg1)
          ∧ r.2.mem ((c.tc : Thread Cert.ReferenceOoIdeal.nD Cert.ReferenceOoIdeal.τ).loc Cert.ReferenceOoIdeal.main_arg2) = m' ((c.tc : Thread Cert.ReferenceOoIdeal.nD Cert.ReferenceOoIdeal.τ).loc Cert.ReferenceOoIdeal.main_arg2)
          ∧ r.2.mem ((c.tc : Thread Cert.ReferenceOoIdeal.nD Cert.ReferenceOoIdeal.τ).loc Cert.ReferenceOoIdeal.main_arg3) = m' ((c.tc : Thread Cert.ReferenceOoIdeal.nD Cert.ReferenceOoIdeal.τ).loc Cert.ReferenceOoIdeal.main_arg3)
          ∧ r.2.mem ((c.tc : Thread Cert.ReferenceOoIdeal.nD Cert.ReferenceOoIdeal.τ).loc Cert.ReferenceOoIdeal.main_arg4) = m' ((c.tc : Thread Cert.ReferenceOoIdeal.nD Cert.ReferenceOoIdeal.τ).loc Cert.ReferenceOoIdeal.main_arg4)
          ∧ r.2.mem ((c.tc : Thread Cert.ReferenceOoIdeal.nD Cert.ReferenceOoIdeal.τ).loc Cert.ReferenceOoIdeal.main_arg5) = m' ((c.tc : Thread Cert.ReferenceOoIdeal.nD Cert.ReferenceOoIdeal.τ).loc Cert.ReferenceOoIdeal.main_arg5)
          ∧ r.2.mem ((c.tc : Thread Cert.ReferenceOoIdeal.nD Cert.ReferenceOoIdeal.τ).loc Cert.ReferenceOoIdeal.main_arg6) = m' ((c.tc : Thread Cert.ReferenceOoIdeal.nD Cert.ReferenceOoIdeal.τ).loc Cert.ReferenceOoIdeal.main_arg6))

def preserves_KernelIe_KernelIeIdeal : Prop :=
  True

def algebraic_KernelIeIdeal_ReferenceIeIdeal_pre_finite_rows [hKernelIeIdeal : Cert.KernelIeIdeal.Facts] [hReferenceIeIdeal : Cert.ReferenceIeIdeal.Facts] [hPre_finite_rows : Cert.Pre_finite_rows.Facts] : Prop :=
  ∀ (m : (ℓ : Loc Cert.KernelIeIdeal.nD Cert.KernelIeIdeal.τ Cert.KernelIeIdeal.sig) → Buf (Elt Ideal) ℓ) (g : Dev Cert.KernelIeIdeal.nD → PrngReg)
    (m' : (ℓ : Loc Cert.ReferenceIeIdeal.nD Cert.ReferenceIeIdeal.τ Cert.ReferenceIeIdeal.sig) → Buf (Elt Ideal) ℓ) (g' : Dev Cert.ReferenceIeIdeal.nD → PrngReg), Pre_KernelIeIdeal_finite_rows m →
    (∀ c : Dev Cert.KernelIeIdeal.nD,
      m' ((c.tc : Thread Cert.ReferenceIeIdeal.nD Cert.ReferenceIeIdeal.τ).loc Cert.ReferenceIeIdeal.main_arg0) = m ((c.tc : Thread Cert.KernelIeIdeal.nD Cert.KernelIeIdeal.τ).loc Cert.KernelIeIdeal.main_arg0)
      ∧ m' ((c.tc : Thread Cert.ReferenceIeIdeal.nD Cert.ReferenceIeIdeal.τ).loc Cert.ReferenceIeIdeal.main_arg1) = m ((c.tc : Thread Cert.KernelIeIdeal.nD Cert.KernelIeIdeal.τ).loc Cert.KernelIeIdeal.main_arg1)
      ∧ m' ((c.tc : Thread Cert.ReferenceIeIdeal.nD Cert.ReferenceIeIdeal.τ).loc Cert.ReferenceIeIdeal.main_arg2) = m ((c.tc : Thread Cert.KernelIeIdeal.nD Cert.KernelIeIdeal.τ).loc Cert.KernelIeIdeal.main_arg2)
      ∧ m' ((c.tc : Thread Cert.ReferenceIeIdeal.nD Cert.ReferenceIeIdeal.τ).loc Cert.ReferenceIeIdeal.main_arg3) = m ((c.tc : Thread Cert.KernelIeIdeal.nD Cert.KernelIeIdeal.τ).loc Cert.KernelIeIdeal.main_arg3)
      ∧ m' ((c.tc : Thread Cert.ReferenceIeIdeal.nD Cert.ReferenceIeIdeal.τ).loc Cert.ReferenceIeIdeal.main_arg4) = m ((c.tc : Thread Cert.KernelIeIdeal.nD Cert.KernelIeIdeal.τ).loc Cert.KernelIeIdeal.main_arg4)) →
    ∃ (v0 : (c : Dev Cert.KernelIeIdeal.nD) → Buf (Elt Ideal) ((c.tc : Thread Cert.KernelIeIdeal.nD Cert.KernelIeIdeal.τ).loc Cert.KernelIeIdeal.main_v10_0)) (v1 : (c : Dev Cert.KernelIeIdeal.nD) → Buf (Elt Ideal) ((c.tc : Thread Cert.KernelIeIdeal.nD Cert.KernelIeIdeal.τ).loc Cert.KernelIeIdeal.main_v10_1)) (v2 : (c : Dev Cert.KernelIeIdeal.nD) → Buf (Elt Ideal) ((c.tc : Thread Cert.KernelIeIdeal.nD Cert.KernelIeIdeal.τ).loc Cert.KernelIeIdeal.main_v10_2)) (v3 : (c : Dev Cert.KernelIeIdeal.nD) → Buf (Elt Ideal) ((c.tc : Thread Cert.KernelIeIdeal.nD Cert.KernelIeIdeal.τ).loc Cert.KernelIeIdeal.main_v10_3)),
      θ_run (Cert.KernelIeIdeal.defs (F := Ideal)) (onTc (τ := Cert.KernelIeIdeal.τ) (Cert.KernelIeIdeal.main (F := Ideal))) ⟨m, fun _ => 0, g⟩ (fun r => ∀ c : Dev Cert.KernelIeIdeal.nD,
          r.2.mem ((c.tc : Thread Cert.KernelIeIdeal.nD Cert.KernelIeIdeal.τ).loc Cert.KernelIeIdeal.main_v10_0) = v0 c
          ∧ r.2.mem ((c.tc : Thread Cert.KernelIeIdeal.nD Cert.KernelIeIdeal.τ).loc Cert.KernelIeIdeal.main_v10_1) = v1 c
          ∧ r.2.mem ((c.tc : Thread Cert.KernelIeIdeal.nD Cert.KernelIeIdeal.τ).loc Cert.KernelIeIdeal.main_v10_2) = v2 c
          ∧ r.2.mem ((c.tc : Thread Cert.KernelIeIdeal.nD Cert.KernelIeIdeal.τ).loc Cert.KernelIeIdeal.main_v10_3) = v3 c
          ∧ r.2.mem ((c.tc : Thread Cert.KernelIeIdeal.nD Cert.KernelIeIdeal.τ).loc Cert.KernelIeIdeal.main_arg0) = m ((c.tc : Thread Cert.KernelIeIdeal.nD Cert.KernelIeIdeal.τ).loc Cert.KernelIeIdeal.main_arg0)
          ∧ r.2.mem ((c.tc : Thread Cert.KernelIeIdeal.nD Cert.KernelIeIdeal.τ).loc Cert.KernelIeIdeal.main_arg1) = m ((c.tc : Thread Cert.KernelIeIdeal.nD Cert.KernelIeIdeal.τ).loc Cert.KernelIeIdeal.main_arg1)
          ∧ r.2.mem ((c.tc : Thread Cert.KernelIeIdeal.nD Cert.KernelIeIdeal.τ).loc Cert.KernelIeIdeal.main_arg2) = m ((c.tc : Thread Cert.KernelIeIdeal.nD Cert.KernelIeIdeal.τ).loc Cert.KernelIeIdeal.main_arg2)
          ∧ r.2.mem ((c.tc : Thread Cert.KernelIeIdeal.nD Cert.KernelIeIdeal.τ).loc Cert.KernelIeIdeal.main_arg3) = m ((c.tc : Thread Cert.KernelIeIdeal.nD Cert.KernelIeIdeal.τ).loc Cert.KernelIeIdeal.main_arg3)
          ∧ r.2.mem ((c.tc : Thread Cert.KernelIeIdeal.nD Cert.KernelIeIdeal.τ).loc Cert.KernelIeIdeal.main_arg4) = m ((c.tc : Thread Cert.KernelIeIdeal.nD Cert.KernelIeIdeal.τ).loc Cert.KernelIeIdeal.main_arg4))
      ∧ θ_run (Cert.ReferenceIeIdeal.defs (F := Ideal)) (onTc (τ := Cert.ReferenceIeIdeal.τ) (Cert.ReferenceIeIdeal.main (F := Ideal))) ⟨m', fun _ => 0, g'⟩ (fun r => ∀ c : Dev Cert.ReferenceIeIdeal.nD,
          r.2.mem ((c.tc : Thread Cert.ReferenceIeIdeal.nD Cert.ReferenceIeIdeal.τ).loc Cert.ReferenceIeIdeal.main_v52) = v0 c
          ∧ r.2.mem ((c.tc : Thread Cert.ReferenceIeIdeal.nD Cert.ReferenceIeIdeal.τ).loc Cert.ReferenceIeIdeal.main_v53) = v1 c
          ∧ r.2.mem ((c.tc : Thread Cert.ReferenceIeIdeal.nD Cert.ReferenceIeIdeal.τ).loc Cert.ReferenceIeIdeal.main_v54) = v2 c
          ∧ r.2.mem ((c.tc : Thread Cert.ReferenceIeIdeal.nD Cert.ReferenceIeIdeal.τ).loc Cert.ReferenceIeIdeal.main_v55) = v3 c
          ∧ r.2.mem ((c.tc : Thread Cert.ReferenceIeIdeal.nD Cert.ReferenceIeIdeal.τ).loc Cert.ReferenceIeIdeal.main_arg0) = m' ((c.tc : Thread Cert.ReferenceIeIdeal.nD Cert.ReferenceIeIdeal.τ).loc Cert.ReferenceIeIdeal.main_arg0)
          ∧ r.2.mem ((c.tc : Thread Cert.ReferenceIeIdeal.nD Cert.ReferenceIeIdeal.τ).loc Cert.ReferenceIeIdeal.main_arg1) = m' ((c.tc : Thread Cert.ReferenceIeIdeal.nD Cert.ReferenceIeIdeal.τ).loc Cert.ReferenceIeIdeal.main_arg1)
          ∧ r.2.mem ((c.tc : Thread Cert.ReferenceIeIdeal.nD Cert.ReferenceIeIdeal.τ).loc Cert.ReferenceIeIdeal.main_arg2) = m' ((c.tc : Thread Cert.ReferenceIeIdeal.nD Cert.ReferenceIeIdeal.τ).loc Cert.ReferenceIeIdeal.main_arg2)
          ∧ r.2.mem ((c.tc : Thread Cert.ReferenceIeIdeal.nD Cert.ReferenceIeIdeal.τ).loc Cert.ReferenceIeIdeal.main_arg3) = m' ((c.tc : Thread Cert.ReferenceIeIdeal.nD Cert.ReferenceIeIdeal.τ).loc Cert.ReferenceIeIdeal.main_arg3)
          ∧ r.2.mem ((c.tc : Thread Cert.ReferenceIeIdeal.nD Cert.ReferenceIeIdeal.τ).loc Cert.ReferenceIeIdeal.main_arg4) = m' ((c.tc : Thread Cert.ReferenceIeIdeal.nD Cert.ReferenceIeIdeal.τ).loc Cert.ReferenceIeIdeal.main_arg4))

def preserves_KernelOe_KernelOeIdeal : Prop :=
  True

def algebraic_KernelOeIdeal_ReferenceOeIdeal [hKernelOeIdeal : Cert.KernelOeIdeal.Facts] [hReferenceOeIdeal : Cert.ReferenceOeIdeal.Facts] : Prop :=
  ∀ (m : (ℓ : Loc Cert.KernelOeIdeal.nD Cert.KernelOeIdeal.τ Cert.KernelOeIdeal.sig) → Buf (Elt Ideal) ℓ) (g : Dev Cert.KernelOeIdeal.nD → PrngReg)
    (m' : (ℓ : Loc Cert.ReferenceOeIdeal.nD Cert.ReferenceOeIdeal.τ Cert.ReferenceOeIdeal.sig) → Buf (Elt Ideal) ℓ) (g' : Dev Cert.ReferenceOeIdeal.nD → PrngReg), Pre_KernelOeIdeal m →
    (∀ c : Dev Cert.KernelOeIdeal.nD,
      m' ((c.tc : Thread Cert.ReferenceOeIdeal.nD Cert.ReferenceOeIdeal.τ).loc Cert.ReferenceOeIdeal.main_arg0) = m ((c.tc : Thread Cert.KernelOeIdeal.nD Cert.KernelOeIdeal.τ).loc Cert.KernelOeIdeal.main_arg0)
      ∧ m' ((c.tc : Thread Cert.ReferenceOeIdeal.nD Cert.ReferenceOeIdeal.τ).loc Cert.ReferenceOeIdeal.main_arg1) = m ((c.tc : Thread Cert.KernelOeIdeal.nD Cert.KernelOeIdeal.τ).loc Cert.KernelOeIdeal.main_arg1)
      ∧ m' ((c.tc : Thread Cert.ReferenceOeIdeal.nD Cert.ReferenceOeIdeal.τ).loc Cert.ReferenceOeIdeal.main_arg2) = m ((c.tc : Thread Cert.KernelOeIdeal.nD Cert.KernelOeIdeal.τ).loc Cert.KernelOeIdeal.main_arg2)
      ∧ m' ((c.tc : Thread Cert.ReferenceOeIdeal.nD Cert.ReferenceOeIdeal.τ).loc Cert.ReferenceOeIdeal.main_arg3) = m ((c.tc : Thread Cert.KernelOeIdeal.nD Cert.KernelOeIdeal.τ).loc Cert.KernelOeIdeal.main_arg3)
      ∧ m' ((c.tc : Thread Cert.ReferenceOeIdeal.nD Cert.ReferenceOeIdeal.τ).loc Cert.ReferenceOeIdeal.main_arg4) = m ((c.tc : Thread Cert.KernelOeIdeal.nD Cert.KernelOeIdeal.τ).loc Cert.KernelOeIdeal.main_arg4)
      ∧ m' ((c.tc : Thread Cert.ReferenceOeIdeal.nD Cert.ReferenceOeIdeal.τ).loc Cert.ReferenceOeIdeal.main_arg5) = m ((c.tc : Thread Cert.KernelOeIdeal.nD Cert.KernelOeIdeal.τ).loc Cert.KernelOeIdeal.main_arg5)) →
    ∃ (v0 : (c : Dev Cert.KernelOeIdeal.nD) → Buf (Elt Ideal) ((c.tc : Thread Cert.KernelOeIdeal.nD Cert.KernelOeIdeal.τ).loc Cert.KernelOeIdeal.main_v3)),
      θ_run (Cert.KernelOeIdeal.defs (F := Ideal)) (onTc (τ := Cert.KernelOeIdeal.τ) (Cert.KernelOeIdeal.main (F := Ideal))) ⟨m, fun _ => 0, g⟩ (fun r => ∀ c : Dev Cert.KernelOeIdeal.nD,
          r.2.mem ((c.tc : Thread Cert.KernelOeIdeal.nD Cert.KernelOeIdeal.τ).loc Cert.KernelOeIdeal.main_v3) = v0 c
          ∧ r.2.mem ((c.tc : Thread Cert.KernelOeIdeal.nD Cert.KernelOeIdeal.τ).loc Cert.KernelOeIdeal.main_arg0) = m ((c.tc : Thread Cert.KernelOeIdeal.nD Cert.KernelOeIdeal.τ).loc Cert.KernelOeIdeal.main_arg0)
          ∧ r.2.mem ((c.tc : Thread Cert.KernelOeIdeal.nD Cert.KernelOeIdeal.τ).loc Cert.KernelOeIdeal.main_arg1) = m ((c.tc : Thread Cert.KernelOeIdeal.nD Cert.KernelOeIdeal.τ).loc Cert.KernelOeIdeal.main_arg1)
          ∧ r.2.mem ((c.tc : Thread Cert.KernelOeIdeal.nD Cert.KernelOeIdeal.τ).loc Cert.KernelOeIdeal.main_arg2) = m ((c.tc : Thread Cert.KernelOeIdeal.nD Cert.KernelOeIdeal.τ).loc Cert.KernelOeIdeal.main_arg2)
          ∧ r.2.mem ((c.tc : Thread Cert.KernelOeIdeal.nD Cert.KernelOeIdeal.τ).loc Cert.KernelOeIdeal.main_arg3) = m ((c.tc : Thread Cert.KernelOeIdeal.nD Cert.KernelOeIdeal.τ).loc Cert.KernelOeIdeal.main_arg3)
          ∧ r.2.mem ((c.tc : Thread Cert.KernelOeIdeal.nD Cert.KernelOeIdeal.τ).loc Cert.KernelOeIdeal.main_arg4) = m ((c.tc : Thread Cert.KernelOeIdeal.nD Cert.KernelOeIdeal.τ).loc Cert.KernelOeIdeal.main_arg4)
          ∧ r.2.mem ((c.tc : Thread Cert.KernelOeIdeal.nD Cert.KernelOeIdeal.τ).loc Cert.KernelOeIdeal.main_arg5) = m ((c.tc : Thread Cert.KernelOeIdeal.nD Cert.KernelOeIdeal.τ).loc Cert.KernelOeIdeal.main_arg5))
      ∧ θ_run (Cert.ReferenceOeIdeal.defs (F := Ideal)) (onTc (τ := Cert.ReferenceOeIdeal.τ) (Cert.ReferenceOeIdeal.main (F := Ideal))) ⟨m', fun _ => 0, g'⟩ (fun r => ∀ c : Dev Cert.ReferenceOeIdeal.nD,
          r.2.mem ((c.tc : Thread Cert.ReferenceOeIdeal.nD Cert.ReferenceOeIdeal.τ).loc Cert.ReferenceOeIdeal.main_v73) = v0 c
          ∧ r.2.mem ((c.tc : Thread Cert.ReferenceOeIdeal.nD Cert.ReferenceOeIdeal.τ).loc Cert.ReferenceOeIdeal.main_arg0) = m' ((c.tc : Thread Cert.ReferenceOeIdeal.nD Cert.ReferenceOeIdeal.τ).loc Cert.ReferenceOeIdeal.main_arg0)
          ∧ r.2.mem ((c.tc : Thread Cert.ReferenceOeIdeal.nD Cert.ReferenceOeIdeal.τ).loc Cert.ReferenceOeIdeal.main_arg1) = m' ((c.tc : Thread Cert.ReferenceOeIdeal.nD Cert.ReferenceOeIdeal.τ).loc Cert.ReferenceOeIdeal.main_arg1)
          ∧ r.2.mem ((c.tc : Thread Cert.ReferenceOeIdeal.nD Cert.ReferenceOeIdeal.τ).loc Cert.ReferenceOeIdeal.main_arg2) = m' ((c.tc : Thread Cert.ReferenceOeIdeal.nD Cert.ReferenceOeIdeal.τ).loc Cert.ReferenceOeIdeal.main_arg2)
          ∧ r.2.mem ((c.tc : Thread Cert.ReferenceOeIdeal.nD Cert.ReferenceOeIdeal.τ).loc Cert.ReferenceOeIdeal.main_arg3) = m' ((c.tc : Thread Cert.ReferenceOeIdeal.nD Cert.ReferenceOeIdeal.τ).loc Cert.ReferenceOeIdeal.main_arg3)
          ∧ r.2.mem ((c.tc : Thread Cert.ReferenceOeIdeal.nD Cert.ReferenceOeIdeal.τ).loc Cert.ReferenceOeIdeal.main_arg4) = m' ((c.tc : Thread Cert.ReferenceOeIdeal.nD Cert.ReferenceOeIdeal.τ).loc Cert.ReferenceOeIdeal.main_arg4)
          ∧ r.2.mem ((c.tc : Thread Cert.ReferenceOeIdeal.nD Cert.ReferenceOeIdeal.τ).loc Cert.ReferenceOeIdeal.main_arg5) = m' ((c.tc : Thread Cert.ReferenceOeIdeal.nD Cert.ReferenceOeIdeal.τ).loc Cert.ReferenceOeIdeal.main_arg5))

def preserves_KernelBa_KernelBaIdeal : Prop :=
  IdealRules.named_const.Statement Cert.KernelBaIdeal.κ "mask" .f32 0xF149F2CA#32 ⊥

def algebraic_KernelBaIdeal_ReferenceBaIdeal_pre_finite_band [hKernelBaIdeal : Cert.KernelBaIdeal.Facts] [hReferenceBaIdeal : Cert.ReferenceBaIdeal.Facts] [hPre_finite_band : Cert.Pre_finite_band.Facts] : Prop :=
  ∀ (m : (ℓ : Loc Cert.KernelBaIdeal.nD Cert.KernelBaIdeal.τ Cert.KernelBaIdeal.sig) → Buf (Elt Ideal) ℓ) (g : Dev Cert.KernelBaIdeal.nD → PrngReg)
    (m' : (ℓ : Loc Cert.ReferenceBaIdeal.nD Cert.ReferenceBaIdeal.τ Cert.ReferenceBaIdeal.sig) → Buf (Elt Ideal) ℓ) (g' : Dev Cert.ReferenceBaIdeal.nD → PrngReg), Pre_KernelBaIdeal_finite_band m →
    (∀ c : Dev Cert.KernelBaIdeal.nD,
      m' ((c.tc : Thread Cert.ReferenceBaIdeal.nD Cert.ReferenceBaIdeal.τ).loc Cert.ReferenceBaIdeal.main_arg0) = m ((c.tc : Thread Cert.KernelBaIdeal.nD Cert.KernelBaIdeal.τ).loc Cert.KernelBaIdeal.main_arg0)
      ∧ m' ((c.tc : Thread Cert.ReferenceBaIdeal.nD Cert.ReferenceBaIdeal.τ).loc Cert.ReferenceBaIdeal.main_arg1) = m ((c.tc : Thread Cert.KernelBaIdeal.nD Cert.KernelBaIdeal.τ).loc Cert.KernelBaIdeal.main_arg1)
      ∧ m' ((c.tc : Thread Cert.ReferenceBaIdeal.nD Cert.ReferenceBaIdeal.τ).loc Cert.ReferenceBaIdeal.main_arg2) = m ((c.tc : Thread Cert.KernelBaIdeal.nD Cert.KernelBaIdeal.τ).loc Cert.KernelBaIdeal.main_arg2)
      ∧ m' ((c.tc : Thread Cert.ReferenceBaIdeal.nD Cert.ReferenceBaIdeal.τ).loc Cert.ReferenceBaIdeal.main_arg3) = m ((c.tc : Thread Cert.KernelBaIdeal.nD Cert.KernelBaIdeal.τ).loc Cert.KernelBaIdeal.main_arg3)) →
    ∃ (v0 : (c : Dev Cert.KernelBaIdeal.nD) → Buf (Elt Ideal) ((c.tc : Thread Cert.KernelBaIdeal.nD Cert.KernelBaIdeal.τ).loc Cert.KernelBaIdeal.main_v32)),
      θ_run (Cert.KernelBaIdeal.defs (F := Ideal)) (onTc (τ := Cert.KernelBaIdeal.τ) (Cert.KernelBaIdeal.main (F := Ideal))) ⟨m, fun _ => 0, g⟩ (fun r => ∀ c : Dev Cert.KernelBaIdeal.nD,
          r.2.mem ((c.tc : Thread Cert.KernelBaIdeal.nD Cert.KernelBaIdeal.τ).loc Cert.KernelBaIdeal.main_v32) = v0 c
          ∧ r.2.mem ((c.tc : Thread Cert.KernelBaIdeal.nD Cert.KernelBaIdeal.τ).loc Cert.KernelBaIdeal.main_arg0) = m ((c.tc : Thread Cert.KernelBaIdeal.nD Cert.KernelBaIdeal.τ).loc Cert.KernelBaIdeal.main_arg0)
          ∧ r.2.mem ((c.tc : Thread Cert.KernelBaIdeal.nD Cert.KernelBaIdeal.τ).loc Cert.KernelBaIdeal.main_arg1) = m ((c.tc : Thread Cert.KernelBaIdeal.nD Cert.KernelBaIdeal.τ).loc Cert.KernelBaIdeal.main_arg1)
          ∧ r.2.mem ((c.tc : Thread Cert.KernelBaIdeal.nD Cert.KernelBaIdeal.τ).loc Cert.KernelBaIdeal.main_arg2) = m ((c.tc : Thread Cert.KernelBaIdeal.nD Cert.KernelBaIdeal.τ).loc Cert.KernelBaIdeal.main_arg2)
          ∧ r.2.mem ((c.tc : Thread Cert.KernelBaIdeal.nD Cert.KernelBaIdeal.τ).loc Cert.KernelBaIdeal.main_arg3) = m ((c.tc : Thread Cert.KernelBaIdeal.nD Cert.KernelBaIdeal.τ).loc Cert.KernelBaIdeal.main_arg3))
      ∧ θ_run (Cert.ReferenceBaIdeal.defs (F := Ideal)) (onTc (τ := Cert.ReferenceBaIdeal.τ) (Cert.ReferenceBaIdeal.main (F := Ideal))) ⟨m', fun _ => 0, g'⟩ (fun r => ∀ c : Dev Cert.ReferenceBaIdeal.nD,
          r.2.mem ((c.tc : Thread Cert.ReferenceBaIdeal.nD Cert.ReferenceBaIdeal.τ).loc Cert.ReferenceBaIdeal.main_v80) = v0 c
          ∧ r.2.mem ((c.tc : Thread Cert.ReferenceBaIdeal.nD Cert.ReferenceBaIdeal.τ).loc Cert.ReferenceBaIdeal.main_arg0) = m' ((c.tc : Thread Cert.ReferenceBaIdeal.nD Cert.ReferenceBaIdeal.τ).loc Cert.ReferenceBaIdeal.main_arg0)
          ∧ r.2.mem ((c.tc : Thread Cert.ReferenceBaIdeal.nD Cert.ReferenceBaIdeal.τ).loc Cert.ReferenceBaIdeal.main_arg1) = m' ((c.tc : Thread Cert.ReferenceBaIdeal.nD Cert.ReferenceBaIdeal.τ).loc Cert.ReferenceBaIdeal.main_arg1)
          ∧ r.2.mem ((c.tc : Thread Cert.ReferenceBaIdeal.nD Cert.ReferenceBaIdeal.τ).loc Cert.ReferenceBaIdeal.main_arg2) = m' ((c.tc : Thread Cert.ReferenceBaIdeal.nD Cert.ReferenceBaIdeal.τ).loc Cert.ReferenceBaIdeal.main_arg2)
          ∧ r.2.mem ((c.tc : Thread Cert.ReferenceBaIdeal.nD Cert.ReferenceBaIdeal.τ).loc Cert.ReferenceBaIdeal.main_arg3) = m' ((c.tc : Thread Cert.ReferenceBaIdeal.nD Cert.ReferenceBaIdeal.τ).loc Cert.ReferenceBaIdeal.main_arg3))

def Claim : Prop :=
  ∃ (hKernel : Cert.Kernel.Facts) (hKernelIdeal : Cert.KernelIdeal.Facts) (hReferenceIdeal : Cert.ReferenceIdeal.Facts) (hKernelSb : Cert.KernelSb.Facts) (hKernelSbIdeal : Cert.KernelSbIdeal.Facts) (hReferenceSbIdeal : Cert.ReferenceSbIdeal.Facts) (hKernelIo : Cert.KernelIo.Facts) (hKernelIoIdeal : Cert.KernelIoIdeal.Facts) (hReferenceIoIdeal : Cert.ReferenceIoIdeal.Facts) (hKernelOo : Cert.KernelOo.Facts) (hKernelOoIdeal : Cert.KernelOoIdeal.Facts) (hReferenceOoIdeal : Cert.ReferenceOoIdeal.Facts) (hKernelIe : Cert.KernelIe.Facts) (hKernelIeIdeal : Cert.KernelIeIdeal.Facts) (hReferenceIeIdeal : Cert.ReferenceIeIdeal.Facts) (hKernelOe : Cert.KernelOe.Facts) (hKernelOeIdeal : Cert.KernelOeIdeal.Facts) (hReferenceOeIdeal : Cert.ReferenceOeIdeal.Facts) (hKernelBa : Cert.KernelBa.Facts) (hKernelBaIdeal : Cert.KernelBaIdeal.Facts) (hReferenceBaIdeal : Cert.ReferenceBaIdeal.Facts) (hPre_finite_qk : Cert.Pre_finite_qk.Facts) (hPre_finite_rows : Cert.Pre_finite_rows.Facts) (hPre_finite_band : Cert.Pre_finite_band.Facts),
    quiescent_Kernel (hKernel := hKernel)
    ∧ quiescent_KernelIdeal (hKernelIdeal := hKernelIdeal)
    ∧ quiescent_ReferenceIdeal (hReferenceIdeal := hReferenceIdeal)
    ∧ quiescent_KernelSb (hKernelSb := hKernelSb)
    ∧ quiescent_KernelSbIdeal (hKernelSbIdeal := hKernelSbIdeal)
    ∧ quiescent_KernelSbIdeal_pre_finite_qk (hKernelSbIdeal := hKernelSbIdeal) (hPre_finite_qk := hPre_finite_qk)
    ∧ quiescent_ReferenceSbIdeal (hReferenceSbIdeal := hReferenceSbIdeal)
    ∧ quiescent_ReferenceSbIdeal_pre_finite_qk (hReferenceSbIdeal := hReferenceSbIdeal) (hPre_finite_qk := hPre_finite_qk)
    ∧ quiescent_KernelIo (hKernelIo := hKernelIo)
    ∧ quiescent_KernelIoIdeal (hKernelIoIdeal := hKernelIoIdeal)
    ∧ quiescent_ReferenceIoIdeal (hReferenceIoIdeal := hReferenceIoIdeal)
    ∧ quiescent_KernelOo (hKernelOo := hKernelOo)
    ∧ quiescent_KernelOoIdeal (hKernelOoIdeal := hKernelOoIdeal)
    ∧ quiescent_ReferenceOoIdeal (hReferenceOoIdeal := hReferenceOoIdeal)
    ∧ quiescent_KernelIe (hKernelIe := hKernelIe)
    ∧ quiescent_KernelIeIdeal (hKernelIeIdeal := hKernelIeIdeal)
    ∧ quiescent_KernelIeIdeal_pre_finite_rows (hKernelIeIdeal := hKernelIeIdeal) (hPre_finite_rows := hPre_finite_rows)
    ∧ quiescent_ReferenceIeIdeal (hReferenceIeIdeal := hReferenceIeIdeal)
    ∧ quiescent_ReferenceIeIdeal_pre_finite_rows (hReferenceIeIdeal := hReferenceIeIdeal) (hPre_finite_rows := hPre_finite_rows)
    ∧ quiescent_KernelOe (hKernelOe := hKernelOe)
    ∧ quiescent_KernelOeIdeal (hKernelOeIdeal := hKernelOeIdeal)
    ∧ quiescent_ReferenceOeIdeal (hReferenceOeIdeal := hReferenceOeIdeal)
    ∧ quiescent_KernelBa (hKernelBa := hKernelBa)
    ∧ quiescent_KernelBaIdeal (hKernelBaIdeal := hKernelBaIdeal)
    ∧ quiescent_KernelBaIdeal_pre_finite_band (hKernelBaIdeal := hKernelBaIdeal) (hPre_finite_band := hPre_finite_band)
    ∧ quiescent_ReferenceBaIdeal (hReferenceBaIdeal := hReferenceBaIdeal)
    ∧ quiescent_ReferenceBaIdeal_pre_finite_band (hReferenceBaIdeal := hReferenceBaIdeal) (hPre_finite_band := hPre_finite_band)
    ∧ preserves_Kernel_KernelIdeal
    ∧ algebraic_KernelIdeal_ReferenceIdeal (hKernelIdeal := hKernelIdeal) (hReferenceIdeal := hReferenceIdeal)
    ∧ preserves_KernelSb_KernelSbIdeal
    ∧ algebraic_KernelSbIdeal_ReferenceSbIdeal_pre_finite_qk (hKernelSbIdeal := hKernelSbIdeal) (hReferenceSbIdeal := hReferenceSbIdeal) (hPre_finite_qk := hPre_finite_qk)
    ∧ preserves_KernelIo_KernelIoIdeal
    ∧ algebraic_KernelIoIdeal_ReferenceIoIdeal (hKernelIoIdeal := hKernelIoIdeal) (hReferenceIoIdeal := hReferenceIoIdeal)
    ∧ preserves_KernelOo_KernelOoIdeal
    ∧ algebraic_KernelOoIdeal_ReferenceOoIdeal (hKernelOoIdeal := hKernelOoIdeal) (hReferenceOoIdeal := hReferenceOoIdeal)
    ∧ preserves_KernelIe_KernelIeIdeal
    ∧ algebraic_KernelIeIdeal_ReferenceIeIdeal_pre_finite_rows (hKernelIeIdeal := hKernelIeIdeal) (hReferenceIeIdeal := hReferenceIeIdeal) (hPre_finite_rows := hPre_finite_rows)
    ∧ preserves_KernelOe_KernelOeIdeal
    ∧ algebraic_KernelOeIdeal_ReferenceOeIdeal (hKernelOeIdeal := hKernelOeIdeal) (hReferenceOeIdeal := hReferenceOeIdeal)
    ∧ preserves_KernelBa_KernelBaIdeal
    ∧ algebraic_KernelBaIdeal_ReferenceBaIdeal_pre_finite_band (hKernelBaIdeal := hKernelBaIdeal) (hReferenceBaIdeal := hReferenceBaIdeal) (hPre_finite_band := hPre_finite_band)
-- ==== Pre_finite_band.lean ====
abbrev S4x4096x512 : Shape := ⟨3, ![4, 4096, 512]⟩
abbrev S4x4608x512 : Shape := ⟨3, ![4, 4608, 512]⟩
abbrev S8x257 : Shape := ⟨2, ![8, 257]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4608x512 : S_.BroadcastsInDim S4x4608x512 (![] : Fin 0 → Fin S4x4608x512.rank)
  reducesTo_S4x4608x512_S_d0_1_2 : S4x4608x512.ReducesTo [0, 1, 2] S_
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S4x4096x512 .bf16) (main_arg1 : FVec F S4x4608x512 .bf16) (main_arg2 : FVec F S4x4608x512 .bf16) (main_arg3 : FVec F S8x257 .f32) : IVec S_ 1 :=
  let main_v0 : FVec F S4x4096x512 .f32 := (extf .f32 · bitsLt_bf16_f32) main_arg0
  let main_v1 : FVec F S4x4608x512 .f32 := (extf .f32 · bitsLt_bf16_f32) main_arg1
  let main_v2 : FVec F S4x4096x512 .f32 := Host.absf main_v0
  let main_cst : FVec F S_ .f32 := constant S_ .f32 0x7F800000#32
  let main_v3 : FVec F S4x4096x512 .f32 := broadcastInDim S4x4096x512 ![] bcast_S_S4x4096x512 main_cst
  let main_v4 : IVec S4x4096x512 1 := cmpf .olt main_v2 main_v3
  let main_c : IVec S_ 1 := constantI S_ 1 1#1
  let main_v5 : IVec S_ 1 := (fun x v => Host.reduce IntOp.andi x v reducesTo_S4x4096x512_S_d0_1_2 h_S_) main_v4 main_c
  let main_v6 : FVec F S4x4608x512 .f32 := Host.absf main_v1
  let main_cst_0 : FVec F S_ .f32 := constant S_ .f32 0x7F800000#32
  let main_v7 : FVec F S4x4608x512 .f32 := broadcastInDim S4x4608x512 ![] bcast_S_S4x4608x512 main_cst_0
  let main_v8 : IVec S4x4608x512 1 := cmpf .olt main_v6 main_v7
  let main_c_1 : IVec S_ 1 := constantI S_ 1 1#1
  let main_v9 : IVec S_ 1 := (fun x v => Host.reduce IntOp.andi x v reducesTo_S4x4608x512_S_d0_1_2 h_S_) main_v8 main_c_1
  let main_v10 : IVec S_ 1 := andi main_v5 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  let main_c_3 : IVec S_ 1 := constantI S_ 1 1#1
  let main_v14 : IVec S_ 1 := (fun x v => Host.reduce IntOp.andi x v reducesTo_S8x257_S_d0_1 h_S_) main_v13 main_c_3
  let main_v15 : IVec S_ 1 := andi main_v10 main_v14
  main_v15
-- ==== Pre_finite_qk.lean ====
abbrev S4x4096x512 : Shape := ⟨3, ![4, 4096, 512]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)

variable [Facts]

def fn {F : FTy → Type} [FloatOps F] (main_arg0 : FVec F S4x4096x512 .bf16) (main_arg1 : FVec F S4x4096x512 .bf16) (main_arg2 : FVec F S4x4096x512 .bf16) : IVec S4x4096x512 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : IVec S4x4096x512 1 := andi main_v3 main_v7
  main_v8
-- ==== Pre_finite_rows.lean ====
abbrev S4x4096x1024 : Shape := ⟨3, ![4, 4096, 1024]⟩
abbrev S1024 : Shape := ⟨1, ![1024]⟩
abbrev S1024x2048 : Shape := ⟨2, ![1024, 2048]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4x4096x1024 .f32) (main_arg1 : FVec F S1024 .f32) (main_arg2 : FVec F S1024x2048 .f32) (main_arg3 : FVec F S64 .f32) (main_arg4 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S16384x1024 : Shape := ⟨2, ![16384, 1024]⟩
abbrev S16384x128 : Shape := ⟨2, ![16384, 128]⟩
abbrev S4x8x1024x256 : Shape := ⟨4, ![4, 8, 1024, 256]⟩
abbrev S4x8x256x1024 : Shape := ⟨4, ![4, 8, 256, 1024]⟩
abbrev S32x1024x256 : Shape := ⟨3, ![32, 1024, 256]⟩
abbrev S32x256x1024 : Shape := ⟨3, ![32, 256, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S32x1024x256, .f32⟩
  | .hbm, ⟨7, _⟩ => ⟨S32x1024x256, .bf16⟩
  | .hbm, ⟨8, _⟩ => ⟨S32x1024x256, .f32⟩
  | .hbm, ⟨9, _⟩ => ⟨S32x1024x256, .bf16⟩
  | .hbm, ⟨10, _⟩ => ⟨S32x256x1024, .f32⟩
  | .hbm, ⟨11, _⟩ => ⟨S32x256x1024, .bf16⟩
  | .hbm, ⟨12, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x1024 : Shape := ⟨2, ![16384, 1024]⟩
abbrev S16384x128 : Shape := ⟨2, ![16384, 128]⟩
abbrev S4x8x1024x256 : Shape := ⟨4, ![4, 8, 1024, 256]⟩
abbrev S4x8x256x1024 : Shape := ⟨4, ![4, 8, 256, 1024]⟩
abbrev S16384x32 : Shape := ⟨2, ![16384, 32]⟩
abbrev S16384x4x8 : Shape := ⟨3, ![16384, 4, 8]⟩
abbrev S16384x4x8x256 : Shape := ⟨4, ![16384, 4, 8, 256]⟩
abbrev S_ : Shape := ⟨0, ![]⟩
abbrev S16384x4x8x1 : Shape := ⟨4, ![16384, 4, 8, 1]⟩
abbrev S16384x8192 : Shape := ⟨2, ![16384, 8192]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S16384x1024, .f32⟩
  | .hbm, ⟨7, _⟩ => ⟨S16384x32, .f32⟩
  | .hbm, ⟨8, _⟩ => ⟨S16384x4x8, .f32⟩
  | .hbm, ⟨9, _⟩ => ⟨S16384x4x8x256, .f32⟩
  | .hbm, ⟨10, _⟩ => ⟨S16384x4x8x256, .f32⟩
  | .hbm, ⟨11, _⟩ => ⟨S16384x4x8x256, .f32⟩
  | .hbm, ⟨12, _⟩ => ⟨S_, .f32⟩
  | .hbm, ⟨13, _⟩ => ⟨S16384x4x8x256, .f32⟩
  | .hbm, ⟨14, _⟩ => ⟨S16384x4x8x256, .f32⟩
  | .hbm, ⟨15, _⟩ => ⟨S_, .f32⟩
  | .hbm, ⟨16, _⟩ => ⟨S16384x4x8x256, .f32⟩
  | .hbm, ⟨17, _⟩ => ⟨S16384x4x8x256, .f32⟩
  | .hbm, ⟨18, _⟩ => ⟨S16384x4x8x256, .f32⟩
  | .hbm, ⟨19, _⟩ => ⟨S16384x4x8x256, .f32⟩
  | .hbm, ⟨20, _⟩ => ⟨S16384x4x8x256, .f32⟩
  | .hbm, ⟨21, _⟩ => ⟨S16384x4x8x1, .f32⟩
  | .hbm, ⟨22, _⟩ => ⟨S16384x4x8x256, .f32⟩
  | .hbm, ⟨23, _⟩ => ⟨S16384x4x8x256, .f32⟩
  | .hbm, ⟨24, _⟩ => ⟨S16384x8192, .f32⟩
  | .hbm, ⟨25, _⟩ => ⟨S8192x1024, .f32⟩
  | .hbm, ⟨26, _⟩ => ⟨S16384x1024, .f32⟩
  | .hbm, ⟨27, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== KernelSb.lean ====
abbrev S4x4096x512 : Shape := ⟨3, ![4, 4096, 512]⟩
abbrev S1x128x128 : Shape := ⟨3, ![1, 128, 128]⟩
abbrev S1x4096x128 : Shape := ⟨3, ![1, 4096, 128]⟩
abbrev S128x128 : Shape := ⟨2, ![128, 128]⟩
abbrev S128x256 : Shape := ⟨2, ![128, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .local _ .vmem, ⟨0, _⟩ => ⟨S1x128x128, .bf16⟩
  | .local _ .vmem, ⟨1, _⟩ => ⟨S1x128x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v23 : BitVec 32 := Scalar.addi arg2 c1_i32
  let v24 : BitVec 32 := Scalar.subi v23 c0_i32
  let c1_i32_6 : BitVec 32 := 1#32
  let v26 : BitVec 32 := Scalar.divsi v24 c1_i32_6
  let v27 : BitVec 32 := Scalar.muli v26 c1_i32_6
  let v28 : BitVec 32 := Scalar.addi c0_i32 v27
  let c1_i32_7 : BitVec 32 := 1#32
  ⟨c0_i32, v28, c1_i32_7⟩
def k0_mult1 (i : grid0.Coords) (k0_t1 : Fin (k0_t1_loop i).trips) : BitVec 32 :=
  let arg2 : BitVec 32 := BitVec.ofNat 32 (i 2).val
  let c0_i32 : BitVec 32 := 0#32
  let c1_i32_7 : BitVec 32 := 1#32
  let arg7 : BitVec 32 := Scf.iv c0_i32 c1_i32_7 k0_t1
  let v38 : BitVec 32 := Scalar.subi arg2 arg7
  let c128_i32_13 : BitVec 32 := 128#32
  let v39 : BitVec 32 := Scalar.muli v38 c128_i32_13
  v39
def k0_off1 (i : grid0.Coords) (k0_t1 : Fin (k0_t1_loop i).trips) : Fin 3 → Nat :=
  let c0_14 : Index := 0#32
  let arg2 : BitVec 32 := BitVec.ofNat 32 (i 2).val
  let c0_i32 : BitVec 32 := 0#32
  let c1_i32_7 : BitVec 32 := 1#32
  let arg7 : BitVec 32 := Scf.iv c0_i32 c1_i32_7 k0_t1
  let v38 : BitVec 32 := Scalar.subi arg2 arg7
  let c128_i32_13 : BitVec 32 := 128#32
  let v39 : BitVec 32 := Scalar.muli v38 c128_i32_13
  let v40 : BitVec 32 := v39
  let v41 : Index := Scalar.indexCast v40
  let c0_15 : Index := 0#32
  ![0, v41.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v23 : BitVec 32 := Scalar.addi arg2 c1_i32
  let v24 : BitVec 32 := Scalar.subi v23 c0_i32
  let c1_i32_6 : BitVec 32 := 1#32
  let v26 : BitVec 32 := Scalar.divsi v24 c1_i32_6
  let v27 : BitVec 32 := Scalar.muli v26 c1_i32_6
  let v28 : BitVec 32 := Scalar.addi c0_i32 v27
  let v25 : BitVec 32 := Scalar.addi c0_i32 v24
  let c1_i32_8 : BitVec 32 := 1#32
  ⟨v28, v25, c1_i32_8⟩
def k0_mult2 (i : grid0.Coords) (k0_t2 : Fin (k0_t2_loop i).trips) : BitVec 32 :=
  let arg2 : BitVec 32 := BitVec.ofNat 32 (i 2).val
  let c0_i32 : BitVec 32 := 0#32
  let c1_i32 : BitVec 32 := 1#32
  let v23 : BitVec 32 := Scalar.addi arg2 c1_i32
  let v24 : BitVec 32 := Scalar.subi v23 c0_i32
  let c1_i32_6 : BitVec 32 := 1#32
  let v26 : BitVec 32 := Scalar.divsi v24 c1_i32_6
  let v27 : BitVec 32 := Scalar.muli v26 c1_i32_6
  let v28 : BitVec 32 := Scalar.addi c0_i32 v27
  let c1_i32_8 : BitVec 32 := 1#32
  let arg7 : BitVec 32 := Scf.iv v28 c1_i32_8 k0_t2
  let v38 : BitVec 32 := Scalar.subi arg2 arg7
  let c128_i32_13 : BitVec 32 := 128#32
  let v39 : BitVec 32 := Scalar.muli v38 c128_i32_13
  v39
def k0_off2 (i : grid0.Coords) (k0_t2 : Fin (k0_t2_loop i).trips) : Fin 3 → Nat :=
  let c0_14 : Index := 0#32
  let arg2 : BitVec 32 := BitVec.ofNat 32 (i 2).val
  let c0_i32 : BitVec 32 := 0#32
  let c1_i32 : BitVec 32 := 1#32
  let v23 : BitVec 32 := Scalar.addi arg2 c1_i32
  let v24 : BitVec 32 := Scalar.subi v23 c0_i32
  let c1_i32_6 : BitVec 32 := 1#32
  let v26 : BitVec 32 := Scalar.divsi v24 c1_i32_6
  let v27 : BitVec 32 := Scalar.muli v26 c1_i32_6
  let v28 : BitVec 32 := Scalar.addi c0_i32 v27
  let c1_i32_8 : BitVec 32 := 1#32
  let arg7 : BitVec 32 := Scf.iv v28 c1_i32_8 k0_t2
  let v38 : BitVec 32 := Scalar.subi arg2 arg7
  let c128_i32_13 : BitVec 32 := 128#32
  let v39 : BitVec 32 := Scalar.muli v38 c128_i32_13
  let v40 : BitVec 32 := v39
  let v41 : Index := Scalar.indexCast v40
  let c0_15 : Index := 0#32
  ![0, v41.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceSbIdeal.lean ====
abbrev S4x4096x512 : Shape := ⟨3, ![4, 4096, 512]⟩
abbrev S4x4096x8x64 : Shape := ⟨4, ![4, 4096, 8, 64]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x64x4096 : Shape := ⟨4, ![4, 8, 64, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .f32⟩
  | .hbm, ⟨4, _⟩ => ⟨S4x4096x8x64, .f32⟩
  | .hbm, ⟨5, _⟩ => ⟨S4x4096x512, .f32⟩
  | .hbm, ⟨6, _⟩ => ⟨S4x4096x8x64, .f32⟩
  | .hbm, ⟨7, _⟩ => ⟨S4x4096x512, .f32⟩
  | .hbm, ⟨8, _⟩ => ⟨S4x4096x8x64, .f32⟩
  | .hbm, ⟨9, _⟩ => ⟨S4x8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4x8x4096x4096, .f32⟩
  | .hbm, ⟨17, _⟩ => ⟨S_, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .i1⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .i1⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S_, .f32⟩
  | .hbm, ⟨51, _⟩ => ⟨S4x8x4096x4096, .i1⟩
  | .hbm, ⟨52, _⟩ => ⟨S4x8x4096x4096, .f32⟩
  | .hbm, ⟨53, _⟩ => ⟨S4x8x4096x4096, .f32⟩
  | .hbm, ⟨54, _⟩ => ⟨S_, .f32⟩
  | .hbm, ⟨55, _⟩ => ⟨S_, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S_, .f32⟩
  | .hbm, ⟨61, _⟩ => ⟨S_, .f32⟩
  | .hbm, ⟨62, _⟩ => ⟨S4x8x4096x4096, .i1⟩
  | .hbm, ⟨63, _⟩ => ⟨S4x8x4096x4096, .f32⟩
  | .hbm, ⟨64, _⟩ => ⟨S4x8x4096x4096, .f32⟩
  | .hbm, ⟨65, _⟩ => ⟨S4x8x64x4096, .f32⟩
  | .hbm, ⟨66, _⟩ => ⟨S4x4096x8x64, .f32⟩
  | .hbm, ⟨67, _⟩ => ⟨S4x4096x512, .f32⟩
  | .hbm, ⟨68, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v15 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v16 : Ref sig .tc := ⟨.hbm, 53, rfl⟩
abbrev main_call3_cst : Ref sig .tc := ⟨.hbm, 54, rfl⟩
abbrev main_call3_v0 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩

abbrev nD : Nat := 1
abbrev τ : Topo := Topo.v7x

variable {F : FTy → Type} [FloatOps F]
-- ==== KernelIo.lean ====
abbrev S16384x1024 : Shape := ⟨2, ![16384, 1024]⟩
abbrev S1024 : Shape := ⟨1, ![1024]⟩
abbrev S1024x2560 : Shape := ⟨2, ![1024, 2560]⟩
abbrev S512 : Shape := ⟨1, ![512]⟩
abbrev S1x1024 : Shape := ⟨2, ![1, 1024]⟩
abbrev S1x512 : Shape := ⟨2, ![1, 512]⟩
abbrev S16384x512 : Shape := ⟨2, ![16384, 512]⟩
abbrev S512x1024 : Shape := ⟨2, ![512, 1024]⟩
abbrev S512x512 : Shape := ⟨2, ![512, 512]⟩
abbrev S512x1 : Shape := ⟨2, ![512, 1]⟩
abbrev S512x2560 : Shape := ⟨2, ![512, 2560]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S1x1024, .f32⟩
  | .hbm, ⟨5, _⟩ => ⟨S1024x2560, .bf16⟩
  | .hbm, ⟨6, _⟩ => ⟨S1x512, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIoIdeal.lean ====
abbrev S16384x1024 : Shape := ⟨2, ![16384, 1024]⟩
abbrev S1024 : Shape := ⟨1, ![1024]⟩
abbrev S1024x2560 : Shape := ⟨2, ![1024, 2560]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x512 : Shape := ⟨2, ![16384, 512]⟩
abbrev S1x512 : Shape := ⟨2, ![1, 512]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2560, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x512, .f32⟩
  | .hbm, ⟨56, _⟩ => ⟨S16384x512, .f32⟩
  | .hbm, ⟨57, _⟩ => ⟨S1x512, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384x512, .f32⟩
  | .hbm, ⟨62, _⟩ => ⟨S16384x512, .f32⟩
  | .hbm, ⟨63, _⟩ => ⟨S16384x512, .bf16⟩
  | .hbm, ⟨64, _⟩ => ⟨S16384x512, .bf16⟩
  | .hbm, ⟨65, _⟩ => ⟨S16384x512, .bf16⟩
  | .hbm, ⟨66, _⟩ => ⟨S16384x512, .bf16⟩
  | .hbm, ⟨67, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== KernelOo.lean ====
abbrev S16384x512 : Shape := ⟨2, ![16384, 512]⟩
abbrev S16384x1024 : Shape := ⟨2, ![16384, 1024]⟩
abbrev S4x128x128 : Shape := ⟨3, ![4, 128, 128]⟩
abbrev S4x128 : Shape := ⟨2, ![4, 128]⟩
abbrev S1024x1024 : Shape := ⟨2, ![1024, 1024]⟩
abbrev S4x128x1 : Shape := ⟨3, ![4, 128, 1]⟩
abbrev S512x512 : Shape := ⟨2, ![512, 512]⟩
abbrev S512x1024 : Shape := ⟨2, ![512, 1024]⟩
abbrev S128x128 : Shape := ⟨2, ![128, 128]⟩
abbrev S1x128x128 : Shape := ⟨3, ![1, 128, 128]⟩

abbrev nBuf : Space → Nat
  | .hbm => 12
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S4x128x1, .f32⟩
  | .hbm, ⟨8, _⟩ => ⟨S4x128x128, .f32⟩
  | .hbm, ⟨9, _⟩ => ⟨S4x128x128, .bf16⟩
  | .hbm, ⟨10, _⟩ => ⟨S1024x1024, .bf16⟩
  | .hbm, ⟨11, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S4x128x128, .bf16⟩
  | .local _ .vmem, ⟨9, _⟩ => ⟨S4x128x128, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOoIdeal.lean ====
abbrev S16384x512 : Shape := ⟨2, ![16384, 512]⟩
abbrev S16384x1024 : Shape := ⟨2, ![16384, 1024]⟩
abbrev S4x128x128 : Shape := ⟨3, ![4, 128, 128]⟩
abbrev S4x128 : Shape := ⟨2, ![4, 128]⟩
abbrev S1024x1024 : Shape := ⟨2, ![1024, 1024]⟩
abbrev S128x128x4x128 : Shape := ⟨4, ![128, 128, 4, 128]⟩
abbrev S_ : Shape := ⟨0, ![]⟩
abbrev S128x128 : Shape := ⟨2, ![128, 128]⟩
abbrev S1x128x128 : Shape := ⟨3, ![1, 128, 128]⟩
abbrev S4x128x128x128 : Shape := ⟨4, ![4, 128, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S128x128x4x128, .f32⟩
  | .hbm, ⟨11, _⟩ => ⟨S_, .i1⟩
  | .hbm, ⟨12, _⟩ => ⟨S128x128, .i1⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .i1⟩
  | .hbm, ⟨20, _⟩ => ⟨S128x128, .i1⟩
  | .hbm, ⟨21, _⟩ => ⟨S128x128, .i1⟩
  | .hbm, ⟨22, _⟩ => ⟨S1x128x128, .i1⟩
  | .hbm, ⟨23, _⟩ => ⟨S_, .f32⟩
  | .hbm, ⟨24, _⟩ => ⟨S4x128x128, .f32⟩
  | .hbm, ⟨25, _⟩ => ⟨S4x128x128, .i1⟩
  | .hbm, ⟨26, _⟩ => ⟨S4x128x128, .f32⟩
  | .hbm, ⟨27, _⟩ => ⟨S4x128x128x128, .f32⟩
  | .hbm, ⟨28, _⟩ => ⟨S128x128x4x128, .f32⟩
  | .hbm, ⟨29, _⟩ => ⟨S128x4, .f32⟩
  | .hbm, ⟨30, _⟩ => ⟨S128x4x1, .f32⟩
  | .hbm, ⟨31, _⟩ => ⟨S1x128x4x1, .f32⟩
  | .hbm, ⟨32, _⟩ => ⟨S128x128x4x128, .f32⟩
  | .hbm, ⟨33, _⟩ => ⟨S128x128x4x128, .f32⟩
  | .hbm, ⟨34, _⟩ => ⟨S16384x512, .f32⟩
  | .hbm, ⟨35, _⟩ => ⟨S16384x512, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== KernelIe.lean ====
abbrev S4x4096x1024 : Shape := ⟨3, ![4, 4096, 1024]⟩
abbrev S1024 : Shape := ⟨1, ![1024]⟩
abbrev S1024x2048 : Shape := ⟨2, ![1024, 2048]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x4096x512 : Shape := ⟨3, ![4, 4096, 512]⟩
abbrev S4x4608x512 : Shape := ⟨3, ![4, 4608, 512]⟩
abbrev S1x512x1024 : Shape := ⟨3, ![1, 512, 1024]⟩
abbrev S1x512x512 : Shape := ⟨3, ![1, 512, 512]⟩
abbrev S512x1024 : Shape := ⟨2, ![512, 1024]⟩
abbrev S512x1 : Shape := ⟨2, ![512, 1]⟩
abbrev S512x2048 : Shape := ⟨2, ![512, 2048]⟩
abbrev S512x512 : Shape := ⟨2, ![512, 512]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1024x2048, .bf16⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S1x512, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S4x4096x512, .bf16⟩
  | .hbm, ⟨16, _⟩ => ⟨S4x4608x512, .bf16⟩
  | .hbm, ⟨17, _⟩ => ⟨S4x4608x512, .bf16⟩
  | .hbm, ⟨18, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIeIdeal.lean ====
abbrev S4x4096x1024 : Shape := ⟨3, ![4, 4096, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4608x512 : Shape := ⟨3, ![4, 4608, 512]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2048, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x8x64, .f32⟩
  | .hbm, ⟨27, _⟩ => ⟨S4x4096x8x64, .f32⟩
  | .hbm, ⟨28, _⟩ => ⟨S_, .f32⟩
  | .hbm, ⟨29, _⟩ => ⟨S4x4096x8, .f32⟩
  | .hbm, ⟨30, _⟩ => ⟨S4x4096x8x1, .f32⟩
  | .hbm, ⟨31, _⟩ => ⟨S_, .f32⟩
  | .hbm, ⟨32, _⟩ => ⟨S4x4096x8x1, .f32⟩
  | .hbm, ⟨33, _⟩ => ⟨S4x4096x8x1, .f32⟩
  | .hbm, ⟨34, _⟩ => ⟨S_, .f32⟩
  | .hbm, ⟨35, _⟩ => ⟨S4x4096x8x1, .f32⟩
  | .hbm, ⟨36, _⟩ => ⟨S4x4096x8x1, .f32⟩
  | .hbm, ⟨37, _⟩ => ⟨S4x4096x8x1, .f32⟩
  | .hbm, ⟨38, _⟩ => ⟨S4x4096x8x64, .f32⟩
  | .hbm, ⟨39, _⟩ => ⟨S4x4096x8x64, .f32⟩
  | .hbm, ⟨40, _⟩ => ⟨S1x1x1x64, .f32⟩
  | .hbm, ⟨41, _⟩ => ⟨S4x4096x8x64, .f32⟩
  | .hbm, ⟨42, _⟩ => ⟨S4x4096x8x64, .f32⟩
  | .hbm, ⟨43, _⟩ => ⟨S_, .f32⟩
  | .hbm, ⟨44, _⟩ => ⟨S4x4096x8x64, .f32⟩
  | .hbm, ⟨45, _⟩ => ⟨S4x4096x8x64, .f32⟩
  | .hbm, ⟨46, _⟩ => ⟨S4x4096x512, .f32⟩
  | .hbm, ⟨47, _⟩ => ⟨S4x4096x8x64, .f32⟩
  | .hbm, ⟨48, _⟩ => ⟨S4x4096x8x64, .f32⟩
  | .hbm, ⟨49, _⟩ => ⟨S_, .f32⟩
  | .hbm, ⟨50, _⟩ => ⟨S4x4096x8, .f32⟩
  | .hbm, ⟨51, _⟩ => ⟨S4x4096x8x1, .f32⟩
  | .hbm, ⟨52, _⟩ => ⟨S_, .f32⟩
  | .hbm, ⟨53, _⟩ => ⟨S4x4096x8x1, .f32⟩
  | .hbm, ⟨54, _⟩ => ⟨S4x4096x8x1, .f32⟩
  | .hbm, ⟨55, _⟩ => ⟨S_, .f32⟩
  | .hbm, ⟨56, _⟩ => ⟨S4x4096x8x1, .f32⟩
  | .hbm, ⟨57, _⟩ => ⟨S4x4096x8x1, .f32⟩
  | .hbm, ⟨58, _⟩ => ⟨S4x4096x8x1, .f32⟩
  | .hbm, ⟨59, _⟩ => ⟨S4x4096x8x64, .f32⟩
  | .hbm, ⟨60, _⟩ => ⟨S4x4096x8x64, .f32⟩
  | .hbm, ⟨61, _⟩ => ⟨S1x1x1x64, .f32⟩
  | .hbm, ⟨62, _⟩ => ⟨S4x4096x8x64, .f32⟩
  | .hbm, ⟨63, _⟩ => ⟨S4x4096x8x64, .f32⟩
  | .hbm, ⟨64, _⟩ => ⟨S4x4096x512, .f32⟩
  | .hbm, ⟨65, _⟩ => ⟨S_, .i32⟩
  | .hbm, ⟨66, _⟩ => ⟨S_, .f32⟩
  | .hbm, ⟨67, _⟩ => ⟨S4x4608x512, .f32⟩
  | .hbm, ⟨68, _⟩ => ⟨S_, .i32⟩
  | .hbm, ⟨69, _⟩ => ⟨S_, .f32⟩
  | .hbm, ⟨70, _⟩ => ⟨S4x4608x512, .f32⟩
  | .hbm, ⟨71, _⟩ => ⟨S4x4096x512, .bf16⟩
  | .hbm, ⟨72, _⟩ => ⟨S4x4608x512, .bf16⟩
  | .hbm, ⟨73, _⟩ => ⟨S4x4608x512, .bf16⟩
  | .hbm, ⟨74, _⟩ => ⟨S4x4096x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_v50 : Ref sig .tc := ⟨.hbm, 67, rfl⟩
abbrev main_c_9 : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== KernelOe.lean ====
abbrev S16384x512 : Shape := ⟨2, ![16384, 512]⟩
abbrev S16384x1024 : Shape := ⟨2, ![16384, 1024]⟩
abbrev S4x128x128 : Shape := ⟨3, ![4, 128, 128]⟩
abbrev S512 : Shape := ⟨1, ![512]⟩
abbrev S1024x1024 : Shape := ⟨2, ![1024, 1024]⟩
abbrev S1x512 : Shape := ⟨2, ![1, 512]⟩
abbrev S512x512 : Shape := ⟨2, ![512, 512]⟩
abbrev S16x512 : Shape := ⟨2, ![16, 512]⟩
abbrev S512x1024 : Shape := ⟨2, ![512, 1024]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 10
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S4x128x128, .bf16⟩
  | .hbm, ⟨7, _⟩ => ⟨S1x512, .f32⟩
  | .hbm, ⟨8, _⟩ => ⟨S1024x1024, .bf16⟩
  | .hbm, ⟨9, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S512x1024, .f32⟩
  | .local _ .vmem, ⟨7, _⟩ => ⟨S512x1024, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S528x512, .f32⟩
  | .local _ .vmem, ⟨14, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOeIdeal.lean ====
abbrev S16384x512 : Shape := ⟨2, ![16384, 512]⟩
abbrev S16384x1024 : Shape := ⟨2, ![16384, 1024]⟩
abbrev S4x128x128 : Shape := ⟨3, ![4, 128, 128]⟩
abbrev S512 : Shape := ⟨1, ![512]⟩
abbrev S1024x1024 : Shape := ⟨2, ![1024, 1024]⟩
abbrev S4096 : Shape := ⟨1, ![4096]⟩
abbrev S4096x1 : Shape := ⟨2, ![4096, 1]⟩
abbrev S16384x128 : Shape := ⟨2, ![16384, 128]⟩
abbrev S4x4096x128 : Shape := ⟨3, ![4, 4096, 128]⟩
abbrev S_ : Shape := ⟨0, ![]⟩
abbrev S1x4096x1 : Shape := ⟨3, ![1, 4096, 1]⟩
abbrev S16384x1x128 : Shape := ⟨3, ![16384, 1, 128]⟩
abbrev S16384x4x128 : Shape := ⟨3, ![16384, 4, 128]⟩
abbrev S4x128x16384 : Shape := ⟨3, ![4, 128, 16384]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S16384x512, .f32⟩
  | .hbm, ⟨7, _⟩ => ⟨S16384x512, .f32⟩
  | .hbm, ⟨8, _⟩ => ⟨S4096, .i32⟩
  | .hbm, ⟨9, _⟩ => ⟨S4096x1, .i32⟩
  | .hbm, ⟨10, _⟩ => ⟨S16384x128, .f32⟩
  | .hbm, ⟨11, _⟩ => ⟨S4x4096x128, .f32⟩
  | .hbm, ⟨12, _⟩ => ⟨S_, .f32⟩
  | .hbm, ⟨13, _⟩ => ⟨S_, .f32⟩
  | .hbm, ⟨14, _⟩ => ⟨S4x4096x128, .f32⟩
  | .hbm, ⟨15, _⟩ => ⟨S_, .i32⟩
  | .hbm, ⟨16, _⟩ => ⟨S4096x1, .i32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i32⟩
  | .hbm, ⟨21, _⟩ => ⟨S4096x1, .f32⟩
  | .hbm, ⟨22, _⟩ => ⟨S1x4096x1, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S16384x128, .f32⟩
  | .hbm, ⟨27, _⟩ => ⟨S16384x128, .f32⟩
  | .hbm, ⟨28, _⟩ => ⟨S4x4096x128, .f32⟩
  | .hbm, ⟨29, _⟩ => ⟨S_, .f32⟩
  | .hbm, ⟨30, _⟩ => ⟨S_, .f32⟩
  | .hbm, ⟨31, _⟩ => ⟨S4x4096x128, .f32⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x1, .f32⟩
  | .hbm, ⟨39, _⟩ => ⟨S1x4096x1, .f32⟩
  | .hbm, ⟨40, _⟩ => ⟨S4x4096x128, .f32⟩
  | .hbm, ⟨41, _⟩ => ⟨S4x4096x128, .f32⟩
  | .hbm, ⟨42, _⟩ => ⟨S4x4096x128, .f32⟩
  | .hbm, ⟨43, _⟩ => ⟨S16384x128, .f32⟩
  | .hbm, ⟨44, _⟩ => ⟨S16384x128, .f32⟩
  | .hbm, ⟨45, _⟩ => ⟨S4x4096x128, .f32⟩
  | .hbm, ⟨46, _⟩ => ⟨S_, .f32⟩
  | .hbm, ⟨47, _⟩ => ⟨S_, .f32⟩
  | .hbm, ⟨48, _⟩ => ⟨S4x4096x128, .f32⟩
  | .hbm, ⟨49, _⟩ => ⟨S_, .i32⟩
  | .hbm, ⟨50, _⟩ => ⟨S4096x1, .i32⟩
  | .hbm, ⟨51, _⟩ => ⟨S4096x1, .i32⟩
  | .hbm, ⟨52, _⟩ => ⟨S_, .i32⟩
  | .hbm, ⟨53, _⟩ => ⟨S4096x1, .i32⟩
  | .hbm, ⟨54, _⟩ => ⟨S4096x1, .i32⟩
  | .hbm, ⟨55, _⟩ => ⟨S4096x1, .f32⟩
  | .hbm, ⟨56, _⟩ => ⟨S1x4096x1, .f32⟩
  | .hbm, ⟨57, _⟩ => ⟨S4x4096x128, .f32⟩
  | .hbm, ⟨58, _⟩ => ⟨S4x4096x128, .f32⟩
  | .hbm, ⟨59, _⟩ => ⟨S4x4096x128, .f32⟩
  | .hbm, ⟨60, _⟩ => ⟨S16384x128, .f32⟩
  | .hbm, ⟨61, _⟩ => ⟨S16384x128, .f32⟩
  | .hbm, ⟨62, _⟩ => ⟨S4x4096x128, .f32⟩
  | .hbm, ⟨63, _⟩ => ⟨S_, .f32⟩
  | .hbm, ⟨64, _⟩ => ⟨S_, .f32⟩
  | .hbm, ⟨65, _⟩ => ⟨S4x4096x128, .f32⟩
  | .hbm, ⟨66, _⟩ => ⟨S_, .i32⟩
  | .hbm, ⟨67, _⟩ => ⟨S4096x1, .i32⟩
  | .hbm, ⟨68, _⟩ => ⟨S4096x1, .i32⟩
  | .hbm, ⟨69, _⟩ => ⟨S_, .i32⟩
  | .hbm, ⟨70, _⟩ => ⟨S4096x1, .i32⟩
  | .hbm, ⟨71, _⟩ => ⟨S4096x1, .i32⟩
  | .hbm, ⟨72, _⟩ => ⟨S4096x1, .f32⟩
  | .hbm, ⟨73, _⟩ => ⟨S1x4096x1, .f32⟩
  | .hbm, ⟨74, _⟩ => ⟨S4x4096x128, .f32⟩
  | .hbm, ⟨75, _⟩ => ⟨S4x4096x128, .f32⟩
  | .hbm, ⟨76, _⟩ => ⟨S4x4096x128, .f32⟩
  | .hbm, ⟨77, _⟩ => ⟨S16384x128, .f32⟩
  | .hbm, ⟨78, _⟩ => ⟨S16384x1x128, .f32⟩
  | .hbm, ⟨79, _⟩ => ⟨S16384x1x128, .f32⟩
  | .hbm, ⟨80, _⟩ => ⟨S16384x1x128, .f32⟩
  | .hbm, ⟨81, _⟩ => ⟨S16384x1x128, .f32⟩
  | .hbm, ⟨82, _⟩ => ⟨S16384x4x128, .f32⟩
  | .hbm, ⟨83, _⟩ => ⟨S4x128x16384, .f32⟩
  | .hbm, ⟨84, _⟩ => ⟨S16384x4x128, .f32⟩
  | .hbm, ⟨85, _⟩ => ⟨S16384x512, .f32⟩
  | .hbm, ⟨86, _⟩ => ⟨S1x512, .f32⟩
  | .hbm, ⟨87, _⟩ => ⟨S16384x512, .f32⟩
  | .hbm, ⟨88, _⟩ => ⟨S16384x512, .f32⟩
  | .hbm, ⟨89, _⟩ => ⟨S16384x1024, .f32⟩
  | .hbm, ⟨90, _⟩ => ⟨S16384x1024, .f32⟩
  | .hbm, ⟨91, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== KernelBa.lean ====
abbrev S4x4096x512 : Shape := ⟨3, ![4, 4096, 512]⟩
abbrev S4x4608x512 : Shape := ⟨3, ![4, 4608, 512]⟩
abbrev S8x257 : Shape := ⟨2, ![8, 257]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S1x128x640 : Shape := ⟨3, ![1, 128, 640]⟩
abbrev S128x640x1 : Shape := ⟨3, ![128, 640, 1]⟩
abbrev S8x128x640 : Shape := ⟨3, ![8, 128, 640]⟩
abbrev S1x128x512 : Shape := ⟨3, ![1, 128, 512]⟩
abbrev S1x4608x512 : Shape := ⟨3, ![1, 4608, 512]⟩
abbrev S128x128 : Shape := ⟨2, ![128, 128]⟩
abbrev S1x128x128 : Shape := ⟨3, ![1, 128, 128]⟩
abbrev S1x640x128 : Shape := ⟨3, ![1, 640, 128]⟩
abbrev S640x128 : Shape := ⟨2, ![640, 128]⟩

abbrev nBuf : Space → Nat
  | .hbm => 93
  | .vmem => 9
  | .smem => 0
  | _ => 0

abbrev bufTy : (tb : Table) → Fin (tcTables nBuf tb) → BufTy
  | .hbm, ⟨0, _⟩ => ⟨S4x4096x512, .bf16⟩
  | .hbm, ⟨1, _⟩ => ⟨S4x4608x512, .bf16⟩
  | .hbm, ⟨2, _⟩ => ⟨S4x4608x512, .bf16⟩
  | .hbm, ⟨3, _⟩ => ⟨S8x257, .f32⟩
  | .hbm, ⟨4, _⟩ => ⟨S128, .i32⟩
  | .hbm, ⟨5, _⟩ => ⟨S128x1, .i32⟩
  | .hbm, ⟨6, _⟩ => ⟨S640, .i32⟩
  | .hbm, ⟨7, _⟩ => ⟨S1x640, .i32⟩
  | .hbm, ⟨8, _⟩ => ⟨S_, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S128x1, .i32⟩
  | .hbm, ⟨17, _⟩ => ⟨S128x1, .i32⟩
  | .hbm, ⟨18, _⟩ => ⟨S_, .i32⟩
  | .hbm, ⟨19, _⟩ => ⟨S128x1, .i32⟩
  | .hbm, ⟨20, _⟩ => ⟨S128x1, .i1⟩
  | .hbm, ⟨21, _⟩ => ⟨S128x1, .i1⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x640, .i32⟩
  | .hbm, ⟨30, _⟩ => ⟨S128x640, .i32⟩
  | .hbm, ⟨31, _⟩ => ⟨S128x640, .i32⟩
  | .hbm, ⟨32, _⟩ => ⟨S_, .i32⟩
  | .hbm, ⟨33, _⟩ => ⟨S128x640, .i32⟩
  | .hbm, ⟨34, _⟩ => ⟨S128x640, .i1⟩
  | .hbm, ⟨35, _⟩ => ⟨S_, .i32⟩
  | .hbm, ⟨36, _⟩ => ⟨S128x640, .i32⟩
  | .hbm, ⟨37, _⟩ => ⟨S128x640, .i1⟩
  | .hbm, ⟨38, _⟩ => ⟨S128x640, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i1⟩
  | .hbm, ⟨50, _⟩ => ⟨S_, .i32⟩
  | .hbm, ⟨51, _⟩ => ⟨S128x1, .i32⟩
  | .hbm, ⟨52, _⟩ => ⟨S128x1, .i1⟩
  | .hbm, ⟨53, _⟩ => ⟨S_, .i32⟩
  | .hbm, ⟨54, _⟩ => ⟨S_, .i1⟩
  | .hbm, ⟨55, _⟩ => ⟨S128x1, .i1⟩
  | .hbm, ⟨56, _⟩ => ⟨S128x1, .i1⟩
  | .hbm, ⟨57, _⟩ => ⟨S128x1, .i1⟩
  | .hbm, ⟨58, _⟩ => ⟨S128x1, .i32⟩
  | .hbm, ⟨59, _⟩ => ⟨S128x1, .i32⟩
  | .hbm, ⟨60, _⟩ => ⟨S128x1, .i32⟩
  | .hbm, ⟨61, _⟩ => ⟨S_, .i32⟩
  | .hbm, ⟨62, _⟩ => ⟨S128x1, .i32⟩
  | .hbm, ⟨63, _⟩ => ⟨S128x1, .i32⟩
  | .hbm, ⟨64, _⟩ => ⟨S128x640, .i32⟩
  | .hbm, ⟨65, _⟩ => ⟨S128x640, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S128x640, .i32⟩
  | .hbm, ⟨70, _⟩ => ⟨S128x640, .i32⟩
  | .hbm, ⟨71, _⟩ => ⟨S_, .i32⟩
  | .hbm, ⟨72, _⟩ => ⟨S128x640, .i32⟩
  | .hbm, ⟨73, _⟩ => ⟨S128x640, .i32⟩
  | .hbm, ⟨74, _⟩ => ⟨S_, .i32⟩
  | .hbm, ⟨75, _⟩ => ⟨S128x640, .i32⟩
  | .hbm, ⟨76, _⟩ => ⟨S128x640, .i32⟩
  | .hbm, ⟨77, _⟩ => ⟨S1x128x640, .i1⟩
  | .hbm, ⟨78, _⟩ => ⟨S_, .i32⟩
  | .hbm, ⟨79, _⟩ => ⟨S128x640, .i32⟩
  | .hbm, ⟨80, _⟩ => ⟨S128x640, .i1⟩
  | .hbm, ⟨81, _⟩ => ⟨S_, .i32⟩
  | .hbm, ⟨82, _⟩ => ⟨S128x640, .i32⟩
  | .hbm, ⟨83, _⟩ => ⟨S128x640, .i32⟩
  | .hbm, ⟨84, _⟩ => ⟨S128x640, .i32⟩
  | .hbm, ⟨85, _⟩ => ⟨S128x640x1, .i32⟩
  | .hbm, ⟨86, _⟩ => ⟨S8x128x640, .f32⟩
  | .hbm, ⟨87, _⟩ => ⟨S_, .f32⟩
  | .hbm, ⟨88, _⟩ => ⟨S_, .f32⟩
  | .hbm, ⟨89, _⟩ => ⟨S8x128x640, .i1⟩
  | .hbm, ⟨90, _⟩ => ⟨S8x128x640, .f32⟩
  | .hbm, ⟨91, _⟩ => ⟨S8x128x640, .f32⟩
  | .hbm, ⟨92, _⟩ => ⟨S4x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x4608x512, .bf16⟩
  | .local _ .vmem, ⟨3, _⟩ => ⟨S1x4608x512, .bf16⟩
  | .local _ .vmem, ⟨4, _⟩ => ⟨S1x4608x512, .bf16⟩
  | .local _ .vmem, ⟨5, _⟩ => ⟨S1x4608x512, .bf16⟩
  | .local _ .vmem, ⟨6, _⟩ => ⟨S8x128x640, .f32⟩
  | .local _ .vmem, ⟨7, _⟩ => ⟨S1x128x512, .bf16⟩
  | .local _ .vmem, ⟨8, _⟩ => ⟨S1x128x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v15 : Ref sig .tc := ⟨.hbm, 60, rfl⟩
abbrev main_c_4 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_c_5 : Ref sig .tc := ⟨.hbm, 66, rfl⟩
abbrev main_c_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v20 : Ref sig .tc := ⟨.hbm, 73, rfl⟩
abbrev main_c_7 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_c_8 : Ref sig .tc := ⟨.hbm, 78, rfl⟩
abbrev main_v24 : Ref sig .tc := ⟨.hbm, 79, rfl⟩
abbrev main_v25 : Ref sig .tc := ⟨.hbm, 80, rfl⟩
abbrev main_c_9 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v31 : Ref sig .tc := ⟨.hbm, 91, rfl⟩
abbrev main_v32 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_2 : Index := 0#32
  let arg1 : BitVec 32 := BitVec.ofNat 32 (i 1).val
  let c128_i32 : BitVec 32 := 128#32
  let v0 : BitVec 32 := Scalar.muli arg1 c128_i32
  let v1 : BitVec 32 := v0
  let v10 : Index := Scalar.indexCast v1
  let c0_3 : Index := 0#32
  ![0, v10.toNat, 0]
def k0_off2 (i : grid0.Coords) : Fin 3 → Nat :=
  let c0_31 : Index := 0#32
  let arg1 : BitVec 32 := BitVec.ofNat 32 (i 1).val
  let c128_i32 : BitVec 32 := 128#32
  let v0 : BitVec 32 := Scalar.muli arg1 c128_i32
  let v1 : BitVec 32 := v0
  let v75 : Index := Scalar.indexCast v1
  let c128_32 : Index := 128#32
  ![0, v75.toNat, 128]
def k0_off3 (i : grid0.Coords) : Fin 3 → Nat :=
  let c0_63 : Index := 0#32
  let arg1 : BitVec 32 := BitVec.ofNat 32 (i 1).val
  let c128_i32 : BitVec 32 := 128#32
  let v0 : BitVec 32 := Scalar.muli arg1 c128_i32
  let v1 : BitVec 32 := v0
  let v140 : Index := Scalar.indexCast v1
  let c256_64 : Index := 256#32
  ![0, v140.toNat, 256]
def k0_off4 (i : grid0.Coords) : Fin 3 → Nat :=
  let c0_95 : Index := 0#32
  let arg1 : BitVec 32 := BitVec.ofNat 32 (i 1).val
  let c128_i32 : BitVec 32 := 128#32
  let v0 : BitVec 32 := Scalar.muli arg1 c128_i32
  let v1 : BitVec 32 := v0
  let v205 : Index := Scalar.indexCast v1
  let c384_96 : Index := 384#32
  ![0, v205.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4608x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelBaIdeal.lean ====
variable {F : FTy → Type} [FloatOps F] [Named F]
def κ : String → Option EReal := fun
  | "mask" => some ⊥
  | _ => none
-- ==== ReferenceBaIdeal.lean ====
abbrev S4x4096x512 : Shape := ⟨3, ![4, 4096, 512]⟩
abbrev S4x4608x512 : Shape := ⟨3, ![4, 4608, 512]⟩
abbrev S8x257 : Shape := ⟨2, ![8, 257]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S4x72x64x8x64 : Shape := ⟨5, ![4, 72, 64, 8, 64]⟩
abbrev S_ : Shape := ⟨0, ![]⟩
abbrev S64x9x1 : Shape := ⟨3, ![64, 9, 1]⟩
abbrev S4x64x9x64x8x64 : Shape := ⟨6, ![4, 64, 9, 64, 8, 64]⟩
abbrev S4x64x576x8x64 : Shape := ⟨5, ![4, 64, 576, 8, 64]⟩
abbrev S4x64x64x8x64 : Shape := ⟨5, ![4, 64, 64, 8, 64]⟩
abbrev S4x8x64x64x576 : Shape := ⟨5, ![4, 8, 64, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x64x1x576 : Shape := ⟨5, ![1, 1, 64, 1, 576]⟩
abbrev S1x8x1x64x576 : Shape := ⟨5, ![1, 8, 1, 64, 576]⟩
abbrev S4x8x64x64 : Shape := ⟨4, ![4, 8, 64, 64]⟩
abbrev S4x8x64x64x1 : Shape := ⟨5, ![4, 8, 64, 64, 1]⟩
abbrev S4x64x8x64x64 : Shape := ⟨5, ![4, 64, 8, 64, 64]⟩

abbrev nBuf : Space → Nat
  | .hbm => 126
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4608x512, .bf16⟩
  | .hbm, ⟨2, _⟩ => ⟨S4x4608x512, .bf16⟩
  | .hbm, ⟨3, _⟩ => ⟨S8x257, .f32⟩
  | .hbm, ⟨4, _⟩ => ⟨S4x4096x512, .f32⟩
  | .hbm, ⟨5, _⟩ => ⟨S4x4608x512, .f32⟩
  | .hbm, ⟨6, _⟩ => ⟨S4x4608x512, .f32⟩
  | .hbm, ⟨7, _⟩ => ⟨S64, .i32⟩
  | .hbm, ⟨8, _⟩ => ⟨S64x1, .i32⟩
  | .hbm, ⟨9, _⟩ => ⟨S9, .i32⟩
  | .hbm, ⟨10, _⟩ => ⟨S1x9, .i32⟩
  | .hbm, ⟨11, _⟩ => ⟨S64x9, .i32⟩
  | .hbm, ⟨12, _⟩ => ⟨S64x9, .i32⟩
  | .hbm, ⟨13, _⟩ => ⟨S64x9, .i32⟩
  | .hbm, ⟨14, _⟩ => ⟨S4x72x64x8x64, .f32⟩
  | .hbm, ⟨15, _⟩ => ⟨S_, .i32⟩
  | .hbm, ⟨16, _⟩ => ⟨S64x9, .i32⟩
  | .hbm, ⟨17, _⟩ => ⟨S64x9, .i1⟩
  | .hbm, ⟨18, _⟩ => ⟨S_, .i32⟩
  | .hbm, ⟨19, _⟩ => ⟨S64x9, .i32⟩
  | .hbm, ⟨20, _⟩ => ⟨S64x9, .i32⟩
  | .hbm, ⟨21, _⟩ => ⟨S64x9, .i32⟩
  | .hbm, ⟨22, _⟩ => ⟨S64x9x1, .i32⟩
  | .hbm, ⟨23, _⟩ => ⟨S4x64x9x64x8x64, .f32⟩
  | .hbm, ⟨24, _⟩ => ⟨S4x64x576x8x64, .f32⟩
  | .hbm, ⟨25, _⟩ => ⟨S4x72x64x8x64, .f32⟩
  | .hbm, ⟨26, _⟩ => ⟨S_, .i32⟩
  | .hbm, ⟨27, _⟩ => ⟨S64x9, .i32⟩
  | .hbm, ⟨28, _⟩ => ⟨S64x9, .i1⟩
  | .hbm, ⟨29, _⟩ => ⟨S_, .i32⟩
  | .hbm, ⟨30, _⟩ => ⟨S64x9, .i32⟩
  | .hbm, ⟨31, _⟩ => ⟨S64x9, .i32⟩
  | .hbm, ⟨32, _⟩ => ⟨S64x9, .i32⟩
  | .hbm, ⟨33, _⟩ => ⟨S64x9x1, .i32⟩
  | .hbm, ⟨34, _⟩ => ⟨S4x64x9x64x8x64, .f32⟩
  | .hbm, ⟨35, _⟩ => ⟨S4x64x576x8x64, .f32⟩
  | .hbm, ⟨36, _⟩ => ⟨S4x64x64x8x64, .f32⟩
  | .hbm, ⟨37, _⟩ => ⟨S4x8x64x64x576, .f32⟩
  | .hbm, ⟨38, _⟩ => ⟨S64, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S576, .i32⟩
  | .hbm, ⟨44, _⟩ => ⟨S1x576, .i32⟩
  | .hbm, ⟨45, _⟩ => ⟨S64x576, .i32⟩
  | .hbm, ⟨46, _⟩ => ⟨S64x576, .i32⟩
  | .hbm, ⟨47, _⟩ => ⟨S64x576, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S64x576, .i32⟩
  | .hbm, ⟨52, _⟩ => ⟨S64x576, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S8x64x576, .f32⟩
  | .hbm, ⟨68, _⟩ => ⟨S64, .i32⟩
  | .hbm, ⟨69, _⟩ => ⟨S64x1, .i32⟩
  | .hbm, ⟨70, _⟩ => ⟨S_, .i32⟩
  | .hbm, ⟨71, _⟩ => ⟨S64x1, .i32⟩
  | .hbm, ⟨72, _⟩ => ⟨S64x1, .i32⟩
  | .hbm, ⟨73, _⟩ => ⟨S576, .i32⟩
  | .hbm, ⟨74, _⟩ => ⟨S1x576, .i32⟩
  | .hbm, ⟨75, _⟩ => ⟨S_, .i32⟩
  | .hbm, ⟨76, _⟩ => ⟨S_, .i32⟩
  | .hbm, ⟨77, _⟩ => ⟨S1x576, .i32⟩
  | .hbm, ⟨78, _⟩ => ⟨S1x576, .i32⟩
  | .hbm, ⟨79, _⟩ => ⟨S1x576, .i32⟩
  | .hbm, ⟨80, _⟩ => ⟨S_, .i32⟩
  | .hbm, ⟨81, _⟩ => ⟨S1x576, .i32⟩
  | .hbm, ⟨82, _⟩ => ⟨S1x576, .i1⟩
  | .hbm, ⟨83, _⟩ => ⟨S1x576, .i32⟩
  | .hbm, ⟨84, _⟩ => ⟨S1x576, .i32⟩
  | .hbm, ⟨85, _⟩ => ⟨S_, .i32⟩
  | .hbm, ⟨86, _⟩ => ⟨S1x576, .i32⟩
  | .hbm, ⟨87, _⟩ => ⟨S1x576, .i1⟩
  | .hbm, ⟨88, _⟩ => ⟨S1x576, .i1⟩
  | .hbm, ⟨89, _⟩ => ⟨S_, .i32⟩
  | .hbm, ⟨90, _⟩ => ⟨S1x576, .i32⟩
  | .hbm, ⟨91, _⟩ => ⟨S1x576, .i32⟩
  | .hbm, ⟨92, _⟩ => ⟨S1x576, .i32⟩
  | .hbm, ⟨93, _⟩ => ⟨S64x576, .i32⟩
  | .hbm, ⟨94, _⟩ => ⟨S64x576, .i32⟩
  | .hbm, ⟨95, _⟩ => ⟨S64x576, .i32⟩
  | .hbm, ⟨96, _⟩ => ⟨S_, .i32⟩
  | .hbm, ⟨97, _⟩ => ⟨S64x576, .i32⟩
  | .hbm, ⟨98, _⟩ => ⟨S64x576, .i1⟩
  | .hbm, ⟨99, _⟩ => ⟨S1x1x64x1x576, .i1⟩
  | .hbm, ⟨100, _⟩ => ⟨S1x8x1x64x576, .f32⟩
  | .hbm, ⟨101, _⟩ => ⟨S4x8x64x64x576, .f32⟩
  | .hbm, ⟨102, _⟩ => ⟨S4x8x64x64x576, .f32⟩
  | .hbm, ⟨103, _⟩ => ⟨S_, .f32⟩
  | .hbm, ⟨104, _⟩ => ⟨S_, .f32⟩
  | .hbm, ⟨105, _⟩ => ⟨S4x8x64x64x576, .i1⟩
  | .hbm, ⟨106, _⟩ => ⟨S4x8x64x64x576, .f32⟩
  | .hbm, ⟨107, _⟩ => ⟨S4x8x64x64x576, .f32⟩
  | .hbm, ⟨108, _⟩ => ⟨S_, .f32⟩
  | .hbm, ⟨109, _⟩ => ⟨S4x8x64x64, .f32⟩
  | .hbm, ⟨110, _⟩ => ⟨S_, .f32⟩
  | .hbm, ⟨111, _⟩ => ⟨S4x8x64x64, .f32⟩
  | .hbm, ⟨112, _⟩ => ⟨S4x8x64x64, .f32⟩
  | .hbm, ⟨113, _⟩ => ⟨S4x8x64x64x1, .f32⟩
  | .hbm, ⟨114, _⟩ => ⟨S4x8x64x64x576, .f32⟩
  | .hbm, ⟨115, _⟩ => ⟨S4x8x64x64x576, .f32⟩
  | .hbm, ⟨116, _⟩ => ⟨S4x8x64x64x576, .f32⟩
  | .hbm, ⟨117, _⟩ => ⟨S_, .f32⟩
  | .hbm, ⟨118, _⟩ => ⟨S4x8x64x64, .f32⟩
  | .hbm, ⟨119, _⟩ => ⟨S4x8x64x64x1, .f32⟩
  | .hbm, ⟨120, _⟩ => ⟨S4x8x64x64x576, .f32⟩
  | .hbm, ⟨121, _⟩ => ⟨S4x8x64x64x576, .f32⟩
  | .hbm, ⟨122, _⟩ => ⟨S4x64x8x64x64, .f32⟩
  | .hbm, ⟨123, _⟩ => ⟨S4x64x64x8x64, .f32⟩
  | .hbm, ⟨124, _⟩ => ⟨S4x4096x512, .f32⟩
  | .hbm, ⟨125, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_c : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_0 : Ref sig .tc := ⟨.hbm, 89, rfl⟩
abbrev main_call1_v12 : Ref sig .tc := ⟨.hbm, 90, rfl⟩
abbrev main_call1_v13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v65 : Ref sig .tc := ⟨.hbm, 107, rfl⟩
abbrev main_cst_12 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩

abbrev nD : Nat := 1
abbrev τ : Topo := Topo.v7x

variable {F : FTy → Type} [FloatOps F]
-- ==== Proof.Kit.lean ====
/-
  Readings at an index shared by the claims: a rank-two product contracted over the last axis of its left operand
  (against the first or the last axis of its right one), a row's sum, a row's value spread over columns.
-/
module

public import Idealize.ShloMosaic.Lib.Pipeline.Value
public import Idealize.ShloMosaic.Lib.ValueIdx
public import Idealize.ShloMosaic.Lib.ValueIdxCoords
public import Idealize.ShloMosaic.PureOps.Ideal.Laws

@[expose] public section

noncomputable section

namespace Cert.Kit

open Idealize.ShloMosaic Idealize.ShloMosaic.ValueIdx

/-- The shape with two axes. -/
abbrev Sh2 (a b : Nat) : Shape := ⟨2, ![a, b]⟩

/-- The offsets of an access at the origin, by rank. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Products
variable {M K N : Nat} {φ₁ φ₂ : FTy}

/-- Dimension numbers of `l[a, k] · r[k, b]`. -/
abbrev rowCol (wf : DotDims.WF (Sh2 M K) (Sh2 K N) (Sh2 M N) [1] [0] [0] [1] [] []) :
    DotDims (Sh2 M K) (Sh2 K N) (Sh2 M N) := ⟨[1], [0], [0], [1], [], [], wf⟩

/-- Dimension numbers of `l[a, k] · r[b, k]`. -/
abbrev rowRow (wf : DotDims.WF (Sh2 M K) (Sh2 N K) (Sh2 M N) [1] [1] [0] [0] [] []) :
    DotDims (Sh2 M K) (Sh2 N K) (Sh2 M N) := ⟨[1], [1], [0], [0], [], [], wf⟩

/-- The left operand's row is the result's row. -/
theorem rowCol_left (wf) (j : (Sh2 M N).Idx) (q : (rowCol (M := M) (K := K) (N := N) wf).contr.Idx) :
    ((rowCol wf).lhsIdx j q 0).val = (j 0).val := by
  unfold DotDims.lhsIdx
  rw [dif_neg (show ¬(0 : Fin (Sh2 M K).rank) ∈ (rowCol (M := M) (K := K) (N := N) wf).lhsBatch from List.not_mem_nil),
    dif_pos (show (0 : Fin (Sh2 M K).rank) ∈ (rowCol (M := M) (K := K) (N := N) wf).lhsNonContracting from List.mem_singleton.mpr rfl)]
  rfl

/-- The right operand's free coordinate is the result's column. -/
theorem rowCol_right (wf) (j : (Sh2 M N).Idx) (q : (rowCol (M := M) (K := K) (N := N) wf).contr.Idx) :
    ((rowCol wf).rhsIdx j q 1).val = (j 1).val := by
  unfold DotDims.rhsIdx
  rw [dif_neg (show ¬(1 : Fin (Sh2 K N).rank) ∈ (rowCol (M := M) (K := K) (N := N) wf).rhsBatch from List.not_mem_nil),
    dif_pos (show (1 : Fin (Sh2 K N).rank) ∈ (rowCol (M := M) (K := K) (N := N) wf).rhsNonContracting from List.mem_singleton.mpr rfl)]
  rfl

/-- `acc + l · r` at row `a`, column `b`. -/
theorem matmul_rowCol (wf) (prec : Option ContractPrecision) (l : FVec Ideal (Sh2 M K) φ₁) (r : FVec Ideal (Sh2 K N) φ₂)
    (acc : FVec Ideal (Sh2 M N) .f32) (a : Fin M) (b : Fin N) :
    FloatOps.matmul (rowCol wf) prec l r acc (ix2 a b) = acc (ix2 a b) + ∑ k : Fin K, l (ix2 a k) * r (ix2 k b) := by
  rw [Ideal.matmul_apply, ← Equiv.sum_comp (contrEquiv1 (rowCol wf) K rfl rfl).symm]
  refine congrArg (acc (ix2 a b) + ·) (Finset.sum_congr rfl fun k _ => ?_)
  have hk := contrEquiv1_symm_val (rowCol wf) K rfl rfl k
  have el : (rowCol wf).lhsIdx (ix2 a b) ((contrEquiv1 (rowCol wf) K rfl rfl).symm k) = ix2 a k := funext fun c => Fin.ext (by
    match c with
    | ⟨0, _⟩ => exact rowCol_left _ _ _
    | ⟨1, _⟩ => exact ((rowCol wf).lhsIdx_val_of_single rfl _ _).trans hk)
  have er : (rowCol wf).rhsIdx (ix2 a b) ((contrEquiv1 (rowCol wf) K rfl rfl).symm k) = ix2 k b := funext fun c => Fin.ext (by
    match c with
    | ⟨0, _⟩ => exact ((rowCol wf).rhsIdx_val_of_single rfl _ _).trans hk
    | ⟨1, _⟩ => exact rowCol_right _ _ _)
  rw [el, er]

/-- The left operand's row is the result's row. -/
theorem rowRow_left (wf) (j : (Sh2 M N).Idx) (q : (rowRow (M := M) (K := K) (N := N) wf).contr.Idx) :
    ((rowRow wf).lhsIdx j q 0).val = (j 0).val := by
  unfold DotDims.lhsIdx
  rw [dif_neg (show ¬(0 : Fin (Sh2 M K).rank) ∈ (rowRow (M := M) (K := K) (N := N) wf).lhsBatch from List.not_mem_nil),
    dif_pos (show (0 : Fin (Sh2 M K).rank) ∈ (rowRow (M := M) (K := K) (N := N) wf).lhsNonContracting from List.mem_singleton.mpr rfl)]
  rfl

/-- The right operand's free coordinate is the result's column. -/
theorem rowRow_right (wf) (j : (Sh2 M N).Idx) (q : (rowRow (M := M) (K := K) (N := N) wf).contr.Idx) :
    ((rowRow wf).rhsIdx j q 0).val = (j 1).val := by
  unfold DotDims.rhsIdx
  rw [dif_neg (show ¬(0 : Fin (Sh2 N K).rank) ∈ (rowRow (M := M) (K := K) (N := N) wf).rhsBatch from List.not_mem_nil),
    dif_pos (show (0 : Fin (Sh2 N K).rank) ∈ (rowRow (M := M) (K := K) (N := N) wf).rhsNonContracting from List.mem_singleton.mpr rfl)]
  rfl

/-- `acc + l · rᵀ` at row `a`, column `b`. -/
theorem matmul_rowRow (wf) (prec : Option ContractPrecision) (l : FVec Ideal (Sh2 M K) φ₁) (r : FVec Ideal (Sh2 N K) φ₂)
    (acc : FVec Ideal (Sh2 M N) .f32) (a : Fin M) (b : Fin N) :
    FloatOps.matmul (rowRow wf) prec l r acc (ix2 a b) = acc (ix2 a b) + ∑ k : Fin K, l (ix2 a k) * r (ix2 b k) := by
  rw [Ideal.matmul_apply, ← Equiv.sum_comp (contrEquiv1 (rowRow wf) K rfl rfl).symm]
  refine congrArg (acc (ix2 a b) + ·) (Finset.sum_congr rfl fun k _ => ?_)
  have hk := contrEquiv1_symm_val (rowRow wf) K rfl rfl k
  have el : (rowRow wf).lhsIdx (ix2 a b) ((contrEquiv1 (rowRow wf) K rfl rfl).symm k) = ix2 a k := funext fun c => Fin.ext (by
    match c with
    | ⟨0, _⟩ => exact rowRow_left _ _ _
    | ⟨1, _⟩ => exact ((rowRow wf).lhsIdx_val_of_single rfl _ _).trans hk)
  have er : (rowRow wf).rhsIdx (ix2 a b) ((contrEquiv1 (rowRow wf) K rfl rfl).symm k) = ix2 b k := funext fun c => Fin.ext (by
    match c with
    | ⟨1, _⟩ => exact ((rowRow wf).rhsIdx_val_of_single rfl _ _).trans hk
    | ⟨0, _⟩ => exact rowRow_right _ _ _)
  rw [el, er]

end Products

section Rows
variable {m n : Nat}

/-- A row's sum. -/
theorem rowSum_apply {φ : FTy} (src : FVec Ideal (Sh2 m n) φ) (acc : BitVec φ.bits)
    (h : (Sh2 m n).Reduces [1] (⟨1, ![m]⟩ : Shape)) (hφ : FKind.Formats φ) (hacc : acc = FKind.add.neutral φ hφ) (a : Fin m) :
    multiReduction .add [1] (⟨1, ![m]⟩ : Shape) src acc h hφ hacc (ix1 a) = ∑ k : Fin n, src (ix2 a k) := by
  rw [Ideal.multiReduction_add_single]
  refine Finset.sum_congr rfl fun k _ => congrArg src ?_
  funext c; apply Fin.ext
  fin_cases c <;> rfl

/-- A row's value as a one-column block … -/
theorem column_apply {α : Type} (v : (⟨1, ![m]⟩ : Shape).Idx → α) (h : (⟨1, ![m]⟩ : Shape).ShapeCasts (Sh2 m 1)) (a : Fin m) (u : Fin 1) :
    shapeCast (Sh2 m 1) v h (ix2 a u) = v (ix1 a) := by
  refine shapeCast_apply v h (ix2 a u) (ix1 a) ?_
  rw [Shape.rowMajor_val_one, Shape.rowMajor_val_two]
  have := u.isLt
  show a.val = a.val * 1 + u.val
  omega

/-- … spread over columns. -/
theorem spread_apply {α : Type} (v : (Sh2 m 1).Idx → α) (h : (Sh2 m 1).Broadcasts (Sh2 m n)) (a : Fin m) (b : Fin n) :
    broadcastTo (Sh2 m n) v h (ix2 a b) = v (ix2 a u0) := by
  refine broadcastTo_apply v h (ix2 a b) (ix2 a u0) fun c => ?_
  match c with
  | ⟨0, _⟩ =>
    show a.val = if m = 1 then 0 else a.val
    have := a.isLt
    split <;> omega
  | ⟨1, _⟩ => rfl

/-- A block with a leading unit axis, seen without it. -/
theorem dropUnit_apply {α : Type} (v : (⟨3, ![1, m, n]⟩ : Shape).Idx → α) (h : (⟨3, ![1, m, n]⟩ : Shape).ShapeCasts (Sh2 m n))
    (a : Fin m) (b : Fin n) : shapeCast (Sh2 m n) v h (ix2 a b) = v (ix3 u0 a b) := by
  refine shapeCast_apply v h (ix2 a b) (ix3 u0 a b) ?_
  rw [Shape.rowMajor_val_three, Shape.rowMajor_val_two]
  show (0 * m + a.val) * n + b.val = a.val * n + b.val
  rw [Nat.zero_mul, Nat.zero_add]

end Rows

end Cert.Kit

end
-- ==== Proof.MoeStep.lean ====
/-
  The experts' grid, one point: what the body adds to the running output of a row block for the expert of that point.
-/
module

public import proofs.«01_k».proof.Proof.Kit
public import proofs.«01_k».proof.Proof.Gen.KernelIdeal.Value

@[expose] public section

noncomputable section

namespace Cert.KernelIdeal.Moe

open Idealize.ShloMosaic Idealize.ShloMosaic.TcCoe Idealize.SL.Sem Idealize.ShloMosaic.ValueIdx Idealize.ShloMosaic.Tactic
open Cert.KernelIdeal Cert.KernelIdeal.Gen Cert.Kit

/-- The gate of one hidden unit: `silu (x · wg) * (x · wu)`, the two products given. -/
def glu (g u : EReal) : EReal := g * Ideal.logistic g * u

/-- The words of two lanes differ when the lanes do. -/
theorem word_eq_iff {a b : Nat} (ha : a < 128) (hb : b < 128) : (BitVec.ofNat 32 a = BitVec.ofNat 32 b) ↔ a = b := by
  constructor
  · intro h
    have := congrArg BitVec.toNat h
    simp only [BitVec.toNat_ofNat] at this
    omega
  · rintro rfl; rfl

/-- A lane's combine weight: the sum over lanes that keeps lane `4 + e` and reads zero elsewhere. -/
theorem lane_sum (e : Nat) (he : e < 32) (w : Fin 128 → EReal) :
    (∑ l : Fin 128, Scalar.select (IntOp.cmpi .eq (BitVec.ofNat 32 l.val) (Scalar.addi (BitVec.ofNat 32 e) 4#32)) (w l) (0 : EReal))
      = w ⟨4 + e, by omega⟩ := by
  have hw : Scalar.addi (BitVec.ofNat 32 e) 4#32 = BitVec.ofNat 32 (4 + e) := by
    rw [Nat.add_comm]; exact (BitVec.ofNat_add e 4).symm
  rw [hw, Finset.sum_eq_single (⟨4 + e, by omega⟩ : Fin 128)]
  · rw [show IntOp.cmpi .eq (BitVec.ofNat 32 (4 + e)) (BitVec.ofNat 32 (4 + e)) = 1#1 by simp [IntOp.cmpi]]
    rfl
  · intro l _ hl
    have hne : ¬BitVec.ofNat 32 l.val = BitVec.ofNat 32 (4 + e) := by
      rw [word_eq_iff l.isLt (by omega)]
      exact fun h => hl (Fin.ext h)
    rw [show IntOp.cmpi .eq (BitVec.ofNat 32 l.val) (BitVec.ofNat 32 (4 + e)) = 0#1 by
      show BitVec.ofBool (_ == _) = 0#1
      rw [beq_eq_false_iff_ne.mpr hne]; rfl]
    rfl
  · intro h; exact absurd (Finset.mem_univ _) h

/-- What one point computes, at row `r` and column `d`: what the row block held plus the expert's output there. -/
theorem point_apply (i : grid0.Coords) (he : (i 1).val < 32) (x : FVec Ideal S1024x1024 .bf16) (comb : FVec Ideal S1024x128 .f32)
    (wg wu : FVec Ideal S1x1024x256 .bf16) (acc : FVec Ideal S1024x1024 .f32) (wd : FVec Ideal S1x256x1024 .bf16) (r d : Fin 1024) :
    k0_pay3 (F := Ideal) i x comb wg wu acc wd (ix2 r d) = acc (ix2 r d) + ∑ f : Fin 256,
      glu (∑ k : Fin 1024, x (ix2 r k) * wg (ix3 u0 k f)) (∑ k : Fin 1024, x (ix2 r k) * wu (ix3 u0 k f))
        * comb (ix2 r ⟨4 + (i 1).val, by omega⟩) * wd (ix3 u0 f d) := by
  have hmm : ∀ (w : FVec Ideal S1x1024x256 .bf16) (f : Fin 256),
      (matmul dot_S1024x1024_S1024x256_S1024x256_1_0_0_1_n_n none x (shapeCast S1024x256 w shapeCasts_S1x1024x256_S1024x256)
        (constant S1024x256 .f32 0x00000000#32) : FVec Ideal S1024x256 .f32) (ix2 r f) = ∑ k : Fin 1024, x (ix2 r k) * w (ix3 u0 k f) := by
    intro w f
    refine (matmul_rowCol _ _ _ _ _ _ _).trans ?_
    rw [constant_apply, Ideal.ofBits_zero_f32, zero_add]
    exact Finset.sum_congr rfl fun k _ => congrArg (x (ix2 r k) * ·) (dropUnit_apply _ _ _ _)
  unfold k0_pay3
  dsimp only
  rw [addf_apply]
  refine congrArg (acc (ix2 r d) + ·) ?_
  refine (matmul_rowCol _ _ _ _ _ _ _).trans ?_
  rw [constant_apply, Ideal.ofBits_zero_f32, zero_add]
  refine Finset.sum_congr rfl fun f _ => ?_
  refine congrArg₂ (· * ·) ?_ (dropUnit_apply _ _ _ _)
  rw [truncf_apply, mulf_apply]
  refine congrArg₂ (· * ·) ?_ ?_
  · rw [mulf_apply, mulf_apply]
    show _ * Ideal.logistic _ * _ = _
    rw [hmm, hmm]
    rfl
  · refine (spread_apply _ _ _ _).trans ((column_apply _ _ _ _).trans ((rowSum_apply _ _ _ _ _ _).trans ?_))
    simp only [select_apply]
    refine Eq.trans (Finset.sum_congr rfl fun l _ => ?_) (lane_sum (i 1).val he fun l => comb (ix2 r l))
    show Scalar.select (IntOp.cmpi .eq (iota .tc S1024x128 32 [1] iota_S1024x128_d1_w32 (ix2 r l)) _) _ _ = _
    rw [iota_single_apply]
    exact congrArg (Scalar.select _ _) Ideal.ofBits_zero_f32

end Cert.KernelIdeal.Moe

end
-- ==== Proof.MoePoint.lean ====
/-
  The experts' grid: each case of the body leaves, in the running output of the row block, `MoeStep.lean`'s term over
  what it found there (the residual at a row block's first expert), and the last expert's point writes it out.
-/
module

public import proofs.«01_k».proof.Proof.MoeStep

@[expose] public section

noncomputable section

namespace Cert.KernelIdeal.Moe

open Idealize.ShloMosaic Idealize.ShloMosaic.TcCoe Idealize.SL.Sem Idealize.ShloMosaic.ValueIdx Idealize.ShloMosaic.Tactic
open Cert.KernelIdeal Cert.KernelIdeal.Gen Cert.Kit

section Cases
variable {F : FTy → Type} [FloatOps F]
variable (c : Dev nD) (i : grid0.Coords)
  (a2 : Memref sig .tc .vmem S1024x1024 .bf16) (h2 : a2.IsWhole) (a3 : Memref sig .tc .vmem S1024x128 .f32) (h3 : a3.IsWhole)
  (a4 : Memref sig .tc .vmem S1024x1024 .f32) (h4 : a4.IsWhole) (a5 : Memref sig .tc .vmem S1x1024x256 .bf16) (h5 : a5.IsWhole)
  (a6 : Memref sig .tc .vmem S1x1024x256 .bf16) (h6 : a6.IsWhole) (a7 : Memref sig .tc .vmem S1x256x1024 .bf16) (h7 : a7.IsWhole)
  (a8 : Memref sig .tc .vmem S1024x1024 .f32) (h8 : a8.IsWhole) (a9 : Memref sig .tc .vmem S1024x1024 .f32) (h9 : a9.IsWhole)
  (x0 : Vec F S1024x1024 .bf16) (x1 : Vec F S1024x128 .f32) (x2 : Vec F S1024x1024 .f32)
  (x3 x4 : Vec F S1x1024x256 .bf16) (x5 : Vec F S1x256x1024 .bf16) (acc : Vec F S1024x1024 .f32)

/-- The first expert of a row block starts from the residual. -/
theorem first_value (hc0 : cond0_0 i) (hc1 : ¬cond0_1 i) :
    sout0_A_0 c i a2 h2 a3 h3 a4 h4 a5 h5 a6 h6 a7 h7 a8 h8 a9 h9 hc0 hc1 x0 x1 x2 x3 x4 x5 = k0_pay3 i x0 x1 x3 x4 x2 x5 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x1024) hz2, View.readCov_unit_zero (S := S1024x1024) _ hz2]
  unfold k0_pay1 k0_pay2
  simp only [View.readAt_eq_ld, h2.read_unread, h3.read_unread, h4.read_unread, h5.read_unread, h6.read_unread, h7.read_unread,
    View.ld_unit_zero (S := S1024x1024) hz2, View.ld_unit_zero (S := S1024x128) hz2, View.ld_unit_zero (S := S1x1024x256) hz3,
    View.ld_unit_zero (S := S1x256x1024) hz3, shapeCast_self]

/-- A later expert adds to what the point before left. -/
theorem mid_value (hc0 : ¬cond0_0 i) (hc1 : ¬cond0_1 i) :
    sout0_B_0 c i a2 h2 a3 h3 a4 h4 a5 h5 a6 h6 a7 h7 a8 h8 a9 h9 hc0 hc1 x0 x1 x2 x3 x4 x5 acc = k0_pay3 i x0 x1 x3 x4 acc x5 := by
  unfold sout0_B_0
  rw [View.read_writes_eq_canon _ _ _ (scover0_B_0 c i a2 h2 a3 h3 a4 h4 a5 h5 a6 h6 a7 h7 a8 h8 a9 h9 hc0 hc1 x0 x1 x2 x3 x4 x5 acc)]
  unfold kernelRun0_B
  dsimp only
  sl_unfold_words
  rw [View.canon_unit_zero hz2]
  unfold k0_pay1
  simp only [View.readAt_eq_ld, h2.read_unread, h3.read_unread, h9.read_unread, h5.read_unread, h6.read_unread, h7.read_unread,
    View.ld_unit_zero (S := S1024x1024) hz2, View.ld_unit_zero (S := S1024x128) hz2, View.ld_unit_zero (S := S1x1024x256) hz3,
    View.ld_unit_zero (S := S1x256x1024) hz3, shapeCast_self]

/-- The last expert adds too … -/
theorem last_value (hc0 : ¬cond0_0 i) (hc1 : cond0_1 i) :
    sout0_C_0 c i a2 h2 a3 h3 a4 h4 a5 h5 a6 h6 a7 h7 a8 h8 a9 h9 hc0 hc1 x0 x1 x2 x3 x4 x5 acc = k0_pay3 i x0 x1 x3 x4 acc x5 := by
  unfold sout0_C_0
  rw [View.read_writes_eq_canon _ _ _ (scover0_C_0 c i a2 h2 a3 h3 a4 h4 a5 h5 a6 h6 a7 h7 a8 h8 a9 h9 hc0 hc1 x0 x1 x2 x3 x4 x5 acc)]
  unfold kernelRun0_C
  dsimp only
  sl_unfold_words
  rw [View.canon_unit_zero hz2]
  unfold k0_pay1
  simp only [View.readAt_eq_ld, h2.read_unread, h3.read_unread, h9.read_unread, h5.read_unread, h6.read_unread, h7.read_unread,
    View.ld_unit_zero (S := S1024x1024) hz2, View.ld_unit_zero (S := S1024x128) hz2, View.ld_unit_zero (S := S1x1024x256) hz3,
    View.ld_unit_zero (S := S1x256x1024) hz3, shapeCast_self]

/-- … and its sum is what the output block gets. -/
theorem last_out (hc0 : ¬cond0_0 i) (hc1 : cond0_1 i) :
    out0_C_6 c i a2 h2 a3 h3 a4 h4 a5 h5 a6 h6 a7 h7 a8 h8 a9 h9 hc0 hc1 x0 x1 x2 x3 x4 x5 acc = k0_pay3 i x0 x1 x3 x4 acc x5 := by
  unfold out0_C_6
  rw [View.read_writes_eq_canon _ _ _ (cover0_C_6 c i a2 h2 a3 h3 a4 h4 a5 h5 a6 h6 a7 h7 a8 h8 a9 h9 hc0 hc1 x0 x1 x2 x3 x4 x5 acc)]
  unfold kernelRun0_C
  dsimp only
  sl_unfold_words
  rw [View.canon_unit_zero hz2, View.readCov_unit_zero (S := S1024x1024) _ hz2]
  unfold k0_pay1
  simp only [View.readAt_eq_ld, h2.read_unread, h3.read_unread, h9.read_unread, h5.read_unread, h6.read_unread, h7.read_unread,
    View.ld_unit_zero (S := S1024x1024) hz2, View.ld_unit_zero (S := S1024x128) hz2, View.ld_unit_zero (S := S1x1024x256) hz3,
    View.ld_unit_zero (S := S1x256x1024) hz3, shapeCast_self]

end Cases

end Cert.KernelIdeal.Moe

end
-- ==== Proof.MoeFold.lean ====
/-
  The experts' grid: what the result array holds. A row block's running output is the residual plus the terms of its
  32 points; each point's blocks are rows of the token arrays and the weights of one expert.
-/
module

public import proofs.«01_k».proof.Proof.MoePoint

@[expose] public section

noncomputable section

namespace Cert.KernelIdeal.Moe

open Idealize.ShloMosaic Idealize.ShloMosaic.TcCoe Idealize.SL.Sem Idealize.ShloMosaic.ValueIdx Idealize.ShloMosaic.Tactic
open Cert.KernelIdeal Cert.KernelIdeal.Gen Cert.KernelIdeal.Value Cert.Kit

variable (m : (ℓ : Loc nD τ sig) → Buf (Elt Ideal) ℓ)

/-! ## The arrays of @main -/

abbrev xsA (c : Dev nD) : FVec Ideal S16384x1024 .bf16 := m ((c : Thread nD τ).loc main_arg0)
abbrev combA (c : Dev nD) : FVec Ideal S16384x128 .f32 := m ((c : Thread nD τ).loc main_arg1)
abbrev resA (c : Dev nD) : FVec Ideal S16384x1024 .f32 := m ((c : Thread nD τ).loc main_arg2)
abbrev wgA (c : Dev nD) : FVec Ideal S4x8x1024x256 .f32 := m ((c : Thread nD τ).loc main_arg3)
abbrev wuA (c : Dev nD) : FVec Ideal S4x8x1024x256 .f32 := m ((c : Thread nD τ).loc main_arg4)
abbrev wdA (c : Dev nD) : FVec Ideal S4x8x256x1024 .f32 := m ((c : Thread nD τ).loc main_arg5)

/-! ## The blocks of a point -/

theorem points : cfg0.N = 512 := N_0

theorem coord_expert : ∀ t : Fin cfg0.N, (grid0.coords t 1).val = t.val % 32 := (by decide +kernel : ∀ t : Fin grid0.N, _)

theorem index_x : ∀ t : Fin cfg0.N, win0_0.index t (0 : Fin 2) = t.val / 32 ∧ win0_0.index t (1 : Fin 2) = 0 :=
  (by decide +kernel : ∀ t : Fin grid0.N, _)
theorem index_comb : ∀ t : Fin cfg0.N, win0_1.index t (0 : Fin 2) = t.val / 32 ∧ win0_1.index t (1 : Fin 2) = 0 :=
  (by decide +kernel : ∀ t : Fin grid0.N, _)
theorem index_h : ∀ t : Fin cfg0.N, win0_2.index t (0 : Fin 2) = t.val / 32 ∧ win0_2.index t (1 : Fin 2) = 0 :=
  (by decide +kernel : ∀ t : Fin grid0.N, _)
theorem index_wg : ∀ t : Fin cfg0.N, win0_3.index t (0 : Fin 3) = t.val % 32 ∧ win0_3.index t (1 : Fin 3) = 0 ∧ win0_3.index t (2 : Fin 3) = 0 :=
  (by decide +kernel : ∀ t : Fin grid0.N, _)
theorem index_wu : ∀ t : Fin cfg0.N, win0_4.index t (0 : Fin 3) = t.val % 32 ∧ win0_4.index t (1 : Fin 3) = 0 ∧ win0_4.index t (2 : Fin 3) = 0 :=
  (by decide +kernel : ∀ t : Fin grid0.N, _)
theorem index_wd : ∀ t : Fin cfg0.N, win0_5.index t (0 : Fin 3) = t.val % 32 ∧ win0_5.index t (1 : Fin 3) = 0 ∧ win0_5.index t (2 : Fin 3) = 0 :=
  (by decide +kernel : ∀ t : Fin grid0.N, _)

/-- Token row `r` of the row block point `t` works on. -/
abbrev tok (t : Fin cfg0.N) (r : Fin 1024) : Fin 16384 :=
  ⟨t.val / 32 * 1024 + r.val, by have h1 := lt_of_lt_of_eq t.isLt points; have h2 := r.isLt; omega⟩

/-- The expert of point `t`. -/
abbrev exp (t : Fin cfg0.N) : Fin 32 := ⟨t.val % 32, Nat.mod_lt _ (by decide)⟩

theorem block_x (c : Dev nD) (t : Fin cfg0.N) (r k : Fin 1024) :
    iblk m c 0 t (ix2 r k) = xsA m c (ix2 (tok t r) k) := by
  unfold iblk
  rw [View.read_apply, show xsA m c = V m c main_arg0 from (V_main_arg0 m c).symm]
  refine congrArg (V m c main_arg0) (funext fun a => Fin.ext ?_)
  match a with
  | ⟨0, _⟩ => show win0_0.index t 0 * 1024 + 1 * r.val = _; rw [(index_x t).1]; show _ = t.val / 32 * 1024 + r.val; omega
  | ⟨1, _⟩ => show win0_0.index t 1 * 1024 + 1 * k.val = _; rw [(index_x t).2]; show _ = k.val; omega

theorem block_comb (c : Dev nD) (t : Fin cfg0.N) (r : Fin 1024) (l : Fin 128) :
    iblk m c 1 t (ix2 r l) = combA m c (ix2 (tok t r) l) := by
  unfold iblk
  rw [View.read_apply, show combA m c = V m c main_arg1 from (V_main_arg1 m c).symm]
  refine congrArg (V m c main_arg1) (funext fun a => Fin.ext ?_)
  match a with
  | ⟨0, _⟩ => show win0_1.index t 0 * 1024 + 1 * r.val = _; rw [(index_comb t).1]; show _ = t.val / 32 * 1024 + r.val; omega
  | ⟨1, _⟩ => show win0_1.index t 1 * 128 + 1 * l.val = _; rw [(index_comb t).2]; show _ = l.val; omega

theorem block_h (c : Dev nD) (t : Fin cfg0.N) (r d : Fin 1024) :
    iblk m c 2 t (ix2 r d) = resA m c (ix2 (tok t r) d) := by
  unfold iblk
  rw [View.read_apply, show resA m c = V m c main_arg2 from (V_main_arg2 m c).symm]
  refine congrArg (V m c main_arg2) (funext fun a => Fin.ext ?_)
  match a with
  | ⟨0, _⟩ => show win0_2.index t 0 * 1024 + 1 * r.val = _; rw [(index_h t).1]; show _ = t.val / 32 * 1024 + r.val; omega
  | ⟨1, _⟩ => show win0_2.index t 1 * 1024 + 1 * d.val = _; rw [(index_h t).2]; show _ = d.val; omega

/-! ## The weights the host code hands the call: the experts of all groups numbered in a row -/

/-- Group and place in the group of expert `e`. -/
abbrev grp (e : Fin 32) : Fin 4 := ⟨e.val / 8, by have := e.isLt; omega⟩
abbrev plc (e : Fin 32) : Fin 8 := ⟨e.val % 8, Nat.mod_lt _ (by decide)⟩

theorem host_wg (c : Dev nD) (e : Fin 32) (k : Fin 1024) (f : Fin 256) :
    V m c main_v1 (ix3 e k f) = wgA m c (ix4 (grp e) (plc e) k f) := by
  have h : V m c main_v1 = (truncf .bf16 (shapeCast S32x1024x256 (wgA m c) shapeCasts_S4x8x1024x256_S32x1024x256) bitsLt_bf16_f32 : FVec Ideal S32x1024x256 .bf16) := by
    show StableHlo.after hostOps0 (fun b => m (c, b)) (Proc.devRef .tc main_v1) = _
    after_results; rfl
  rw [h, truncf_apply]
  refine shapeCast_apply _ shapeCasts_S4x8x1024x256_S32x1024x256 (ix3 e k f) (ix4 (grp e) (plc e) k f) ?_
  rw [Shape.rowMajor_val_four, Shape.rowMajor_val_three]
  show ((e.val / 8 * 8 + e.val % 8) * 1024 + k.val) * 256 + f.val = (e.val * 1024 + k.val) * 256 + f.val
  omega

theorem host_wu (c : Dev nD) (e : Fin 32) (k : Fin 1024) (f : Fin 256) :
    V m c main_v3 (ix3 e k f) = wuA m c (ix4 (grp e) (plc e) k f) := by
  have h : V m c main_v3 = (truncf .bf16 (shapeCast S32x1024x256 (wuA m c) shapeCasts_S4x8x1024x256_S32x1024x256) bitsLt_bf16_f32 : FVec Ideal S32x1024x256 .bf16) := by
    show StableHlo.after hostOps0 (fun b => m (c, b)) (Proc.devRef .tc main_v3) = _
    after_results; rfl
  rw [h, truncf_apply]
  refine shapeCast_apply _ shapeCasts_S4x8x1024x256_S32x1024x256 (ix3 e k f) (ix4 (grp e) (plc e) k f) ?_
  rw [Shape.rowMajor_val_four, Shape.rowMajor_val_three]
  show ((e.val / 8 * 8 + e.val % 8) * 1024 + k.val) * 256 + f.val = (e.val * 1024 + k.val) * 256 + f.val
  omega

theorem host_wd (c : Dev nD) (e : Fin 32) (f : Fin 256) (d : Fin 1024) :
    V m c main_v5 (ix3 e f d) = wdA m c (ix4 (grp e) (plc e) f d) := by
  have h : V m c main_v5 = (truncf .bf16 (shapeCast S32x256x1024 (wdA m c) shapeCasts_S4x8x256x1024_S32x256x1024) bitsLt_bf16_f32 : FVec Ideal S32x256x1024 .bf16) := by
    show StableHlo.after hostOps0 (fun b => m (c, b)) (Proc.devRef .tc main_v5) = _
    after_results; rfl
  rw [h, truncf_apply]
  refine shapeCast_apply _ shapeCasts_S4x8x256x1024_S32x256x1024 (ix3 e f d) (ix4 (grp e) (plc e) f d) ?_
  rw [Shape.rowMajor_val_four, Shape.rowMajor_val_three]
  show ((e.val / 8 * 8 + e.val % 8) * 256 + f.val) * 1024 + d.val = (e.val * 256 + f.val) * 1024 + d.val
  omega

theorem block_wg (c : Dev nD) (t : Fin cfg0.N) (k : Fin 1024) (f : Fin 256) :
    iblk m c 3 t (ix3 u0 k f) = wgA m c (ix4 (grp (exp t)) (plc (exp t)) k f) := by
  rw [← host_wg m c]
  unfold iblk
  rw [View.read_apply]
  refine congrArg (V m c main_v1) (funext fun a => Fin.ext ?_)
  match a with
  | ⟨0, _⟩ => show win0_3.index t 0 * 1 + 1 * 0 = _; rw [(index_wg t).1]; show _ = t.val % 32; omega
  | ⟨1, _⟩ => show win0_3.index t 1 * 1024 + 1 * k.val = _; rw [(index_wg t).2.1]; show _ = k.val; omega
  | ⟨2, _⟩ => show win0_3.index t 2 * 256 + 1 * f.val = _; rw [(index_wg t).2.2]; show _ = f.val; omega

theorem block_wu (c : Dev nD) (t : Fin cfg0.N) (k : Fin 1024) (f : Fin 256) :
    iblk m c 4 t (ix3 u0 k f) = wuA m c (ix4 (grp (exp t)) (plc (exp t)) k f) := by
  rw [← host_wu m c]
  unfold iblk
  rw [View.read_apply]
  refine congrArg (V m c main_v3) (funext fun a => Fin.ext ?_)
  match a with
  | ⟨0, _⟩ => show win0_4.index t 0 * 1 + 1 * 0 = _; rw [(index_wu t).1]; show _ = t.val % 32; omega
  | ⟨1, _⟩ => show win0_4.index t 1 * 1024 + 1 * k.val = _; rw [(index_wu t).2.1]; show _ = k.val; omega
  | ⟨2, _⟩ => show win0_4.index t 2 * 256 + 1 * f.val = _; rw [(index_wu t).2.2]; show _ = f.val; omega

theorem block_wd (c : Dev nD) (t : Fin cfg0.N) (f : Fin 256) (d : Fin 1024) :
    iblk m c 5 t (ix3 u0 f d) = wdA m c (ix4 (grp (exp t)) (plc (exp t)) f d) := by
  rw [← host_wd m c]
  unfold iblk
  rw [View.read_apply]
  refine congrArg (V m c main_v5) (funext fun a => Fin.ext ?_)
  match a with
  | ⟨0, _⟩ => show win0_5.index t 0 * 1 + 1 * 0 = _; rw [(index_wd t).1]; show _ = t.val % 32; omega
  | ⟨1, _⟩ => show win0_5.index t 1 * 256 + 1 * f.val = _; rw [(index_wd t).2.1]; show _ = f.val; omega
  | ⟨2, _⟩ => show win0_5.index t 2 * 1024 + 1 * d.val = _; rw [(index_wd t).2.2]; show _ = d.val; omega

/-! ## The fold -/

/-- Expert `e`'s contribution to token `n`'s output channel `d`. -/
def contrib (c : Dev nD) (n : Fin 16384) (e : Fin 32) (d : Fin 1024) : EReal :=
  ∑ f : Fin 256,
    glu (∑ k : Fin 1024, xsA m c (ix2 n k) * wgA m c (ix4 (grp e) (plc e) k f))
      (∑ k : Fin 1024, xsA m c (ix2 n k) * wuA m c (ix4 (grp e) (plc e) k f))
    * combA m c (ix2 n ⟨4 + e.val, by have := e.isLt; omega⟩)
    * wdA m c (ix4 (grp e) (plc e) f d)

/-- What point `n` adds, at a place of its row block. -/
def added (c : Dev nD) (n : ℕ) (j : S1024x1024.Idx) : EReal :=
  if h : n < cfg0.N then contrib m c (tok ⟨n, h⟩ ⟨(j 0).val, (j 0).isLt⟩) (exp ⟨n, h⟩) ⟨(j 1).val, (j 1).isLt⟩ else 0

theorem added_of_lt (c : Dev nD) (t : Fin cfg0.N) (r d : Fin 1024) : added m c t.val (ix2 r d) = contrib m c (tok t r) (exp t) d :=
  dif_pos t.isLt

/-- One point's term over what it found, in the arrays' own entries. -/
theorem term_value (c : Dev nD) (t : Fin cfg0.N) (acc : FVec Ideal S1024x1024 .f32) (j : S1024x1024.Idx) :
    k0_pay3 (F := Ideal) (grid0.coords t) (iblk m c 0 t) (iblk m c 1 t) (iblk m c 3 t) (iblk m c 4 t) acc (iblk m c 5 t) j
      = acc j + added m c t.val j := by
  have he : (grid0.coords t 1).val < 32 := by rw [coord_expert]; exact Nat.mod_lt _ (by decide)
  obtain ⟨r, d, rfl⟩ : ∃ r d, j = ix2 r d := ⟨j 0, j 1, eq_ix2 j⟩
  refine (point_apply (grid0.coords t) he (iblk m c 0 t) (iblk m c 1 t) (iblk m c 3 t) (iblk m c 4 t) acc (iblk m c 5 t) r d).trans ?_
  refine congrArg (acc (ix2 r d) + ·) ?_
  rw [added_of_lt]
  unfold contrib
  refine Finset.sum_congr rfl fun f _ => ?_
  have hl : (⟨4 + (grid0.coords t 1).val, by omega⟩ : Fin 128) = ⟨4 + (exp t).val, by have := (exp t).isLt; omega⟩ :=
    Fin.ext (congrArg (4 + ·) (coord_expert t))
  simp only [block_x, block_wg, block_wu]
  rw [block_comb, hl, block_wd]

/-- What a row block's first point leaves. -/
theorem step_first (c : Dev nD) (n : ℕ) (h : n < cfg0.N) (hn : n % 32 = 0) (acc : FVec Ideal S1024x1024 .f32) (j : S1024x1024.Idx) :
    scAt0_0 m c n h acc j = (show EReal from iblk m c 2 ⟨n, h⟩ j) + added m c n j := by
  unfold scAt0_0
  rw [dif_pos hn, dif_neg (by omega), first_value]
  exact term_value m c ⟨n, h⟩ _ j

/-- What a later point leaves. -/
theorem step_later (c : Dev nD) (n : ℕ) (h : n < cfg0.N) (hn : ¬n % 32 = 0) (acc : Vec Ideal S1024x1024 .f32) (j : S1024x1024.Idx) :
    scAt0_0 m c n h acc j = acc j + added m c n j := by
  unfold scAt0_0
  rw [dif_neg hn]
  by_cases hl : n % 32 = 31
  · rw [dif_pos hl, last_value]
    exact term_value m c ⟨n, h⟩ _ j
  · rw [dif_neg hl, mid_value]
    exact term_value m c ⟨n, h⟩ _ j

/-- The block written out at a row block's last point is its running output. -/
theorem out_eq_sum (c : Dev nD) (t : Fin cfg0.N) (hl : t.val % 32 = 31) :
    (outsAt0 m c t.val t.isLt).1 = (outsAt0 m c t.val t.isLt).2 := by
  rw [outsAt0_C m c t (by omega) hl]
  dsimp only
  rw [last_out, last_value]

/-- A finished row block: the residual plus the 32 experts' contributions. -/
theorem row_value (c : Dev nD) (q : ℕ) (hq : q < 16) (r d : Fin 1024) (h : 32 * q + 31 < cfg0.N) (n : Fin 16384) (hn : n.val = q * 1024 + r.val) :
    (outsAt0 m c (32 * q + 31) h).1 (ix2 r d) = resA m c (ix2 n d) + ∑ e : Fin 32, contrib m c n e d := by
  have hN := points
  rw [out_eq_sum m c ⟨32 * q + 31, h⟩ (by show (32 * q + 31) % 32 = 31; omega)]
  have hrun := Pipeline.accAt_add_apply (N := cfg0.N) (fun n h => scAt0_0 m c n h (VS0_0.read (Elt Ideal) VS0_0.junk)) (scAt0_0 m c)
    (fun j => if h0 : 32 * q < cfg0.N then (iblk m c 2 ⟨32 * q, h0⟩ j : EReal) else 0) (added m c) (32 * q) 31
    (fun h0 j => by rw [dif_pos h0]; exact step_first m c _ h0 (by omega) _ j)
    (fun n hn acc j h1 h2 => step_later m c n hn (by omega) acc j) 31 le_rfl (by omega) (ix2 r d)
  have hfold : (outsAt0 m c (32 * q + 31) h).2 = Pipeline.accAt (fun n h => scAt0_0 m c n h (VS0_0.read (Elt Ideal) VS0_0.junk)) (scAt0_0 m c) (32 * q) 31 (by omega) := by
    refine (soutsAt0_0_eq m c ⟨32 * q + 31, h⟩).trans ?_
    have hacc : ∀ (b b' j j' : ℕ) (hb : b + j < cfg0.N) (hb' : b' + j' < cfg0.N), b = b' → j = j' →
        Pipeline.accAt (fun n h => scAt0_0 m c n h (VS0_0.read (Elt Ideal) VS0_0.junk)) (scAt0_0 m c) b j hb
          = Pipeline.accAt (fun n h => scAt0_0 m c n h (VS0_0.read (Elt Ideal) VS0_0.junk)) (scAt0_0 m c) b' j' hb' := by
      intro b b' j j' hb hb' e1 e2; subst e1; subst e2; rfl
    exact hacc _ _ _ _ _ _ (by show 32 * ((32 * q + 31) / 32) = 32 * q; omega) (by show (32 * q + 31) % 32 = 31; omega)
  show (outsAt0 m c (32 * q + 31) h).2 (ix2 r d) = _
  rw [hfold, hrun, dif_pos (by omega : 32 * q < cfg0.N), block_h, Finset.sum_range]
  have htok : ∀ (s : ℕ) (hs : s < 32) (h0 : 32 * q + s < cfg0.N), tok ⟨32 * q + s, h0⟩ r = n := fun s hs h0 => Fin.ext (by
    show (32 * q + s) / 32 * 1024 + r.val = n.val; omega)
  refine congrArg₂ (· + ·) ?_ (Finset.sum_congr rfl fun e _ => ?_)
  · rw [show tok ⟨32 * q, by omega⟩ r = n from htok 0 (by omega) (by omega)]
  · have he := e.isLt
    refine (added_of_lt m c ⟨32 * q + e.val, by omega⟩ r d).trans ?_
    rw [htok e.val he]
    rw [show exp ⟨32 * q + e.val, by omega⟩ = e from Fin.ext (by show (32 * q + e.val) % 32 = e.val; omega)]

/-- The result array: token `n`, channel `d`. -/
theorem result_apply (c : Dev nD) (n : Fin 16384) (d : Fin 1024) :
    G6 m c (ix2 n d) = resA m c (ix2 n d) + ∑ e : Fin 32, contrib m c n e d := by
  have hN := points
  have hn := n.isLt
  have hd := d.isLt
  have hp : pt6Of (ix2 n d) = 32 * (n.val / 1024) + 31 := by
    show 32 * (1 * (n.val / 1024 - 0) + 1 * (d.val / 1024 - 0)) + 31 = _; omega
  have hlt : pt6Of (ix2 n d) < cfg0.N := by rw [hp]; omega
  unfold G6
  rw [dif_pos hlt, ← outsAt0_sweep m c _ hlt]
  have hl : loc6Of (ix2 n d) = ix2 (⟨n.val % 1024, Nat.mod_lt _ (by decide)⟩ : Fin 1024) d := by
    funext a
    match a with
    | ⟨0, _⟩ => rfl
    | ⟨1, _⟩ => exact Fin.ext (Nat.mod_eq_of_lt hd)
  rw [hl]
  have key := row_value m c (n.val / 1024) (by omega) (⟨n.val % 1024, Nat.mod_lt _ (by decide)⟩ : Fin 1024) d (by omega) n (by show n.val = n.val / 1024 * 1024 + n.val % 1024; omega)
  have hpt : ∀ (p p' : ℕ) (h : p < cfg0.N) (h' : p' < cfg0.N), p = p' → outsAt0 m c p h = outsAt0 m c p' h' := by
    intro p p' h h' e; subst e; rfl
  rw [hpt _ _ hlt (by omega) hp]
  exact key

end Cert.KernelIdeal.Moe

end
-- ==== Proof.MoeRef.lean ====
/-
  The experts' reference, read at a token and a channel, in the same entries as `MoeFold.lean`'s contributions; and
  so the equality of the two results.
-/
module

public import proofs.«01_k».proof.Proof.MoeFold
public import proofs.«01_k».proof.Proof.Gen.ReferenceIdeal.Read

@[expose] public section

noncomputable section

namespace Cert.ReferenceIdeal.Moe

open Idealize.ShloMosaic Idealize.ShloMosaic.TcCoe Idealize.SL.Sem Idealize.ShloMosaic.ValueIdx
open Cert.ReferenceIdeal Cert.ReferenceIdeal.Gen Cert.ReferenceIdeal.Read Cert.Kit
open Cert.KernelIdeal.Moe (glu grp plc)

theorem one_word : Ideal.ofBits .f32 0x3F800000#32 = 1 := by
  simp [Ideal.ofBits, Ideal.ieee, -EReal.coe_mul]; norm_num

section Entries
variable (x : FVec Ideal S16384x1024 .bf16) (comb : FVec Ideal S16384x128 .f32) (res : FVec Ideal S16384x1024 .f32)
  (wg wu : FVec Ideal S4x8x1024x256 .f32) (wd : FVec Ideal S4x8x256x1024 .f32)

/-- The gate's product. -/
theorem gate_apply (n : Fin 16384) (g : Fin 4) (e : Fin 8) (f : Fin 256) :
    val_main_v3 (F := Ideal) x wg (ix4 n g e f) = ∑ k : Fin 1024, x (ix2 n k) * wg (ix4 g e k f) := by
  rw [val_main_v3_apply]
  refine Finset.sum_congr rfl fun k _ => congrArg₂ (· * ·) ?_ ?_
  · exact congrArg x (funext fun a => match a with | ⟨0, _⟩ => rfl | ⟨1, _⟩ => rfl)
  · exact congrArg wg (funext fun a => match a with | ⟨0, _⟩ => rfl | ⟨1, _⟩ => rfl | ⟨2, _⟩ => rfl | ⟨3, _⟩ => rfl)

/-- The other product. -/
theorem up_apply (n : Fin 16384) (g : Fin 4) (e : Fin 8) (f : Fin 256) :
    val_main_v5 (F := Ideal) x wu (ix4 n g e f) = ∑ k : Fin 1024, x (ix2 n k) * wu (ix4 g e k f) := by
  rw [val_main_v5_apply]
  refine Finset.sum_congr rfl fun k _ => congrArg₂ (· * ·) ?_ ?_
  · exact congrArg x (funext fun a => match a with | ⟨0, _⟩ => rfl | ⟨1, _⟩ => rfl)
  · exact congrArg wu (funext fun a => match a with | ⟨0, _⟩ => rfl | ⟨1, _⟩ => rfl | ⟨2, _⟩ => rfl | ⟨3, _⟩ => rfl)

/-- The expert's combine weight. -/
theorem weight_apply (n : Fin 16384) (g : Fin 4) (e : Fin 8) (f : Fin 256) :
    val_main_v8 (F := Ideal) comb (ix4 n g e f) = comb (ix2 n ⟨4 + (g.val * 8 + e.val), by have := g.isLt; have := e.isLt; omega⟩) := by
  rw [val_main_v8_apply, val_main_v7_apply, val_main_v2_apply, val_main_v1_apply]
  refine congrArg comb (funext fun a => Fin.ext ?_)
  have hg := g.isLt
  have he := e.isLt
  match a with
  | ⟨0, _⟩ => show ((n.val * 4 + g.val) * 8 + e.val) / 32 = n.val; omega
  | ⟨1, _⟩ => show 4 + ((n.val * 4 + g.val) * 8 + e.val) % 32 = 4 + (g.val * 8 + e.val); omega

/-- A hidden unit, weighted. -/
theorem hidden_apply (n : Fin 16384) (g : Fin 4) (e : Fin 8) (f : Fin 256) :
    val_main_v9 (F := Ideal) x comb wg wu (ix4 n g e f)
      = glu (∑ k : Fin 1024, x (ix2 n k) * wg (ix4 g e k f)) (∑ k : Fin 1024, x (ix2 n k) * wu (ix4 g e k f))
        * comb (ix2 n ⟨4 + (g.val * 8 + e.val), by have := g.isLt; have := e.isLt; omega⟩) := by
  rw [val_main_v9_apply, weight_apply, val_main_v6_apply, val_main_v4_apply, up_apply, val_main_call0_v5_apply, val_main_call0_v4_apply,
    val_main_call0_cst_0_apply, val_main_call0_v3_apply, val_main_call0_v2_apply, val_main_call0_cst_apply, val_main_call0_v1_apply,
    val_main_call0_v0_apply, gate_apply]
  show _ * Ideal.div (Ideal.ofBits .f32 0x3F800000#32) (Ideal.ofBits .f32 0x3F800000#32 + Ideal.exp (-_)) * _ * _ = _
  rw [one_word]
  rfl

/-- The reference's result: the residual plus, over all hidden units of all experts, unit times down-projection. -/
theorem result_apply (n : Fin 16384) (d : Fin 1024) :
    val_main_v13 (F := Ideal) x comb res wg wu wd (ix2 n d) = res (ix2 n d) + ∑ e : Fin 32, ∑ f : Fin 256,
      glu (∑ k : Fin 1024, x (ix2 n k) * wg (ix4 (grp e) (plc e) k f)) (∑ k : Fin 1024, x (ix2 n k) * wu (ix4 (grp e) (plc e) k f))
        * comb (ix2 n ⟨4 + e.val, by have := e.isLt; omega⟩) * wd (ix4 (grp e) (plc e) f d) := by
  rw [val_main_v13_apply]
  refine congrArg (res (ix2 n d) + ·) ?_
  rw [val_main_v12_apply, ← Equiv.sum_comp (finProdFinEquiv (m := 32) (n := 256)), Fintype.sum_prod_type]
  refine Finset.sum_congr rfl fun e _ => Finset.sum_congr rfl fun f _ => ?_
  have he := e.isLt
  have hf := f.isLt
  have hn := n.isLt
  have hd := d.isLt
  rw [val_main_v10_apply, val_main_v11_apply]
  refine congrArg₂ (· * ·) ?_ (congrArg wd (funext fun a => Fin.ext ?_))
  · have hi : idx_main_v10 (lidx_main_v12 (ix2 n d) (finProdFinEquiv (m := 32) (n := 256) (e, f))) = ix4 n (grp e) (plc e) f := by
      funext a
      refine Fin.ext ?_
      match a with
      | ⟨0, _⟩ => show (n.val * 8192 + (f.val + 256 * e.val)) / 8192 = n.val; omega
      | ⟨1, _⟩ => show (n.val * 8192 + (f.val + 256 * e.val)) / 2048 % 4 = e.val / 8; omega
      | ⟨2, _⟩ => show (n.val * 8192 + (f.val + 256 * e.val)) / 256 % 8 = e.val % 8; omega
      | ⟨3, _⟩ => show (n.val * 8192 + (f.val + 256 * e.val)) % 256 = f.val; omega
    rw [hi, hidden_apply]
    refine congrArg (_ * ·) (congrArg comb (congrArg (ix2 n) (Fin.ext ?_)))
    show 4 + (e.val / 8 * 8 + e.val % 8) = 4 + e.val
    omega
  · match a with
    | ⟨0, _⟩ => show ((f.val + 256 * e.val) * 1024 + d.val) / 2097152 = e.val / 8; omega
    | ⟨1, _⟩ => show ((f.val + 256 * e.val) * 1024 + d.val) / 262144 % 8 = e.val % 8; omega
    | ⟨2, _⟩ => show ((f.val + 256 * e.val) * 1024 + d.val) / 1024 % 256 = f.val; omega
    | ⟨3, _⟩ => show ((f.val + 256 * e.val) * 1024 + d.val) % 1024 = d.val; omega

end Entries

/-- The kernel's result is the reference's, of the same arrays. -/
theorem results_eq (m : (ℓ : Loc Cert.KernelIdeal.nD Cert.KernelIdeal.τ Cert.KernelIdeal.sig) → Buf (Elt Ideal) ℓ) (c : Dev Cert.KernelIdeal.nD) :
    Cert.KernelIdeal.Value.G6 m c = val_main_v13 (F := Ideal) (Cert.KernelIdeal.Moe.xsA m c) (Cert.KernelIdeal.Moe.combA m c)
      (Cert.KernelIdeal.Moe.resA m c) (Cert.KernelIdeal.Moe.wgA m c) (Cert.KernelIdeal.Moe.wuA m c) (Cert.KernelIdeal.Moe.wdA m c) := by
  funext j
  obtain ⟨n, d, rfl⟩ : ∃ (n : Fin 16384) (d : Fin 1024), j = ix2 n d := ⟨j 0, j 1, eq_ix2 j⟩
  exact (Cert.KernelIdeal.Moe.result_apply m c n d).trans (result_apply _ _ _ _ _ _ n d).symm

end Cert.ReferenceIdeal.Moe

end
-- ==== Proof.MoeClaims.lean ====
/-
  The claims about the experts' call, from the generated runs and `MoeRef.results_eq`.
-/
module

public import proofs.«01_k».proof.Defs
public import proofs.«01_k».proof.Proof.Gen.Kernel.Frame
public import proofs.«01_k».proof.Proof.MoeRef

@[expose] public section

noncomputable section

namespace Cert.Proof.Moe

open Idealize.ShloMosaic Idealize.SL.Sem

/-- The kernel's frame. -/
theorem frame_kernel : Cert.quiescent_Kernel := fun m ρ _ => Cert.Kernel.Gen.frame m ρ

/-- The kernel's frame, read ideally. -/
theorem frame_ideal : Cert.quiescent_KernelIdeal := fun m ρ _ => Cert.KernelIdeal.Gen.frame m ρ

/-- The reference's frame, of its run. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Kernel and reference end with one array. -/
theorem algebraic : Cert.algebraic_KernelIdeal_ReferenceIdeal := fun m ρ m' ρ' _ hag =>
  ⟨fun c => Cert.KernelIdeal.Value.G6 m c, Cert.KernelIdeal.Value.run m ρ,
    (θ_run _ _ _).mono (fun _ h c => ⟨(h c).1.trans ((Cert.ReferenceIdeal.Read.val_main_v13_eq _ _ _ _ _ _).trans (by
      rw [(hag c).1, (hag c).2.1, (hag c).2.2.1, (hag c).2.2.2.1, (hag c).2.2.2.2.1, (hag c).2.2.2.2.2]
      exact (Cert.ReferenceIdeal.Moe.results_eq m c).symm)), (h c).2⟩)
      (Cert.ReferenceIdeal.Value.run (F := Ideal) m' ρ')⟩

end Cert.Proof.Moe

end
-- ==== Proof.Words.lean ====
/-
  Comparisons of small positions as printed words, a select on such a comparison, and sums of real numbers among the
  extended reals: shared by the claims.
-/
module

public import proofs.«01_k».proof.Proof.Kit

@[expose] public section

noncomputable section

namespace Cert.Kit

open Idealize.ShloMosaic Idealize.ShloMosaic.ValueIdx

/-- A small position's word, read as an integer. -/
theorem word_int {a : Nat} (ha : a < 2 ^ 31) : (BitVec.ofNat 32 a).toInt = a := by
  rw [BitVec.toInt_eq_toNat_cond, BitVec.toNat_ofNat, Nat.mod_eq_of_lt (by omega), if_pos (by omega)]

theorem word_slt {a b : Nat} (ha : a < 2 ^ 31) (hb : b < 2 ^ 31) :
    IntOp.cmpi .slt (BitVec.ofNat 32 a) (BitVec.ofNat 32 b) = 1#1 ↔ a < b := by
  rw [show IntOp.cmpi .slt (BitVec.ofNat 32 a) (BitVec.ofNat 32 b) = BitVec.ofBool ((BitVec.ofNat 32 a).slt (BitVec.ofNat 32 b)) from rfl,
    BitVec.slt_eq_decide, word_int ha, word_int hb]
  by_cases h : a < b
  · simp [h]
  · simp [h]

theorem word_sgt {a b : Nat} (ha : a < 2 ^ 31) (hb : b < 2 ^ 31) :
    IntOp.cmpi .sgt (BitVec.ofNat 32 a) (BitVec.ofNat 32 b) = 1#1 ↔ b < a := word_slt hb ha

theorem word_sge {a b : Nat} (ha : a < 2 ^ 31) (hb : b < 2 ^ 31) :
    IntOp.cmpi .sge (BitVec.ofNat 32 a) (BitVec.ofNat 32 b) = 1#1 ↔ b ≤ a := by
  rw [show IntOp.cmpi .sge (BitVec.ofNat 32 a) (BitVec.ofNat 32 b) = BitVec.ofBool ((BitVec.ofNat 32 b).sle (BitVec.ofNat 32 a)) from rfl,
    BitVec.sle_eq_decide, word_int ha, word_int hb]
  by_cases h : b ≤ a
  · simp [h]
  · simp [h]

/-- One bit or the other. -/
theorem bit_or (p q : BitVec 1) : IntOp.ori p q = 1#1 ↔ p = 1#1 ∨ q = 1#1 := by
  revert p q; decide

/-- A select under a bit with a known meaning. -/
theorem select_of {α : Type} {c : BitVec 1} {P : Prop} [Decidable P] (h : c = 1#1 ↔ P) (a b : α) :
    Scalar.select c a b = if P then a else b := by
  show (if c = 1#1 then a else b) = _
  by_cases hp : P
  · rw [if_pos (h.2 hp), if_pos hp]
  · rw [if_neg (fun hc => hp (h.1 hc)), if_neg hp]

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem coe_min (a b : ℝ) : ((min a b : ℝ) : EReal) = min (a : EReal) (b : EReal) := EReal.coe_strictMono.monotone.map_min
theorem coe_max (a b : ℝ) : ((max a b : ℝ) : EReal) = max (a : EReal) (b : EReal) := EReal.coe_strictMono.monotone.map_max
theorem coe_ite (P : Prop) [Decidable P] (a b : ℝ) : ((if P then a else b : ℝ) : EReal) = if P then (a : EReal) else (b : EReal) := by
  split <;> rfl

theorem one_word : Ideal.ofBits .f32 0x3F800000#32 = 1 := by
  simp [Ideal.ofBits, Ideal.ieee, -EReal.coe_mul]; norm_num

/-- A finite extended real is a real. -/
theorem coe_of_abs_lt {x : EReal} (h : max x (-x) < ⊤) : x = (x.toReal : EReal) := by
  refine (EReal.coe_toReal (fun hx => ?_) (fun hx => ?_)).symm <;> rw [hx] at h <;> simp at h

end Cert.Kit

end
-- ==== Proof.SbStep.lean ====
/-
  One key block of one head, for real scores: the block's log-rests, their sums after each key, the weights, and what
  the block adds to the head's output and to its running log-rest.
-/
module

public import proofs.«01_k».proof.Proof.Words
public import proofs.«01_k».proof.Proof.Gen.KernelSbIdeal.Skeleton

@[expose] public section

noncomputable section

namespace Cert.KernelSbIdeal.Sb

open Idealize.ShloMosaic Idealize.SL.Sem Idealize.ShloMosaic.ValueIdx
open Cert.KernelSbIdeal Cert.KernelSbIdeal.Gen Cert.Kit

/-- The log of the logistic function … -/
def lb (x : ℝ) : ℝ := min x 0 - Real.log (1 + Real.exp (-|x|))

/-- … of a block of scores, as the kernel computes it. -/
def lbV (z : FVec Ideal S128x128 .f32) : FVec Ideal S128x128 .f32 :=
  subf (minimumf z (broadcast S128x128 (Scalar.ofBits .f32 0x00000000#32)))
    (log (addf (broadcast S128x128 (Scalar.ofBits .f32 0x3F800000#32)) (exp (subf (broadcast S128x128 (Scalar.ofBits .f32 0x00000000#32)) (absf z)))))

/-- The masked log-rests. -/
def restV (z : FVec Ideal S128x128 .f32) (mask : IVec S128x128 1) : FVec Ideal S128x128 .f32 :=
  select mask (subf (lbV z) z) (broadcast S128x128 (Scalar.ofBits .f32 0x00000000#32))

/-- Their sums after each key, and in all, by the two-part product. -/
def sumsV (z : FVec Ideal S128x128 .f32) (mask : IVec S128x128 1) : FVec Ideal S128x256 .f32 :=
  addf (matmul dot_S128x128_S128x256_S128x256_1_0_0_1_n_n none (truncf .bf16 (restV z mask) bitsLt_bf16_f32) (k0_pay19 (F := Ideal)) (constant S128x256 .f32 0x00000000#32))
    (matmul dot_S128x128_S128x256_S128x256_1_0_0_1_n_n none
      (truncf .bf16 (subf (restV z mask) (extf .f32 (truncf .bf16 (restV z mask) bitsLt_bf16_f32) bitsLt_bf16_f32)) bitsLt_bf16_f32)
      (k0_pay19 (F := Ideal)) (constant S128x256 .f32 0x00000000#32))

/-- The block's weights. -/
def attV (z : FVec Ideal S128x128 .f32) (mask : IVec S128x128 1) (run : FVec Ideal S128x128 .f32) : FVec Ideal S128x128 .f32 :=
  select mask (exp (addf (addf (lbV z) (extractStridedSlice S128x128 ![0, 0] (sumsV z mask) slices_S128x256_o0_0_S128x128)) run))
    (broadcast S128x128 (Scalar.ofBits .f32 0x00000000#32))

/-- The head's output after the block. -/
def accV (z : FVec Ideal S128x128 .f32) (mask : IVec S128x128 1) (run acc : FVec Ideal S128x128 .f32) (v : FVec Ideal S128x128 .bf16) :
    FVec Ideal S128x128 .f32 :=
  addf acc (matmul dot_S128x128_S128x128_S128x128_1_0_0_1_n_n none (truncf .bf16 (attV z mask run) bitsLt_bf16_f32) v (constant S128x128 .f32 0x00000000#32))

/-- The head's running log-rest after the block. -/
def runV (z : FVec Ideal S128x128 .f32) (mask : IVec S128x128 1) (run : FVec Ideal S128x128 .f32) : FVec Ideal S128x128 .f32 :=
  addf run (extractStridedSlice S128x128 ![0, 128] (sumsV z mask) slices_S128x256_o0_128_S128x128)

/-- Entry `(k, c)` of the ones: the column counts all keys from 128 on, and before that the keys after it. -/
theorem ones_apply (k : Fin 128) (c : Fin 256) :
    k0_pay19 (F := Ideal) (ix2 k c) = if 128 ≤ c.val ∨ c.val < k.val then 1 else 0 := by
  have hk := k.isLt
  have hc := c.isLt
  unfold k0_pay19
  show Scalar.select (IntOp.ori (IntOp.cmpi .sge (iota .tc S128x256 32 [1] iota_S128x256_d1_w32 (ix2 k c)) 128#32)
    (IntOp.cmpi .sgt (iota .tc S128x256 32 [0] iota_S128x256_d0_w32 (ix2 k c)) (iota .tc S128x256 32 [1] iota_S128x256_d1_w32 (ix2 k c))))
    (Ideal.ofBits .f32 0x3F800000#32) (Ideal.ofBits .f32 0x00000000#32) = _
  rw [iota_single_apply, iota_single_apply, one_word, Ideal.ofBits_zero_f32]
  refine select_of (P := 128 ≤ c.val ∨ c.val < k.val) ?_ _ _
  rw [bit_or]
  exact or_congr (word_sge (a := c.val) (b := 128) (by omega) (by omega)) (word_sgt (a := k.val) (b := c.val) (by omega) (by omega))

/-- A row's masked log-rests … -/
def rest (ζ : Fin 128 → Fin 128 → ℝ) (M : Fin 128 → Fin 128 → Prop) [∀ r s, Decidable (M r s)] (r s : Fin 128) : ℝ :=
  if M r s then lb (ζ r s) - ζ r s else 0

/-- … and weights, the blocks to the right having left the log-rest `ρ`. -/
def att (ζ : Fin 128 → Fin 128 → ℝ) (M : Fin 128 → Fin 128 → Prop) [∀ r s, Decidable (M r s)] (ρ : Fin 128 → ℝ) (r s : Fin 128) : ℝ :=
  if M r s then Real.exp (lb (ζ r s) + (∑ k : Fin 128, if s.val < k.val then rest ζ M r k else 0) + ρ r) else 0

section Block
variable {z : FVec Ideal S128x128 .f32} {ζ : Fin 128 → Fin 128 → ℝ} (hz : ∀ r s, z (ix2 r s) = (ζ r s : EReal))
variable {mask : IVec S128x128 1} {M : Fin 128 → Fin 128 → Prop} [∀ r s, Decidable (M r s)] (hm : ∀ r s, mask (ix2 r s) = 1#1 ↔ M r s)
variable {run : FVec Ideal S128x128 .f32} {ρ : Fin 128 → ℝ} (hrun : ∀ r l, run (ix2 r l) = (ρ r : EReal))
include hz

theorem lbV_apply (r s : Fin 128) : lbV z (ix2 r s) = (lb (ζ r s) : EReal) := by
  show min (z (ix2 r s)) (Ideal.ofBits .f32 0x00000000#32)
    - Ideal.log (Ideal.ofBits .f32 0x3F800000#32 + Ideal.exp (Ideal.ofBits .f32 0x00000000#32 - max (z (ix2 r s)) (-(z (ix2 r s))))) = _
  have hpos : ¬ (1 + Real.exp (-|ζ r s|)) ≤ 0 := not_le.mpr (by positivity)
  rw [hz, one_word, Ideal.ofBits_zero_f32, zero_sub, ← EReal.coe_neg, ← coe_max, ← EReal.coe_neg, Ideal.exp_coe, ← EReal.coe_one,
    ← EReal.coe_add, Ideal.log_coe, if_neg (by rw [← abs_eq_max_neg]; exact hpos), ← abs_eq_max_neg, ← EReal.coe_zero, ← coe_min, ← EReal.coe_sub]
  rfl

include hm

theorem restV_apply (r s : Fin 128) : restV z mask (ix2 r s) = (rest ζ M r s : EReal) := by
  show Scalar.select (mask (ix2 r s)) (lbV z (ix2 r s) - z (ix2 r s)) (Ideal.ofBits .f32 0x00000000#32) = _
  rw [select_of (hm r s), lbV_apply hz, hz, Ideal.ofBits_zero_f32, ← EReal.coe_sub, ← EReal.coe_zero, ← coe_ite]
  rfl

/-- Both parts of the split product: the second is of zeros, since casts are exact here. -/
theorem sumsV_apply (r : Fin 128) (c : Fin 256) :
    sumsV z mask (ix2 r c) = ((∑ k : Fin 128, if 128 ≤ c.val ∨ c.val < k.val then rest ζ M r k else 0 : ℝ) : EReal) := by
  show FloatOps.matmul (rowCol _) none (restV z mask) (k0_pay19 (F := Ideal)) _ (ix2 r c)
    + FloatOps.matmul (rowCol _) none (fun j => restV z mask j - restV z mask j) (k0_pay19 (F := Ideal)) _ (ix2 r c) = _
  rw [matmul_rowCol, matmul_rowCol]
  show (Ideal.ofBits .f32 0x00000000#32 + _) + (Ideal.ofBits .f32 0x00000000#32 + _) = _
  rw [Ideal.ofBits_zero_f32, zero_add, zero_add, coe_sum, ← Finset.sum_add_distrib]
  refine Finset.sum_congr rfl fun k _ => ?_
  show restV z mask (ix2 r k) * _ + (restV z mask (ix2 r k) - restV z mask (ix2 r k)) * _ = _
  rw [restV_apply hz hm, ← EReal.coe_sub, sub_self, EReal.coe_zero, zero_mul, add_zero, ones_apply]
  split
  · rw [mul_one]
  · rw [mul_zero, EReal.coe_zero]

theorem sumsV_after (r s : Fin 128) (h) :
    extractStridedSlice S128x128 ![0, 0] (sumsV z mask) h (ix2 r s) = ((∑ k : Fin 128, if s.val < k.val then rest ζ M r k else 0 : ℝ) : EReal) := by
  have hs := s.isLt
  rw [extractStridedSlice_apply ![0, 0] (sumsV z mask) h (ix2 r s) (ix2 r ⟨s.val, by omega⟩) (fun a => by
    match a with
    | ⟨0, _⟩ => exact (Nat.zero_add _).symm
    | ⟨1, _⟩ => exact (Nat.zero_add _).symm), sumsV_apply hz hm]
  refine congrArg _ (Finset.sum_congr rfl fun k _ => if_congr ⟨fun h => h.resolve_left (by show ¬128 ≤ s.val; omega), Or.inr⟩ rfl rfl)

theorem sumsV_all (r l : Fin 128) (h) :
    extractStridedSlice S128x128 ![0, 128] (sumsV z mask) h (ix2 r l) = ((∑ k : Fin 128, rest ζ M r k : ℝ) : EReal) := by
  have hl := l.isLt
  rw [extractStridedSlice_apply ![0, 128] (sumsV z mask) h (ix2 r l) (ix2 r ⟨128 + l.val, by omega⟩) (fun a => by
    match a with
    | ⟨0, _⟩ => exact (Nat.zero_add _).symm
    | ⟨1, _⟩ => rfl), sumsV_apply hz hm]
  refine congrArg _ (Finset.sum_congr rfl fun k _ => if_pos (Or.inl (by show 128 ≤ 128 + l.val; omega)))

include hrun

theorem runV_apply (r l : Fin 128) : runV z mask run (ix2 r l) = ((ρ r + ∑ k : Fin 128, rest ζ M r k : ℝ) : EReal) := by
  show run (ix2 r l) + extractStridedSlice S128x128 ![0, 128] (sumsV z mask) _ (ix2 r l) = _
  rw [sumsV_all hz hm, hrun, ← EReal.coe_add]

theorem attV_apply (r s : Fin 128) : attV z mask run (ix2 r s) = (att ζ M ρ r s : EReal) := by
  show Scalar.select (mask (ix2 r s)) (Ideal.exp (lbV z (ix2 r s) + extractStridedSlice S128x128 ![0, 0] (sumsV z mask) _ (ix2 r s)
    + run (ix2 r s))) (Ideal.ofBits .f32 0x00000000#32) = _
  rw [select_of (hm r s), sumsV_after hz hm, hrun, lbV_apply hz, ← EReal.coe_add, ← EReal.coe_add, Ideal.exp_coe, Ideal.ofBits_zero_f32,
    ← EReal.coe_zero, ← coe_ite]
  rfl

theorem accV_apply (acc : FVec Ideal S128x128 .f32) (v : FVec Ideal S128x128 .bf16) (r d : Fin 128) :
    accV z mask run acc v (ix2 r d) = acc (ix2 r d) + ∑ s : Fin 128, (att ζ M ρ r s : EReal) * v (ix2 s d) := by
  show acc (ix2 r d) + FloatOps.matmul (rowCol _) none (attV z mask run) v _ (ix2 r d) = _
  rw [matmul_rowCol]
  show acc (ix2 r d) + (Ideal.ofBits .f32 0x00000000#32 + _) = _
  rw [Ideal.ofBits_zero_f32, zero_add]
  exact congrArg _ (Finset.sum_congr rfl fun s _ => by rw [attV_apply hz hm hrun])

end Block

end Cert.KernelSbIdeal.Sb

end
-- ==== Proof.SbRow.lean ====
/-
  One row of stick-breaking attention over its 4096 keys, for real scores: the log-rests, the weights, and the two
  running quantities a pass over key blocks from right to left holds, with the law by which one block extends them.
-/
module

public import proofs.«01_k».proof.Proof.SbStep

@[expose] public section

noncomputable section

namespace Cert.KernelSbIdeal.Sb

open Idealize.ShloMosaic Idealize.SL.Sem Idealize.ShloMosaic.ValueIdx
open Cert.KernelSbIdeal Cert.KernelSbIdeal.Gen Cert.Kit

/-- Key `s'` of key block `b`. -/
abbrev key (b : Nat) (hb : b < 32) (s : Fin 128) : Fin 4096 := ⟨128 * b + s.val, by have := s.isLt; omega⟩

/-- The log-rest that key `s` leaves to the row at position `t`. -/
def restAt (ζ : Fin 4096 → ℝ) (t : Nat) (s : Fin 4096) : ℝ := if s.val < t then lb (ζ s) - ζ s else 0

/-- The weight of key `s`: its own share of what the later keys leave. -/
def weight (ζ : Fin 4096 → ℝ) (t : Nat) (s : Fin 4096) : ℝ :=
  if s.val < t then Real.exp (lb (ζ s) + ∑ j : Fin 4096, if s.val < j.val then restAt ζ t j else 0) else 0

/-- The log-rest of the keys from `n` on. -/
def tail (ζ : Fin 4096 → ℝ) (t n : Nat) : ℝ := ∑ s : Fin 4096, if n ≤ s.val then restAt ζ t s else 0

/-- The output of the keys from `n` on. -/
def part (ζ : Fin 4096 → ℝ) (t n : Nat) (v : Fin 4096 → EReal) : EReal :=
  ∑ s : Fin 4096, if n ≤ s.val then (weight ζ t s : EReal) * v s else 0

/-- A sum over the keys from block `b` on is the block's and the rest. -/
theorem sum_from {α : Type*} [AddCommMonoid α] (f : Fin 4096 → α) (b : Nat) (hb : b < 32) :
    (∑ s : Fin 4096, if 128 * b ≤ s.val then f s else 0)
      = (∑ s : Fin 4096, if 128 * (b + 1) ≤ s.val then f s else 0) + ∑ s : Fin 128, f (key b hb s) := by
  have hblock : (∑ s : Fin 4096, if s.val / 128 = b then f s else 0) = ∑ s : Fin 128, f (key b hb s) := by
    rw [← Equiv.sum_comp (finProdFinEquiv (m := 32) (n := 128)), Fintype.sum_prod_type]
    rw [Finset.sum_eq_single (⟨b, hb⟩ : Fin 32)]
    · refine Finset.sum_congr rfl fun s _ => ?_
      have hs := s.isLt
      have hv : (finProdFinEquiv ((⟨b, hb⟩ : Fin 32), s)).val = s.val + 128 * b := rfl
      rw [if_pos (by rw [hv]; omega)]
      exact congrArg f (Fin.ext (by rw [hv]; show _ = 128 * b + s.val; omega))
    · intro c _ hc
      refine Finset.sum_eq_zero fun s _ => if_neg fun h => hc (Fin.ext ?_)
      have hs := s.isLt
      have hv : (finProdFinEquiv (c, s)).val = s.val + 128 * c.val := rfl
      rw [hv] at h
      show c.val = b
      omega
    · exact fun h => absurd (Finset.mem_univ _) h
  rw [← hblock, ← Finset.sum_add_distrib]
  refine Finset.sum_congr rfl fun s _ => ?_
  by_cases h1 : s.val / 128 = b
  · rw [if_pos (by omega), if_neg (by omega), if_pos h1, zero_add]
  · by_cases h2 : 128 * (b + 1) ≤ s.val
    · rw [if_pos (by omega), if_pos h2, if_neg h1, add_zero]
    · rw [if_neg (by omega), if_neg h2, if_neg h1, add_zero]

theorem tail_step (ζ : Fin 4096 → ℝ) (t b : Nat) (hb : b < 32) :
    tail ζ t (128 * b) = tail ζ t (128 * (b + 1)) + ∑ s : Fin 128, restAt ζ t (key b hb s) := sum_from _ b hb

theorem part_step (ζ : Fin 4096 → ℝ) (t b : Nat) (hb : b < 32) (v : Fin 4096 → EReal) :
    part ζ t (128 * b) v = part ζ t (128 * (b + 1)) v + ∑ s : Fin 128, (weight ζ t (key b hb s) : EReal) * v (key b hb s) :=
  sum_from _ b hb

/-- Past the row's position nothing is left … -/
theorem tail_end (ζ : Fin 4096 → ℝ) (t n : Nat) (h : t ≤ n) : tail ζ t n = 0 :=
  Finset.sum_eq_zero fun s _ => by
    split
    · exact if_neg (by omega)
    · rfl

/-- … and nothing is put out. -/
theorem part_end (ζ : Fin 4096 → ℝ) (t n : Nat) (h : t ≤ n) (v : Fin 4096 → EReal) : part ζ t n v = 0 :=
  Finset.sum_eq_zero fun s _ => by
    split
    · rw [weight, if_neg (by omega), EReal.coe_zero, zero_mul]
    · rfl

/-- What the keys after key `s` of block `b` leave: those of the block, and the blocks to the right. -/
theorem after_step (ζ : Fin 4096 → ℝ) (t b : Nat) (hb : b < 32) (s : Fin 128) :
    (∑ j : Fin 4096, if (key b hb s).val < j.val then restAt ζ t j else 0)
      = (∑ k : Fin 128, if s.val < k.val then restAt ζ t (key b hb k) else 0) + tail ζ t (128 * (b + 1)) := by
  have hs := s.isLt
  have h := sum_from (fun j => if (key b hb s).val < j.val then restAt ζ t j else 0) b hb
  have hl : (∑ j : Fin 4096, if 128 * b ≤ j.val then (if (key b hb s).val < j.val then restAt ζ t j else 0) else 0)
      = ∑ j : Fin 4096, if (key b hb s).val < j.val then restAt ζ t j else 0 := Finset.sum_congr rfl fun j _ => by
    by_cases h1 : 128 * b ≤ j.val
    · rw [if_pos h1]
    · rw [if_neg h1, if_neg (show ¬128 * b + s.val < j.val by omega)]
  have hr : (∑ j : Fin 4096, if 128 * (b + 1) ≤ j.val then (if (key b hb s).val < j.val then restAt ζ t j else 0) else 0)
      = tail ζ t (128 * (b + 1)) := Finset.sum_congr rfl fun j _ => by
    by_cases h1 : 128 * (b + 1) ≤ j.val
    · rw [if_pos h1, if_pos h1, if_pos (show 128 * b + s.val < j.val by omega)]
    · rw [if_neg h1, if_neg h1]
  rw [hl, hr, add_comm] at h
  rw [h]
  refine congrArg (· + _) (Finset.sum_congr rfl fun k _ => if_congr ?_ rfl rfl)
  show 128 * b + s.val < 128 * b + k.val ↔ _
  omega

section Block
variable {z : FVec Ideal S128x128 .f32} (ζ : Fin 128 → Fin 4096 → ℝ) (b T : Nat) (hb : b < 32)
variable (hz : ∀ r s, z (ix2 r s) = (ζ r (key b hb s) : EReal))
variable {mask : IVec S128x128 1} (hm : ∀ r s : Fin 128, mask (ix2 r s) = 1#1 ↔ 128 * b + s.val < T + r.val)
variable {run : FVec Ideal S128x128 .f32} (hrun : ∀ r l : Fin 128, run (ix2 r l) = (tail (ζ r) (T + r.val) (128 * (b + 1)) : EReal))
include hz hm hrun

/-- One block extends the running log-rest … -/
theorem runV_step (r l : Fin 128) : runV z mask run (ix2 r l) = (tail (ζ r) (T + r.val) (128 * b) : EReal) := by
  rw [runV_apply (ζ := fun r s => ζ r (key b hb s)) (M := fun r s => 128 * b + s.val < T + r.val)
    (ρ := fun r => tail (ζ r) (T + r.val) (128 * (b + 1))) hz hm hrun, tail_step _ _ _ hb]
  rfl

/-- … and the output. -/
theorem accV_step (acc : FVec Ideal S128x128 .f32) (v : FVec Ideal S128x128 .bf16) (V : Fin 4096 → Fin 128 → EReal)
    (hv : ∀ s d : Fin 128, v (ix2 s d) = V (key b hb s) d)
    (hacc : ∀ r d : Fin 128, acc (ix2 r d) = part (ζ r) (T + r.val) (128 * (b + 1)) (V · d)) (r d : Fin 128) :
    accV z mask run acc v (ix2 r d) = part (ζ r) (T + r.val) (128 * b) (V · d) := by
  rw [accV_apply (ζ := fun r s => ζ r (key b hb s)) (M := fun r s => 128 * b + s.val < T + r.val)
    (ρ := fun r => tail (ζ r) (T + r.val) (128 * (b + 1))) hz hm hrun, part_step _ _ _ hb, hacc]
  refine congrArg _ (Finset.sum_congr rfl fun s _ => ?_)
  rw [hv]
  refine congrArg (fun w : ℝ => (w : EReal) * _) ?_
  unfold weight
  rw [after_step _ _ _ hb, ← add_assoc]
  rfl

end Block

end Cert.KernelSbIdeal.Sb

end
-- ==== Proof.SbLoop.lean ====
/-
  One grid point of stick-breaking attention: the body's loop over key blocks from the diagonal to the left, and the
  output block it leaves, row by row and head by head.
-/
module

public import proofs.«01_k».proof.Proof.SbRow
public import proofs.«01_k».proof.Proof.Gen.KernelSbIdeal.Value

@[expose] public section

noncomputable section

namespace Cert.KernelSbIdeal.Sb

open Idealize.ShloMosaic Idealize.ShloMosaic.TcCoe Idealize.SL.Sem Idealize.ShloMosaic.ValueIdx Idealize.ShloMosaic.Tactic
open Cert.KernelSbIdeal Cert.KernelSbIdeal.Gen Cert.Kit

/-- The key block that trip `k` of query block `q` reads starts at key `128·(q - k)`. -/
theorem block_word : ∀ q k : Fin 32, k ≤ q →
    Scalar.muli (Scalar.subi (BitVec.ofNat 32 q.val) (Scf.iv 0#32 1#32 k.val)) 128#32 = BitVec.ofNat 32 (128 * (q.val - k.val)) := by
  decide +kernel

theorem block_off : ∀ q k : Fin 32, k ≤ q →
    BitVec.toNat (Scalar.indexCast (Scalar.muli (Scalar.subi (BitVec.ofNat 32 q.val) (Scf.iv 0#32 1#32 k.val)) 128#32)) = 128 * (q.val - k.val) := by
  decide +kernel

theorem query_word : ∀ q : Fin 32, Scalar.muli (BitVec.ofNat 32 q.val) 128#32 = BitVec.ofNat 32 (128 * q.val) := by
  decide +kernel

/-- The end of the first loop: one trip per key block up to the diagonal. -/
abbrev loopEnd (q : Nat) : BitVec 32 :=
  Scalar.addi 0#32 (Scalar.muli (Scalar.divsi (Scalar.subi (Scalar.addi (BitVec.ofNat 32 q) 1#32) 0#32) 1#32) 1#32)

theorem trips_main : ∀ q : Fin 32, Scf.trips 0#32 (loopEnd q.val) 1#32 = q.val + 1 := by decide +kernel

/-- The second loop is of no trips. -/
theorem trips_left : ∀ q : Fin 32, Scf.trips (loopEnd q.val) (Scalar.addi 0#32 (Scalar.subi (Scalar.addi (BitVec.ofNat 32 q.val) 1#32) 0#32)) 1#32 = 0 := by
  decide +kernel

/-- The scores of a head against a key block. -/
def scoreV (q : FVec Ideal S128x128 .bf16) (kb : FVec Ideal S1x128x128 .bf16) : FVec Ideal S128x128 .f32 :=
  matmul dot_S128x128_S128x128_S128x128_1_1_0_0_n_n none q (k0_pay1 kb) (constant S128x128 .f32 0x00000000#32)

/-- What the loop carries: the outputs and the running log-rests of the two heads. -/
abbrev State := FVec Ideal S128x128 .f32 × FVec Ideal S128x128 .f32 × FVec Ideal S128x128 .f32 × FVec Ideal S128x128 .f32

/-- One trip. -/
def trip (x0 : FVec Ideal S1x128x128 .bf16) (mask : IVec S128x128 1) (kb vb : FVec Ideal S1x128x128 .bf16) (acc : State) : State :=
  (accV (scoreV (k0_pay17 x0) kb) mask acc.2.2.1 acc.1 (k0_pay2 vb), accV (scoreV (k0_pay18 x0) kb) mask acc.2.2.2 acc.2.1 (k0_pay2 vb),
    runV (scoreV (k0_pay17 x0) kb) mask acc.2.2.1, runV (scoreV (k0_pay18 x0) kb) mask acc.2.2.2)

/-- Key block `b` of a window of all keys. -/
def blockOf (X : FVec Ideal S1x4096x128 .bf16) (b : Nat) (hb : b < 32) : FVec Ideal S1x128x128 .bf16 := fun j => X (ix3 u0 (key b hb (j 1)) (j 2))

theorem ld_block (X : FVec Ideal S1x4096x128 .bf16) (b : Nat) (hb : b < 32) (o : Nat) (ho : o = 128 * b) (inb) :
    View.ld (S := S1x4096x128) (Val := Elt Ideal) (e' := .bf16) X (Rect.unit ![0, o, 0] ![1, 128, 128] inb) = blockOf X b hb := by
  subst ho
  funext x
  refine congrArg X (funext fun a => Fin.ext ?_)
  match a with
  | ⟨0, _⟩ =>
    have h0 : (x 0).val < 1 := (x 0).isLt
    show 0 + 1 * (x 0).val = 0
    omega
  | ⟨1, _⟩ => show 128 * b + 1 * (x 1).val = 128 * b + (x 1).val; omega
  | ⟨2, _⟩ => show 0 + 1 * (x 2).val = (x 2).val; omega

section Named
variable {F : FTy → Type} [FloatOps F]
variable (c : Dev nD) (i : grid0.Coords)
  (a3 : Memref sig .tc .vmem S1x128x128 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S1x128x128 .bf16) (h6 : a6.IsWhole)
  (x0 : Vec F S1x128x128 .bf16) (x1 x2 : Vec F S1x4096x128 .bf16)

/-- The loop's state before trip `n`. -/
abbrev stateAt (n : Nat) := st_k0_t1 (F := F) Variants.none c none i a3 h3 a4 h4 a5 h5 a6 h6 (BitVec.ofNat 32 (i 2)) x0
  (iota .tc S128x128 32 [0] iota_S128x128_d0_w32) (iota .tc S128x128 32 [1] iota_S128x128_d1_w32) (h4.unread x1) (h5.unread x2)
  (k0_pay20, k0_pay20, k0_pay20, k0_pay20) n

/-- The output block is the two heads' outputs after the diagonal and all blocks to its left. -/
theorem out_value : out0_A_3 c i a3 h3 a4 h4 a5 h5 a6 h6 x0 x1 x2
    = k0_pay35 (stateAt c i a3 h3 a4 h4 a5 h5 a6 h6 x0 x1 x2 ((i 2).val + 1)).1 (stateAt c i a3 h3 a4 h4 a5 h5 a6 h6 x0 x1 x2 ((i 2).val + 1)).2.1 := by
  have hq : (i 2).val < 32 := (i 2).isLt
  unfold out0_A_3
  rw [View.read_writes_eq_canon _ _ _ (cover0_A_3 c i a3 h3 a4 h4 a5 h5 a6 h6 x0 x1 x2)]
  unfold kernelRun0_A
  dsimp only
  sl_unfold_words
  rw [View.canon_unit_zero hz3]
  simp only [View.readAt_eq_ld, h3.read_unread, View.ld_unit_zero (S := S1x128x128) hz3]
  rw [trips_main ⟨(i 2).val, hq⟩, trips_left ⟨(i 2).val, hq⟩, st_k0_t2_zero]

end Named

section Point
variable (c : Dev nD) (i : grid0.Coords)
  (a3 : Memref sig .tc .vmem S1x128x128 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S1x128x128 .bf16) (h6 : a6.IsWhole)
  (x0 : FVec Ideal S1x128x128 .bf16) (x1 x2 : FVec Ideal S1x4096x128 .bf16)

/-- The mask of trip `k`: a key before the row's position. -/
theorem mask_apply (k : Fin (k0_t1_loop i).trips) (hk : k.val ≤ (i 2).val) (r s : Fin 128) :
    k0_pay3 i (BitVec.ofNat 32 (i 2)) (iota .tc S128x128 32 [0] iota_S128x128_d0_w32) (iota .tc S128x128 32 [1] iota_S128x128_d1_w32) 0#32 1#32 k (ix2 r s)
      = 1#1 ↔ 128 * ((i 2).val - k.val) + s.val < 128 * (i 2).val + r.val := by
  have hq : (i 2).val < 32 := (i 2).isLt
  have hr := r.isLt
  have hs := s.isLt
  show IntOp.cmpi .slt (iota .tc S128x128 32 [1] iota_S128x128_d1_w32 (ix2 r s)
      + Scalar.muli (Scalar.subi (BitVec.ofNat 32 (i 2)) (Scf.iv 0#32 1#32 k.val)) 128#32)
    (iota .tc S128x128 32 [0] iota_S128x128_d0_w32 (ix2 r s) + Scalar.muli (BitVec.ofNat 32 (i 2)) 128#32) = 1#1 ↔ _
  rw [block_word ⟨(i 2).val, hq⟩ ⟨k.val, by omega⟩ hk, query_word ⟨(i 2).val, hq⟩, iota_single_apply, iota_single_apply,
    ← BitVec.ofNat_add, ← BitVec.ofNat_add, word_slt (by show s.val + 128 * ((i 2).val - k.val) < _; omega) (by show r.val + 128 * (i 2).val < _; omega)]
  show s.val + 128 * ((i 2).val - k.val) < r.val + 128 * (i 2).val ↔ _
  omega

theorem trip_value (k : Fin (k0_t1_loop i).trips) (hk : k.val ≤ (i 2).val) (hb : (i 2).val - k.val < 32) (acc : State) :
    tripR_k0_t1 (F := Ideal) Variants.none c none i a3 h3 a4 h4 a5 h5 a6 h6 (BitVec.ofNat 32 (i 2)) x0 (iota .tc S128x128 32 [0] iota_S128x128_d0_w32)
        (iota .tc S128x128 32 [1] iota_S128x128_d1_w32) (h4.unread x1) (h5.unread x2) k acc
      = trip x0 (k0_pay3 i (BitVec.ofNat 32 (i 2)) (iota .tc S128x128 32 [0] iota_S128x128_d0_w32)
          (iota .tc S128x128 32 [1] iota_S128x128_d1_w32) 0#32 1#32 k) (blockOf x1 ((i 2).val - k.val) hb) (blockOf x2 ((i 2).val - k.val) hb) acc := by
  have hq : (i 2).val < 32 := (i 2).isLt
  unfold tripR_k0_t1 trip_k0_t1
  dsimp only
  sl_unfold_words
  simp only [View.readAt_eq_ld, h4.read_unread, h5.read_unread, shapeCast_self]
  have ho := block_off ⟨(i 2).val, hq⟩ ⟨k.val, by omega⟩ hk
  exact congrArg₂ (fun kb vb => trip x0 (k0_pay3 i (BitVec.ofNat 32 (i 2)) (iota .tc S128x128 32 [0] iota_S128x128_d0_w32)
    (iota .tc S128x128 32 [1] iota_S128x128_d1_w32) 0#32 1#32 k) kb vb acc)
    (ld_block x1 ((i 2).val - k.val) hb _ ho (k0_off1_inb i k)) (ld_block x2 ((i 2).val - k.val) hb _ ho (k0_off1_inb i k))

section Reals
variable (q : Fin 128 → Fin 128 → ℝ) (κ : Fin 4096 → Fin 128 → ℝ)

/-- The scores of a row under one of its two heads: lanes of the other head count as zero. -/
def score (h : Nat) (q : Fin 128 → ℝ) (s : Fin 4096) : ℝ := ∑ d : Fin 128, (if d.val / 64 = h then q d else 0) * κ s d

variable (hx0 : ∀ r d, x0 (ix3 u0 r d) = (q r d : EReal)) (hx1 : ∀ s d, x1 (ix3 u0 s d) = (κ s d : EReal))

theorem left_lane (d : Fin 128) (r : Fin 128) : cmpi .slt (iota .tc S128x128 32 [1] iota_S128x128_d1_w32) (broadcast S128x128 64#32) (ix2 r d) = 1#1 ↔ d.val / 64 = 0 := by
  have hd := d.isLt
  show IntOp.cmpi .slt (iota .tc S128x128 32 [1] iota_S128x128_d1_w32 (ix2 r d)) (BitVec.ofNat 32 64) = 1#1 ↔ _
  rw [iota_single_apply, word_slt (by show d.val < _; omega) (by omega)]
  show d.val < 64 ↔ _
  omega

include hx0

theorem left_apply (r d : Fin 128) : k0_pay17 (F := Ideal) x0 (ix2 r d) = ((if d.val / 64 = 0 then q r d else 0 : ℝ) : EReal) := by
  unfold k0_pay17
  show Scalar.select (cmpi .slt (iota .tc S128x128 32 [1] iota_S128x128_d1_w32) (broadcast S128x128 64#32) (ix2 r d)) (k0_pay15 x0 (ix2 r d)) (Ideal.ofBits .bf16 0x0000#16) = _
  rw [select_of (left_lane d r), coe_ite]
  refine if_congr Iff.rfl ?_ (by simp [Ideal.ofBits, Ideal.ieee])
  exact (dropUnit_apply x0 _ r d).trans (hx0 r d)

theorem right_apply (r d : Fin 128) : k0_pay18 (F := Ideal) x0 (ix2 r d) = ((if d.val / 64 = 1 then q r d else 0 : ℝ) : EReal) := by
  have hd := d.isLt
  unfold k0_pay18
  show Scalar.select (cmpi .slt (iota .tc S128x128 32 [1] iota_S128x128_d1_w32) (broadcast S128x128 64#32) (ix2 r d)) (Ideal.ofBits .bf16 0x0000#16) (k0_pay15 x0 (ix2 r d)) = _
  rw [select_of (left_lane d r), coe_ite, ← ite_not]
  refine if_congr (by omega) ?_ (by simp [Ideal.ofBits, Ideal.ieee])
  exact (dropUnit_apply x0 _ r d).trans (hx0 r d)

include hx1

theorem score_apply (h : Nat) (qv : FVec Ideal S128x128 .bf16) (hqv : ∀ r d, qv (ix2 r d) = ((if d.val / 64 = h then q r d else 0 : ℝ) : EReal))
    (b : Nat) (hb : b < 32) (r s : Fin 128) : scoreV qv (blockOf x1 b hb) (ix2 r s) = (score κ h (q r) (key b hb s) : EReal) := by
  show FloatOps.matmul (rowRow _) none qv (k0_pay1 (blockOf x1 b hb)) _ (ix2 r s) = _
  rw [matmul_rowRow]
  show Ideal.ofBits .f32 0x00000000#32 + _ = _
  rw [Ideal.ofBits_zero_f32, zero_add, score, coe_sum]
  refine Finset.sum_congr rfl fun d _ => ?_
  rw [hqv, EReal.coe_mul]
  exact congrArg _ ((dropUnit_apply (blockOf x1 b hb) _ s d).trans (hx1 _ d))

/-- What the loop's state is once the keys from `n` on are done. -/
structure Done (T n : Nat) (acc : State) : Prop where
  out0 : ∀ r l : Fin 128, acc.1 (ix2 r l) = part (score κ 0 (q r)) (T + r.val) n (fun s => x2 (ix3 u0 s l))
  out1 : ∀ r l : Fin 128, acc.2.1 (ix2 r l) = part (score κ 1 (q r)) (T + r.val) n (fun s => x2 (ix3 u0 s l))
  run0 : ∀ r l : Fin 128, acc.2.2.1 (ix2 r l) = (tail (score κ 0 (q r)) (T + r.val) n : EReal)
  run1 : ∀ r l : Fin 128, acc.2.2.2 (ix2 r l) = (tail (score κ 1 (q r)) (T + r.val) n : EReal)

theorem trip_done (T b : Nat) (hb : b < 32) (mask : IVec S128x128 1)
    (hm : ∀ r s : Fin 128, mask (ix2 r s) = 1#1 ↔ 128 * b + s.val < T + r.val) (acc : State)
    (h : Done x2 q κ T (128 * (b + 1)) acc) : Done x2 q κ T (128 * b) (trip x0 mask (blockOf x1 b hb) (blockOf x2 b hb) acc) where
  out0 := accV_step (fun r => score κ 0 (q r)) b T hb (score_apply x0 x1 q κ hx0 hx1 0 _ (left_apply x0 q hx0) b hb) hm h.run0 acc.1 _
    (fun s d => x2 (ix3 u0 s d)) (fun s d => dropUnit_apply (blockOf x2 b hb) _ s d) h.out0
  out1 := accV_step (fun r => score κ 1 (q r)) b T hb (score_apply x0 x1 q κ hx0 hx1 1 _ (right_apply x0 q hx0) b hb) hm h.run1 acc.2.1 _
    (fun s d => x2 (ix3 u0 s d)) (fun s d => dropUnit_apply (blockOf x2 b hb) _ s d) h.out1
  run0 := runV_step (fun r => score κ 0 (q r)) b T hb (score_apply x0 x1 q κ hx0 hx1 0 _ (left_apply x0 q hx0) b hb) hm h.run0
  run1 := runV_step (fun r => score κ 1 (q r)) b T hb (score_apply x0 x1 q κ hx0 hx1 1 _ (right_apply x0 q hx0) b hb) hm h.run1

/-- The loop's state before trip `n`. -/
theorem state_done (n : Nat) (hn : n ≤ (i 2).val + 1) :
    Done x2 q κ (128 * (i 2).val) (128 * ((i 2).val + 1 - n))
      (stateAt (F := Ideal) c i a3 h3 a4 h4 a5 h5 a6 h6 x0 x1 x2 n) := by
  have hq : (i 2).val < 32 := (i 2).isLt
  have htrips : (k0_t1_loop i).trips = (i 2).val + 1 := trips_main ⟨(i 2).val, hq⟩
  have hzero : ∀ r l : Fin 128, (k0_pay20 (F := Ideal)) (ix2 r l) = 0 := fun r l => Ideal.ofBits_zero_f32
  induction n with
  | zero =>
    refine (congrArg (Done x2 q κ (128 * (i 2).val) (128 * ((i 2).val + 1 - 0))) (st_k0_t1_zero Variants.none c none i a3 h3 a4 h4 a5 h5 a6 h6 _ x0 _ _ _ _ _)).mpr ?_
    have hr : ∀ r : Fin 128, 128 * (i 2).val + r.val ≤ 128 * ((i 2).val + 1 - 0) := fun r => by have := r.isLt; omega
    exact ⟨fun r l => (hzero r l).trans (part_end _ _ _ (hr r) _).symm, fun r l => (hzero r l).trans (part_end _ _ _ (hr r) _).symm,
      fun r l => (hzero r l).trans (by rw [tail_end _ _ _ (hr r), EReal.coe_zero]), fun r l => (hzero r l).trans (by rw [tail_end _ _ _ (hr r), EReal.coe_zero])⟩
  | succ n ih =>
    have hk : n ≤ (i 2).val := by omega
    have hb : (i 2).val - n < 32 := by omega
    have h := ih (by omega)
    rw [show (i 2).val + 1 - n = ((i 2).val - n) + 1 by omega] at h
    rw [show (i 2).val + 1 - (n + 1) = (i 2).val - n by omega]
    refine (congrArg (Done x2 q κ (128 * (i 2).val) (128 * ((i 2).val - n)))
      ((st_k0_t1_succ Variants.none c none i a3 h3 a4 h4 a5 h5 a6 h6 _ x0 _ _ _ _ _ ⟨n, by rw [htrips]; omega⟩).trans
        (trip_value c i a3 h3 a4 h4 a5 h5 a6 h6 x0 x1 x2 ⟨n, by rw [htrips]; omega⟩ hk hb _))).mpr ?_
    exact trip_done x0 x1 x2 q κ hx0 hx1 _ _ hb _ (mask_apply i ⟨n, by rw [htrips]; omega⟩ hk) _ h

/-- The output block: each lane by its own head, over all keys. -/
theorem out_apply (r l : Fin 128) :
    out0_A_3 (F := Ideal) c i a3 h3 a4 h4 a5 h5 a6 h6 x0 x1 x2 (ix3 u0 r l)
      = part (score κ (l.val / 64) (q r)) (128 * (i 2).val + r.val) 0 (fun s => x2 (ix3 u0 s l)) := by
  have hq : (i 2).val < 32 := (i 2).isLt
  have hl := l.isLt
  rw [out_value]
  have h := state_done c i a3 h3 a4 h4 a5 h5 a6 h6 x0 x1 x2 q κ hx0 hx1 ((i 2).val + 1) le_rfl
  rw [Nat.sub_self, Nat.mul_zero] at h
  unfold k0_pay35
  refine (shapeCast_apply _ _ (ix3 u0 r l) (ix2 r l) (by
    rw [Shape.rowMajor_val_three, Shape.rowMajor_val_two]
    show r.val * 128 + l.val = (0 * 128 + r.val) * 128 + l.val
    omega)).trans ?_
  refine (select_of (left_lane l r) _ _).trans ?_
  by_cases h0 : l.val / 64 = 0
  · rw [if_pos h0, h0]
    exact h.out0 r l
  · rw [if_neg h0, show l.val / 64 = 1 by omega]
    exact h.out1 r l

end Reals

end Point

end Cert.KernelSbIdeal.Sb

end
-- ==== Proof.SbFold.lean ====
/-
  Stick-breaking attention's grid: what the result array holds. Each point writes its own block, computed from the
  query block, and the keys and values of its batch and pair of heads.
-/
module

public import proofs.«01_k».proof.Proof.SbLoop

@[expose] public section

noncomputable section

namespace Cert.KernelSbIdeal.Sb

open Idealize.ShloMosaic Idealize.ShloMosaic.TcCoe Idealize.SL.Sem Idealize.ShloMosaic.ValueIdx Idealize.ShloMosaic.Tactic
open Cert.KernelSbIdeal Cert.KernelSbIdeal.Gen Cert.KernelSbIdeal.Value Cert.Kit

/-- Column `e` of the head that column `n` belongs to. -/
abbrev headCol (n : Fin 512) (e : Fin 64) : Fin 512 := ⟨64 * (n.val / 64) + e.val, by have := n.isLt; have := e.isLt; omega⟩

/-- The scores of the row at batch `b` and position `t`, under the head of column `n`. -/
def scores (Q K : FVec Ideal S4x4096x512 .bf16) (b : Fin 4) (t : Fin 4096) (n : Fin 512) (s : Fin 4096) : ℝ :=
  ∑ e : Fin 64, (Q (ix3 b t (headCol n e)) : EReal).toReal * (K (ix3 b s (headCol n e)) : EReal).toReal

/-- Stick-breaking attention: column `n` of the row at batch `b` and position `t`. -/
def attend (Q K V : FVec Ideal S4x4096x512 .bf16) (b : Fin 4) (t : Fin 4096) (n : Fin 512) : EReal :=
  part (scores Q K b t n) t.val 0 (fun s => V (ix3 b s n))

/-- A pair of heads' lane sum, masked to one head, is the head's own. -/
theorem score_head (Q K : FVec Ideal S4x4096x512 .bf16) (b : Fin 4) (t s : Fin 4096) (p : Nat) (hp : p < 4) (l : Fin 128) :
    score (fun s d => (K (ix3 b s ⟨128 * p + d.val, by have := d.isLt; omega⟩) : EReal).toReal) (l.val / 64)
        (fun d => (Q (ix3 b t ⟨128 * p + d.val, by have := d.isLt; omega⟩) : EReal).toReal) s
      = scores Q K b t ⟨128 * p + l.val, by have := l.isLt; omega⟩ s := by
  have hl := l.isLt
  unfold score scores
  rw [← Equiv.sum_comp (finProdFinEquiv (m := 2) (n := 64)), Fintype.sum_prod_type, Finset.sum_eq_single (⟨l.val / 64, by omega⟩ : Fin 2)]
  · refine Finset.sum_congr rfl fun e _ => ?_
    have he := e.isLt
    have hv : (finProdFinEquiv ((⟨l.val / 64, by omega⟩ : Fin 2), e)).val = e.val + 64 * (l.val / 64) := rfl
    have hc : (⟨128 * p + (finProdFinEquiv ((⟨l.val / 64, by omega⟩ : Fin 2), e)).val, by rw [hv]; omega⟩ : Fin 512)
        = headCol ⟨128 * p + l.val, by omega⟩ e := Fin.ext (by
      show 128 * p + (finProdFinEquiv ((⟨l.val / 64, by omega⟩ : Fin 2), e)).val = 64 * ((128 * p + l.val) / 64) + e.val
      rw [hv]; omega)
    rw [if_pos (by rw [hv]; omega)]
    exact congrArg (fun c : Fin 512 => (Q (ix3 b t c) : EReal).toReal * (K (ix3 b s c) : EReal).toReal) hc
  · intro h _ hh
    refine Finset.sum_eq_zero fun e _ => ?_
    have he := e.isLt
    have hv : (finProdFinEquiv (h, e)).val = e.val + 64 * h.val := rfl
    rw [if_neg (by rw [hv]; exact fun h' => hh (Fin.ext (by show h.val = l.val / 64; omega))), zero_mul]
  · exact fun h => absurd (Finset.mem_univ _) h

variable (m : (ℓ : Loc nD τ sig) → Buf (Elt Ideal) ℓ)

abbrev qA (c : Dev nD) : FVec Ideal S4x4096x512 .bf16 := m ((c : Thread nD τ).loc main_arg0)
abbrev kA (c : Dev nD) : FVec Ideal S4x4096x512 .bf16 := m ((c : Thread nD τ).loc main_arg1)
abbrev vA (c : Dev nD) : FVec Ideal S4x4096x512 .bf16 := m ((c : Thread nD τ).loc main_arg2)

theorem points : cfg0.N = 512 := N_0

theorem coord_query : ∀ t : Fin cfg0.N, (grid0.coords t 2).val = t.val % 32 := (by decide +kernel : ∀ t : Fin grid0.N, _)

theorem index_q : ∀ t : Fin cfg0.N, win0_0.index t (0 : Fin 3) = t.val / 128 ∧ win0_0.index t (1 : Fin 3) = t.val % 32 ∧ win0_0.index t (2 : Fin 3) = t.val / 32 % 4 :=
  (by decide +kernel : ∀ t : Fin grid0.N, _)
theorem index_k : ∀ t : Fin cfg0.N, win0_1.index t (0 : Fin 3) = t.val / 128 ∧ win0_1.index t (1 : Fin 3) = 0 ∧ win0_1.index t (2 : Fin 3) = t.val / 32 % 4 :=
  (by decide +kernel : ∀ t : Fin grid0.N, _)
theorem index_v : ∀ t : Fin cfg0.N, win0_2.index t (0 : Fin 3) = t.val / 128 ∧ win0_2.index t (1 : Fin 3) = 0 ∧ win0_2.index t (2 : Fin 3) = t.val / 32 % 4 :=
  (by decide +kernel : ∀ t : Fin grid0.N, _)
theorem index_o : ∀ t : Fin cfg0.N, win0_3.index t (0 : Fin 3) = t.val / 128 ∧ win0_3.index t (1 : Fin 3) = t.val % 32 ∧ win0_3.index t (2 : Fin 3) = t.val / 32 % 4 :=
  (by decide +kernel : ∀ t : Fin grid0.N, _)

/-- The batch, the rows and the columns that point `t` works on. -/
abbrev bat (t : Fin cfg0.N) : Fin 4 := ⟨t.val / 128, by have := lt_of_lt_of_eq t.isLt points; omega⟩
abbrev row (t : Fin cfg0.N) (r : Fin 128) : Fin 4096 := ⟨128 * (t.val % 32) + r.val, by have := r.isLt; omega⟩
abbrev col (t : Fin cfg0.N) (l : Fin 128) : Fin 512 := ⟨128 * (t.val / 32 % 4) + l.val, by have := l.isLt; omega⟩

theorem block_q (c : Dev nD) (t : Fin cfg0.N) (r d : Fin 128) : iblk m c 0 t (ix3 u0 r d) = qA m c (ix3 (bat t) (row t r) (col t d)) := by
  unfold iblk
  rw [View.read_apply, show qA m c = V m c main_arg0 from (V_main_arg0 m c).symm]
  refine congrArg (V m c main_arg0) (funext fun a => Fin.ext ?_)
  match a with
  | ⟨0, _⟩ => show win0_0.index t 0 * 1 + 1 * 0 = t.val / 128; rw [(index_q t).1]; omega
  | ⟨1, _⟩ => show win0_0.index t 1 * 128 + 1 * r.val = 128 * (t.val % 32) + r.val; rw [(index_q t).2.1]; omega
  | ⟨2, _⟩ => show win0_0.index t 2 * 128 + 1 * d.val = 128 * (t.val / 32 % 4) + d.val; rw [(index_q t).2.2]; omega

theorem block_k (c : Dev nD) (t : Fin cfg0.N) (s : Fin 4096) (d : Fin 128) : iblk m c 1 t (ix3 u0 s d) = kA m c (ix3 (bat t) s (col t d)) := by
  unfold iblk
  rw [View.read_apply, show kA m c = V m c main_arg1 from (V_main_arg1 m c).symm]
  refine congrArg (V m c main_arg1) (funext fun a => Fin.ext ?_)
  match a with
  | ⟨0, _⟩ => show win0_1.index t 0 * 1 + 1 * 0 = t.val / 128; rw [(index_k t).1]; omega
  | ⟨1, _⟩ => show win0_1.index t 1 * 4096 + 1 * s.val = s.val; rw [(index_k t).2.1]; omega
  | ⟨2, _⟩ => show win0_1.index t 2 * 128 + 1 * d.val = 128 * (t.val / 32 % 4) + d.val; rw [(index_k t).2.2]; omega

theorem block_v (c : Dev nD) (t : Fin cfg0.N) (s : Fin 4096) (d : Fin 128) : iblk m c 2 t (ix3 u0 s d) = vA m c (ix3 (bat t) s (col t d)) := by
  unfold iblk
  rw [View.read_apply, show vA m c = V m c main_arg2 from (V_main_arg2 m c).symm]
  refine congrArg (V m c main_arg2) (funext fun a => Fin.ext ?_)
  match a with
  | ⟨0, _⟩ => show win0_2.index t 0 * 1 + 1 * 0 = t.val / 128; rw [(index_v t).1]; omega
  | ⟨1, _⟩ => show win0_2.index t 1 * 4096 + 1 * s.val = s.val; rw [(index_v t).2.1]; omega
  | ⟨2, _⟩ => show win0_2.index t 2 * 128 + 1 * d.val = 128 * (t.val / 32 % 4) + d.val; rw [(index_v t).2.2]; omega

/-- What point `t` writes, entry by entry. -/
theorem point_apply (c : Dev nD) (hq : ∀ i, qA m c i = ((qA m c i : EReal).toReal : EReal)) (hk : ∀ i, kA m c i = ((kA m c i : EReal).toReal : EReal))
    (t : Fin cfg0.N) (r l : Fin 128) :
    out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) (ix3 u0 r l)
      = attend (qA m c) (kA m c) (vA m c) (bat t) (row t r) (col t l) := by
  rw [out_apply c (grid0.coords t) (ms0_0 t) (hs0_0 t) (ms0_1 t) (hs0_1 t) (ms0_2 t) (hs0_2 t) (ms0_3 t) (hs0_3 t)
    (iblk m c 0 t) (iblk m c 1 t) (iblk m c 2 t) (fun r d => (qA m c (ix3 (bat t) (row t r) (col t d)) : EReal).toReal)
    (fun s d => (kA m c (ix3 (bat t) s (col t d)) : EReal).toReal) (fun r d => (block_q m c t r d).trans (hq _)) (fun s d => (block_k m c t s d).trans (hk _)),
    coord_query]
  unfold attend
  have h1 := funext fun s => score_head (qA m c) (kA m c) (bat t) (row t r) s (t.val / 32 % 4) (Nat.mod_lt _ (by decide)) l
  have h2 := funext fun s => block_v m c t s l
  rw [h2]
  exact congrArg (fun f => part f _ 0 _) h1

/-- The result array. -/
def G3 (c : Dev nD) : FVec Ideal S4x4096x512 .bf16 := fun i => attend (qA m c) (kA m c) (vA m c) (i 0) (i 1) (i 2)

theorem mem_block (t : Fin cfg0.N) (i : S4x4096x512.Idx) : i ∈ ((cfg0.win 3).blk t).view.set
    ↔ ∀ a : Fin 3, win0_3.index t a * S1x128x128.size a ≤ (i a).val ∧ (i a).val < win0_3.index t a * S1x128x128.size a + S1x128x128.size a := by
  show i ∈ ((View.whole main_v0).slice (win0_3.rect t)).set ↔ _
  rw [View.set_slice_whole, Rect.mem_set_unit]
  exact Iff.rfl

theorem result_eq (c : Dev nD) (hq : ∀ i, qA m c i = ((qA m c i : EReal).toReal : EReal)) (hk : ∀ i, kA m c i = ((kA m c i : EReal).toReal : EReal)) :
    (dats m 0 c).arrAt 3 cfg0.N = G3 m c := by
  refine (dats m 0 c).arrAt_eq_of_cover 3 (G3 m c) (fun t _ => ?_) (fun i => ?_)
  · rw [flushed3_A]
    funext y
    have hy0 : (y 0).val < 1 := (y 0).isLt
    have hy1 : (y 1).val < 128 := (y 1).isLt
    have hy2 : (y 2).val < 128 := (y 2).isLt
    have hl : (cfg0.win 3).xinj (grid0.coords t) y = ix3 u0 (⟨(y 1).val, hy1⟩ : Fin 128) (⟨(y 2).val, hy2⟩ : Fin 128) := by
      funext a; apply Fin.ext
      match a with
      | ⟨0, _⟩ => show (y 0).val = 0; omega
      | ⟨1, _⟩ => rfl
      | ⟨2, _⟩ => rfl
    have he : ((cfg0.win 3).blk t).view.emb y = ix3 (bat t) (row t ⟨(y 1).val, hy1⟩) (col t ⟨(y 2).val, hy2⟩) := by
      funext a; apply Fin.ext
      match a with
      | ⟨0, _⟩ => show win0_3.index t 0 * 1 + 1 * (y 0).val = t.val / 128; rw [(index_o t).1]; omega
      | ⟨1, _⟩ => show win0_3.index t 1 * 128 + 1 * (y 1).val = 128 * (t.val % 32) + (y 1).val; rw [(index_o t).2.1]; omega
      | ⟨2, _⟩ => show win0_3.index t 2 * 128 + 1 * (y 2).val = 128 * (t.val / 32 % 4) + (y 2).val; rw [(index_o t).2.2]; omega
    rw [View.read_apply]
    show out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) ((cfg0.win 3).xinj (grid0.coords t) y) = G3 m c (((cfg0.win 3).blk t).view.emb y)
    rw [hl, he]
    exact point_apply m c hq hk t _ _
  · have hi0 : (i 0).val < 4 := (i 0).isLt
    have hi1 : (i 1).val < 4096 := (i 1).isLt
    have hi2 : (i 2).val < 512 := (i 2).isLt
    have hN := points
    refine ⟨⟨128 * (i 0).val + 32 * ((i 2).val / 128) + (i 1).val / 128, by omega⟩, flush0_3 _, ?_⟩
    refine (mem_block _ i).2 ?_
    obtain ⟨e0, e1, e2⟩ := index_o ⟨128 * (i 0).val + 32 * ((i 2).val / 128) + (i 1).val / 128, by omega⟩
    intro a
    match a with
    | ⟨0, _⟩ => show win0_3.index _ 0 * 1 ≤ (i 0).val ∧ (i 0).val < win0_3.index _ 0 * 1 + 1; rw [e0]; dsimp only; omega
    | ⟨1, _⟩ => show win0_3.index _ 1 * 128 ≤ (i 1).val ∧ (i 1).val < win0_3.index _ 1 * 128 + 128; rw [e1]; dsimp only; omega
    | ⟨2, _⟩ => show win0_3.index _ 2 * 128 ≤ (i 2).val ∧ (i 2).val < win0_3.index _ 2 * 128 + 128; rw [e2]; dsimp only; omega

end Cert.KernelSbIdeal.Sb

end
-- ==== Proof.SbRef.lean ====
/-
  Stick-breaking attention as the reference writes it: the logs of the logistic function through softplus, the masked
  log-rests' sums from each key to the end, the weights, and the weighted sum of the values.
-/
module

public import proofs.«01_k».proof.Proof.SbFold
public import proofs.«01_k».proof.Proof.Gen.ReferenceSbIdeal.Read

@[expose] public section

noncomputable section

namespace Cert.ReferenceSbIdeal.Sb

open Idealize.ShloMosaic Idealize.SL.Sem Idealize.ShloMosaic.ValueIdx
open Cert.ReferenceSbIdeal Cert.ReferenceSbIdeal.Gen Cert.ReferenceSbIdeal.Read Cert.Kit
open Cert.KernelSbIdeal.Sb (lb restAt weight tail part scores attend headCol)

/-! ## A running sum to the end of a row -/

theorem foldl_sum {β : Type} (l : List β) (g : β → EReal) (v : EReal) : l.foldl (fun r n => r + g n) v = v + (l.map g).sum := by
  induction l generalizing v with
  | nil => exact (add_zero v).symm
  | cons a l ih => rw [List.foldl_cons, ih, List.map_cons, List.sum_cons, add_assoc]

/-- A window sum is the sum over the window's places: the operand's entry, or the start value outside. -/
theorem window_sum {s t u : Shape} (window strides lo hi : Fin s.rank → Nat) (x : FVec Ideal s .f32) (init : FVec Ideal u .f32)
    (h : s.ReduceWindows window strides lo hi t) (hu : 0 < u.numel) (j : t.Idx) :
    (Host.reduceWindowAdd window strides lo hi x init h hu j : EReal) = (init (Shape.Idx.first hu) : EReal) + ∑ w : (⟨s.rank, window⟩ : Shape).Idx,
      (if hin : ∀ a : Fin s.rank, lo a ≤ (j (a.cast h.1.symm)).val * strides a + (w a).val
          ∧ (j (a.cast h.1.symm)).val * strides a + (w a).val - lo a < s.size a then
        (x (fun a => ⟨(j (a.cast h.1.symm)).val * strides a + (w a).val - lo a, (hin a).2⟩) : EReal) else (init (Shape.Idx.first hu) : EReal)) := by
  refine (foldl_sum _ _ _).trans ?_
  rw [← Fin.sum_univ_def]
  refine congrArg _ ((Finset.sum_congr rfl fun n _ => dite_congr rfl (fun _ => rfl) (fun _ => rfl)).trans (Equiv.sum_comp (⟨s.rank, window⟩ : Shape).rowMajor.symm (fun w : (⟨s.rank, window⟩ : Shape).Idx =>
      (if hin : ∀ a : Fin s.rank, lo a ≤ (j (a.cast h.1.symm)).val * strides a + (w a).val
          ∧ (j (a.cast h.1.symm)).val * strides a + (w a).val - lo a < s.size a then
        (x (fun a => ⟨(j (a.cast h.1.symm)).val * strides a + (w a).val - lo a, (hin a).2⟩) : EReal) else (init (Shape.Idx.first hu) : EReal)))))

abbrev W : Shape := ⟨4, ![1, 1, 1, 4096]⟩

/-- The places of a window are those along its last axis. -/
def places : W.Idx ≃ Fin 4096 where
  toFun w := w 3
  invFun k := ix4 u0 u0 u0 k
  left_inv w := by
    funext a
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => exact Fin.ext (by have h : (w 2).val < 1 := (w 2).isLt; show 0 = (w 2).val; omega)
    | ⟨3, _⟩ => rfl
  right_inv k := rfl

/-- The window sum at `(b, h, t, s)` goes from key `s` to the end. -/
theorem window_apply (x : FVec Ideal S4x8x4096x4096 .f32) (b : Fin 4) (h : Fin 8) (t s : Fin 4096) (init : FVec Ideal S_ .f32) (hi : ∀ i, init i = 0) (hw) (hu) :
    Host.reduceWindowAdd ![1, 1, 1, 4096] ![1, 1, 1, 1] ![0, 0, 0, 0] ![0, 0, 0, 4095] x init hw hu (ix4 b h t s)
      = ∑ w : Fin 4096, if hin : s.val + w.val < 4096 then x (ix4 b h t ⟨s.val + w.val, hin⟩) else 0 := by
  refine (window_sum (s := S4x8x4096x4096) (t := S4x8x4096x4096) (u := S_) _ _ _ _ x init hw hu (ix4 b h t s)).trans ?_
  rw [hi, zero_add]
  refine (Equiv.sum_comp places.symm _).symm.trans ?_
  refine Finset.sum_congr rfl fun w _ => ?_
  have hb := b.isLt; have hh := h.isLt; have ht := t.isLt; have hs := s.isLt
  by_cases hin : s.val + w.val < 4096
  · rw [dif_pos hin, dif_pos (fun a => by
      match a with
      | ⟨0, _⟩ => exact ⟨Nat.zero_le _, by show b.val * 1 + 0 - 0 < 4; omega⟩
      | ⟨1, _⟩ => exact ⟨Nat.zero_le _, by show h.val * 1 + 0 - 0 < 8; omega⟩
      | ⟨2, _⟩ => exact ⟨Nat.zero_le _, by show t.val * 1 + 0 - 0 < 4096; omega⟩
      | ⟨3, _⟩ => exact ⟨Nat.zero_le _, by show s.val * 1 + w.val - 0 < 4096; omega⟩)]
    refine congrArg x (funext fun a => Fin.ext ?_)
    match a with
    | ⟨0, _⟩ => show b.val * 1 + 0 - 0 = b.val; omega
    | ⟨1, _⟩ => show h.val * 1 + 0 - 0 = h.val; omega
    | ⟨2, _⟩ => show t.val * 1 + 0 - 0 = t.val; omega
    | ⟨3, _⟩ => show s.val * 1 + w.val - 0 = s.val + w.val; omega
  · rw [dif_neg hin, dif_neg (fun hf => by
      have h3 := (hf 3).2
      change s.val * 1 + w.val - 0 < 4096 at h3
      omega)]

/-- A row's sum from `s` on, less its entry at `s`. -/
theorem row_rest (f : Fin 4096 → ℝ) (s : Fin 4096) :
    (∑ w : Fin 4096, if hin : s.val + w.val < 4096 then f ⟨s.val + w.val, hin⟩ else 0) - f s = ∑ j : Fin 4096, if s.val < j.val then f j else 0 := by
  have hs := s.isLt
  have hj : (∑ w : Fin 4096, if hin : s.val + w.val < 4096 then f ⟨s.val + w.val, hin⟩ else 0) = ∑ j : Fin 4096, if s.val ≤ j.val then f j else 0 := by
    refine Finset.sum_bij_ne_zero (fun w _ hne => if hin : s.val + w.val < 4096 then ⟨s.val + w.val, hin⟩ else s) (fun _ _ _ => Finset.mem_univ _) ?_ ?_ ?_
    · intro w _ hw w' _ hw' e
      have h1 : s.val + w.val < 4096 := by by_contra h; exact hw (dif_neg h)
      have h2 : s.val + w'.val < 4096 := by by_contra h; exact hw' (dif_neg h)
      rw [dif_pos h1, dif_pos h2] at e
      have := congrArg Fin.val e
      exact Fin.ext (by dsimp only at this; omega)
    · intro j _ hne
      have hle : s.val ≤ j.val := by by_contra h; exact hne (if_neg h)
      have hjl := j.isLt
      have hlt : s.val + (j.val - s.val) < 4096 := by omega
      refine ⟨⟨j.val - s.val, by omega⟩, Finset.mem_univ _, ?_, ?_⟩
      · rw [dif_pos hlt]
        rw [if_pos hle] at hne
        exact (congrArg f (Fin.ext (show s.val + (j.val - s.val) = j.val by omega))).trans_ne hne
      · rw [dif_pos hlt]; exact Fin.ext (show s.val + (j.val - s.val) = j.val by omega)
    · intro w _ hne
      have h1 : s.val + w.val < 4096 := by by_contra h; exact hne (dif_neg h)
      rw [dif_pos h1, dif_pos h1, if_pos (show s.val ≤ s.val + w.val by omega)]
  have hsplit : (∑ j : Fin 4096, if s.val ≤ j.val then f j else 0) = f s + ∑ j : Fin 4096, if s.val < j.val then f j else 0 := by
    rw [← Finset.sum_erase_add _ _ (Finset.mem_univ s), if_pos le_rfl, add_comm, ← Finset.sum_erase_add (f := fun j : Fin 4096 => if s.val < j.val then f j else 0) _ (Finset.mem_univ s),
      if_neg (lt_irrefl _), add_zero]
    refine congrArg _ (Finset.sum_congr rfl fun j hj => if_congr ?_ rfl rfl)
    have hne : j.val ≠ s.val := fun e => (Finset.mem_erase.mp hj).1 (Fin.ext e)
    omega
  rw [hj, hsplit, add_sub_cancel_left]

/-! ## The log of the logistic function -/

/-- The reference's, through softplus of the negated score. -/
def logSig (z : EReal) : EReal :=
  -(Scalar.select (FloatOps.cmpf (F := Ideal) (φ := .f32) .une (-z - Ideal.ofBits .f32 0x00000000#32 : EReal) (-z - Ideal.ofBits .f32 0x00000000#32 : EReal))
    (-z + Ideal.ofBits .f32 0x00000000#32)
    (max (-z) (Ideal.ofBits .f32 0x00000000#32)
      + Ideal.log (1 + Ideal.exp (-(max (-z - Ideal.ofBits .f32 0x00000000#32) (-(-z - Ideal.ofBits .f32 0x00000000#32)))))))

theorem logSig_coe (x : ℝ) : logSig x = (lb x : EReal) := by
  have hpos : ¬ (1 + Real.exp (-|x|)) ≤ 0 := not_le.mpr (by positivity)
  have hne : FloatOps.cmpf (F := Ideal) (φ := .f32) .une (-x - Ideal.ofBits .f32 0x00000000#32 : EReal) (-x - Ideal.ofBits .f32 0x00000000#32 : EReal) = 0#1 := by
    show BitVec.ofBool _ = _
    simp
  have hmax : max (-x) (- -x) = |x| := by rw [neg_neg, max_comm, ← abs_eq_max_neg]
  unfold logSig
  rw [hne, Ideal.ofBits_zero_f32, sub_zero]
  show -(max (-(x : EReal)) 0 + Ideal.log (1 + Ideal.exp (-(max (-(x : EReal)) (-(-(x : EReal))))))) = _
  rw [← EReal.coe_neg, ← EReal.coe_neg, ← coe_max, ← EReal.coe_neg, Ideal.exp_coe, ← EReal.coe_one, ← EReal.coe_add, Ideal.log_coe, hmax,
    if_neg hpos, ← EReal.coe_zero, ← coe_max, ← EReal.coe_add, ← EReal.coe_neg]
  refine congrArg _ ?_
  have hm : max (-x) 0 = -(min x 0) := by rw [← neg_zero, max_neg_neg, neg_zero]
  rw [hm, lb]
  ring

theorem lb_neg (x : ℝ) : lb (-x) = lb x - x := by
  have h : min (-x) 0 = min x 0 - x := by
    rcases le_total x 0 with h | h
    · rw [min_eq_left h, min_eq_right (by linarith), sub_self]
    · rw [min_eq_right h, min_eq_left (by linarith), zero_sub]
  rw [lb, lb, abs_neg, h]
  ring

/-! ## The reference's arrays -/

/-- The head of column `n`, and the column's place in it. -/
abbrev headOf (n : Fin 512) : Fin 8 := ⟨n.val / 64, by have := n.isLt; omega⟩
abbrev placeOf (n : Fin 512) : Fin 64 := ⟨n.val % 64, Nat.mod_lt _ (by decide)⟩

variable (Q K V : FVec Ideal S4x4096x512 .bf16)

theorem query_apply (b : Fin 4) (t : Fin 4096) (n : Fin 512) (e : Fin 64) :
    val_main_v1 (F := Ideal) Q (ix4 b t (headOf n) e) = Q (ix3 b t (headCol n e)) := by
  have hb := b.isLt; have ht := t.isLt; have hn := n.isLt; have he := e.isLt
  rw [val_main_v1_apply, val_main_v0_apply]
  refine congrArg Q (funext fun a => Fin.ext ?_)
  match a with
  | ⟨0, _⟩ => show (((b.val * 4096 + t.val) * 8 + n.val / 64) * 64 + e.val) / 2097152 = b.val; omega
  | ⟨1, _⟩ => show (((b.val * 4096 + t.val) * 8 + n.val / 64) * 64 + e.val) / 512 % 4096 = t.val; omega
  | ⟨2, _⟩ => show (((b.val * 4096 + t.val) * 8 + n.val / 64) * 64 + e.val) % 512 = 64 * (n.val / 64) + e.val; omega

theorem key_apply (b : Fin 4) (t : Fin 4096) (n : Fin 512) (e : Fin 64) :
    val_main_v3 (F := Ideal) K (ix4 b t (headOf n) e) = K (ix3 b t (headCol n e)) := query_apply K b t n e

theorem value_apply (b : Fin 4) (t : Fin 4096) (n : Fin 512) (e : Fin 64) :
    val_main_v5 (F := Ideal) V (ix4 b t (headOf n) e) = V (ix3 b t (headCol n e)) := query_apply V b t n e

/-- The causal bit. -/
theorem causal_apply (t s : Fin 4096) : val_main_v12 (F := Ideal) (ix2 t s) = 1#1 ↔ s.val < t.val := by
  have ht := t.isLt
  have hs := s.isLt
  rw [val_main_v12_apply, val_main_v10_apply, val_main_v11_apply, val_main_v8_apply, val_main_v9_apply, val_main_v7_apply, val_main_v7_apply]
  exact word_slt (a := s.val) (b := t.val) (by omega) (by omega)

theorem mask_rest (b : Fin 4) (h : Fin 8) (t s : Fin 4096) : val_main_call2_v1 (F := Ideal) (ix4 b h t s) = 1#1 ↔ s.val < t.val := by
  rw [val_main_call2_v1_apply, show idx_main_call2_v1 (ix4 b h t s) = ix2 t s from eq_ix2 _]
  exact causal_apply t s

theorem mask_weight (b : Fin 4) (h : Fin 8) (t s : Fin 4096) : val_main_call4_v1 (F := Ideal) (ix4 b h t s) = 1#1 ↔ s.val < t.val := by
  rw [val_main_call4_v1_apply, show idx_main_call4_v1 (ix4 b h t s) = ix2 t s from eq_ix2 _]
  exact causal_apply t s

/-- The two logs, as functions of the score. -/
theorem log_beta (i : S4x8x4096x4096.Idx) : val_main_v13 (F := Ideal) Q K i = logSig (val_main_v6 (F := Ideal) Q K i) := by
  show -(Scalar.select (FloatOps.cmpf (F := Ideal) (φ := .f32) .une (-(val_main_v6 (F := Ideal) Q K i) - val_main_call0_call0_v2 (F := Ideal) i : EReal) (-(val_main_v6 (F := Ideal) Q K i) - val_main_call0_call0_v2 (F := Ideal) i : EReal))
    (-(val_main_v6 (F := Ideal) Q K i) + val_main_call0_call0_v5 (F := Ideal) i)
    (max (-(val_main_v6 (F := Ideal) Q K i)) (val_main_call0_call0_v0 (F := Ideal) i)
      + Ideal.log (1 + Ideal.exp (-(max (-(val_main_v6 (F := Ideal) Q K i) - val_main_call0_call0_v2 (F := Ideal) i) (-(-(val_main_v6 (F := Ideal) Q K i) - val_main_call0_call0_v2 (F := Ideal) i))))))) = _
  rw [val_main_call0_call0_v0_apply, val_main_call0_call0_v2_apply, val_main_call0_call0_v5_apply]
  rfl

theorem log_rest (i : S4x8x4096x4096.Idx) : val_main_v15 (F := Ideal) Q K i = logSig (-(val_main_v6 (F := Ideal) Q K i)) := by
  show -(Scalar.select (FloatOps.cmpf (F := Ideal) (φ := .f32) .une (-(-(val_main_v6 (F := Ideal) Q K i)) - val_main_call1_call0_v2 (F := Ideal) i : EReal) (-(-(val_main_v6 (F := Ideal) Q K i)) - val_main_call1_call0_v2 (F := Ideal) i : EReal))
    (-(-(val_main_v6 (F := Ideal) Q K i)) + val_main_call1_call0_v5 (F := Ideal) i)
    (max (-(-(val_main_v6 (F := Ideal) Q K i))) (val_main_call1_call0_v0 (F := Ideal) i)
      + Ideal.log (1 + Ideal.exp (-(max (-(-(val_main_v6 (F := Ideal) Q K i)) - val_main_call1_call0_v2 (F := Ideal) i) (-(-(-(val_main_v6 (F := Ideal) Q K i)) - val_main_call1_call0_v2 (F := Ideal) i))))))) = _
  rw [val_main_call1_call0_v0_apply, val_main_call1_call0_v2_apply, val_main_call1_call0_v5_apply]
  rfl

section Finite
variable (hQ : ∀ i, Q i = ((Q i : EReal).toReal : EReal)) (hK : ∀ i, K i = ((K i : EReal).toReal : EReal))
include hQ hK

theorem score_apply (b : Fin 4) (t s : Fin 4096) (n : Fin 512) :
    val_main_v6 (F := Ideal) Q K (ix4 b (headOf n) t s) = (scores Q K b t n s : EReal) := by
  rw [val_main_v6_apply, scores, coe_sum]
  refine Finset.sum_congr rfl fun e _ => ?_
  rw [show lidx_main_v6 (ix4 b (headOf n) t s) e = ix4 b t (headOf n) e from eq_ix4 _,
    show ridx_main_v6 (ix4 b (headOf n) t s) e = ix4 b s (headOf n) e from eq_ix4 _, query_apply, key_apply, EReal.coe_mul, ← hQ, ← hK]

theorem rest_apply (b : Fin 4) (t s : Fin 4096) (n : Fin 512) :
    val_main_v16 (F := Ideal) Q K (ix4 b (headOf n) t s) = (restAt (scores Q K b t n) t.val s : EReal) := by
  rw [val_main_v16_apply, select_of (mask_rest b (headOf n) t s), log_rest, score_apply Q K hQ hK, ← EReal.coe_neg, logSig_coe, lb_neg,
    val_main_call2_v2_apply, restAt, coe_ite]
  exact if_congr Iff.rfl rfl Ideal.ofBits_zero_f32

theorem after_apply (b : Fin 4) (t s : Fin 4096) (n : Fin 512) : val_main_v18 (F := Ideal) Q K (ix4 b (headOf n) t s)
    = ((∑ j : Fin 4096, if s.val < j.val then restAt (scores Q K b t n) t.val j else 0 : ℝ) : EReal) := by
  rw [val_main_v18_apply]
  unfold val_main_v17
  show Host.reduceWindowAdd (F := Ideal) _ _ _ _ _ _ _ _ _ - _ = _
  rw [window_apply _ b (headOf n) t s _ (fun i => by rw [val_main_call3_v0_apply]; exact Ideal.ofBits_zero_f32), rest_apply Q K hQ hK, ← row_rest, EReal.coe_sub, coe_sum]
  refine congrArg (· - _) (Finset.sum_congr rfl fun w _ => ?_)
  by_cases hin : s.val + w.val < 4096
  · rw [dif_pos hin, dif_pos hin, rest_apply Q K hQ hK]
  · rw [dif_neg hin, dif_neg hin, EReal.coe_zero]

theorem weight_apply (b : Fin 4) (t s : Fin 4096) (n : Fin 512) :
    val_main_v21 (F := Ideal) Q K (ix4 b (headOf n) t s) = (weight (scores Q K b t n) t.val s : EReal) := by
  rw [val_main_v21_apply, select_of (mask_weight b (headOf n) t s), val_main_v20_apply, val_main_v19_apply]
  show (if s.val < t.val then Ideal.exp (val_main_v13 (F := Ideal) Q K (ix4 b (headOf n) t s) + val_main_v18 (F := Ideal) Q K (ix4 b (headOf n) t s)) else _) = _
  rw [log_beta, score_apply Q K hQ hK, logSig_coe, after_apply Q K hQ hK, ← EReal.coe_add, Ideal.exp_coe, val_main_call4_v2_apply, weight, coe_ite]
  exact if_congr Iff.rfl rfl Ideal.ofBits_zero_f32

/-- The reference's result, entry by entry. -/
theorem result_apply (b : Fin 4) (t : Fin 4096) (n : Fin 512) :
    val_main_v25 (F := Ideal) Q K V (ix3 b t n) = attend Q K V b t n := by
  have hb := b.isLt; have ht := t.isLt; have hn := n.isLt
  have hcol : headCol n (placeOf n) = n := Fin.ext (by show 64 * (n.val / 64) + n.val % 64 = n.val; omega)
  rw [val_main_v25_apply]
  show val_main_v24 (F := Ideal) Q K V (ix3 b t n) = _
  have h1 : idx_main_v24 (ix3 b t n) = ix4 b t (headOf n) (placeOf n) := by
    funext a; apply Fin.ext
    match a with
    | ⟨0, _⟩ => show ((b.val * 4096 + t.val) * 512 + n.val) / 2097152 = b.val; omega
    | ⟨1, _⟩ => show ((b.val * 4096 + t.val) * 512 + n.val) / 512 % 4096 = t.val; omega
    | ⟨2, _⟩ => show ((b.val * 4096 + t.val) * 512 + n.val) / 64 % 8 = n.val / 64; omega
    | ⟨3, _⟩ => show ((b.val * 4096 + t.val) * 512 + n.val) % 64 = n.val % 64; omega
  rw [val_main_v24_apply, h1, val_main_v23_apply, show idx_main_v23 (ix4 b t (headOf n) (placeOf n)) = ix4 b (headOf n) (placeOf n) t from eq_ix4 _, val_main_v22_apply]
  unfold attend part
  refine Finset.sum_congr rfl fun s _ => ?_
  rw [show lidx_main_v22 (ix4 b (headOf n) (placeOf n) t) s = ix4 b s (headOf n) (placeOf n) from eq_ix4 _,
    show ridx_main_v22 (ix4 b (headOf n) (placeOf n) t) s = ix4 b (headOf n) t s from eq_ix4 _, value_apply, hcol, weight_apply Q K hQ hK,
    if_pos (Nat.zero_le _), mul_comm]

end Finite

end Cert.ReferenceSbIdeal.Sb

end
-- ==== Proof.SbClaims.lean ====
/-
  The claims about the stick-breaking attention's call: from finite queries and keys, kernel and reference
  end with one array.
-/
module

public import proofs.«01_k».proof.Defs
public import proofs.«01_k».proof.Proof.Gen.KernelSb.Frame
public import proofs.«01_k».proof.Proof.Gen.KernelSbIdeal.Frame
public import proofs.«01_k».proof.Proof.SbRef

@[expose] public section

noncomputable section

/-- The side conditions of the printed precondition. -/
instance Cert.Pre_finite_qk.facts : Cert.Pre_finite_qk.Facts := ⟨by decide, by decide⟩

namespace Cert.Proof.Sb

open Idealize.ShloMosaic Idealize.SL.Sem Idealize.ShloMosaic.ValueIdx Cert.Kit

theorem frame_kernel : Cert.quiescent_KernelSb := fun m ρ _ => Cert.KernelSb.Gen.frame m ρ

theorem frame_ideal : Cert.quiescent_KernelSbIdeal := fun m ρ _ => Cert.KernelSbIdeal.Gen.frame m ρ

theorem frame_ideal_pre : Cert.quiescent_KernelSbIdeal_pre_finite_qk := fun m ρ _ => Cert.KernelSbIdeal.Gen.frame m ρ

theorem frame_reference : Cert.quiescent_ReferenceSbIdeal := fun m ρ _ =>
  (θ_run _ _ _).mono (fun r h => ⟨fun c => (h c).2, sem_eq_zero_of_no_sems (by decide) r.2⟩)
    (Cert.ReferenceSbIdeal.Value.run (F := Ideal) m ρ)

theorem frame_reference_pre : Cert.quiescent_ReferenceSbIdeal_pre_finite_qk := fun m ρ _ => frame_reference m ρ trivial

/-- An entry whose absolute value is below the infinity word is a real number. -/
theorem real_of_bit (x : EReal) (h : FloatOps.cmpf (F := Ideal) (φ := .f32) .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at h
  exact coe_of_abs_lt (by
    by_contra hn
    have h0 : FloatOps.cmpf (F := Ideal) (φ := .f32) .olt (max x (-x)) (⊤ : EReal) = 0#1 := by
      show BitVec.ofBool (decide (max x (-x) < ⊤)) = 0#1
      rw [decide_eq_false hn]; rfl
    rw [h0] at h
    exact absurd h (by decide))

/-- Both bits of a set conjunction are set. -/
theorem both_bits : ∀ a b : BitVec 1, a &&& b = 1#1 → a = 1#1 ∧ b = 1#1 := by decide

/-- The precondition, read: queries and keys are real numbers. -/
theorem finite_of_pre (q k v : FVec Ideal Cert.KernelSbIdeal.S4x4096x512 .bf16) (h : Cert.Pre_finite_qk.fn (F := Ideal) q k v = fun _ => 1#1) :
    (∀ i, q i = ((q i : EReal).toReal : EReal)) ∧ ∀ i, k i = ((k i : EReal).toReal : EReal) :=
  ⟨fun i => real_of_bit _ (both_bits _ _ (congrFun h i)).1, fun i => real_of_bit _ (both_bits _ _ (congrFun h i)).2⟩

/-- Kernel and reference end with one array. -/
theorem algebraic : Cert.algebraic_KernelSbIdeal_ReferenceSbIdeal_pre_finite_qk := fun m ρ m' ρ' hpre hag =>
  ⟨fun c => Cert.KernelSbIdeal.Sb.G3 m c,
    (θ_run _ _ _).mono (fun _ h c => ⟨(h c).1.trans (Cert.KernelSbIdeal.Sb.result_eq m c (finite_of_pre _ _ _ (hpre c)).1 (finite_of_pre _ _ _ (hpre c)).2), (h c).2⟩)
      (Cert.KernelSbIdeal.Value.run_blocks m ρ),
    (θ_run _ _ _).mono (fun _ h c => ⟨(h c).1.trans ((Cert.ReferenceSbIdeal.Read.val_main_v25_eq m' c).trans (by
      rw [(hag c).1, (hag c).2.1, (hag c).2.2]
      refine funext fun i => ?_
      rw [eq_ix3 i]
      exact Cert.ReferenceSbIdeal.Sb.result_apply _ _ _ (finite_of_pre _ _ _ (hpre c)).1 (finite_of_pre _ _ _ (hpre c)).2 (i 0) (i 1) (i 2))), (h c).2⟩)
      (Cert.ReferenceSbIdeal.Value.run (F := Ideal) m' ρ')⟩

end Cert.Proof.Sb

end
-- ==== Proof.Norm.lean ====
/-
  Row norms and gates shared by the calls: the root-mean-square norm of a row under a gain, and the exact gelu, as
  functions of extended reals; the kernels' vector forms read at an index.
-/
module

public import proofs.«01_k».proof.Proof.Words

@[expose] public section

noncomputable section

namespace Cert.Kit

open Idealize.ShloMosaic Idealize.ShloMosaic.ValueIdx

/-- An index of a rank-two array from its two coordinates. -/
theorem at2 {n0 n1 : Nat} (z : (Sh2 n0 n1).Idx) (a : Fin n0) (b : Fin n1) (h0 : (z 0).val = a.val) (h1 : (z 1).val = b.val) : z = ix2 a b := by
  funext c; apply Fin.ext
  match c with
  | ⟨0, _⟩ => exact h0
  | ⟨1, _⟩ => exact h1

/-- The norm's epsilon, 1e-6. -/
def eps : EReal := Ideal.ofBits .f32 0x358637BD#32

/-- One over a row's root mean square, over `N` entries. -/
def invRms {n : Nat} (N : EReal) (x : Fin n → EReal) : EReal := Ideal.rsqrt (Ideal.div (∑ k, x k * x k) N + eps)

/-- A row's norm under a gain. -/
def normed {n : Nat} (N : EReal) (x g : Fin n → EReal) (j : Fin n) : EReal := x j * invRms N x * g j

/-- The exact gelu. -/
def gelu (x : EReal) : EReal :=
  Ideal.ofBits .f32 0x3F000000#32 * x * (Ideal.ofBits .f32 0x3F800000#32 + Ideal.erf (x * Ideal.ofBits .f32 0x3F3504F3#32))

/-- The gelu through the complementary error function of the negated argument. -/
theorem gelu_erfc (x : EReal) :
    Ideal.ofBits .f32 0x3F000000#32 * x * Ideal.erfc (-x * Ideal.ofBits .f32 0x3F3504F3#32) = gelu x := by
  rw [gelu, EReal.neg_mul, Ideal.erfc_neg, one_word]

section Rows
variable {m n : Nat}

/-- One row spread over all rows. -/
theorem rowSpread_apply {α : Type} (v : (Sh2 1 n).Idx → α) (h : (Sh2 1 n).Broadcasts (Sh2 m n)) (a : Fin m) (b : Fin n) :
    broadcastTo (Sh2 m n) v h (ix2 a b) = v (ix2 u0 b) := by
  refine broadcastTo_apply v h (ix2 a b) (ix2 u0 b) fun c => ?_
  match c with
  | ⟨0, _⟩ => rfl
  | ⟨1, _⟩ =>
    show b.val = if n = 1 then 0 else b.val
    have := b.isLt
    split <;> omega

/-- The kernels' norm of a block of rows. -/
theorem normBlock_apply (x : FVec Ideal (Sh2 m n) .f32) (g : FVec Ideal (Sh2 1 n) .f32) (w : BitVec 32)
    (hr : (Sh2 m n).Reduces [1] (⟨1, ![m]⟩ : Shape)) (hφ : FKind.Formats .f32) (hacc : (0x00000000#32 : BitVec 32) = FKind.add.neutral .f32 hφ)
    (hc : (⟨1, ![m]⟩ : Shape).ShapeCasts (Sh2 m 1)) (hb : (Sh2 m 1).Broadcasts (Sh2 m n)) (hg : (Sh2 1 n).Broadcasts (Sh2 m n))
    (a : Fin m) (b : Fin n) :
    (mulf (mulf x (broadcastTo (Sh2 m n) (rsqrt (addf (divf (shapeCast (Sh2 m 1) (multiReduction .add [1] (⟨1, ![m]⟩ : Shape) (mulf x x) 0x00000000#32 hr hφ hacc) hc)
        (broadcast (Sh2 m 1) (Scalar.ofBits .f32 w))) (broadcast (Sh2 m 1) (Scalar.ofBits .f32 0x358637BD#32)))) hb)) (broadcastTo (Sh2 m n) g hg) : FVec Ideal (Sh2 m n) .f32) (ix2 a b)
      = normed (Ideal.ofBits .f32 w) (fun k => x (ix2 a k)) (fun k => g (ix2 u0 k)) b := by
  show x (ix2 a b) * broadcastTo (Sh2 m n) _ hb (ix2 a b) * broadcastTo (Sh2 m n) g hg (ix2 a b) = _
  rw [rowSpread_apply, spread_apply]
  show x (ix2 a b) * Ideal.rsqrt (Ideal.div (shapeCast (Sh2 m 1) _ hc (ix2 a u0)) (Ideal.ofBits .f32 w) + eps) * g (ix2 u0 b) = _
  rw [column_apply, rowSum_apply]
  rfl

end Rows

end Cert.Kit

end
-- ==== Proof.IoStep.lean ====
/-
  The odd layers' input projection: what one row block computes, and the five result arrays.
-/
module

public import proofs.«01_k».proof.Proof.Gen.KernelIoIdeal.Value
public import proofs.«01_k».proof.Proof.Norm

@[expose] public section

noncomputable section

namespace Cert.KernelIoIdeal.Io

open Idealize.ShloMosaic Idealize.ShloMosaic.TcCoe Idealize.SL.Sem Idealize.ShloMosaic.ValueIdx Idealize.ShloMosaic.Tactic
open Cert.KernelIoIdeal Cert.KernelIoIdeal.Gen Cert.KernelIoIdeal.Value Cert.Kit

/-- The words of 1024 and of 512. -/
abbrev w1024 : EReal := Ideal.ofBits .f32 0x44800000#32
abbrev w512 : EReal := Ideal.ofBits .f32 0x44000000#32

/-- Column `n` of the projection of a normed row. -/
def project (x g : Fin 1024 → EReal) (w : Fin 1024 → Fin 2560 → EReal) (n : Fin 2560) : EReal := ∑ k, normed w1024 x g k * w k n

/-- The projection's columns by result: `512 p + d`. -/
abbrev place (p : Nat) (hp : p < 5) (d : Fin 512) : Fin 2560 := ⟨d.val + 512 * p, by have := d.isLt; omega⟩

/-- The gated values of a row. -/
def gated (x g : Fin 1024 → EReal) (w : Fin 1024 → Fin 2560 → EReal) (d : Fin 512) : EReal := gelu (project x g w (place 1 (by decide) d))

section Block
variable (x : FVec Ideal S512x1024 .f32) (g : FVec Ideal S1x1024 .f32) (w : FVec Ideal S1024x2560 .bf16) (vg : FVec Ideal S1x512 .f32)

/-- The row, the gain and the weights of a block, as functions. -/
abbrev rowOf (r : Fin 512) : Fin 1024 → EReal := fun k => x (ix2 r k)
abbrev gainOf : Fin 1024 → EReal := fun k => g (ix2 u0 k)
abbrev weightOf : Fin 1024 → Fin 2560 → EReal := fun k n => w (ix2 k n)

theorem project_apply (r : Fin 512) (n : Fin 2560) :
    k0_pay5 (F := Ideal) x g w (ix2 r n) = project (rowOf x r) (gainOf g) (weightOf w) n := by
  unfold k0_pay5
  dsimp only
  rw [shapeCast_self, shapeCast_self]
  refine (matmul_rowCol _ _ _ _ _ _ _).trans ?_
  rw [constant_apply, Ideal.ofBits_zero_f32, zero_add]
  refine Finset.sum_congr rfl fun k _ => congrArg (· * w (ix2 k n)) ?_
  exact normBlock_apply x g _ _ _ _ _ _ _ r k

/-- The slice of the projection that holds result `p`. -/
theorem u_apply (r d : Fin 512) : E4 (F := Ideal) x g w (ix2 r d) = gelu (project (rowOf x r) (gainOf g) (weightOf w) (place 0 (by decide) d)) := by
  rw [← project_apply x g w r, ← show ix4_0 (ix2 r d) = ix2 r (place 0 (by decide) d) from eq_ix2 _]
  rfl

theorem q_apply (r d : Fin 512) : E6 (F := Ideal) x g w (ix2 r d)
    = project (rowOf x r) (gainOf g) (weightOf w) (place 2 (by decide) d) * Ideal.ofBits .f32 0x3E000000#32 := by
  rw [← project_apply x g w r, ← show ix6_0 (ix2 r d) = ix2 r (place 2 (by decide) d) from eq_ix2 _]
  rfl

theorem k_apply (r d : Fin 512) : E7 (F := Ideal) x g w (ix2 r d) = project (rowOf x r) (gainOf g) (weightOf w) (place 3 (by decide) d) := by
  rw [← project_apply x g w r, ← show ix7_0 (ix2 r d) = ix2 r (place 3 (by decide) d) from eq_ix2 _]
  rfl

theorem v_apply (r d : Fin 512) : E8 (F := Ideal) x g w (ix2 r d) = project (rowOf x r) (gainOf g) (weightOf w) (place 4 (by decide) d) := by
  rw [← project_apply x g w r, ← show ix8_0 (ix2 r d) = ix2 r (place 4 (by decide) d) from eq_ix2 _]
  rfl

/-- The gated values of the block. -/
theorem gated_apply (r d : Fin 512) : k0_pay7 (F := Ideal) x g w (ix2 r d) = gated (rowOf x r) (gainOf g) (weightOf w) d := by
  unfold k0_pay7
  generalize hy : k0_pay5 (F := Ideal) x g w = y
  show gelu (extractStridedSlice S512x512 ![0, 512] y slices_S512x2560_o0_512_S512x512 (ix2 r d)) = _
  rw [extractStridedSlice_apply ![0, 512] _ _ (ix2 r d) (ix2 r (place 1 (by decide) d)) (fun a => match a with
    | ⟨0, _⟩ => by show r.val = 0 + r.val; omega
    | ⟨1, _⟩ => by show d.val + 512 * 1 = 512 + d.val; omega), ← hy, project_apply]
  rfl

theorem vn_apply (r d : Fin 512) : k0_pay1 (F := Ideal) (k0_pay7 (F := Ideal) x g w) vg (ix2 r d)
    = normed w512 (gated (rowOf x r) (gainOf g) (weightOf w)) (fun k => vg (ix2 u0 k)) d := by
  have hrow : (fun k => k0_pay7 (F := Ideal) x g w (ix2 r k)) = gated (rowOf x r) (gainOf g) (weightOf w) := funext fun k => gated_apply x g w r k
  rw [← hrow]
  generalize k0_pay7 (F := Ideal) x g w = y
  unfold k0_pay1
  dsimp only
  rw [shapeCast_self]
  exact normBlock_apply y vg _ _ _ _ _ _ _ r d

end Block

section Out
variable {F : FTy → Type} [FloatOps F]
variable (x0 : Vec F S512x1024 .f32) (x1 : Vec F S1x1024 .f32) (x2 : Vec F S1024x2560 .bf16) (x3 : Vec F S1x512 .f32)

/-- What a point leaves in each result's block. -/
theorem out_u (y : S512x512.Idx) : out0_4 x0 x1 x2 x3 y = E4 x0 x1 x2 y := by
  unfold out0_4
  rw [canon4_eq, View.ld_unit_zero (S := S512x1024) hz2, View.ld_unit_zero (S := S1x1024) hz2, View.ld_unit_zero (S := S1024x2560) hz2]

theorem out_vn : out0_5 x0 x1 x2 x3 = k0_pay1 (k0_pay7 x0 x1 x2) x3 := by
  unfold out0_5
  rw [View.canon_unit_zero hz2, View.ld_unit_zero (S := S512x1024) hz2, View.ld_unit_zero (S := S1x1024) hz2, View.ld_unit_zero (S := S1024x2560) hz2,
    View.ld_unit_zero (S := S1x512) hz2]

theorem out_q (y : S512x512.Idx) : out0_6 x0 x1 x2 x3 y = E6 x0 x1 x2 y := by
  unfold out0_6 k0_pay8
  rw [canon6_eq, View.ld_unit_zero (S := S512x1024) hz2, View.ld_unit_zero (S := S1x1024) hz2, View.ld_unit_zero (S := S1024x2560) hz2]

theorem out_k (y : S512x512.Idx) : out0_7 x0 x1 x2 x3 y = E7 x0 x1 x2 y := by
  unfold out0_7 k0_pay8
  rw [canon7_eq, View.ld_unit_zero (S := S512x1024) hz2, View.ld_unit_zero (S := S1x1024) hz2, View.ld_unit_zero (S := S1024x2560) hz2]

theorem out_v (y : S512x512.Idx) : out0_8 x0 x1 x2 x3 y = E8 x0 x1 x2 y := by
  unfold out0_8 k0_pay8
  rw [canon8_eq, View.ld_unit_zero (S := S512x1024) hz2, View.ld_unit_zero (S := S1x1024) hz2, View.ld_unit_zero (S := S1024x2560) hz2]

end Out

end Cert.KernelIoIdeal.Io

end
-- ==== Proof.IoFold.lean ====
/-
  The odd layers' input projection: the blocks a point reads, and the five arrays the call leaves.
-/
module

public import proofs.«01_k».proof.Proof.IoStep

@[expose] public section

noncomputable section

namespace Cert.KernelIoIdeal.Io

open Idealize.ShloMosaic Idealize.ShloMosaic.TcCoe Idealize.SL.Sem Idealize.ShloMosaic.ValueIdx Idealize.ShloMosaic.Tactic
open Cert.KernelIoIdeal Cert.KernelIoIdeal.Gen Cert.KernelIoIdeal.Value Cert.Kit

variable (m : (ℓ : Loc nD τ sig) → Buf (Elt Ideal) ℓ)

abbrev hA (c : Dev nD) : FVec Ideal S16384x1024 .f32 := m ((c : Thread nD τ).loc main_arg0)
abbrev gA (c : Dev nD) : FVec Ideal S1024 .f32 := m ((c : Thread nD τ).loc main_arg1)
abbrev wA (c : Dev nD) : FVec Ideal S1024x2560 .f32 := m ((c : Thread nD τ).loc main_arg2)
abbrev vgA (c : Dev nD) : FVec Ideal S512 .f32 := m ((c : Thread nD τ).loc main_arg3)

theorem points : cfg0.N = 32 := N_0

theorem index_h : ∀ t : Fin cfg0.N, win0_0.index t (0 : Fin 2) = t.val ∧ win0_0.index t (1 : Fin 2) = 0 := (by decide +kernel : ∀ t : Fin grid0.N, _)
theorem index_g : ∀ t : Fin cfg0.N, win0_1.index t (0 : Fin 2) = 0 ∧ win0_1.index t (1 : Fin 2) = 0 := (by decide +kernel : ∀ t : Fin grid0.N, _)
theorem index_w : ∀ t : Fin cfg0.N, win0_2.index t (0 : Fin 2) = 0 ∧ win0_2.index t (1 : Fin 2) = 0 := (by decide +kernel : ∀ t : Fin grid0.N, _)
theorem index_vg : ∀ t : Fin cfg0.N, win0_3.index t (0 : Fin 2) = 0 ∧ win0_3.index t (1 : Fin 2) = 0 := (by decide +kernel : ∀ t : Fin grid0.N, _)
theorem index_o : ∀ t : Fin cfg0.N, win0_4.index t (0 : Fin 2) = t.val ∧ win0_4.index t (1 : Fin 2) = 0 := (by decide +kernel : ∀ t : Fin grid0.N, _)

/-- Row `r` of the block of point `t`. -/
abbrev row (t : Fin cfg0.N) (r : Fin 512) : Fin 16384 := ⟨512 * t.val + r.val, by have := r.isLt; have := lt_of_lt_of_eq t.isLt points; omega⟩

/-! ## The blocks -/

theorem block_h (c : Dev nD) (t : Fin cfg0.N) (r : Fin 512) (k : Fin 1024) : iblk m c 0 t (ix2 r k) = hA m c (ix2 (row t r) k) := by
  unfold iblk
  rw [View.read_apply, show hA m c = V m c main_arg0 from (V_main_arg0 m c).symm]
  refine congrArg (V m c main_arg0) (funext fun a => Fin.ext ?_)
  match a with
  | ⟨0, _⟩ => show win0_0.index t 0 * 512 + 1 * r.val = 512 * t.val + r.val; rw [(index_h t).1]; omega
  | ⟨1, _⟩ => show win0_0.index t 1 * 1024 + 1 * k.val = k.val; rw [(index_h t).2]; omega

theorem host_g (c : Dev nD) (k : Fin 1024) : V m c main_v0 (ix2 u0 k) = gA m c (ix1 k) := by
  have h : V m c main_v0 = (broadcastInDim S1x1024 ![1] bcast_S1024_S1x1024_1 (gA m c) : FVec Ideal S1x1024 .f32) := by
    show StableHlo.after hostOps0 (fun b => m (c, b)) (Proc.devRef .tc main_v0) = _
    after_results
  rw [h]
  exact broadcastInDim_apply _ _ _ (ix2 u0 k) (ix1 k) (fun a => match a with | ⟨0, _⟩ => rfl)

theorem host_w (c : Dev nD) (k : Fin 1024) (n : Fin 2560) : V m c main_v1 (ix2 k n) = wA m c (ix2 k n) := by
  have h : V m c main_v1 = (truncf .bf16 (wA m c) bitsLt_bf16_f32 : FVec Ideal S1024x2560 .bf16) := by
    show StableHlo.after hostOps0 (fun b => m (c, b)) (Proc.devRef .tc main_v1) = _
    after_results
  rw [h]; rfl

theorem host_vg (c : Dev nD) (k : Fin 512) : V m c main_v2 (ix2 u0 k) = vgA m c (ix1 k) := by
  have h : V m c main_v2 = (broadcastInDim S1x512 ![1] bcast_S512_S1x512_1 (vgA m c) : FVec Ideal S1x512 .f32) := by
    show StableHlo.after hostOps0 (fun b => m (c, b)) (Proc.devRef .tc main_v2) = _
    after_results
  rw [h]
  exact broadcastInDim_apply _ _ _ (ix2 u0 k) (ix1 k) (fun a => match a with | ⟨0, _⟩ => rfl)

theorem block_g (c : Dev nD) (t : Fin cfg0.N) (k : Fin 1024) : iblk m c 1 t (ix2 u0 k) = gA m c (ix1 k) := by
  unfold iblk
  rw [View.read_apply]
  refine (congrArg (V m c main_v0) (funext fun a => Fin.ext ?_)).trans (host_g m c k)
  match a with
  | ⟨0, _⟩ => show win0_1.index t 0 * 1 + 1 * 0 = 0; rw [(index_g t).1]
  | ⟨1, _⟩ => show win0_1.index t 1 * 1024 + 1 * k.val = k.val; rw [(index_g t).2]; omega

theorem block_w (c : Dev nD) (t : Fin cfg0.N) (k : Fin 1024) (n : Fin 2560) : iblk m c 2 t (ix2 k n) = wA m c (ix2 k n) := by
  unfold iblk
  rw [View.read_apply]
  refine (congrArg (V m c main_v1) (funext fun a => Fin.ext ?_)).trans (host_w m c k n)
  match a with
  | ⟨0, _⟩ => show win0_2.index t 0 * 1024 + 1 * k.val = k.val; rw [(index_w t).1]; omega
  | ⟨1, _⟩ => show win0_2.index t 1 * 2560 + 1 * n.val = n.val; rw [(index_w t).2]; omega

theorem block_vg (c : Dev nD) (t : Fin cfg0.N) (k : Fin 512) : iblk m c 3 t (ix2 u0 k) = vgA m c (ix1 k) := by
  unfold iblk
  rw [View.read_apply]
  refine (congrArg (V m c main_v2) (funext fun a => Fin.ext ?_)).trans (host_vg m c k)
  match a with
  | ⟨0, _⟩ => show win0_3.index t 0 * 1 + 1 * 0 = 0; rw [(index_vg t).1]
  | ⟨1, _⟩ => show win0_3.index t 1 * 512 + 1 * k.val = k.val; rw [(index_vg t).2]; omega

/-! ## The result arrays -/

section Arrays
variable (h : FVec Ideal S16384x1024 .f32) (g : FVec Ideal S1024 .f32) (w : FVec Ideal S1024x2560 .f32) (vg : FVec Ideal S512 .f32)

/-- Column `n` of the projection of token `i`. -/
def proj (i : Fin 16384) (n : Fin 2560) : EReal := project (fun k => h (ix2 i k)) (fun k => g (ix1 k)) (fun k n => w (ix2 k n)) n

def uArr : FVec Ideal S16384x512 .bf16 := fun i => gelu (proj h g w (i 0) (place 0 (by decide) (i 1)))
def vnArr : FVec Ideal S16384x512 .bf16 := fun i =>
  normed w512 (fun j => gelu (proj h g w (i 0) (place 1 (by decide) j))) (fun k => vg (ix1 k)) (i 1)
def qArr : FVec Ideal S16384x512 .bf16 := fun i => proj h g w (i 0) (place 2 (by decide) (i 1)) * Ideal.ofBits .f32 0x3E000000#32
def kArr : FVec Ideal S16384x512 .bf16 := fun i => proj h g w (i 0) (place 3 (by decide) (i 1))
def vArr : FVec Ideal S16384x512 .bf16 := fun i => proj h g w (i 0) (place 4 (by decide) (i 1))
end Arrays

/-- The blocks of a point, as rows, gain and weights. -/
theorem proj_block (c : Dev nD) (t : Fin cfg0.N) (r : Fin 512) :
    project (rowOf (iblk m c 0 t) r) (gainOf (iblk m c 1 t)) (weightOf (iblk m c 2 t)) = proj (hA m c) (gA m c) (wA m c) (row t r) := by
  unfold proj
  exact congr (congr (congrArg project (funext fun k => block_h m c t r k)) (funext fun k => block_g m c t k))
    (funext fun k => funext fun n => block_w m c t k n)

/-- An index of a block of results, and the array's index under it. -/
abbrev cell (y : S512x512.Idx) : S512x512.Idx := ix2 (⟨(y 0).val, (y 0).isLt⟩ : Fin 512) (⟨(y 1).val, (y 1).isLt⟩ : Fin 512)
abbrev spot (t : Fin cfg0.N) (y : S512x512.Idx) : S16384x512.Idx := ix2 (row t ⟨(y 0).val, (y 0).isLt⟩) (⟨(y 1).val, (y 1).isLt⟩ : Fin 512)

theorem emb_spot (f : Fin 2 → Nat) (t : Fin cfg0.N) (hf : f 0 = t.val ∧ f 1 = 0) (y : S512x512.Idx) (z : S16384x512.Idx)
    (h0 : (z 0).val = f 0 * 512 + 1 * (y 0).val) (h1 : (z 1).val = f 1 * 512 + 1 * (y 1).val) : z = spot t y := by
  funext a; apply Fin.ext
  match a with
  | ⟨0, _⟩ => show (z 0).val = 512 * t.val + (y 0).val; rw [h0, hf.1]; omega
  | ⟨1, _⟩ => show (z 1).val = (y 1).val; rw [h1, hf.2]; omega

/-- The point whose block holds a row. -/
abbrev owner (i : S16384x512.Idx) : Fin cfg0.N := ⟨(i 0).val / 512, by have h : (i 0).val < 16384 := (i 0).isLt; have := points; omega⟩

theorem owner_covers (i : S16384x512.Idx) (a : Fin 2) :
    win0_4.index (owner i) a * S512x512.size a ≤ (i a).val ∧ (i a).val < win0_4.index (owner i) a * S512x512.size a + S512x512.size a := by
  have h0 : (i 0).val < 16384 := (i 0).isLt
  have h1 : (i 1).val < 512 := (i 1).isLt
  obtain ⟨e0, e1⟩ := index_o (owner i)
  match a with
  | ⟨0, _⟩ => show win0_4.index _ 0 * 512 ≤ (i 0).val ∧ (i 0).val < win0_4.index _ 0 * 512 + 512; rw [e0]; dsimp only; omega
  | ⟨1, _⟩ => show win0_4.index _ 1 * 512 ≤ (i 1).val ∧ (i 1).val < win0_4.index _ 1 * 512 + 512; rw [e1]; dsimp only; omega

theorem cell_of (y z : S512x512.Idx) (h0 : (z 0).val = (y 0).val) (h1 : (z 1).val = (y 1).val) : z = cell y := by
  funext a; apply Fin.ext
  match a with
  | ⟨0, _⟩ => exact h0
  | ⟨1, _⟩ => exact h1

theorem u_eq (c : Dev nD) : (dats m 0 c).arrAt 4 cfg0.N = uArr (hA m c) (gA m c) (wA m c) := by
  refine (dats m 0 c).arrAt_eq_of_cover 4 _ (fun t _ => ?_) (fun i => ⟨owner i, flush0_4 _, ?_⟩)
  · rw [flushed4]
    funext y
    rw [View.read_apply]
    show out0_4 (F := Ideal) (iblk m c 0 t) (iblk m c 1 t) (iblk m c 2 t) (iblk m c 3 t) ((cfg0.win 4).xinj (grid0.coords t) y)
      = uArr (hA m c) (gA m c) (wA m c) (((cfg0.win 4).blk t).view.emb y)
    rw [emb_spot (win0_4.index t) t (index_o t) y (((cfg0.win 4).blk t).view.emb y) rfl rfl, cell_of y _ rfl rfl]
    exact (out_u _ _ _ _ _).trans ((u_apply _ _ _ _ _).trans (congrArg gelu (congrFun (proj_block m c t _) _)))
  · show i ∈ ((View.whole main_v3_0).slice (win0_4.rect (owner i))).set
    rw [View.set_slice_whole, Rect.mem_set_unit]
    exact owner_covers i

theorem vn_eq (c : Dev nD) : (dats m 0 c).arrAt 5 cfg0.N = vnArr (hA m c) (gA m c) (wA m c) (vgA m c) := by
  refine (dats m 0 c).arrAt_eq_of_cover 5 _ (fun t _ => ?_) (fun i => ⟨owner i, flush0_5 _, ?_⟩)
  · rw [flushed5]
    funext y
    rw [View.read_apply]
    show out0_5 (F := Ideal) (iblk m c 0 t) (iblk m c 1 t) (iblk m c 2 t) (iblk m c 3 t) ((cfg0.win 5).xinj (grid0.coords t) y)
      = vnArr (hA m c) (gA m c) (wA m c) (vgA m c) (((cfg0.win 5).blk t).view.emb y)
    rw [emb_spot (win0_5.index t) t (index_o t) y (((cfg0.win 5).blk t).view.emb y) rfl rfl, cell_of y _ rfl rfl]
    rw [out_vn]
    refine (vn_apply _ _ _ _ _ _).trans (congr (congr (congrArg (normed w512) (funext fun j => ?_)) (funext fun k => block_vg m c t k)) rfl)
    exact congrArg gelu (congrFun (proj_block m c t _) _)
  · show i ∈ ((View.whole main_v3_1).slice (win0_5.rect (owner i))).set
    rw [View.set_slice_whole, Rect.mem_set_unit]
    exact owner_covers i

theorem q_eq (c : Dev nD) : (dats m 0 c).arrAt 6 cfg0.N = qArr (hA m c) (gA m c) (wA m c) := by
  refine (dats m 0 c).arrAt_eq_of_cover 6 _ (fun t _ => ?_) (fun i => ⟨owner i, flush0_6 _, ?_⟩)
  · rw [flushed6]
    funext y
    rw [View.read_apply]
    show out0_6 (F := Ideal) (iblk m c 0 t) (iblk m c 1 t) (iblk m c 2 t) (iblk m c 3 t) ((cfg0.win 6).xinj (grid0.coords t) y)
      = qArr (hA m c) (gA m c) (wA m c) (((cfg0.win 6).blk t).view.emb y)
    rw [emb_spot (win0_6.index t) t (index_o t) y (((cfg0.win 6).blk t).view.emb y) rfl rfl, cell_of y _ rfl rfl]
    exact (out_q _ _ _ _ _).trans ((q_apply _ _ _ _ _).trans (congrArg (· * _) (congrFun (proj_block m c t _) _)))
  · show i ∈ ((View.whole main_v3_2).slice (win0_6.rect (owner i))).set
    rw [View.set_slice_whole, Rect.mem_set_unit]
    exact owner_covers i

theorem k_eq (c : Dev nD) : (dats m 0 c).arrAt 7 cfg0.N = kArr (hA m c) (gA m c) (wA m c) := by
  refine (dats m 0 c).arrAt_eq_of_cover 7 _ (fun t _ => ?_) (fun i => ⟨owner i, flush0_7 _, ?_⟩)
  · rw [flushed7]
    funext y
    rw [View.read_apply]
    show out0_7 (F := Ideal) (iblk m c 0 t) (iblk m c 1 t) (iblk m c 2 t) (iblk m c 3 t) ((cfg0.win 7).xinj (grid0.coords t) y)
      = kArr (hA m c) (gA m c) (wA m c) (((cfg0.win 7).blk t).view.emb y)
    rw [emb_spot (win0_7.index t) t (index_o t) y (((cfg0.win 7).blk t).view.emb y) rfl rfl, cell_of y _ rfl rfl]
    exact (out_k _ _ _ _ _).trans ((k_apply _ _ _ _ _).trans (congrFun (proj_block m c t _) _))
  · show i ∈ ((View.whole main_v3_3).slice (win0_7.rect (owner i))).set
    rw [View.set_slice_whole, Rect.mem_set_unit]
    exact owner_covers i

theorem v_eq (c : Dev nD) : (dats m 0 c).arrAt 8 cfg0.N = vArr (hA m c) (gA m c) (wA m c) := by
  refine (dats m 0 c).arrAt_eq_of_cover 8 _ (fun t _ => ?_) (fun i => ⟨owner i, flush0_8 _, ?_⟩)
  · rw [flushed8]
    funext y
    rw [View.read_apply]
    show out0_8 (F := Ideal) (iblk m c 0 t) (iblk m c 1 t) (iblk m c 2 t) (iblk m c 3 t) ((cfg0.win 8).xinj (grid0.coords t) y)
      = vArr (hA m c) (gA m c) (wA m c) (((cfg0.win 8).blk t).view.emb y)
    rw [emb_spot (win0_8.index t) t (index_o t) y (((cfg0.win 8).blk t).view.emb y) rfl rfl, cell_of y _ rfl rfl]
    exact (out_v _ _ _ _ _).trans ((v_apply _ _ _ _ _).trans (congrFun (proj_block m c t _) _))
  · show i ∈ ((View.whole main_v3_4).slice (win0_8.rect (owner i))).set
    rw [View.set_slice_whole, Rect.mem_set_unit]
    exact owner_covers i

end Cert.KernelIoIdeal.Io

end
-- ==== Proof.IoRef.lean ====
/-
  The odd layers' input projection: the reference's five arrays are the kernel's.
-/
module

public import proofs.«01_k».proof.Proof.Gen.ReferenceIoIdeal.Read
public import proofs.«01_k».proof.Proof.IoFold

@[expose] public section

noncomputable section

namespace Cert.ReferenceIoIdeal.Io

open Idealize.ShloMosaic Idealize.SL.Sem Idealize.ShloMosaic.ValueIdx
open Cert.ReferenceIoIdeal Cert.ReferenceIoIdeal.Gen Cert.ReferenceIoIdeal.Read Cert.Kit
open Cert.KernelIoIdeal.Io (w1024 w512 project proj place uArr vnArr qArr kArr vArr)

variable (h : FVec Ideal S16384x1024 .f32) (g : FVec Ideal S1024 .f32) (w : FVec Ideal S1024x2560 .f32) (vg : FVec Ideal S512 .f32)

theorem rms_apply (i : Fin 16384) (u : Fin 1) : val_main_v7 (F := Ideal) h (ix2 i u) = invRms w1024 (fun k => h (ix2 i k)) := by
  rw [val_main_v7_apply, val_main_v6_apply, val_main_v4_apply, val_main_v2_apply, val_main_v1_apply, val_main_v3_apply, val_main_v5_apply]
  show Ideal.rsqrt (Ideal.div (Ideal.ofBits .f32 0x00000000#32 + ∑ k : Fin 1024, (val_main_v0 (F := Ideal) h (idx_main_v1 (idx_main_v2 (ix2 i u)) k) : EReal)) w1024 + eps) = _
  rw [Ideal.ofBits_zero_f32, zero_add, invRms]
  refine congrArg (fun s => Ideal.rsqrt (Ideal.div s w1024 + eps)) (Finset.sum_congr rfl fun k _ => ?_)
  rw [show idx_main_v1 (idx_main_v2 (ix2 i u)) k = ix2 i k from eq_ix2 _]
  rfl

theorem normed_apply (i : Fin 16384) (k : Fin 1024) :
    val_main_v12 (F := Ideal) h g (ix2 i k) = normed w1024 (fun k => h (ix2 i k)) (fun k => g (ix1 k)) k := by
  rw [val_main_v12_apply, val_main_v9_apply, val_main_v8_apply, val_main_v11_apply, val_main_v10_apply,
    show idx_main_v8 (ix2 i k) = ix2 i u0 from eq_ix2 _, rms_apply, show idx_main_v10 (idx_main_v11 (ix2 i k)) = ix1 k from eq_ix1 _]
  rfl

theorem proj_apply (i : Fin 16384) (n : Fin 2560) : val_main_v13 (F := Ideal) h g w (ix2 i n) = proj h g w i n := by
  rw [val_main_v13_apply, proj, project]
  refine Finset.sum_congr rfl fun k _ => ?_
  rw [show lidx_main_v13 (ix2 i n) k = ix2 i k from eq_ix2 _, show ridx_main_v13 (ix2 i n) k = ix2 k n from eq_ix2 _, normed_apply]

theorem gate_apply (t : Fin 16384) (d : Fin 512) : val_main_v25 (F := Ideal) h g w (ix2 t d) = gelu (proj h g w t (place 0 (by decide) d)) := by
  rw [← proj_apply, ← gelu_erfc, ← show idx_main_v14 (ix2 t d) = ix2 t (place 0 (by decide) d) from eq_ix2 _, ← val_main_v14_apply]
  rfl

theorem gated_apply (t : Fin 16384) (d : Fin 512) : val_main_v32 (F := Ideal) h g w (ix2 t d) = gelu (proj h g w t (place 1 (by decide) d)) := by
  rw [← proj_apply, ← gelu_erfc, ← show idx_main_v15 (ix2 t d) = ix2 t (place 1 (by decide) d) from at2 _ _ _ rfl (Nat.add_comm _ _), ← val_main_v15_apply]
  rfl

/-- Two arrays of results that agree at every row and column. -/
theorem ext2 (A B : FVec Ideal S16384x512 .bf16) (hab : ∀ t d, A (ix2 t d) = B (ix2 t d)) : A = B :=
  funext fun i => by rw [eq_ix2 i]; exact hab _ _

theorem u_eq : val_main_v48 (F := Ideal) h g w = uArr h g w := ext2 _ _ fun t d => gate_apply h g w t d

theorem q_eq : val_main_v50 (F := Ideal) h g w = qArr h g w := ext2 _ _ fun t d => by
  rw [val_main_v50_apply, val_main_v47_apply, val_main_v16_apply, show idx_main_v16 (ix2 t d) = ix2 t (place 2 (by decide) d) from at2 _ _ _ rfl (Nat.add_comm _ _), proj_apply, val_main_v46_apply]
  rfl

theorem k_eq : val_main_v51 (F := Ideal) h g w = kArr h g w := ext2 _ _ fun t d => by
  rw [val_main_v51_apply, val_main_v17_apply, show idx_main_v17 (ix2 t d) = ix2 t (place 3 (by decide) d) from at2 _ _ _ rfl (Nat.add_comm _ _), proj_apply]
  rfl

theorem v_eq : val_main_v52 (F := Ideal) h g w = vArr h g w := ext2 _ _ fun t d => by
  rw [val_main_v52_apply, val_main_v18_apply, show idx_main_v18 (ix2 t d) = ix2 t (place 4 (by decide) d) from at2 _ _ _ rfl (Nat.add_comm _ _), proj_apply]
  rfl

theorem vn_eq : val_main_v49 (F := Ideal) h g w vg = vnArr h g w vg := ext2 _ _ fun t d => by
  have hg : ∀ j : Fin 512, val_main_v32 (F := Ideal) h g w (ix2 t j) = gelu (proj h g w t (place 1 (by decide) j)) := fun j => gated_apply h g w t j
  have hr : val_main_v40 (F := Ideal) h g w (ix2 t u0) = invRms w512 (fun j => gelu (proj h g w t (place 1 (by decide) j))) := by
    rw [val_main_v40_apply, val_main_v39_apply, val_main_v37_apply, val_main_v35_apply, val_main_v34_apply, val_main_v36_apply, val_main_v38_apply]
    show Ideal.rsqrt (Ideal.div (Ideal.ofBits .f32 0x00000000#32 + ∑ k : Fin 512, (val_main_v33 (F := Ideal) h g w (idx_main_v34 (idx_main_v35 (ix2 t u0)) k) : EReal)) w512 + eps) = _
    rw [Ideal.ofBits_zero_f32, zero_add, invRms]
    refine congrArg (fun s => Ideal.rsqrt (Ideal.div s w512 + eps)) (Finset.sum_congr rfl fun k _ => ?_)
    rw [show idx_main_v34 (idx_main_v35 (ix2 t u0)) k = ix2 t k from eq_ix2 _, val_main_v33_apply, hg]
    rfl
  rw [val_main_v49_apply, val_main_v45_apply, val_main_v42_apply, val_main_v41_apply, val_main_v44_apply, val_main_v43_apply,
    show idx_main_v41 (ix2 t d) = ix2 t u0 from eq_ix2 _, hr, gated_apply, show idx_main_v43 (idx_main_v44 (ix2 t d)) = ix1 d from eq_ix1 _]
  rfl

end Cert.ReferenceIoIdeal.Io

end
-- ==== Proof.IoClaims.lean ====
/-
  The claims about the odd layers' input projection.
-/
module

public import proofs.«01_k».proof.Defs
public import proofs.«01_k».proof.Proof.Gen.KernelIo.Frame
public import proofs.«01_k».proof.Proof.IoRef

@[expose] public section

noncomputable section

namespace Cert.Proof.Io

open Idealize.ShloMosaic Idealize.SL.Sem Cert.KernelIoIdeal.Io

theorem frame_kernel : Cert.quiescent_KernelIo := fun m ρ _ => Cert.KernelIo.Gen.frame m ρ

theorem frame_ideal : Cert.quiescent_KernelIoIdeal := fun m ρ _ => Cert.KernelIoIdeal.Gen.frame m ρ

theorem frame_reference : Cert.quiescent_ReferenceIoIdeal := fun m ρ _ =>
  (θ_run _ _ _).mono (fun r h => ⟨fun c => (h c).2.2.2.2.2, sem_eq_zero_of_no_sems (by decide) r.2⟩)
    (Cert.ReferenceIoIdeal.Value.run (F := Ideal) m ρ)

/-- Kernel and reference end with the same five arrays. -/
theorem algebraic : Cert.algebraic_KernelIoIdeal_ReferenceIoIdeal := fun m ρ m' ρ' _ hag =>
  ⟨fun c => uArr (hA m c) (gA m c) (wA m c), fun c => vnArr (hA m c) (gA m c) (wA m c) (vgA m c), fun c => qArr (hA m c) (gA m c) (wA m c),
    fun c => kArr (hA m c) (gA m c) (wA m c), fun c => vArr (hA m c) (gA m c) (wA m c),
    (θ_run _ _ _).mono (fun _ h c => ⟨(h c).1.trans (u_eq m c), (h c).2.1.trans (vn_eq m c), (h c).2.2.1.trans (q_eq m c),
      (h c).2.2.2.1.trans (k_eq m c), (h c).2.2.2.2.1.trans (v_eq m c), (h c).2.2.2.2.2⟩)
      (Cert.KernelIoIdeal.Value.run_blocks m ρ),
    (θ_run _ _ _).mono (fun _ h c => by
      obtain ⟨e0, e1, e2, e3⟩ := hag c
      obtain ⟨h0, h1, h2, h3, h4, hargs⟩ := h c
      refine ⟨h0.trans ?_, h1.trans ?_, h2.trans ?_, h3.trans ?_, h4.trans ?_, hargs⟩
      · rw [e0, e1, e2]
        exact (Cert.ReferenceIoIdeal.Read.val_main_v48_eq _ _ _).trans (Cert.ReferenceIoIdeal.Io.u_eq _ _ _)
      · refine (Cert.ReferenceIoIdeal.Read.val_main_v49_eq m' c).trans ?_
        rw [e0, e1, e2, e3]
        exact Cert.ReferenceIoIdeal.Io.vn_eq _ _ _ _
      · rw [e0, e1, e2]
        exact (Cert.ReferenceIoIdeal.Read.val_main_v50_eq _ _ _).trans (Cert.ReferenceIoIdeal.Io.q_eq _ _ _)
      · rw [e0, e1, e2]
        exact (Cert.ReferenceIoIdeal.Read.val_main_v51_eq _ _ _).trans (Cert.ReferenceIoIdeal.Io.k_eq _ _ _)
      · rw [e0, e1, e2]
        exact (Cert.ReferenceIoIdeal.Read.val_main_v52_eq _ _ _).trans (Cert.ReferenceIoIdeal.Io.v_eq _ _ _))
      (Cert.ReferenceIoIdeal.Value.run (F := Ideal) m' ρ')⟩

end Cert.Proof.Io

end
-- ==== Proof.OoStep.lean ====
/-
  The odd layers' output projection: what one row block computes. Its scratch holds the gated block, written in sixteen
  tiles; the projection then reads it whole.
-/
module

public import proofs.«01_k».proof.Proof.Gen.KernelOoIdeal.Value
public import proofs.«01_k».proof.Proof.Norm
public import Idealize.ShloMosaic.Lib.Pipeline.ValueKit.Tiles
public import proofs.«01_k».proof.Proof.Words

@[expose] public section

noncomputable section

namespace Cert.KernelOoIdeal.Oo

open Idealize.ShloMosaic Idealize.ShloMosaic.TcCoe Idealize.SL.Sem Idealize.ShloMosaic.ValueIdx Idealize.ShloMosaic.Tactic
open Cert.KernelOoIdeal Cert.KernelOoIdeal.Gen Cert.KernelOoIdeal.Value Cert.Kit

/-- The group of a column, its place in the group, and a row's place in its block of 128. -/
abbrev groupOf (n : Fin 512) : Fin 4 := ⟨n.val / 128, by have := n.isLt; omega⟩
abbrev laneOf (n : Fin 512) : Fin 128 := ⟨n.val % 128, by omega⟩

/-- Row `s` of the block of 128 rows that holds row `r`. -/
abbrev mate (r : Fin 512) (s : Fin 128) : Fin 512 := ⟨r.val / 128 * 128 + s.val, by have := r.isLt; have := s.isLt; omega⟩

/-- A gate times the causal mix of its block of rows. -/
def gate (u : EReal) (v : Fin 128 → EReal) (w : Fin 128 → EReal) (b : EReal) (t : Fin 128) : EReal :=
  u * ((∑ s : Fin 128, (if s.val ≤ t.val then w s else 0) * v s) + b)

section Same
variable {F : FTy → Type} [FloatOps F]
variable (m : FVec F S128x128 .bf16) (w : FVec F S1x128x128 .bf16) (v u : FVec F S128x128 .bf16) (b : FVec F S1x128x128 .f32)

/-- The row and the column numbers of a tile. -/
abbrev rows : IVec S128x128 32 := iota .tc S128x128 32 [0] iota_S128x128_d0_w32
abbrev cols : IVec S128x128 32 := iota .tc S128x128 32 [1] iota_S128x128_d1_w32

/-! The sixteen tiles are printed with one name each; they are one function. -/

theorem mask_1 : k0_pay7 rows cols w = k0_pay2 w := rfl
theorem mask_2 : k0_pay14 rows cols w = k0_pay2 w := rfl
theorem mask_3 : k0_pay20 rows cols w = k0_pay2 w := rfl
theorem tile_0 : k0_pay3 w v b u = k0_pay5 (k0_pay2 w) v b u := rfl
theorem tile_1 : k0_pay4 w v b u = k0_pay5 (k0_pay2 w) v b u := rfl
theorem tile_4 : k0_pay9 (k0_pay8 rows cols w v) b u = k0_pay5 (k0_pay2 w) v b u := rfl
theorem tile_8 : k0_pay15 rows cols w v b u = k0_pay5 (k0_pay2 w) v b u := rfl
theorem tile_12 : k0_pay21 rows cols w v b u = k0_pay5 (k0_pay2 w) v b u := rfl
theorem tile_13 : k0_pay22 rows cols w v b u = k0_pay5 (k0_pay2 w) v b u := rfl
theorem tile_3 : k0_pay6 m v b u = k0_pay5 m v b u := rfl
theorem tile_5 : k0_pay10 m v b u = k0_pay5 m v b u := rfl
theorem tile_6 : k0_pay12 (k0_pay11 m v b u) = k0_pay5 m v b u := rfl
theorem tile_7 : k0_pay13 m v b u = k0_pay5 m v b u := rfl
theorem tile_9 : k0_pay16 m v b u = k0_pay5 m v b u := rfl
theorem tile_10 : k0_pay17 m v b u = k0_pay5 m v b u := rfl
theorem tile_11 : k0_pay19 (k0_pay18 m v b u) = k0_pay5 m v b u := rfl
theorem tile_14 : k0_pay23 m v b u = k0_pay5 m v b u := rfl
theorem tile_15 : k0_pay24 m v b u = k0_pay5 m v b u := rfl

end Same

section Tile
variable (w : FVec Ideal S1x128x128 .bf16) (v u : FVec Ideal S128x128 .bf16) (b : FVec Ideal S1x128x128 .f32)

theorem masked_apply (t s : Fin 128) : k0_pay2 (F := Ideal) w (ix2 t s) = if s.val ≤ t.val then w (ix3 u0 t s) else 0 := by
  unfold k0_pay2
  dsimp only
  show Scalar.select (IntOp.cmpi .sle (iota .tc S128x128 32 [1] iota_S128x128_d1_w32 (ix2 t s)) (iota .tc S128x128 32 [0] iota_S128x128_d0_w32 (ix2 t s)))
    (shapeCast S128x128 w shapeCasts_S1x128x128_S128x128 (ix2 t s)) (Ideal.ofBits .bf16 0x0000#16) = _
  rw [iota_single_apply, iota_single_apply, dropUnit_apply, show Ideal.ofBits .bf16 0x0000#16 = 0 by simp [Ideal.ofBits, Ideal.ieee]]
  exact select_of (P := s.val ≤ t.val) (word_sge (a := t.val) (b := s.val) (by have := t.isLt; omega) (by have := s.isLt; omega)) _ _

theorem tile_apply (t n : Fin 128) : k0_pay5 (F := Ideal) (k0_pay2 (F := Ideal) w) v b u (ix2 t n)
    = gate (u (ix2 t n)) (fun s => v (ix2 s n)) (fun s => w (ix3 u0 t s)) (b (ix3 u0 t n)) t := by
  unfold k0_pay5
  rw [shapeCast_self]
  refine congrArg₂ (fun p q : EReal => u (ix2 t n) * (p + q)) ?_ (dropUnit_apply _ _ _ _)
  refine (matmul_rowCol _ _ _ _ _ _ _).trans ?_
  rw [constant_apply, Ideal.ofBits_zero_f32, zero_add]
  exact Finset.sum_congr rfl fun s _ => congrArg (· * v (ix2 s n)) (masked_apply w t s)

end Tile

section Block
variable (x0 x1 : FVec Ideal S512x512 .bf16) (x2 : FVec Ideal S512x512 .bf16) (x3 : FVec Ideal S512x1024 .f32)
  (x4 : FVec Ideal S4x128x128 .bf16) (x5 : FVec Ideal S4x128x128 .f32) (x6 : FVec Ideal S1024x1024 .bf16)

/-- Entry of the gated block. -/
def gated (r n : Fin 512) : EReal :=
  gate (x0 (ix2 r n)) (fun s => x1 (ix2 (mate r s) n)) (fun s => x4 (ix3 (groupOf n) (laneOf r) s)) (x5 (ix3 (groupOf n) (laneOf r) (laneOf n))) (laneOf r)

/-- The gated block. -/
def gatedBlock : FVec Ideal S512x512 .bf16 := fun y => gated x0 x1 x4 x5 (y 0) (y 1)

/-- The tile at rows `o` on and columns `p` on is the gated block's. -/
theorem tile_piece (o p g : Nat) (ho : o % 128 = 0) (hp : p = 128 * g)
    (i1 : ∀ a, (![o, p] : Fin 2 → Nat) a + S128x128.size a ≤ S512x512.size a)
    (i2 : ∀ a, (![g, 0, 0] : Fin 3 → Nat) a + S1x128x128.size a ≤ S4x128x128.size a) (x : S128x128.Idx) :
    k0_pay5 (F := Ideal) (k0_pay2 (F := Ideal) (View.ld x4 (Rect.unit (s := S4x128x128) ![g, 0, 0] S1x128x128.size i2))) (View.ld x1 (Rect.unit (s := S512x512) ![o, p] S128x128.size i1))
      (View.ld x5 (Rect.unit (s := S4x128x128) ![g, 0, 0] S1x128x128.size i2)) (View.ld x0 (Rect.unit (s := S512x512) ![o, p] S128x128.size i1)) x
      = gatedBlock x0 x1 x4 x5 ((Rect.unit (s := S512x512) ![o, p] S128x128.size i1).emb x) := by
  have hx0 : (x 0).val < 128 := (x 0).isLt
  have hx1 : (x 1).val < 128 := (x 1).isLt
  have h1 : o + 128 ≤ 512 := i1 0
  have h2 : p + 128 ≤ 512 := i1 1
  have hg : g + 1 ≤ 4 := i2 0
  have e0 : (((Rect.unit (s := S512x512) ![o, p] S128x128.size i1).emb x) 0).val = o + (x 0).val := Rect.idx_unit_val (s := S512x512) ![o, p] S128x128.size i1 x 0
  have e1 : (((Rect.unit (s := S512x512) ![o, p] S128x128.size i1).emb x) 1).val = p + (x 1).val := Rect.idx_unit_val (s := S512x512) ![o, p] S128x128.size i1 x 1
  have ex : x = ix2 (⟨(x 0).val, hx0⟩ : Fin 128) (⟨(x 1).val, hx1⟩ : Fin 128) := eq_ix2 x
  refine (congrArg _ ex).trans ?_
  rw [tile_apply]
  generalize hz : (Rect.unit (s := S512x512) ![o, p] S128x128.size i1).emb x = z at e0 e1
  unfold gatedBlock gated
  have ht : laneOf (z 0) = (⟨(x 0).val, hx0⟩ : Fin 128) := Fin.ext (by show (z 0).val % 128 = (x 0).val; omega)
  have hl : laneOf (z 1) = (⟨(x 1).val, hx1⟩ : Fin 128) := Fin.ext (by show (z 1).val % 128 = (x 1).val; omega)
  have hgr : (groupOf (z 1)).val = g := by show (z 1).val / 128 = g; omega
  rw [ht, hl]
  have l0 : ∀ (X : Vec Ideal S512x512 .bf16) (s : Fin 128) (q : Fin 512), q.val = o + s.val →
      View.ld (Val := Elt Ideal) (e' := .bf16) X (Rect.unit (s := S512x512) ![o, p] S128x128.size i1) (ix2 s (⟨(x 1).val, hx1⟩ : Fin 128)) = X (ix2 q (z 1)) := fun X s q hq =>
    View.ld_unit_apply_of (Val := Elt Ideal) (e := .bf16) (S := S512x512) X ![o, p] S128x128.size i1 (ix2 s (⟨(x 1).val, hx1⟩ : Fin 128)) (ix2 q (z 1)) fun a => match a with
      | ⟨0, _⟩ => hq
      | ⟨1, _⟩ => e1
  have l4 : ∀ (e : EltTy) (X : Vec Ideal S4x128x128 e) (s : Fin 128),
      View.ld (Val := Elt Ideal) (e' := e) X (Rect.unit (s := S4x128x128) ![g, 0, 0] S1x128x128.size i2) (ix3 u0 (⟨(x 0).val, hx0⟩ : Fin 128) s) = X (ix3 (groupOf (z 1)) (⟨(x 0).val, hx0⟩ : Fin 128) s) :=
    fun e X s => View.ld_unit_apply_of (Val := Elt Ideal) (e := e) (S := S4x128x128) X ![g, 0, 0] S1x128x128.size i2 (ix3 u0 (⟨(x 0).val, hx0⟩ : Fin 128) s) (ix3 (groupOf (z 1)) (⟨(x 0).val, hx0⟩ : Fin 128) s) fun a => match a with
      | ⟨0, _⟩ => hgr
      | ⟨1, _⟩ => (Nat.zero_add _).symm
      | ⟨2, _⟩ => (Nat.zero_add _).symm
  exact congr (congr (congr (congr (congrArg gate (l0 x0 (⟨(x 0).val, hx0⟩ : Fin 128) (z 0) e0)) (funext fun s => l0 x1 s (mate (z 0) s) (by
    show (z 0).val / 128 * 128 + s.val = o + s.val
    omega))) (funext fun s => l4 .bf16 x4 s)) (l4 .f32 x5 (⟨(x 1).val, hx1⟩ : Fin 128))) rfl

/-- Entry of the projected block. -/
theorem result_apply (y : FVec Ideal S512x512 .bf16) (i1 : ∀ a, (![0, 0] : Fin 2 → Nat) a + S512x1024.size a ≤ S1024x1024.size a)
    (i2 : ∀ a, (![512, 0] : Fin 2 → Nat) a + S512x1024.size a ≤ S1024x1024.size a) (r : Fin 512) (d : Fin 1024) :
    k0_pay1 (F := Ideal) (k0_pay25 (F := Ideal) x3 y (View.ld x6 (Rect.unit (s := S1024x1024) ![0, 0] S512x1024.size i1))) x2
        (View.ld x6 (Rect.unit (s := S1024x1024) ![512, 0] S512x1024.size i2)) (ix2 r d)
      = x3 (ix2 r d) + (∑ k : Fin 512, y (ix2 r k) * x6 (ix2 (⟨k.val, by have := k.isLt; omega⟩ : Fin 1024) d))
        + ∑ k : Fin 512, x2 (ix2 r k) * x6 (ix2 (⟨512 + k.val, by have := k.isLt; omega⟩ : Fin 1024) d) := by
  unfold k0_pay1 k0_pay25
  dsimp only
  rw [shapeCast_self, shapeCast_self]
  refine congrArg₂ (fun p q : EReal => x3 (ix2 r d) + p + q) ?_ ?_
  · refine (matmul_rowCol _ _ _ _ _ _ _).trans ?_
    rw [constant_apply, Ideal.ofBits_zero_f32, zero_add]
    exact Finset.sum_congr rfl fun k _ => congrArg (y (ix2 r k) * ·) (View.ld_unit_apply_of (Val := Elt Ideal) (e := .bf16) (S := S1024x1024) x6 ![0, 0] S512x1024.size i1 (ix2 k d) (ix2 (⟨k.val, by have := k.isLt; omega⟩ : Fin 1024) d) fun a => match a with
      | ⟨0, _⟩ => (Nat.zero_add _).symm
      | ⟨1, _⟩ => (Nat.zero_add _).symm)
  · refine (matmul_rowCol _ _ _ _ _ _ _).trans ?_
    rw [constant_apply, Ideal.ofBits_zero_f32, zero_add]
    exact Finset.sum_congr rfl fun k _ => congrArg (x2 (ix2 r k) * ·) (View.ld_unit_apply_of (Val := Elt Ideal) (e := .bf16) (S := S1024x1024) x6 ![512, 0] S512x1024.size i2 (ix2 k d) (ix2 (⟨512 + k.val, by have := k.isLt; omega⟩ : Fin 1024) d) fun a => match a with
      | ⟨0, _⟩ => rfl
      | ⟨1, _⟩ => (Nat.zero_add _).symm)

end Block

section Out
variable (c : Dev nD) (i : grid0.Coords) (a1 : Memref sig .tc .vmem S512x512 .bf16) (h1 : a1.IsWhole) (a2 : Memref sig .tc .vmem S512x512 .bf16) (h2 : a2.IsWhole)
  (a3 : Memref sig .tc .vmem S512x512 .bf16) (h3 : a3.IsWhole) (a4 : Memref sig .tc .vmem S512x1024 .f32) (h4 : a4.IsWhole)
  (a5 : Memref sig .tc .vmem S4x128x128 .bf16) (h5 : a5.IsWhole) (a6 : Memref sig .tc .vmem S4x128x128 .f32) (h6 : a6.IsWhole)
  (a7 : Memref sig .tc .vmem S1024x1024 .bf16) (h7 : a7.IsWhole) (a8 : Memref sig .tc .vmem S512x1024 .f32) (h8 : a8.IsWhole)
  (a9 : Memref sig .tc .vmem S512x512 .bf16) (h9 : a9.IsWhole)
  (x0 x1 x2 : Vec Ideal S512x512 .bf16) (x3 : Vec Ideal S512x1024 .f32) (x4 : Vec Ideal S4x128x128 .bf16) (x5 : Vec Ideal S4x128x128 .f32)
  (x6 : Vec Ideal S1024x1024 .bf16)

/-- What a point leaves in the result's block. -/
theorem out_apply (r : Fin 512) (d : Fin 1024) :
    out0_A_7 (F := Ideal) c i a1 h1 a2 h2 a3 h3 a4 h4 a5 h5 a6 h6 a7 h7 a8 h8 a9 h9 x0 x1 x2 x3 x4 x5 x6 (ix2 r d)
      = x3 (ix2 r d) + (∑ k : Fin 512, gated x0 x1 x4 x5 r k * x6 (ix2 (⟨k.val, by have := k.isLt; omega⟩ : Fin 1024) d))
        + ∑ k : Fin 512, x2 (ix2 r k) * x6 (ix2 (⟨512 + k.val, by have := k.isLt; omega⟩ : Fin 1024) d) := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S512x1024) hz2, mask_1, mask_2, mask_3, tile_0, tile_1, tile_3, tile_4, tile_5, tile_6, tile_7, tile_8, tile_9,
    tile_10, tile_11, tile_12, tile_13, tile_14, tile_15]
  refine (result_apply _ x3 x6 _ _ _ r d).trans ?_
  refine congrArg₂ (fun p q : EReal => x3 (ix2 r d) + p + q) (Finset.sum_congr rfl fun k _ => congrArg (· * _) ?_) (Finset.sum_congr rfl fun k _ => congrArg (· * _) ?_)
  · rw [View.readCov_eq_canon']
    refine (View.canon_apply_of_pieces (gatedBlock x0 x1 x4 x5) _ ?_ _ (View.cover_of_tiled_head _ _ _ rfl _)).trans ?_
    · intro p hp
      simp only [List.mem_cons, List.not_mem_nil, or_false] at hp
      have H := fun (o p g : Nat) ho hp i1 i2 => tile_piece x0 x1 x4 x5 o p g ho hp i1 i2
      rcases hp with rfl | rfl | rfl | rfl | rfl | rfl | rfl | rfl | rfl | rfl | rfl | rfl | rfl | rfl | rfl | rfl
      · exact H 384 384 3 rfl rfl _ _
      · exact H 256 384 3 rfl rfl _ _
      · exact H 128 384 3 rfl rfl _ _
      · exact H 0 384 3 rfl rfl _ _
      · exact H 384 256 2 rfl rfl _ _
      · exact H 256 256 2 rfl rfl _ _
      · exact H 128 256 2 rfl rfl _ _
      · exact H 0 256 2 rfl rfl _ _
      · exact H 384 128 1 rfl rfl _ _
      · exact H 256 128 1 rfl rfl _ _
      · exact H 128 128 1 rfl rfl _ _
      · exact H 0 128 1 rfl rfl _ _
      · exact H 384 0 0 rfl rfl _ _
      · exact H 256 0 0 rfl rfl _ _
      · exact H 128 0 0 rfl rfl _ _
      · exact H 0 0 0 rfl rfl _ _
    · have e : (Rect.unit (s := S512x512) ![0, 0] S512x512.size inb_S512x512_S512x512_0_0).toLoadRect.idx (ix2 r k) = ix2 r k :=
        funext fun a => Fin.ext (match a with
          | ⟨0, _⟩ => (Rect.idx_unit_val (s := S512x512) ![0, 0] S512x512.size inb_S512x512_S512x512_0_0 (ix2 r k) 0).trans (Nat.zero_add _)
          | ⟨1, _⟩ => (Rect.idx_unit_val (s := S512x512) ![0, 0] S512x512.size inb_S512x512_S512x512_0_0 (ix2 r k) 1).trans (Nat.zero_add _))
      exact congrArg (gatedBlock x0 x1 x4 x5) e
  · exact congrFun (View.ld_unit_zero (S := S512x512) hz2 _ x2) (ix2 r k)

end Out

end Cert.KernelOoIdeal.Oo

end
-- ==== Proof.OoFold.lean ====
/-
  The odd layers' output projection: the blocks a point reads, and the array the call leaves.
-/
module

public import proofs.«01_k».proof.Proof.OoStep

@[expose] public section

noncomputable section

namespace Cert.KernelOoIdeal.Oo

open Idealize.ShloMosaic Idealize.ShloMosaic.TcCoe Idealize.SL.Sem Idealize.ShloMosaic.ValueIdx Idealize.ShloMosaic.Tactic
open Cert.KernelOoIdeal Cert.KernelOoIdeal.Gen Cert.KernelOoIdeal.Value Cert.Kit

variable (m : (ℓ : Loc nD τ sig) → Buf (Elt Ideal) ℓ)

abbrev uA (c : Dev nD) : FVec Ideal S16384x512 .bf16 := m ((c : Thread nD τ).loc main_arg0)
abbrev vA (c : Dev nD) : FVec Ideal S16384x512 .bf16 := m ((c : Thread nD τ).loc main_arg1)
abbrev yA (c : Dev nD) : FVec Ideal S16384x512 .bf16 := m ((c : Thread nD τ).loc main_arg2)
abbrev hA (c : Dev nD) : FVec Ideal S16384x1024 .f32 := m ((c : Thread nD τ).loc main_arg3)
abbrev wA (c : Dev nD) : FVec Ideal S4x128x128 .f32 := m ((c : Thread nD τ).loc main_arg4)
abbrev bA (c : Dev nD) : FVec Ideal S4x128 .f32 := m ((c : Thread nD τ).loc main_arg5)
abbrev oA (c : Dev nD) : FVec Ideal S1024x1024 .f32 := m ((c : Thread nD τ).loc main_arg6)

theorem points : cfg0.N = 32 := N_0

theorem index_u : ∀ t : Fin cfg0.N, win0_0.index t (0 : Fin 2) = t.val ∧ win0_0.index t (1 : Fin 2) = 0 := (by decide +kernel : ∀ t : Fin grid0.N, _)
theorem index_v : ∀ t : Fin cfg0.N, win0_1.index t (0 : Fin 2) = t.val ∧ win0_1.index t (1 : Fin 2) = 0 := (by decide +kernel : ∀ t : Fin grid0.N, _)
theorem index_y : ∀ t : Fin cfg0.N, win0_2.index t (0 : Fin 2) = t.val ∧ win0_2.index t (1 : Fin 2) = 0 := (by decide +kernel : ∀ t : Fin grid0.N, _)
theorem index_h : ∀ t : Fin cfg0.N, win0_3.index t (0 : Fin 2) = t.val ∧ win0_3.index t (1 : Fin 2) = 0 := (by decide +kernel : ∀ t : Fin grid0.N, _)
theorem index_w : ∀ t : Fin cfg0.N, win0_4.index t (0 : Fin 3) = 0 ∧ win0_4.index t (1 : Fin 3) = 0 ∧ win0_4.index t (2 : Fin 3) = 0 :=
  (by decide +kernel : ∀ t : Fin grid0.N, _)
theorem index_b : ∀ t : Fin cfg0.N, win0_5.index t (0 : Fin 3) = 0 ∧ win0_5.index t (1 : Fin 3) = 0 ∧ win0_5.index t (2 : Fin 3) = 0 :=
  (by decide +kernel : ∀ t : Fin grid0.N, _)
theorem index_o : ∀ t : Fin cfg0.N, win0_6.index t (0 : Fin 2) = 0 ∧ win0_6.index t (1 : Fin 2) = 0 := (by decide +kernel : ∀ t : Fin grid0.N, _)
theorem index_r : ∀ t : Fin cfg0.N, win0_7.index t (0 : Fin 2) = t.val ∧ win0_7.index t (1 : Fin 2) = 0 := (by decide +kernel : ∀ t : Fin grid0.N, _)

/-- Row `r` of the block of point `t`. -/
abbrev row (t : Fin cfg0.N) (r : Fin 512) : Fin 16384 := ⟨512 * t.val + r.val, by have := r.isLt; have := lt_of_lt_of_eq t.isLt points; omega⟩

/-! ## The blocks -/

theorem block_u (c : Dev nD) (t : Fin cfg0.N) (r k : Fin 512) : iblk m c 0 t (ix2 r k) = uA m c (ix2 (row t r) k) := by
  unfold iblk
  rw [View.read_apply, show uA m c = V m c main_arg0 from (V_main_arg0 m c).symm]
  refine congrArg (V m c main_arg0) (funext fun a => Fin.ext ?_)
  match a with
  | ⟨0, _⟩ => show win0_0.index t 0 * 512 + 1 * r.val = 512 * t.val + r.val; rw [(index_u t).1]; omega
  | ⟨1, _⟩ => show win0_0.index t 1 * 512 + 1 * k.val = k.val; rw [(index_u t).2]; omega

theorem block_v (c : Dev nD) (t : Fin cfg0.N) (r k : Fin 512) : iblk m c 1 t (ix2 r k) = vA m c (ix2 (row t r) k) := by
  unfold iblk
  rw [View.read_apply, show vA m c = V m c main_arg1 from (V_main_arg1 m c).symm]
  refine congrArg (V m c main_arg1) (funext fun a => Fin.ext ?_)
  match a with
  | ⟨0, _⟩ => show win0_1.index t 0 * 512 + 1 * r.val = 512 * t.val + r.val; rw [(index_v t).1]; omega
  | ⟨1, _⟩ => show win0_1.index t 1 * 512 + 1 * k.val = k.val; rw [(index_v t).2]; omega

theorem block_y (c : Dev nD) (t : Fin cfg0.N) (r k : Fin 512) : iblk m c 2 t (ix2 r k) = yA m c (ix2 (row t r) k) := by
  unfold iblk
  rw [View.read_apply, show yA m c = V m c main_arg2 from (V_main_arg2 m c).symm]
  refine congrArg (V m c main_arg2) (funext fun a => Fin.ext ?_)
  match a with
  | ⟨0, _⟩ => show win0_2.index t 0 * 512 + 1 * r.val = 512 * t.val + r.val; rw [(index_y t).1]; omega
  | ⟨1, _⟩ => show win0_2.index t 1 * 512 + 1 * k.val = k.val; rw [(index_y t).2]; omega

theorem block_h (c : Dev nD) (t : Fin cfg0.N) (r : Fin 512) (k : Fin 1024) : iblk m c 3 t (ix2 r k) = hA m c (ix2 (row t r) k) := by
  unfold iblk
  rw [View.read_apply, show hA m c = V m c main_arg3 from (V_main_arg3 m c).symm]
  refine congrArg (V m c main_arg3) (funext fun a => Fin.ext ?_)
  match a with
  | ⟨0, _⟩ => show win0_3.index t 0 * 512 + 1 * r.val = 512 * t.val + r.val; rw [(index_h t).1]; omega
  | ⟨1, _⟩ => show win0_3.index t 1 * 1024 + 1 * k.val = k.val; rw [(index_h t).2]; omega

theorem host_w (c : Dev nD) (g : Fin 4) (r s : Fin 128) : V m c main_v2 (ix3 g r s) = wA m c (ix3 g r s) := by
  have h : V m c main_v2 = (truncf .bf16 (wA m c) bitsLt_bf16_f32 : FVec Ideal S4x128x128 .bf16) := by
    show StableHlo.after hostOps0 (fun b => m (c, b)) (Proc.devRef .tc main_v2) = _
    after_results
  rw [h]; rfl

theorem host_o (c : Dev nD) (k n : Fin 1024) : V m c main_v3 (ix2 k n) = oA m c (ix2 k n) := by
  have h : V m c main_v3 = (truncf .bf16 (oA m c) bitsLt_bf16_f32 : FVec Ideal S1024x1024 .bf16) := by
    show StableHlo.after hostOps0 (fun b => m (c, b)) (Proc.devRef .tc main_v3) = _
    after_results
  rw [h]; rfl

/-- The bias, spread over the columns of a group. -/
theorem host_b (c : Dev nD) (g : Fin 4) (r s : Fin 128) : V m c main_v1 (ix3 g r s) = bA m c (ix2 g r) := by
  have h : V m c main_v1 = (broadcastInDim S4x128x128 ![0, 1, 2] bcast_S4x128x1_S4x128x128_0_1_2
      (broadcastInDim S4x128x1 ![0, 1] bcast_S4x128_S4x128x1_0_1 (bA m c)) : FVec Ideal S4x128x128 .f32) := by
    show StableHlo.after hostOps0 (fun b => m (c, b)) (Proc.devRef .tc main_v1) = _
    after_results
  rw [h]
  refine (broadcastInDim_apply _ _ _ (ix3 g r s) (ix3 g r u0) (fun a => match a with | ⟨0, _⟩ => rfl | ⟨1, _⟩ => rfl | ⟨2, _⟩ => rfl)).trans ?_
  exact broadcastInDim_apply _ _ _ (ix3 g r u0) (ix2 g r) (fun a => match a with | ⟨0, _⟩ => rfl | ⟨1, _⟩ => rfl)

theorem block_w (c : Dev nD) (t : Fin cfg0.N) (g : Fin 4) (r s : Fin 128) : iblk m c 4 t (ix3 g r s) = wA m c (ix3 g r s) := by
  unfold iblk
  rw [View.read_apply]
  refine (congrArg (V m c main_v2) (funext fun a => Fin.ext ?_)).trans (host_w m c g r s)
  match a with
  | ⟨0, _⟩ => show win0_4.index t 0 * 4 + 1 * g.val = g.val; rw [(index_w t).1]; omega
  | ⟨1, _⟩ => show win0_4.index t 1 * 128 + 1 * r.val = r.val; rw [(index_w t).2.1]; omega
  | ⟨2, _⟩ => show win0_4.index t 2 * 128 + 1 * s.val = s.val; rw [(index_w t).2.2]; omega

theorem block_b (c : Dev nD) (t : Fin cfg0.N) (g : Fin 4) (r s : Fin 128) : iblk m c 5 t (ix3 g r s) = bA m c (ix2 g r) := by
  unfold iblk
  rw [View.read_apply]
  refine (congrArg (V m c main_v1) (funext fun a => Fin.ext ?_)).trans (host_b m c g r s)
  match a with
  | ⟨0, _⟩ => show win0_5.index t 0 * 4 + 1 * g.val = g.val; rw [(index_b t).1]; omega
  | ⟨1, _⟩ => show win0_5.index t 1 * 128 + 1 * r.val = r.val; rw [(index_b t).2.1]; omega
  | ⟨2, _⟩ => show win0_5.index t 2 * 128 + 1 * s.val = s.val; rw [(index_b t).2.2]; omega

theorem block_o (c : Dev nD) (t : Fin cfg0.N) (k n : Fin 1024) : iblk m c 6 t (ix2 k n) = oA m c (ix2 k n) := by
  unfold iblk
  rw [View.read_apply]
  refine (congrArg (V m c main_v3) (funext fun a => Fin.ext ?_)).trans (host_o m c k n)
  match a with
  | ⟨0, _⟩ => show win0_6.index t 0 * 1024 + 1 * k.val = k.val; rw [(index_o t).1]; omega
  | ⟨1, _⟩ => show win0_6.index t 1 * 1024 + 1 * n.val = n.val; rw [(index_o t).2]; omega

/-! ## The result array -/

/-- A token's place in its block of 128 tokens, and token `s` of that block. -/
abbrev placeOf (i : Fin 16384) : Fin 128 := ⟨i.val % 128, by omega⟩
abbrev peer (i : Fin 16384) (s : Fin 128) : Fin 16384 := ⟨i.val / 128 * 128 + s.val, by have := i.isLt; have := s.isLt; omega⟩

section Array
variable (u v y : FVec Ideal S16384x512 .bf16) (h : FVec Ideal S16384x1024 .f32) (w : FVec Ideal S4x128x128 .f32) (b : FVec Ideal S4x128 .f32)
  (o : FVec Ideal S1024x1024 .f32)

/-- The gated mix of a token's block, at a column. -/
def mixAt (i : Fin 16384) (n : Fin 512) : EReal :=
  gate (u (ix2 i n)) (fun s => v (ix2 (peer i s) n)) (fun s => w (ix3 (groupOf n) (placeOf i) s)) (b (ix2 (groupOf n) (placeOf i))) (placeOf i)

/-- The residual plus the projection of the gated mix next to the attention. -/
def resultAt (i : Fin 16384) (d : Fin 1024) : EReal :=
  h (ix2 i d) + ((∑ k : Fin 512, mixAt u v w b i k * o (ix2 (⟨k.val, by have := k.isLt; omega⟩ : Fin 1024) d))
    + ∑ k : Fin 512, y (ix2 i k) * o (ix2 (⟨512 + k.val, by have := k.isLt; omega⟩ : Fin 1024) d))

def resultArr : FVec Ideal S16384x1024 .f32 := fun i => resultAt u v y h w b o (i 0) (i 1)
end Array

/-- The gated block of a point. -/
theorem gated_block (c : Dev nD) (t : Fin cfg0.N) (r n : Fin 512) :
    gated (iblk m c 0 t) (iblk m c 1 t) (iblk m c 4 t) (iblk m c 5 t) r n = mixAt (uA m c) (vA m c) (wA m c) (bA m c) (row t r) n := by
  unfold gated mixAt
  have hl : placeOf (row t r) = laneOf r := Fin.ext (by show (512 * t.val + r.val) % 128 = r.val % 128; omega)
  rw [hl, block_u, block_b]
  refine congrArg₂ (fun p q => gate _ p q _ _) (funext fun s => ?_) (funext fun s => block_w m c t _ _ s)
  rw [block_v]
  exact congrArg (fun j => vA m c (ix2 j n)) (Fin.ext (by
    show 512 * t.val + (r.val / 128 * 128 + s.val) = (512 * t.val + r.val) / 128 * 128 + s.val
    omega))

/-- An index of a block of the result, and the array's index under it. -/
abbrev cell (z : S512x1024.Idx) : S512x1024.Idx := ix2 (⟨(z 0).val, (z 0).isLt⟩ : Fin 512) (⟨(z 1).val, (z 1).isLt⟩ : Fin 1024)
abbrev spot (t : Fin cfg0.N) (z : S512x1024.Idx) : S16384x1024.Idx := ix2 (row t ⟨(z 0).val, (z 0).isLt⟩) (⟨(z 1).val, (z 1).isLt⟩ : Fin 1024)

theorem emb_spot (t : Fin cfg0.N) (y : S512x1024.Idx) (z : S16384x1024.Idx)
    (h0 : (z 0).val = win0_7.index t 0 * 512 + 1 * (y 0).val) (h1 : (z 1).val = win0_7.index t 1 * 1024 + 1 * (y 1).val) : z = spot t y := by
  funext a; apply Fin.ext
  match a with
  | ⟨0, _⟩ => show (z 0).val = 512 * t.val + (y 0).val; rw [h0, (index_r t).1]; omega
  | ⟨1, _⟩ => show (z 1).val = (y 1).val; rw [h1, (index_r t).2]; omega

/-- The point whose block holds a row. -/
abbrev owner (i : S16384x1024.Idx) : Fin cfg0.N := ⟨(i 0).val / 512, by have h : (i 0).val < 16384 := (i 0).isLt; have := points; omega⟩

theorem owner_covers (i : S16384x1024.Idx) (a : Fin 2) :
    win0_7.index (owner i) a * S512x1024.size a ≤ (i a).val ∧ (i a).val < win0_7.index (owner i) a * S512x1024.size a + S512x1024.size a := by
  have h0 : (i 0).val < 16384 := (i 0).isLt
  have h1 : (i 1).val < 1024 := (i 1).isLt
  obtain ⟨e0, e1⟩ := index_r (owner i)
  match a with
  | ⟨0, _⟩ => show win0_7.index _ 0 * 512 ≤ (i 0).val ∧ (i 0).val < win0_7.index _ 0 * 512 + 512; rw [e0]; dsimp only; omega
  | ⟨1, _⟩ => show win0_7.index _ 1 * 1024 ≤ (i 1).val ∧ (i 1).val < win0_7.index _ 1 * 1024 + 1024; rw [e1]; dsimp only; omega

theorem cell_of (y z : S512x1024.Idx) (h0 : (z 0).val = (y 0).val) (h1 : (z 1).val = (y 1).val) : z = cell y := by
  funext a; apply Fin.ext
  match a with
  | ⟨0, _⟩ => exact h0
  | ⟨1, _⟩ => exact h1

theorem result_eq (c : Dev nD) :
    (dats m 0 c).arrAt 7 cfg0.N = resultArr (uA m c) (vA m c) (yA m c) (hA m c) (wA m c) (bA m c) (oA m c) := by
  refine (dats m 0 c).arrAt_eq_of_cover 7 _ (fun t _ => ?_) (fun i => ⟨owner i, flush0_7 _, ?_⟩)
  · rw [flushed7_A]
    funext y
    rw [View.read_apply]
    show out0_A_7 (F := Ideal) c (grid0.coords t) _ _ _ _ _ _ _ _ _ _ _ _ _ _ _ _ _ _ (iblk m c 0 t) (iblk m c 1 t) (iblk m c 2 t) (iblk m c 3 t) (iblk m c 4 t)
        (iblk m c 5 t) (iblk m c 6 t) ((cfg0.win 7).xinj (grid0.coords t) y)
      = resultArr (uA m c) (vA m c) (yA m c) (hA m c) (wA m c) (bA m c) (oA m c) (((cfg0.win 7).blk t).view.emb y)
    rw [emb_spot t y (((cfg0.win 7).blk t).view.emb y) rfl rfl, cell_of y _ rfl rfl]
    refine (out_apply _ _ _ _ _ _ _ _ _ _ _ _ _ _ _ _ _ _ _ _ _ _ _ _ _ _ _ _ _).trans ?_
    rw [add_assoc, block_h]
    refine congrArg₂ (fun p q : EReal => _ + (p + q)) (Finset.sum_congr rfl fun k _ => ?_) (Finset.sum_congr rfl fun k _ => ?_)
    · rw [gated_block, block_o]
    · rw [block_y, block_o]
  · show i ∈ ((View.whole main_v4).slice (win0_7.rect (owner i))).set
    rw [View.set_slice_whole, Rect.mem_set_unit]
    exact owner_covers i

end Cert.KernelOoIdeal.Oo

end
-- ==== Proof.OoRef.lean ====
/-
  The odd layers' output projection as the reference writes it: the causal mix of each block of tokens as one product
  with the masked weights, and one product with the concatenated rows.
-/
module

public import proofs.«01_k».proof.Proof.Gen.ReferenceOoIdeal.Read
public import proofs.«01_k».proof.Proof.OoFold

@[expose] public section

noncomputable section

namespace Cert.ReferenceOoIdeal.Oo

open Idealize.ShloMosaic Idealize.ShloMosaic.TcCoe Idealize.SL.Sem Idealize.ShloMosaic.ValueIdx
open Cert.ReferenceOoIdeal Cert.ReferenceOoIdeal.Read Cert.Kit
open Cert.KernelOoIdeal.Oo (groupOf laneOf placeOf peer gate mixAt resultAt resultArr)

variable (u v y : FVec Ideal S16384x512 .bf16) (h : FVec Ideal S16384x1024 .f32) (w : FVec Ideal S4x128x128 .f32) (b : FVec Ideal S4x128 .f32)
  (o : FVec Ideal S1024x1024 .f32)

/-- The block of a token. -/
abbrev blockOf (i : Fin 16384) : Fin 128 := ⟨i.val / 128, by have := i.isLt; omega⟩

theorem lower_apply (t s : Fin 128) : val_main_v5 (F := Ideal) (ix2 t s) = 1#1 ↔ s.val ≤ t.val := by
  have ht := t.isLt
  have hs := s.isLt
  have e : val_main_call0_v4 (F := Ideal) (ix2 t s) = 1#1 ↔ s.val ≤ t.val := by
    rw [val_main_call0_v4_apply, val_main_call0_v2_apply, val_main_call0_v0_apply, val_main_call0_v1_apply, val_main_call0_c_apply, val_main_call0_v3_apply]
    show IntOp.cmpi .sge (BitVec.ofNat 32 t.val + 0#32) (BitVec.ofNat 32 s.val) = 1#1 ↔ _
    rw [BitVec.add_zero]
    exact word_sge (a := t.val) (b := s.val) (by omega) (by omega)
  rw [val_main_v5_apply, select_of e, val_main_v4_apply, val_main_call0_v5_apply]
  show (if s.val ≤ t.val then 1#1 else 0#1) = 1#1 ↔ _
  split <;> simp_all

/-- The masked weights. -/
theorem masked_apply (g : Fin 4) (t s : Fin 128) : val_main_v8 (F := Ideal) w (ix3 g t s) = if s.val ≤ t.val then w (ix3 g t s) else 0 := by
  have e : val_main_call1_v0 (F := Ideal) (ix3 g t s) = 1#1 ↔ s.val ≤ t.val := by
    rw [val_main_call1_v0_apply, val_main_v6_apply]
    refine (iff_of_eq (congrArg (fun j => val_main_v5 (F := Ideal) j = 1#1) ?_)).trans (lower_apply t s)
    exact eq_ix2 _
  rw [val_main_v8_apply, select_of e, val_main_v7_apply]
  exact if_congr Iff.rfl rfl Ideal.ofBits_zero_f32

/-- The normed values by block, place, group and lane. -/
theorem value_apply (i : Fin 16384) (s : Fin 128) (n : Fin 512) :
    val_main_v3 (F := Ideal) v (ix4 (blockOf i) s (groupOf n) (laneOf n)) = v (ix2 (peer i s) n) := by
  have hi := i.isLt
  have hn := n.isLt
  have hs := s.isLt
  rw [val_main_v3_apply, val_main_v1_apply]
  refine congrArg v (at2 _ _ _ ?_ ?_)
  · show ((((i.val / 128) * 128 + s.val) * 4 + n.val / 128) * 128 + n.val % 128) / 512 = i.val / 128 * 128 + s.val
    omega
  · show ((((i.val / 128) * 128 + s.val) * 4 + n.val / 128) * 128 + n.val % 128) % 512 = n.val
    omega

/-- The mix plus its bias. -/
theorem mixed_apply (i : Fin 16384) (n : Fin 512) : val_main_v16 (F := Ideal) v w b (ix2 i n)
    = (∑ s : Fin 128, (if s.val ≤ (placeOf i).val then w (ix3 (groupOf n) (placeOf i) s) else 0) * v (ix2 (peer i s) n)) + b (ix2 (groupOf n) (placeOf i)) := by
  have hi := i.isLt
  have hn := n.isLt
  have e : idx_main_v16 (ix2 i n) = ix4 (blockOf i) (placeOf i) (groupOf n) (laneOf n) := funext fun a => Fin.ext (match a with
    | ⟨0, _⟩ => by show (i.val * 512 + n.val) / 65536 = i.val / 128; omega
    | ⟨1, _⟩ => by show (i.val * 512 + n.val) / 512 % 128 = i.val % 128; omega
    | ⟨2, _⟩ => by show (i.val * 512 + n.val) / 128 % 4 = n.val / 128; omega
    | ⟨3, _⟩ => by show (i.val * 512 + n.val) % 128 = n.val % 128; omega)
  rw [val_main_v16_apply, e, val_main_v15_apply, val_main_v14_apply, val_main_v13_apply, val_main_v12_apply, val_main_v11_apply, val_main_v10_apply, val_main_v9_apply]
  refine congrArg₂ (fun p q : EReal => p + q) (Finset.sum_congr rfl fun s _ => ?_) (congrArg b (eq_ix2 _))
  rw [mul_comm]
  refine congrArg₂ (fun p q : EReal => p * q) ?_ ?_
  · exact (congrArg (val_main_v8 (F := Ideal) w) (eq_ix3 _)).trans (masked_apply w (groupOf n) (placeOf i) s)
  · exact (congrArg (val_main_v3 (F := Ideal) v) (eq_ix4 _)).trans (value_apply v i s n)

/-- The concatenated rows: the gated mix, then the attention. -/
theorem left_apply (i : Fin 16384) (k : Fin 512) :
    val_main_v18 (F := Ideal) u v y w b (ix2 i (⟨k.val, by have := k.isLt; omega⟩ : Fin 1024)) = mixAt u v w b i k := by
  unfold val_main_v18
  refine (concatenate_pair_apply_left (t := S16384x1024) (s₁ := S16384x512) (s₂ := S16384x512) 1 _ _ _ _ rfl (ix2 i k) fun a => match a with
    | ⟨0, _⟩ => rfl
    | ⟨1, _⟩ => rfl).trans ?_
  rw [val_main_v17_apply]
  exact congrArg (fun p : EReal => u (ix2 i k) * p) (mixed_apply v w b i k)

theorem right_apply (i : Fin 16384) (k : Fin 512) :
    val_main_v18 (F := Ideal) u v y w b (ix2 i (⟨512 + k.val, by have := k.isLt; omega⟩ : Fin 1024)) = y (ix2 i k) := by
  unfold val_main_v18
  exact concatenate_pair_apply_right (t := S16384x1024) (s₁ := S16384x512) (s₂ := S16384x512) 1 _ _ _ _ rfl rfl (ix2 i k) (fun a => match a with
    | ⟨0, _⟩ => fun _ => rfl
    | ⟨1, _⟩ => fun h => absurd rfl h) (Nat.add_comm _ _)

theorem result_apply (i : Fin 16384) (d : Fin 1024) : val_main_v20 (F := Ideal) u v y h w b o (ix2 i d) = resultAt u v y h w b o i d := by
  rw [val_main_v20_apply, val_main_v19_apply]
  refine congrArg (fun p : EReal => h (ix2 i d) + p) ?_
  refine (Fin.sum_univ_add (a := 512) (b := 512) (fun k : Fin (512 + 512) => (val_main_v18 (F := Ideal) u v y w b (lidx_main_v19 (ix2 i d) k) * o (ridx_main_v19 (ix2 i d) k) : EReal))).trans ?_
  refine congrArg₂ (fun p q : EReal => p + q) (Finset.sum_congr rfl fun k _ => ?_) (Finset.sum_congr rfl fun k _ => ?_)
  · refine congrArg₂ (fun p q : EReal => p * q) ?_ (congrArg o (eq_ix2 _))
    exact (congrArg (val_main_v18 (F := Ideal) u v y w b) (eq_ix2 _)).trans (left_apply u v y w b i k)
  · refine congrArg₂ (fun p q : EReal => p * q) ?_ (congrArg o (eq_ix2 _))
    exact (congrArg (val_main_v18 (F := Ideal) u v y w b) (eq_ix2 _)).trans (right_apply u v y w b i k)

theorem result_eq : val_main_v20 (F := Ideal) u v y h w b o = resultArr u v y h w b o := funext fun i => by
  rw [eq_ix2 i]; exact result_apply u v y h w b o _ _

end Cert.ReferenceOoIdeal.Oo

end
-- ==== Proof.OoClaims.lean ====
/-
  The claims about the odd layers' output projection.
-/
module

public import proofs.«01_k».proof.Defs
public import proofs.«01_k».proof.Proof.Gen.KernelOo.Frame
public import proofs.«01_k».proof.Proof.OoRef

@[expose] public section

noncomputable section

namespace Cert.Proof.Oo

open Idealize.ShloMosaic Idealize.SL.Sem Cert.KernelOoIdeal.Oo

theorem frame_kernel : Cert.quiescent_KernelOo := fun m ρ _ => Cert.KernelOo.Gen.frame m ρ

theorem frame_ideal : Cert.quiescent_KernelOoIdeal := fun m ρ _ => Cert.KernelOoIdeal.Gen.frame m ρ

theorem frame_reference : Cert.quiescent_ReferenceOoIdeal := fun m ρ _ =>
  (θ_run _ _ _).mono (fun r h => ⟨fun c => (h c).2, sem_eq_zero_of_no_sems (by decide) r.2⟩)
    (Cert.ReferenceOoIdeal.Value.run (F := Ideal) m ρ)

/-- Kernel and reference end with the same array. -/
theorem algebraic : Cert.algebraic_KernelOoIdeal_ReferenceOoIdeal := fun m ρ m' ρ' _ hag =>
  ⟨fun c => resultArr (uA m c) (vA m c) (yA m c) (hA m c) (wA m c) (bA m c) (oA m c),
    (θ_run _ _ _).mono (fun _ h c => ⟨(h c).1.trans (result_eq m c), (h c).2⟩) (Cert.KernelOoIdeal.Value.run_blocks m ρ),
    (θ_run _ _ _).mono (fun _ h c => by
      obtain ⟨e0, e1, e2, e3, e4, e5, e6⟩ := hag c
      refine ⟨(h c).1.trans ?_, (h c).2⟩
      rw [e0, e1, e2, e3, e4, e5, e6]
      exact (Cert.ReferenceOoIdeal.Read.val_main_v20_eq _ _ _ _ _ _ _).trans (Cert.ReferenceOoIdeal.Oo.result_eq _ _ _ _ _ _ _))
      (Cert.ReferenceOoIdeal.Value.run (F := Ideal) m' ρ')⟩

end Cert.Proof.Oo

end
-- ==== Proof.IeStep.lean ====
/-
  The even layers' input projection: what one row block computes. The heads' mean squares are products with a
  block-diagonal matrix of ones, in two parts; for real projections the second part is a product of zeros.
-/
module

public import proofs.«01_k».proof.Proof.Gen.KernelIeIdeal.Value
public import proofs.«01_k».proof.Proof.Norm

@[expose] public section

noncomputable section

namespace Cert.KernelIeIdeal.Ie

open Idealize.ShloMosaic Idealize.ShloMosaic.TcCoe Idealize.SL.Sem Idealize.ShloMosaic.ValueIdx Idealize.ShloMosaic.Tactic
open Cert.KernelIeIdeal Cert.KernelIeIdeal.Gen Cert.KernelIeIdeal.Value Cert.Kit

/-- The words of 1024, 64 and one eighth. -/
abbrev w1024 : EReal := Ideal.ofBits .f32 0x44800000#32
abbrev w64 : EReal := Ideal.ofBits .f32 0x42800000#32
abbrev eighth : EReal := Ideal.ofBits .f32 0x3E000000#32

/-- Column `n` of the projection of a normed row. -/
def project (x g : Fin 1024 → EReal) (w : Fin 1024 → Fin 2048 → EReal) (n : Fin 2048) : EReal := ∑ k, normed w1024 x g k * w k n

/-- The projection's columns by result: `512 p + d`. -/
abbrev place (p : Nat) (hp : p < 4) (d : Fin 512) : Fin 2048 := ⟨512 * p + d.val, by have := d.isLt; omega⟩

/-- Column `e` of the head that column `n` belongs to, and `n`'s column within its head. -/
abbrev headCol (n : Fin 512) (e : Fin 64) : Fin 512 := ⟨64 * (n.val / 64) + e.val, by have := n.isLt; have := e.isLt; omega⟩
abbrev inHead (n : Fin 512) : Fin 64 := ⟨n.val % 64, Nat.mod_lt _ (by decide)⟩

/-- A row normed head by head, under one gain for all heads. -/
def headNormed (y : Fin 512 → EReal) (g : Fin 64 → EReal) (n : Fin 512) : EReal := normed w64 (fun e => y (headCol n e)) g (inHead n)

theorem headCol_inHead (n : Fin 512) : headCol n (inHead n) = n := Fin.ext (Nat.div_add_mod n.val 64)

/-- Dividing by 64 is multiplying by its inverse's word. -/
theorem div_64 (x : EReal) : Ideal.div x w64 = x * Ideal.ofBits .f32 0x3C800000#32 := by
  have h1 : w64 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

/-- A sum over the columns of one head. -/
theorem sum_head (f : Fin 512 → EReal) (n : Fin 512) :
    ∑ k : Fin 512, f k * (if k.val / 64 = n.val / 64 then (1 : EReal) else 0) = ∑ e : Fin 64, f (headCol n e) := by
  have hn := n.isLt
  rw [← Equiv.sum_comp (finProdFinEquiv (m := 8) (n := 64)), Fintype.sum_prod_type, Finset.sum_eq_single (⟨n.val / 64, by omega⟩ : Fin 8)]
  · refine Finset.sum_congr rfl fun e _ => ?_
    have he := e.isLt
    have hv : (finProdFinEquiv ((⟨n.val / 64, by omega⟩ : Fin 8), e)).val = e.val + 64 * (n.val / 64) := rfl
    rw [if_pos (by rw [hv]; omega), mul_one]
    exact congrArg f (Fin.ext (by rw [hv]; show _ = 64 * (n.val / 64) + e.val; omega))
  · intro h _ hh
    refine Finset.sum_eq_zero fun e _ => ?_
    have he := e.isLt
    have hv : (finProdFinEquiv (h, e)).val = e.val + 64 * h.val := rfl
    rw [if_neg (by rw [hv]; exact fun h' => hh (Fin.ext (by show h.val = n.val / 64; omega))), mul_zero]
  · exact fun h => absurd (Finset.mem_univ _) h

/-- A position's head, as the kernel's words compute it: the quotient, less one where signs differ and a remainder is left. -/
def headWord (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem headWord_apply : ∀ k : Fin 512, headWord (BitVec.ofNat 32 k.val) = BitVec.ofNat 32 (k.val / 64) := by decide +kernel

theorem sameHead : ∀ a b : Fin 8, IntOp.cmpi .eq (BitVec.ofNat 32 a.val) (BitVec.ofNat 32 b.val) = 1#1 ↔ a.val = b.val := by decide +kernel

theorem headWord_eq (k n : Fin 512) : IntOp.cmpi .eq (headWord (BitVec.ofNat 32 k.val)) (headWord (BitVec.ofNat 32 n.val)) = 1#1 ↔ k.val / 64 = n.val / 64 := by
  have hk := k.isLt
  have hn := n.isLt
  rw [headWord_apply, headWord_apply]
  exact sameHead ⟨k.val / 64, by omega⟩ ⟨n.val / 64, by omega⟩

/-- The ones of the block-diagonal matrix. -/
def diag : IVec S512x512 1 := fun i => IntOp.cmpi .eq (headWord (iota .tc S512x512 32 [0] iota_S512x512_d0_w32 i)) (headWord (iota .tc S512x512 32 [1] iota_S512x512_d1_w32 i))

theorem diag_apply (k n : Fin 512) : diag (ix2 k n) = 1#1 ↔ k.val / 64 = n.val / 64 := by
  unfold diag
  rw [iota_single_apply, iota_single_apply]
  exact headWord_eq k n

/-- The heads' mean squares of a block, by the two-part product. -/
def meanSq (y : FVec Ideal S512x512 .f32) : FVec Ideal S512x512 .f32 :=
  mulf (addf (matmul dot_S512x512_S512x512_S512x512_1_0_0_1_n_n none (truncf .bf16 (mulf y y) bitsLt_bf16_f32)
      (truncf .bf16 (select diag (broadcast S512x512 (Scalar.ofBits (F := Ideal) .f32 0x3F800000#32)) (broadcast S512x512 (Scalar.ofBits (F := Ideal) .f32 0x00000000#32))) bitsLt_bf16_f32) (constant S512x512 .f32 0x00000000#32))
    (matmul dot_S512x512_S512x512_S512x512_1_0_0_1_n_n none (truncf .bf16 (subf (mulf y y) (extf .f32 (truncf .bf16 (mulf y y) bitsLt_bf16_f32) bitsLt_bf16_f32)) bitsLt_bf16_f32)
      (truncf .bf16 (select diag (broadcast S512x512 (Scalar.ofBits (F := Ideal) .f32 0x3F800000#32)) (broadcast S512x512 (Scalar.ofBits (F := Ideal) .f32 0x00000000#32))) bitsLt_bf16_f32) (constant S512x512 .f32 0x00000000#32)))
    (broadcast S512x512 (Scalar.ofBits .f32 0x3C800000#32))

/-- The norm of a block, head by head, by the kernel's operations. -/
def headV (y : FVec Ideal S512x512 .f32) (g : FVec Ideal S1x512 .f32) : FVec Ideal S512x512 .f32 :=
  mulf (mulf y (rsqrt (addf (meanSq y) (broadcast S512x512 (Scalar.ofBits .f32 0x358637BD#32))))) (broadcastTo S512x512 g broadcasts_S1x512_S512x512)

theorem queries_term (y : FVec Ideal S512x512 .f32) (g : FVec Ideal S1x512 .f32) :
    k0_pay13 (F := Ideal) y g (k0_pay12 y k0_pay9 k0_pay10 k0_pay11)
      = shapeCast S1x512x512 (truncf .bf16 (mulf (headV y g) (broadcast S512x512 (Scalar.ofBits .f32 0x3E000000#32))) bitsLt_bf16_f32) shapeCasts_S512x512_S1x512x512 := rfl

theorem keys_term (y : FVec Ideal S512x512 .f32) (g : FVec Ideal S1x512 .f32) :
    k0_pay18 (F := Ideal) y g k0_pay16 (iota .tc S512x512 32 [1] iota_S512x512_d1_w32) 64#32 k0_pay17 0#32
      = truncf .bf16 (headV y g) bitsLt_bf16_f32 := rfl

section Heads
variable (y : FVec Ideal S512x512 .f32) (g : FVec Ideal S1x512 .f32) (hy : ∀ r n, ∃ x : ℝ, y (ix2 r n) = (x : EReal))
include hy

theorem meanSq_apply (r n : Fin 512) :
    meanSq y (ix2 r n) = Ideal.div (∑ e : Fin 64, y (ix2 r (headCol n e)) * y (ix2 r (headCol n e))) w64 := by
  have hb : ∀ k : Fin 512, Scalar.select (diag (ix2 k n)) (Ideal.ofBits .f32 0x3F800000#32) (0 : EReal) = if k.val / 64 = n.val / 64 then (1 : EReal) else 0 := fun k => by
    rw [select_of (diag_apply k n), one_word]
  show (FloatOps.matmul (rowCol _) none (fun j => y j * y j) (fun j => Scalar.select (diag j) (Ideal.ofBits .f32 0x3F800000#32) (Ideal.ofBits .f32 0x00000000#32)) _ (ix2 r n)
    + FloatOps.matmul (rowCol _) none (fun j => y j * y j - y j * y j) (fun j => Scalar.select (diag j) (Ideal.ofBits .f32 0x3F800000#32) (Ideal.ofBits .f32 0x00000000#32)) _ (ix2 r n))
      * Ideal.ofBits .f32 0x3C800000#32 = _
  rw [matmul_rowCol, matmul_rowCol, div_64]
  show ((Ideal.ofBits .f32 0x00000000#32 + _) + (Ideal.ofBits .f32 0x00000000#32 + _)) * _ = _
  rw [Ideal.ofBits_zero_f32, zero_add, zero_add]
  refine congrArg (· * _) ?_
  rw [Finset.sum_eq_zero (s := Finset.univ) (f := fun k : Fin 512 => (y (ix2 r k) * y (ix2 r k) - y (ix2 r k) * y (ix2 r k)) * _) (fun k _ => ?_), add_zero]
  · rw [← sum_head (fun k => y (ix2 r k) * y (ix2 r k)) n]
    exact Finset.sum_congr rfl fun k _ => congrArg (y (ix2 r k) * y (ix2 r k) * ·) (hb k)
  · obtain ⟨x, hx⟩ := hy r k
    rw [hx, ← EReal.coe_mul, ← EReal.coe_sub, sub_self, EReal.coe_zero, zero_mul]

theorem headV_apply (g' : Fin 64 → EReal) (hg : ∀ n : Fin 512, g (ix2 u0 n) = g' (inHead n)) (r n : Fin 512) :
    headV y g (ix2 r n) = headNormed (fun k => y (ix2 r k)) g' n := by
  show y (ix2 r n) * Ideal.rsqrt (meanSq y (ix2 r n) + eps) * broadcastTo S512x512 g broadcasts_S1x512_S512x512 (ix2 r n) = _
  rw [meanSq_apply y hy, rowSpread_apply, hg]
  show _ = y (ix2 r (headCol n (inHead n))) * _ * _
  rw [headCol_inHead]
  rfl

end Heads

section Block
variable (x : FVec Ideal S1x512x1024 .f32) (g : FVec Ideal S1x1024 .f32) (w : FVec Ideal S1024x2048 .bf16)

/-- The row, the gain and the weights of a block, as functions. -/
abbrev rowOf (r : Fin 512) : Fin 1024 → EReal := fun k => x (ix3 u0 r k)
abbrev gainOf : Fin 1024 → EReal := fun k => g (ix2 u0 k)
abbrev weightOf : Fin 1024 → Fin 2048 → EReal := fun k n => w (ix2 k n)

theorem project_apply (r : Fin 512) (n : Fin 2048) :
    k0_pay6 (F := Ideal) x g w (ix2 r n) = project (rowOf x r) (gainOf g) (weightOf w) n := by
  unfold k0_pay6
  dsimp only
  rw [shapeCast_self, shapeCast_self]
  refine (matmul_rowCol _ _ _ _ _ _ _).trans ?_
  rw [constant_apply, Ideal.ofBits_zero_f32, zero_add]
  refine Finset.sum_congr rfl fun k _ => congrArg (· * w (ix2 k n)) ?_
  refine (normBlock_apply (shapeCast S512x1024 x shapeCasts_S1x512x1024_S512x1024) g _ _ _ _ _ _ _ r k).trans ?_
  exact congrArg (fun f => normed w1024 f (gainOf g) k) (funext fun k => dropUnit_apply x _ r k)

/-- The slice of the projection that holds result `p`. -/
theorem slice_apply (p : Nat) (hp : p < 4) (h : S512x2048.Slices ![0, 512 * p] S512x512) (r d : Fin 512) :
    extractStridedSlice S512x512 ![0, 512 * p] (k0_pay6 (F := Ideal) x g w) h (ix2 r d) = project (rowOf x r) (gainOf g) (weightOf w) (place p hp d) := by
  rw [extractStridedSlice_apply ![0, 512 * p] _ _ (ix2 r d) (ix2 r (place p hp d)) (fun a => match a with
    | ⟨0, _⟩ => (Nat.zero_add _).symm
    | ⟨1, _⟩ => rfl), project_apply]

/-- A block with a leading unit axis put in front. -/
theorem addUnit_apply {α : Type} (v : S512x512.Idx → α) (h : S512x512.ShapeCasts S1x512x512) (r d : Fin 512) :
    shapeCast S1x512x512 v h (ix3 u0 r d) = v (ix2 r d) := by
  refine shapeCast_apply v h (ix3 u0 r d) (ix2 r d) ?_
  rw [Shape.rowMajor_val_three, Shape.rowMajor_val_two]
  show r.val * 512 + d.val = (0 * 512 + r.val) * 512 + d.val
  omega

theorem v_apply (r d : Fin 512) : k0_pay4 (F := Ideal) (k0_pay6 x g w) (ix3 u0 r d) = project (rowOf x r) (gainOf g) (weightOf w) (place 2 (by decide) d) :=
  (addUnit_apply _ _ r d).trans (slice_apply x g w 2 (by decide) slices_S512x2048_o0_1024_S512x512 r d)

theorem p_apply (r d : Fin 512) : k0_pay5 (F := Ideal) (k0_pay6 x g w) (ix3 u0 r d) = project (rowOf x r) (gainOf g) (weightOf w) (place 3 (by decide) d) :=
  (addUnit_apply _ _ r d).trans (slice_apply x g w 3 (by decide) slices_S512x2048_o0_1536_S512x512 r d)

variable (hr : ∀ r n, ∃ z : ℝ, project (rowOf x r) (gainOf g) (weightOf w) n = (z : EReal))
  (hd : FVec Ideal S1x512 .f32) (hd' : Fin 64 → EReal) (hhd : ∀ n : Fin 512, hd (ix2 u0 n) = hd' (inHead n))
include hr hhd

theorem q_apply (r d : Fin 512) :
    k0_pay13 (F := Ideal) (k0_pay7 x g w) (k0_pay8 hd) (k0_pay12 (k0_pay7 x g w) k0_pay9 k0_pay10 k0_pay11) (ix3 u0 r d)
      = headNormed (fun n => project (rowOf x r) (gainOf g) (weightOf w) (place 0 (by decide) n)) hd' d * eighth := by
  have hs : ∀ r n, k0_pay7 (F := Ideal) x g w (ix2 r n) = project (rowOf x r) (gainOf g) (weightOf w) (place 0 (by decide) n) :=
    fun r n => slice_apply x g w 0 (by decide) slices_S512x2048_o0_0_S512x512 r n
  rw [queries_term, addUnit_apply]
  show headV (k0_pay7 (F := Ideal) x g w) (k0_pay8 hd) (ix2 r d) * eighth = _
  rw [headV_apply _ _ (fun r n => by rw [hs]; exact hr r _) hd' (fun n => by unfold k0_pay8; rw [shapeCast_self]; exact hhd n)]
  exact congrArg (fun f => headNormed f hd' d * eighth) (funext fun n => hs r n)

theorem k_apply (r d : Fin 512) :
    k0_pay3 (F := Ideal) (k0_pay18 (k0_pay14 (k0_pay6 x g w)) (k0_pay15 hd) k0_pay16 (iota .tc S512x512 32 [1] iota_S512x512_d1_w32) 64#32 k0_pay17 0#32) (ix3 u0 r d)
      = headNormed (fun n => project (rowOf x r) (gainOf g) (weightOf w) (place 1 (by decide) n)) hd' d := by
  have hs : ∀ r n, k0_pay14 (F := Ideal) (k0_pay6 x g w) (ix2 r n) = project (rowOf x r) (gainOf g) (weightOf w) (place 1 (by decide) n) :=
    fun r n => slice_apply x g w 1 (by decide) slices_S512x2048_o0_512_S512x512 r n
  rw [keys_term]
  unfold k0_pay3
  refine (addUnit_apply _ _ r d).trans ?_
  show headV (k0_pay14 (F := Ideal) (k0_pay6 x g w)) (k0_pay15 hd) (ix2 r d) = _
  rw [headV_apply _ _ (fun r n => by rw [hs]; exact hr r _) hd' (fun n => by unfold k0_pay15; rw [shapeCast_self]; exact hhd n)]
  exact congrArg (fun f => headNormed f hd' d) (funext fun n => hs r n)

end Block

end Cert.KernelIeIdeal.Ie

end
-- ==== Proof.IeReal.lean ====
/-
  The even layers' input projection: a real row under a real gain and real weights has a real projection. The norm's
  epsilon keeps the root away from zero.
-/
module

public import proofs.«01_k».proof.Proof.IeStep

@[expose] public section

noncomputable section

namespace Cert.KernelIeIdeal.Ie

open Idealize.ShloMosaic Cert.KernelIeIdeal Cert.Kit

theorem eps_real : eps = ((8796093 / 2 ^ 43 : ℝ) : EReal) := by
  simp [eps, Ideal.ofBits, Ideal.ieee, -EReal.coe_mul]; norm_num

theorem real_mul {a b : EReal} (ha : ∃ x : ℝ, a = (x : EReal)) (hb : ∃ x : ℝ, b = (x : EReal)) : ∃ x : ℝ, a * b = (x : EReal) := by
  obtain ⟨x, rfl⟩ := ha
  obtain ⟨y, rfl⟩ := hb
  exact ⟨x * y, (EReal.coe_mul x y).symm⟩

theorem real_sum {n : Nat} (f : Fin n → EReal) (hf : ∀ k, ∃ x : ℝ, f k = (x : EReal)) : ∃ x : ℝ, ∑ k, f k = (x : EReal) := by
  choose r hr using hf
  exact ⟨∑ k, r k, by rw [coe_sum]; exact Finset.sum_congr rfl fun k _ => hr k⟩

/-- One over a real row's root mean square. -/
theorem invRms_real {n : Nat} (N : EReal) (d : ℝ) (hd : 0 < d) (hN : N = (d : EReal)) (x : Fin n → EReal) (hx : ∀ k, ∃ r : ℝ, x k = (r : EReal)) :
    ∃ r : ℝ, invRms N x = (r : EReal) := by
  choose r hr using hx
  have hs : ∑ k, x k * x k = ((∑ k, r k * r k : ℝ) : EReal) := by
    rw [coe_sum]
    exact Finset.sum_congr rfl fun k _ => by rw [hr k, EReal.coe_mul]
  have h0 : (0 : ℝ) ≤ ∑ k, r k * r k := Finset.sum_nonneg fun k _ => mul_self_nonneg _
  have hp : (0 : ℝ) < (∑ k, r k * r k) * (1 / d) + 8796093 / 2 ^ 43 := by
    have : (0 : ℝ) ≤ (∑ k, r k * r k) * (1 / d) := mul_nonneg h0 (by positivity)
    positivity
  unfold invRms
  rw [hs, hN, Ideal.div_coe (ne_of_gt hd), eps_real, ← EReal.coe_mul, ← EReal.coe_add, Ideal.rsqrt_coe, if_neg (not_lt.2 hp.le), if_neg (ne_of_gt hp)]
  exact ⟨_, rfl⟩

theorem w1024_real : w1024 = ((1024 : ℝ) : EReal) := by
  simp [Ideal.ofBits, Ideal.ieee, -EReal.coe_mul]; norm_num

theorem project_real (x g : Fin 1024 → EReal) (w : Fin 1024 → Fin 2048 → EReal) (hx : ∀ k, ∃ r : ℝ, x k = (r : EReal))
    (hg : ∀ k, ∃ r : ℝ, g k = (r : EReal)) (hw : ∀ k n, ∃ r : ℝ, w k n = (r : EReal)) (n : Fin 2048) : ∃ r : ℝ, project x g w n = (r : EReal) :=
  real_sum _ fun k => real_mul (real_mul (real_mul (hx k) (invRms_real w1024 1024 (by norm_num) w1024_real x hx)) (hg k)) (hw k n)

end Cert.KernelIeIdeal.Ie

end
-- ==== Proof.IePoint.lean ====
/-
  The even layers' input projection: the blocks a grid point leaves. The first point of a batch entry leaves the zero
  rows in front of the keys and values; every other point leaves its rows' queries, keys, values and pooling inputs.
-/
module

public import proofs.«01_k».proof.Proof.IeReal

@[expose] public section

noncomputable section

namespace Cert.KernelIeIdeal.Ie

open Idealize.ShloMosaic Idealize.ShloMosaic.TcCoe Idealize.SL.Sem Idealize.ShloMosaic.ValueIdx Idealize.ShloMosaic.Tactic
open Cert.KernelIeIdeal Cert.KernelIeIdeal.Gen Cert.KernelIeIdeal.Value Cert.Kit

section Blocks
variable (x : FVec Ideal S1x512x1024 .f32) (g : FVec Ideal S1x1024 .f32) (w : FVec Ideal S1024x2048 .bf16) (hd : FVec Ideal S1x512 .f32)

def qBlk : FVec Ideal S1x512x512 .bf16 := k0_pay13 (k0_pay7 x g w) (k0_pay8 hd) (k0_pay12 (k0_pay7 x g w) k0_pay9 k0_pay10 k0_pay11)
def kBlk : FVec Ideal S1x512x512 .bf16 :=
  k0_pay3 (k0_pay18 (k0_pay14 (k0_pay6 x g w)) (k0_pay15 hd) k0_pay16 (iota .tc S512x512 32 [1] iota_S512x512_d1_w32) 64#32 k0_pay17 0#32)
def vBlk : FVec Ideal S1x512x512 .bf16 := k0_pay4 (k0_pay6 x g w)
def pBlk : FVec Ideal S1x512x512 .bf16 := k0_pay5 (k0_pay6 x g w)
def zeroBlk : FVec Ideal S1x512x512 .bf16 := fun _ => 0
end Blocks

section Out
variable (c : Dev nD) (i : grid0.Coords) (a2 : Memref sig .tc .vmem S1x512x1024 .f32) (h2 : a2.IsWhole) (a3 : Memref sig .tc .vmem S1x1024 .f32) (h3 : a3.IsWhole)
  (a4 : Memref sig .tc .vmem S1024x2048 .bf16) (h4 : a4.IsWhole) (a5 : Memref sig .tc .vmem S1x512 .f32) (h5 : a5.IsWhole)
  (a6 : Memref sig .tc .vmem S1x512 .f32) (h6 : a6.IsWhole) (a7 : Memref sig .tc .vmem S1x512x512 .bf16) (h7 : a7.IsWhole)
  (a8 : Memref sig .tc .vmem S1x512x512 .bf16) (h8 : a8.IsWhole) (a9 : Memref sig .tc .vmem S1x512x512 .bf16) (h9 : a9.IsWhole)
  (a10 : Memref sig .tc .vmem S1x512x512 .bf16) (h10 : a10.IsWhole)
  (x0 : Vec Ideal S1x512x1024 .f32) (x1 : Vec Ideal S1x1024 .f32) (x2 : Vec Ideal S1024x2048 .bf16) (x3 x4 : Vec Ideal S1x512 .f32)

section A
variable (hc0 : cond0_0 i) (hc1 : ¬cond0_1 i)

theorem out_zero_k : out0_A_6 (F := Ideal) c i a2 h2 a3 h3 a4 h4 a5 h5 a6 h6 a7 h7 a8 h8 a9 h9 a10 h10 hc0 hc1 x0 x1 x2 x3 x4 = zeroBlk := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz3]
  funext y
  show Ideal.ofBits .bf16 0x0000#16 = 0
  simp [Ideal.ofBits, Ideal.ieee]

theorem out_zero_v : out0_A_7 (F := Ideal) c i a2 h2 a3 h3 a4 h4 a5 h5 a6 h6 a7 h7 a8 h8 a9 h9 a10 h10 hc0 hc1 x0 x1 x2 x3 x4 = zeroBlk := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz3]
  funext y
  show Ideal.ofBits .bf16 0x0000#16 = 0
  simp [Ideal.ofBits, Ideal.ieee]
end A

section B
variable (hc0 : ¬cond0_0 i) (hc1 : cond0_1 i)

theorem out_q : out0_B_5 (F := Ideal) c i a2 h2 a3 h3 a4 h4 a5 h5 a6 h6 a7 h7 a8 h8 a9 h9 a10 h10 hc0 hc1 x0 x1 x2 x3 x4 = qBlk x0 x1 x2 x3 := by
  unfold out0_B_5
  rw [View.read_writes_eq_canon _ _ _ (cover0_B_5 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x512x1024) hz3,
    View.ld_unit_zero (S := S1x1024) hz2, View.ld_unit_zero (S := S1024x2048) hz2, View.ld_unit_zero (S := S1x512) hz2]
  rfl

theorem out_k : out0_B_6 (F := Ideal) c i a2 h2 a3 h3 a4 h4 a5 h5 a6 h6 a7 h7 a8 h8 a9 h9 a10 h10 hc0 hc1 x0 x1 x2 x3 x4 = kBlk x0 x1 x2 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x512x1024) hz3,
    View.ld_unit_zero (S := S1x1024) hz2, View.ld_unit_zero (S := S1024x2048) hz2, View.ld_unit_zero (S := S1x512) hz2]
  rfl

theorem out_v : out0_B_7 (F := Ideal) c i a2 h2 a3 h3 a4 h4 a5 h5 a6 h6 a7 h7 a8 h8 a9 h9 a10 h10 hc0 hc1 x0 x1 x2 x3 x4 = vBlk x0 x1 x2 := by
  unfold out0_B_7
  rw [View.read_writes_eq_canon _ _ _ (cover0_B_7 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero hz3]
  simp only [View.readAt_eq_ld, h2.read_unread, h3.read_unread, h4.read_unread, View.ld_unit_zero (S := S1x512x1024) hz3,
    View.ld_unit_zero (S := S1x1024) hz2, View.ld_unit_zero (S := S1024x2048) hz2]
  rfl

theorem out_p : out0_B_8 (F := Ideal) c i a2 h2 a3 h3 a4 h4 a5 h5 a6 h6 a7 h7 a8 h8 a9 h9 a10 h10 hc0 hc1 x0 x1 x2 x3 x4 = pBlk x0 x1 x2 := by
  unfold out0_B_8
  rw [View.read_writes_eq_canon _ _ _ (cover0_B_8 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero hz3]
  simp only [View.readAt_eq_ld, h2.read_unread, h3.read_unread, h4.read_unread, View.ld_unit_zero (S := S1x512x1024) hz3,
    View.ld_unit_zero (S := S1x1024) hz2, View.ld_unit_zero (S := S1024x2048) hz2]
  rfl
end B

end Out

end Cert.KernelIeIdeal.Ie

end
-- ==== Proof.IeFold.lean ====
/-
  The even layers' input projection: the result arrays. Row block `j` of a batch entry of the queries and the pooling
  inputs comes from the entry's point `j + 1`; the keys' and values' block `j` from its point `j`, the first all zero.
-/
module

public import proofs.«01_k».proof.Proof.IePoint

@[expose] public section

noncomputable section

namespace Cert.KernelIeIdeal.Ie

open Idealize.ShloMosaic Idealize.ShloMosaic.TcCoe Idealize.SL.Sem Idealize.ShloMosaic.ValueIdx Idealize.ShloMosaic.Tactic
open Cert.KernelIeIdeal Cert.KernelIeIdeal.Gen Cert.KernelIeIdeal.Value Cert.Kit

variable (m : (ℓ : Loc nD τ sig) → Buf (Elt Ideal) ℓ)

abbrev hA (c : Dev nD) : FVec Ideal S4x4096x1024 .f32 := m ((c : Thread nD τ).loc main_arg0)
abbrev gA (c : Dev nD) : FVec Ideal S1024 .f32 := m ((c : Thread nD τ).loc main_arg1)
abbrev wA (c : Dev nD) : FVec Ideal S1024x2048 .f32 := m ((c : Thread nD τ).loc main_arg2)
abbrev qgA (c : Dev nD) : FVec Ideal S64 .f32 := m ((c : Thread nD τ).loc main_arg3)
abbrev kgA (c : Dev nD) : FVec Ideal S64 .f32 := m ((c : Thread nD τ).loc main_arg4)

theorem points : cfg0.N = 36 := N_0

theorem index_h : ∀ t : Fin cfg0.N, win0_0.index t (0 : Fin 3) = t.val / 9 ∧ win0_0.index t (1 : Fin 3) = t.val % 9 - 1 ∧ win0_0.index t (2 : Fin 3) = 0 :=
  (by decide +kernel : ∀ t : Fin grid0.N, _)
theorem index_g : ∀ t : Fin cfg0.N, win0_1.index t (0 : Fin 2) = 0 ∧ win0_1.index t (1 : Fin 2) = 0 := (by decide +kernel : ∀ t : Fin grid0.N, _)
theorem index_w : ∀ t : Fin cfg0.N, win0_2.index t (0 : Fin 2) = 0 ∧ win0_2.index t (1 : Fin 2) = 0 := (by decide +kernel : ∀ t : Fin grid0.N, _)
theorem index_qg : ∀ t : Fin cfg0.N, win0_3.index t (0 : Fin 2) = 0 ∧ win0_3.index t (1 : Fin 2) = 0 := (by decide +kernel : ∀ t : Fin grid0.N, _)
theorem index_kg : ∀ t : Fin cfg0.N, win0_4.index t (0 : Fin 2) = 0 ∧ win0_4.index t (1 : Fin 2) = 0 := (by decide +kernel : ∀ t : Fin grid0.N, _)
theorem index_q : ∀ t : Fin cfg0.N, win0_5.index t (0 : Fin 3) = t.val / 9 ∧ win0_5.index t (1 : Fin 3) = t.val % 9 - 1 ∧ win0_5.index t (2 : Fin 3) = 0 :=
  (by decide +kernel : ∀ t : Fin grid0.N, _)
theorem index_k : ∀ t : Fin cfg0.N, win0_6.index t (0 : Fin 3) = t.val / 9 ∧ win0_6.index t (1 : Fin 3) = t.val % 9 ∧ win0_6.index t (2 : Fin 3) = 0 :=
  (by decide +kernel : ∀ t : Fin grid0.N, _)
theorem flush_q : ∀ t : Fin cfg0.N, (cfg0.win 5).flush t = true ↔ 1 ≤ t.val % 9 := (by decide +kernel : ∀ t : Fin grid0.N, win0_5.flush t = true ↔ 1 ≤ t.val % 9)
theorem flush_p : ∀ t : Fin cfg0.N, (cfg0.win 8).flush t = true ↔ 1 ≤ t.val % 9 := (by decide +kernel : ∀ t : Fin grid0.N, win0_8.flush t = true ↔ 1 ≤ t.val % 9)

/-- The batch entry of a point, and row `r` of the block it reads. -/
abbrev entry (t : Fin cfg0.N) : Fin 4 := ⟨t.val / 9, by have := lt_of_lt_of_eq t.isLt points; omega⟩
abbrev row (t : Fin cfg0.N) (r : Fin 512) : Fin 4096 := ⟨512 * (t.val % 9 - 1) + r.val, by have := r.isLt; have := lt_of_lt_of_eq t.isLt points; omega⟩

/-! ## The blocks read -/

theorem block_h (c : Dev nD) (t : Fin cfg0.N) (r : Fin 512) (k : Fin 1024) : iblk m c 0 t (ix3 u0 r k) = hA m c (ix3 (entry t) (row t r) k) := by
  unfold iblk
  rw [View.read_apply, show hA m c = V m c main_arg0 from (V_main_arg0 m c).symm]
  refine congrArg (V m c main_arg0) (funext fun a => Fin.ext ?_)
  match a with
  | ⟨0, _⟩ => show win0_0.index t 0 * 1 + 1 * 0 = t.val / 9; rw [(index_h t).1]; omega
  | ⟨1, _⟩ => show win0_0.index t 1 * 512 + 1 * r.val = 512 * (t.val % 9 - 1) + r.val; rw [(index_h t).2.1]; omega
  | ⟨2, _⟩ => show win0_0.index t 2 * 1024 + 1 * k.val = k.val; rw [(index_h t).2.2]; omega

theorem host_g (c : Dev nD) (k : Fin 1024) : V m c main_v0 (ix2 u0 k) = gA m c (ix1 k) := by
  have h : V m c main_v0 = (broadcastInDim S1x1024 ![1] bcast_S1024_S1x1024_1 (gA m c) : FVec Ideal S1x1024 .f32) := by
    show StableHlo.after hostOps0 (fun b => m (c, b)) (Proc.devRef .tc main_v0) = _
    after_results
  rw [h]
  exact broadcastInDim_apply _ _ _ (ix2 u0 k) (ix1 k) (fun a => match a with | ⟨0, _⟩ => rfl)

theorem host_w (c : Dev nD) (k : Fin 1024) (n : Fin 2048) : V m c main_v1 (ix2 k n) = wA m c (ix2 k n) := by
  have h : V m c main_v1 = (truncf .bf16 (wA m c) bitsLt_bf16_f32 : FVec Ideal S1024x2048 .bf16) := by
    show StableHlo.after hostOps0 (fun b => m (c, b)) (Proc.devRef .tc main_v1) = _
    after_results
  rw [h]; rfl

/-- A head gain laid out once per head. -/
def tiled (q : FVec Ideal S64 .f32) : FVec Ideal S1x512 .f32 :=
  broadcastInDim S1x512 ![1] bcast_S512_S1x512_1
    (shapeCast S512 (broadcastInDim S8x64 ![0, 1] bcast_S1x64_S8x64_0_1 (shapeCast S1x64 q shapeCasts_S64_S1x64)) shapeCasts_S8x64_S512)

theorem tiled_apply (q : FVec Ideal S64 .f32) (n : Fin 512) : tiled q (ix2 u0 n) = q (ix1 (inHead n)) := by
  have hn := n.isLt
  unfold tiled
  rw [broadcastInDim_apply _ _ _ (ix2 u0 n) (ix1 n) (fun a => match a with | ⟨0, _⟩ => rfl),
    shapeCast_apply _ _ (ix1 n) (ix2 (⟨n.val / 64, by omega⟩ : Fin 8) (inHead n)) (by
      rw [Shape.rowMajor_val_two, Shape.rowMajor_val_one]
      show n.val / 64 * 64 + n.val % 64 = n.val
      omega),
    broadcastInDim_apply _ _ _ (ix2 (⟨n.val / 64, by omega⟩ : Fin 8) (inHead n)) (ix2 u0 (inHead n)) (fun a => match a with
      | ⟨0, _⟩ => rfl
      | ⟨1, _⟩ => rfl)]
  exact shapeCast_apply _ _ (ix2 u0 (inHead n)) (ix1 (inHead n)) (by
    rw [Shape.rowMajor_val_two, Shape.rowMajor_val_one]
    show (inHead n).val = 0 * 64 + (inHead n).val
    omega)

theorem host_qg (c : Dev nD) : V m c main_v5 = tiled (qgA m c) := by
  show StableHlo.after hostOps0 (fun b => m (c, b)) (Proc.devRef .tc main_v5) = _
  after_results
  rfl

theorem host_kg (c : Dev nD) : V m c main_v9 = tiled (kgA m c) := by
  show StableHlo.after hostOps0 (fun b => m (c, b)) (Proc.devRef .tc main_v9) = _
  after_results
  rfl

theorem block_g (c : Dev nD) (t : Fin cfg0.N) (k : Fin 1024) : iblk m c 1 t (ix2 u0 k) = gA m c (ix1 k) := by
  unfold iblk
  rw [View.read_apply]
  refine (congrArg (V m c main_v0) (funext fun a => Fin.ext ?_)).trans (host_g m c k)
  match a with
  | ⟨0, _⟩ => show win0_1.index t 0 * 1 + 1 * 0 = 0; rw [(index_g t).1]
  | ⟨1, _⟩ => show win0_1.index t 1 * 1024 + 1 * k.val = k.val; rw [(index_g t).2]; omega

theorem block_w (c : Dev nD) (t : Fin cfg0.N) (k : Fin 1024) (n : Fin 2048) : iblk m c 2 t (ix2 k n) = wA m c (ix2 k n) := by
  unfold iblk
  rw [View.read_apply]
  refine (congrArg (V m c main_v1) (funext fun a => Fin.ext ?_)).trans (host_w m c k n)
  match a with
  | ⟨0, _⟩ => show win0_2.index t 0 * 1024 + 1 * k.val = k.val; rw [(index_w t).1]; omega
  | ⟨1, _⟩ => show win0_2.index t 1 * 2048 + 1 * n.val = n.val; rw [(index_w t).2]; omega

theorem block_qg (c : Dev nD) (t : Fin cfg0.N) (n : Fin 512) : iblk m c 3 t (ix2 u0 n) = qgA m c (ix1 (inHead n)) := by
  unfold iblk
  rw [View.read_apply]
  refine (congrArg (V m c main_v5) (funext fun a => Fin.ext ?_)).trans ((congrFun (host_qg m c) (ix2 u0 n)).trans (tiled_apply _ n))
  match a with
  | ⟨0, _⟩ => show win0_3.index t 0 * 1 + 1 * 0 = 0; rw [(index_qg t).1]
  | ⟨1, _⟩ => show win0_3.index t 1 * 512 + 1 * n.val = n.val; rw [(index_qg t).2]; omega

theorem block_kg (c : Dev nD) (t : Fin cfg0.N) (n : Fin 512) : iblk m c 4 t (ix2 u0 n) = kgA m c (ix1 (inHead n)) := by
  unfold iblk
  rw [View.read_apply]
  refine (congrArg (V m c main_v9) (funext fun a => Fin.ext ?_)).trans ((congrFun (host_kg m c) (ix2 u0 n)).trans (tiled_apply _ n))
  match a with
  | ⟨0, _⟩ => show win0_4.index t 0 * 1 + 1 * 0 = 0; rw [(index_kg t).1]
  | ⟨1, _⟩ => show win0_4.index t 1 * 512 + 1 * n.val = n.val; rw [(index_kg t).2]; omega

/-! ## The result arrays -/

section Arrays
variable (h : FVec Ideal S4x4096x1024 .f32) (g : FVec Ideal S1024 .f32) (w : FVec Ideal S1024x2048 .f32) (hd : FVec Ideal S64 .f32)

/-- The projection of row `s` of batch entry `b`. -/
def proj (b : Fin 4) (s : Fin 4096) (n : Fin 2048) : EReal := project (fun k => h (ix3 b s k)) (fun k => g (ix1 k)) (fun k n => w (ix2 k n)) n

/-- Its columns of result `p`, normed head by head. -/
def heads (p : Nat) (hp : p < 4) (b : Fin 4) (s : Fin 4096) (d : Fin 512) : EReal :=
  headNormed (fun n => proj h g w b s (place p hp n)) (fun e => hd (ix1 e)) d

/-- An array with 512 zero rows in front. -/
def padded (f : Fin 4 → Fin 4096 → Fin 512 → EReal) (b : Fin 4) (s : Fin 4608) (d : Fin 512) : EReal :=
  if hs : 512 ≤ s.val then f b ⟨s.val - 512, by have := s.isLt; omega⟩ d else 0

def qArr : FVec Ideal S4x4096x512 .bf16 := fun i => heads h g w hd 0 (by decide) (i 0) (i 1) (i 2) * eighth
def kArr : FVec Ideal S4x4608x512 .bf16 := fun i => padded (heads h g w hd 1 (by decide)) (i 0) (i 1) (i 2)
def vArr : FVec Ideal S4x4608x512 .bf16 := fun i => padded (fun b s d => proj h g w b s (place 2 (by decide) d)) (i 0) (i 1) (i 2)
def pArr : FVec Ideal S4x4096x512 .bf16 := fun i => proj h g w (i 0) (i 1) (place 3 (by decide) (i 2))
end Arrays

/-- The projection of a block's row is the arrays'. -/
theorem proj_block (c : Dev nD) (t : Fin cfg0.N) (r : Fin 512) :
    project (rowOf (iblk m c 0 t) r) (gainOf (iblk m c 1 t)) (weightOf (iblk m c 2 t)) = proj (hA m c) (gA m c) (wA m c) (entry t) (row t r) := by
  unfold proj
  exact congr (congr (congrArg project (funext fun k => block_h m c t r k)) (funext fun k => block_g m c t k))
    (funext fun k => funext fun n => block_w m c t k n)

/-- An index of a block of results, and the arrays' indices under it. -/
abbrev cell (y : S1x512x512.Idx) : S1x512x512.Idx := ix3 u0 (⟨(y 1).val, (y 1).isLt⟩ : Fin 512) (⟨(y 2).val, (y 2).isLt⟩ : Fin 512)
abbrev spot (t : Fin cfg0.N) (y : S1x512x512.Idx) : S4x4096x512.Idx := ix3 (entry t) (row t ⟨(y 1).val, (y 1).isLt⟩) (⟨(y 2).val, (y 2).isLt⟩ : Fin 512)
abbrev padRow (t : Fin cfg0.N) (r : Fin 512) : Fin 4608 := ⟨512 * (t.val % 9) + r.val, by have := r.isLt; have := lt_of_lt_of_eq t.isLt points; omega⟩
abbrev padSpot (t : Fin cfg0.N) (y : S1x512x512.Idx) : S4x4608x512.Idx := ix3 (entry t) (padRow t ⟨(y 1).val, (y 1).isLt⟩) (⟨(y 2).val, (y 2).isLt⟩ : Fin 512)

theorem at3 {n0 n1 n2 : Nat} (z : (⟨3, ![n0, n1, n2]⟩ : Shape).Idx) (a : Fin n0) (b : Fin n1) (d : Fin n2)
    (h0 : (z 0).val = a.val) (h1 : (z 1).val = b.val) (h2 : (z 2).val = d.val) : z = ix3 a b d := by
  funext c; apply Fin.ext
  match c with
  | ⟨0, _⟩ => exact h0
  | ⟨1, _⟩ => exact h1
  | ⟨2, _⟩ => exact h2

theorem cell_of (y z : S1x512x512.Idx) (h1 : (z 1).val = (y 1).val) (h2 : (z 2).val = (y 2).val) : z = cell y :=
  at3 z _ _ _ (by have h : (z 0).val < 1 := (z 0).isLt; show (z 0).val = 0; omega) h1 h2

theorem emb_spot (f : Fin 3 → Nat) (t : Fin cfg0.N) (hf : f 0 = t.val / 9 ∧ f 1 = t.val % 9 - 1 ∧ f 2 = 0) (y : S1x512x512.Idx) (z : S4x4096x512.Idx)
    (h0 : (z 0).val = f 0 * 1 + 1 * (y 0).val) (h1 : (z 1).val = f 1 * 512 + 1 * (y 1).val) (h2 : (z 2).val = f 2 * 512 + 1 * (y 2).val) : z = spot t y :=
  at3 z _ _ _ (by have h : (y 0).val < 1 := (y 0).isLt; show (z 0).val = t.val / 9; rw [h0, hf.1]; omega)
    (by show (z 1).val = 512 * (t.val % 9 - 1) + (y 1).val; rw [h1, hf.2.1]; omega) (by show (z 2).val = (y 2).val; rw [h2, hf.2.2]; omega)

theorem emb_pad (f : Fin 3 → Nat) (t : Fin cfg0.N) (hf : f 0 = t.val / 9 ∧ f 1 = t.val % 9 ∧ f 2 = 0) (y : S1x512x512.Idx) (z : S4x4608x512.Idx)
    (h0 : (z 0).val = f 0 * 1 + 1 * (y 0).val) (h1 : (z 1).val = f 1 * 512 + 1 * (y 1).val) (h2 : (z 2).val = f 2 * 512 + 1 * (y 2).val) : z = padSpot t y :=
  at3 z _ _ _ (by have h : (y 0).val < 1 := (y 0).isLt; show (z 0).val = t.val / 9; rw [h0, hf.1]; omega)
    (by show (z 1).val = 512 * (t.val % 9) + (y 1).val; rw [h1, hf.2.1]; omega) (by show (z 2).val = (y 2).val; rw [h2, hf.2.2]; omega)

/-- The padded array under a point's block. -/
theorem padded_zero (f : Fin 4 → Fin 4096 → Fin 512 → EReal) (t : Fin cfg0.N) (ht : t.val % 9 = 0) (r d : Fin 512) : padded f (entry t) (padRow t r) d = 0 :=
  dif_neg (by have := r.isLt; show ¬512 ≤ 512 * (t.val % 9) + r.val; omega)

theorem padded_row (f : Fin 4 → Fin 4096 → Fin 512 → EReal) (t : Fin cfg0.N) (ht : 1 ≤ t.val % 9) (r d : Fin 512) :
    padded f (entry t) (padRow t r) d = f (entry t) (row t r) d := by
  unfold padded
  rw [dif_pos (show 512 ≤ 512 * (t.val % 9) + r.val by omega)]
  exact congrArg (fun s => f (entry t) s d) (Fin.ext (by show 512 * (t.val % 9) + r.val - 512 = 512 * (t.val % 9 - 1) + r.val; omega))

/-- The points whose blocks hold a row. -/
abbrev owner (i : S4x4096x512.Idx) : Fin cfg0.N :=
  ⟨9 * (i 0).val + ((i 1).val / 512 + 1), by have h0 : (i 0).val < 4 := (i 0).isLt; have h1 : (i 1).val < 4096 := (i 1).isLt; have := points; omega⟩
abbrev padOwner (i : S4x4608x512.Idx) : Fin cfg0.N :=
  ⟨9 * (i 0).val + (i 1).val / 512, by have h0 : (i 0).val < 4 := (i 0).isLt; have h1 : (i 1).val < 4608 := (i 1).isLt; have := points; omega⟩

theorem owner_flushes (i : S4x4096x512.Idx) : 1 ≤ (owner i).val % 9 := by
  have h1 : (i 1).val < 4096 := (i 1).isLt
  show 1 ≤ (9 * (i 0).val + ((i 1).val / 512 + 1)) % 9
  omega

theorem owner_covers (i : S4x4096x512.Idx) (a : Fin 3) :
    win0_5.index (owner i) a * S1x512x512.size a ≤ (i a).val ∧ (i a).val < win0_5.index (owner i) a * S1x512x512.size a + S1x512x512.size a := by
  have h0 : (i 0).val < 4 := (i 0).isLt
  have h1 : (i 1).val < 4096 := (i 1).isLt
  have h2 : (i 2).val < 512 := (i 2).isLt
  obtain ⟨e0, e1, e2⟩ := index_q (owner i)
  match a with
  | ⟨0, _⟩ => show win0_5.index _ 0 * 1 ≤ (i 0).val ∧ (i 0).val < win0_5.index _ 0 * 1 + 1; rw [e0]; dsimp only; omega
  | ⟨1, _⟩ => show win0_5.index _ 1 * 512 ≤ (i 1).val ∧ (i 1).val < win0_5.index _ 1 * 512 + 512; rw [e1]; dsimp only; omega
  | ⟨2, _⟩ => show win0_5.index _ 2 * 512 ≤ (i 2).val ∧ (i 2).val < win0_5.index _ 2 * 512 + 512; rw [e2]; omega

theorem pad_covers (i : S4x4608x512.Idx) (a : Fin 3) :
    win0_6.index (padOwner i) a * S1x512x512.size a ≤ (i a).val ∧ (i a).val < win0_6.index (padOwner i) a * S1x512x512.size a + S1x512x512.size a := by
  have h0 : (i 0).val < 4 := (i 0).isLt
  have h1 : (i 1).val < 4608 := (i 1).isLt
  have h2 : (i 2).val < 512 := (i 2).isLt
  obtain ⟨e0, e1, e2⟩ := index_k (padOwner i)
  match a with
  | ⟨0, _⟩ => show win0_6.index _ 0 * 1 ≤ (i 0).val ∧ (i 0).val < win0_6.index _ 0 * 1 + 1; rw [e0]; dsimp only; omega
  | ⟨1, _⟩ => show win0_6.index _ 1 * 512 ≤ (i 1).val ∧ (i 1).val < win0_6.index _ 1 * 512 + 512; rw [e1]; dsimp only; omega
  | ⟨2, _⟩ => show win0_6.index _ 2 * 512 ≤ (i 2).val ∧ (i 2).val < win0_6.index _ 2 * 512 + 512; rw [e2]; omega

theorem p_eq (c : Dev nD) : (dats m 0 c).arrAt 8 cfg0.N = pArr (hA m c) (gA m c) (wA m c) := by
  refine (dats m 0 c).arrAt_eq_of_cover 8 _ (fun t hf => ?_) (fun i => ⟨owner i, (flush_p _).2 (owner_flushes i), ?_⟩)
  · have ht : 1 ≤ t.val % 9 := (flush_p t).1 hf
    rw [flushed8_B m c t (by omega) ht, out_p]
    funext y
    rw [View.read_apply]
    show pBlk (iblk m c 0 t) (iblk m c 1 t) (iblk m c 2 t) ((cfg0.win 8).xinj (grid0.coords t) y)
      = pArr (hA m c) (gA m c) (wA m c) (((cfg0.win 8).blk t).view.emb y)
    rw [emb_spot (win0_8.index t) t (index_q t) y (((cfg0.win 8).blk t).view.emb y) rfl rfl rfl, cell_of y _ rfl rfl]
    exact (p_apply _ _ _ _ _).trans (congrFun (proj_block m c t _) _)
  · show i ∈ ((View.whole main_v10_3).slice (win0_8.rect (owner i))).set
    rw [View.set_slice_whole, Rect.mem_set_unit]
    exact owner_covers i

theorem v_eq (c : Dev nD) : (dats m 0 c).arrAt 7 cfg0.N = vArr (hA m c) (gA m c) (wA m c) := by
  refine (dats m 0 c).arrAt_eq_of_cover 7 _ (fun t hf => ?_) (fun i => ⟨padOwner i, flush0_7 _, ?_⟩)
  · by_cases ht : t.val % 9 = 0
    · rw [flushed7_A m c t ht (by omega), out_zero_v]
      funext y
      rw [View.read_apply]
      show 0 = vArr (hA m c) (gA m c) (wA m c) (((cfg0.win 7).blk t).view.emb y)
      rw [emb_pad (win0_7.index t) t (index_k t) y (((cfg0.win 7).blk t).view.emb y) rfl rfl rfl]
      exact (padded_zero _ t ht _ _).symm
    · have h1 : 1 ≤ t.val % 9 := by omega
      rw [flushed7_B m c t ht h1, out_v]
      funext y
      rw [View.read_apply]
      show vBlk (iblk m c 0 t) (iblk m c 1 t) (iblk m c 2 t) ((cfg0.win 7).xinj (grid0.coords t) y)
        = vArr (hA m c) (gA m c) (wA m c) (((cfg0.win 7).blk t).view.emb y)
      rw [emb_pad (win0_7.index t) t (index_k t) y (((cfg0.win 7).blk t).view.emb y) rfl rfl rfl, cell_of y _ rfl rfl]
      exact ((v_apply _ _ _ _ _).trans (congrFun (proj_block m c t _) _)).trans
        (padded_row (fun b s d => proj (hA m c) (gA m c) (wA m c) b s (place 2 (by decide) d)) t h1 _ _).symm
  · show i ∈ ((View.whole main_v10_2).slice (win0_7.rect (padOwner i))).set
    rw [View.set_slice_whole, Rect.mem_set_unit]
    exact pad_covers i

section Real
variable (c : Dev nD) (hh : ∀ i, ∃ r : ℝ, hA m c i = (r : EReal)) (hg : ∀ i, ∃ r : ℝ, gA m c i = (r : EReal)) (hw : ∀ i, ∃ r : ℝ, wA m c i = (r : EReal))
include hh hg hw

theorem block_real (t : Fin cfg0.N) (r : Fin 512) (n : Fin 2048) :
    ∃ z : ℝ, project (rowOf (iblk m c 0 t) r) (gainOf (iblk m c 1 t)) (weightOf (iblk m c 2 t)) n = (z : EReal) := by
  rw [proj_block]
  exact project_real _ _ _ (fun k => hh _) (fun k => hg _) (fun k n => hw _) n

theorem q_eq : (dats m 0 c).arrAt 5 cfg0.N = qArr (hA m c) (gA m c) (wA m c) (qgA m c) := by
  refine (dats m 0 c).arrAt_eq_of_cover 5 _ (fun t hf => ?_) (fun i => ⟨owner i, (flush_q _).2 (owner_flushes i), ?_⟩)
  · have ht : 1 ≤ t.val % 9 := (flush_q t).1 hf
    rw [flushed5_B m c t (by omega) ht, out_q]
    funext y
    rw [View.read_apply]
    show qBlk (iblk m c 0 t) (iblk m c 1 t) (iblk m c 2 t) (iblk m c 3 t) ((cfg0.win 5).xinj (grid0.coords t) y)
      = qArr (hA m c) (gA m c) (wA m c) (qgA m c) (((cfg0.win 5).blk t).view.emb y)
    rw [emb_spot (win0_5.index t) t (index_q t) y (((cfg0.win 5).blk t).view.emb y) rfl rfl rfl, cell_of y _ rfl rfl]
    refine (q_apply _ _ _ (block_real m c hh hg hw t) _ (fun e => qgA m c (ix1 e)) (block_qg m c t) _ _).trans ?_
    exact congrArg (fun f => headNormed (fun n => f (place 0 (by decide) n)) (fun e => qgA m c (ix1 e)) _ * eighth) (proj_block m c t _)
  · show i ∈ ((View.whole main_v10_0).slice (win0_5.rect (owner i))).set
    rw [View.set_slice_whole, Rect.mem_set_unit]
    exact owner_covers i

theorem k_eq : (dats m 0 c).arrAt 6 cfg0.N = kArr (hA m c) (gA m c) (wA m c) (kgA m c) := by
  refine (dats m 0 c).arrAt_eq_of_cover 6 _ (fun t hf => ?_) (fun i => ⟨padOwner i, flush0_6 _, ?_⟩)
  · by_cases ht : t.val % 9 = 0
    · rw [flushed6_A m c t ht (by omega), out_zero_k]
      funext y
      rw [View.read_apply]
      show 0 = kArr (hA m c) (gA m c) (wA m c) (kgA m c) (((cfg0.win 6).blk t).view.emb y)
      rw [emb_pad (win0_6.index t) t (index_k t) y (((cfg0.win 6).blk t).view.emb y) rfl rfl rfl]
      exact (padded_zero _ t ht _ _).symm
    · have h1 : 1 ≤ t.val % 9 := by omega
      rw [flushed6_B m c t ht h1, out_k]
      funext y
      rw [View.read_apply]
      show kBlk (iblk m c 0 t) (iblk m c 1 t) (iblk m c 2 t) (iblk m c 4 t) ((cfg0.win 6).xinj (grid0.coords t) y)
        = kArr (hA m c) (gA m c) (wA m c) (kgA m c) (((cfg0.win 6).blk t).view.emb y)
      rw [emb_pad (win0_6.index t) t (index_k t) y (((cfg0.win 6).blk t).view.emb y) rfl rfl rfl, cell_of y _ rfl rfl]
      refine ((k_apply _ _ _ (block_real m c hh hg hw t) _ (fun e => kgA m c (ix1 e)) (block_kg m c t) _ _).trans ?_).trans (padded_row _ t h1 _ _).symm
      exact congrArg (fun f => headNormed (fun n => f (place 1 (by decide) n)) (fun e => kgA m c (ix1 e)) _) (proj_block m c t _)
  · show i ∈ ((View.whole main_v10_1).slice (win0_6.rect (padOwner i))).set
    rw [View.set_slice_whole, Rect.mem_set_unit]
    exact pad_covers i

end Real

end Cert.KernelIeIdeal.Ie

end
-- ==== Proof.IeRef.lean ====
/-
  The even layers' input projection: what the reference computes. Its arrays are the kernel's, index by index: a head's
  mean square is a quotient, and the zero rows are a pad.
-/
module

public import proofs.«01_k».proof.Proof.IeFold
public import proofs.«01_k».proof.Proof.Gen.ReferenceIeIdeal.Read
public import Idealize.ShloMosaic.Lib.KernelVsHost

@[expose] public section

noncomputable section

namespace Cert.ReferenceIeIdeal.Ie

open Idealize.ShloMosaic Idealize.SL.Sem Idealize.ShloMosaic.ValueIdx
open Cert.ReferenceIeIdeal Cert.ReferenceIeIdeal.Gen Cert.ReferenceIeIdeal.Read Cert.Kit
open Cert.KernelIeIdeal.Ie (w1024 w64 eighth project proj place headCol inHead headNormed headCol_inHead heads padded at3 qArr kArr vArr pArr)

variable (h : FVec Ideal S4x4096x1024 .f32) (g : FVec Ideal S1024 .f32) (w : FVec Ideal S1024x2048 .f32) (hd : FVec Ideal S64 .f32)

theorem rms_apply (b : Fin 4) (s : Fin 4096) (u : Fin 1) : val_main_v7 (F := Ideal) h (ix3 b s u) = invRms w1024 (fun k => h (ix3 b s k)) := by
  rw [val_main_v7_apply, val_main_v6_apply, val_main_v4_apply, val_main_v2_apply, val_main_v1_apply, val_main_v3_apply, val_main_v5_apply]
  show Ideal.rsqrt (Ideal.div (Ideal.ofBits .f32 0x00000000#32 + ∑ k : Fin 1024, (val_main_v0 (F := Ideal) h (idx_main_v1 (idx_main_v2 (ix3 b s u)) k) : EReal)) w1024 + eps) = _
  rw [Ideal.ofBits_zero_f32, zero_add, invRms]
  refine congrArg (fun s => Ideal.rsqrt (Ideal.div s w1024 + eps)) (Finset.sum_congr rfl fun k _ => ?_)
  rw [show idx_main_v1 (idx_main_v2 (ix3 b s u)) k = ix3 b s k from eq_ix3 _]
  rfl

theorem normed_apply (b : Fin 4) (s : Fin 4096) (k : Fin 1024) :
    val_main_v12 (F := Ideal) h g (ix3 b s k) = normed w1024 (fun k => h (ix3 b s k)) (fun k => g (ix1 k)) k := by
  rw [val_main_v12_apply, val_main_v9_apply, val_main_v8_apply, val_main_v11_apply, val_main_v10_apply,
    show idx_main_v8 (ix3 b s k) = ix3 b s u0 from eq_ix3 _, rms_apply, show idx_main_v10 (idx_main_v11 (ix3 b s k)) = ix1 k from eq_ix1 _]
  rfl

theorem proj_apply (b : Fin 4) (s : Fin 4096) (n : Fin 2048) : val_main_v13 (F := Ideal) h g w (ix3 b s n) = proj h g w b s n := by
  rw [val_main_v13_apply, proj, project]
  refine Finset.sum_congr rfl fun k _ => ?_
  rw [show lidx_main_v13 (ix3 b s n) k = ix3 b s k from eq_ix3 _, show ridx_main_v13 (ix3 b s n) k = ix2 k n from eq_ix2 _, normed_apply]

/-! ## The heads -/

/-- The head of a column, and column `e` of head `a`. -/
abbrev headOf (n : Fin 512) : Fin 8 := ⟨n.val / 64, by have := n.isLt; omega⟩
abbrev colOf (a : Fin 8) (e : Fin 64) : Fin 512 := ⟨64 * a.val + e.val, by have := a.isLt; have := e.isLt; omega⟩

theorem split_q (b : Fin 4) (s : Fin 4096) (a : Fin 8) (e : Fin 64) :
    val_main_v18 (F := Ideal) h g w (ix4 b s a e) = proj h g w b s (place 0 (by decide) (colOf a e)) := by
  have hb := b.isLt
  have hs := s.isLt
  have ha := a.isLt
  have he := e.isLt
  rw [val_main_v18_apply, show idx_main_v18 (ix4 b s a e) = ix3 b s (colOf a e) from at3 _ _ _ _
      (by show (((b.val * 4096 + s.val) * 8 + a.val) * 64 + e.val) / 2097152 = b.val; omega)
      (by show (((b.val * 4096 + s.val) * 8 + a.val) * 64 + e.val) / 512 % 4096 = s.val; omega)
      (by show (((b.val * 4096 + s.val) * 8 + a.val) * 64 + e.val) % 512 = 64 * a.val + e.val; omega),
    val_main_v14_apply, show idx_main_v14 (ix3 b s (colOf a e)) = ix3 b s (place 0 (by decide) (colOf a e)) from at3 _ _ _ _ rfl rfl (Nat.zero_add _).symm,
    proj_apply]

theorem split_k (b : Fin 4) (s : Fin 4096) (a : Fin 8) (e : Fin 64) :
    val_main_v35 (F := Ideal) h g w (ix4 b s a e) = proj h g w b s (place 1 (by decide) (colOf a e)) := by
  have hb := b.isLt
  have hs := s.isLt
  have ha := a.isLt
  have he := e.isLt
  rw [val_main_v35_apply, show idx_main_v35 (ix4 b s a e) = ix3 b s (colOf a e) from at3 _ _ _ _
      (by show (((b.val * 4096 + s.val) * 8 + a.val) * 64 + e.val) / 2097152 = b.val; omega)
      (by show (((b.val * 4096 + s.val) * 8 + a.val) * 64 + e.val) / 512 % 4096 = s.val; omega)
      (by show (((b.val * 4096 + s.val) * 8 + a.val) * 64 + e.val) % 512 = 64 * a.val + e.val; omega),
    val_main_v15_apply, show idx_main_v15 (ix3 b s (colOf a e)) = ix3 b s (place 1 (by decide) (colOf a e)) from at3 _ _ _ _ rfl rfl rfl,
    proj_apply]

theorem rms_q (b : Fin 4) (s : Fin 4096) (a : Fin 8) (u : Fin 1) :
    val_main_v26 (F := Ideal) h g w (ix4 b s a u) = invRms w64 (fun e => proj h g w b s (place 0 (by decide) (colOf a e))) := by
  rw [val_main_v26_apply, val_main_v25_apply, val_main_v23_apply, val_main_v21_apply, val_main_v20_apply, val_main_v22_apply, val_main_v24_apply]
  show Ideal.rsqrt (Ideal.div (Ideal.ofBits .f32 0x00000000#32 + ∑ k : Fin 64, (val_main_v19 (F := Ideal) h g w (idx_main_v20 (idx_main_v21 (ix4 b s a u)) k) : EReal)) w64 + eps) = _
  rw [Ideal.ofBits_zero_f32, zero_add, invRms]
  refine congrArg (fun s => Ideal.rsqrt (Ideal.div s w64 + eps)) (Finset.sum_congr rfl fun k _ => ?_)
  rw [show idx_main_v20 (idx_main_v21 (ix4 b s a u)) k = ix4 b s a k from eq_ix4 _, val_main_v19_apply, split_q]
  rfl

theorem rms_k (b : Fin 4) (s : Fin 4096) (a : Fin 8) (u : Fin 1) :
    val_main_v43 (F := Ideal) h g w (ix4 b s a u) = invRms w64 (fun e => proj h g w b s (place 1 (by decide) (colOf a e))) := by
  rw [val_main_v43_apply, val_main_v42_apply, val_main_v40_apply, val_main_v38_apply, val_main_v37_apply, val_main_v39_apply, val_main_v41_apply]
  show Ideal.rsqrt (Ideal.div (Ideal.ofBits .f32 0x00000000#32 + ∑ k : Fin 64, (val_main_v36 (F := Ideal) h g w (idx_main_v37 (idx_main_v38 (ix4 b s a u)) k) : EReal)) w64 + eps) = _
  rw [Ideal.ofBits_zero_f32, zero_add, invRms]
  refine congrArg (fun s => Ideal.rsqrt (Ideal.div s w64 + eps)) (Finset.sum_congr rfl fun k _ => ?_)
  rw [show idx_main_v37 (idx_main_v38 (ix4 b s a u)) k = ix4 b s a k from eq_ix4 _, val_main_v36_apply, split_k]
  rfl

/-- A row's column under the heads' reshape. -/
theorem at4 {n0 n1 n2 n3 : Nat} (z : (⟨4, ![n0, n1, n2, n3]⟩ : Shape).Idx) (a : Fin n0) (b : Fin n1) (c : Fin n2) (d : Fin n3)
    (h0 : (z 0).val = a.val) (h1 : (z 1).val = b.val) (h2 : (z 2).val = c.val) (h3 : (z 3).val = d.val) : z = ix4 a b c d := by
  funext x; apply Fin.ext
  match x with
  | ⟨0, _⟩ => exact h0
  | ⟨1, _⟩ => exact h1
  | ⟨2, _⟩ => exact h2
  | ⟨3, _⟩ => exact h3

theorem heads_q (b : Fin 4) (s : Fin 4096) (d : Fin 512) :
    val_main_v34 (F := Ideal) h g w hd (ix3 b s d) = heads h g w hd 0 (by decide) b s d * eighth := by
  have hb := b.isLt
  have hs := s.isLt
  have hd' := d.isLt
  rw [val_main_v34_apply, show idx_main_v34 (ix3 b s d) = ix4 b s (headOf d) (inHead d) from at4 _ _ _ _ _
      (by show ((b.val * 4096 + s.val) * 512 + d.val) / 2097152 = b.val; omega)
      (by show ((b.val * 4096 + s.val) * 512 + d.val) / 512 % 4096 = s.val; omega)
      (by show ((b.val * 4096 + s.val) * 512 + d.val) / 64 % 8 = d.val / 64; omega)
      (by show ((b.val * 4096 + s.val) * 512 + d.val) % 64 = d.val % 64; omega),
    val_main_v33_apply, val_main_v31_apply, val_main_v28_apply, val_main_v27_apply, val_main_v30_apply, val_main_v29_apply, val_main_v32_apply,
    show idx_main_v27 (ix4 b s (headOf d) (inHead d)) = ix4 b s (headOf d) u0 from eq_ix4 _, rms_q, split_q,
    show idx_main_v29 (idx_main_v30 (ix4 b s (headOf d) (inHead d))) = ix1 (inHead d) from eq_ix1 _]
  rfl

theorem heads_k (b : Fin 4) (s : Fin 4096) (d : Fin 512) :
    val_main_v49 (F := Ideal) h g w hd (ix3 b s d) = heads h g w hd 1 (by decide) b s d := by
  have hb := b.isLt
  have hs := s.isLt
  have hd' := d.isLt
  rw [val_main_v49_apply, show idx_main_v49 (ix3 b s d) = ix4 b s (headOf d) (inHead d) from at4 _ _ _ _ _
      (by show ((b.val * 4096 + s.val) * 512 + d.val) / 2097152 = b.val; omega)
      (by show ((b.val * 4096 + s.val) * 512 + d.val) / 512 % 4096 = s.val; omega)
      (by show ((b.val * 4096 + s.val) * 512 + d.val) / 64 % 8 = d.val / 64; omega)
      (by show ((b.val * 4096 + s.val) * 512 + d.val) % 64 = d.val % 64; omega),
    val_main_v48_apply, val_main_v45_apply, val_main_v44_apply, val_main_v47_apply, val_main_v46_apply,
    show idx_main_v44 (ix4 b s (headOf d) (inHead d)) = ix4 b s (headOf d) u0 from eq_ix4 _, rms_k, split_k,
    show idx_main_v46 (idx_main_v47 (ix4 b s (headOf d) (inHead d))) = ix1 (inHead d) from eq_ix1 _]
  rfl

/-! ## The padded arrays -/

/-- The pad by 512 rows of a value that is zero. -/
theorem pad_rows (x : FVec Ideal S4x4096x512 .f32) (v : FVec Ideal S_ .f32) (hv : ∀ i, v i = (0 : EReal)) (hp : S4x4096x512.Pads ![0, 512, 0] ![0, 0, 0] ![0, 0, 0] S4x4608x512)
    (hu : 0 < S_.numel) (b : Fin 4) (s : Fin 4608) (d : Fin 512) :
    pad S4x4608x512 ![0, 512, 0] ![0, 0, 0] ![0, 0, 0] x v hp hu (ix3 b s d) = padded (fun b s d => x (ix3 b s d)) b s d := by
  have hs := s.isLt
  unfold padded
  split
  · rename_i h512
    refine pad_apply_of_inside _ _ _ x v hp hu (ix3 b s d) (ix3 b (⟨s.val - 512, by omega⟩ : Fin 4096) d) fun a => ?_
    match a with
    | ⟨0, _⟩ => show b.val = 0 + b.val * 1; omega
    | ⟨1, _⟩ => show s.val = 512 + (s.val - 512) * 1; omega
    | ⟨2, _⟩ => show d.val = 0 + d.val * 1; omega
  · rename_i h512
    rw [pad_apply_of_not_inside _ _ _ x v hp hu (ix3 b s d) (1 : Fin 3) (fun hin => h512 hin.1), hv]

theorem padding_k (i : S_.Idx) : val_main_call0_v0 (F := Ideal) i = (0 : EReal) := by
  rw [val_main_call0_v0_apply]
  show ((((0#32 : BitVec 32).toInt : ℤ) : ℝ) : EReal) = 0
  simp

theorem padding_v (i : S_.Idx) : val_main_call1_v0 (F := Ideal) i = (0 : EReal) := by
  rw [val_main_call1_v0_apply]
  show ((((0#32 : BitVec 32).toInt : ℤ) : ℝ) : EReal) = 0
  simp

theorem q_eq : val_main_v52 (F := Ideal) h g w hd = qArr h g w hd := funext fun i => by
  rw [eq_ix3 i]
  exact heads_q h g w hd (i 0) (i 1) (i 2)

theorem k_eq : val_main_v53 (F := Ideal) h g w hd = kArr h g w hd := funext fun i => by
  rw [eq_ix3 i]
  refine (pad_rows _ _ padding_k pads_S4x4096x512_S4x4608x512_000_51200_000 h_S_ (i 0) (i 1) (i 2)).trans ?_
  exact congrArg (fun f => padded f (i 0) (i 1) (i 2)) (funext fun b => funext fun s => funext fun d => heads_k h g w hd b s d)

theorem v_eq : val_main_v54 (F := Ideal) h g w = vArr h g w := funext fun i => by
  rw [eq_ix3 i]
  refine (pad_rows _ _ padding_v pads_S4x4096x512_S4x4608x512_000_51200_000 h_S_ (i 0) (i 1) (i 2)).trans ?_
  refine congrArg (fun f => padded f (i 0) (i 1) (i 2)) (funext fun b => funext fun s => funext fun d => ?_)
  rw [val_main_v16_apply, show idx_main_v16 (ix3 b s d) = ix3 b s (place 2 (by decide) d) from at3 _ _ _ _ rfl rfl rfl, proj_apply]

theorem p_apply (b : Fin 4) (s : Fin 4096) (d : Fin 512) : val_main_v55 (F := Ideal) h g w (ix3 b s d) = proj h g w b s (place 3 (by decide) d) := by
  rw [val_main_v55_apply, val_main_v17_apply, show idx_main_v17 (ix3 b s d) = ix3 b s (place 3 (by decide) d) from at3 _ _ _ _ rfl rfl rfl, proj_apply]
  rfl

theorem p_eq : val_main_v55 (F := Ideal) h g w = pArr h g w := funext fun i => by
  rw [eq_ix3 i]
  exact p_apply h g w (i 0) (i 1) (i 2)

end Cert.ReferenceIeIdeal.Ie

end
-- ==== Proof.IeClaims.lean ====
/-
  The claims about the even layers' input projection: from finite rows, gain and weights, kernel and reference end with
  the same four arrays.
-/
module

public import proofs.«01_k».proof.Defs
public import proofs.«01_k».proof.Proof.Gen.KernelIe.Frame
public import proofs.«01_k».proof.Proof.SbClaims
public import proofs.«01_k».proof.Proof.IeRef
public import Idealize.ShloMosaic.Lib.ReduceAll

@[expose] public section

noncomputable section

/-- The side conditions of the printed precondition. -/
instance Cert.Pre_finite_rows.facts : Cert.Pre_finite_rows.Facts := ⟨by decide, by decide, by decide, by decide, by decide, by decide, by decide⟩

namespace Cert.Proof.Ie

open Idealize.ShloMosaic Idealize.SL.Sem Idealize.ShloMosaic.ValueIdx Cert.KernelIeIdeal.Ie

theorem frame_kernel : Cert.quiescent_KernelIe := fun m ρ _ => Cert.KernelIe.Gen.frame m ρ

theorem frame_ideal : Cert.quiescent_KernelIeIdeal := fun m ρ _ => Cert.KernelIeIdeal.Gen.frame m ρ

theorem frame_ideal_pre : Cert.quiescent_KernelIeIdeal_pre_finite_rows := fun m ρ _ => Cert.KernelIeIdeal.Gen.frame m ρ

theorem frame_reference : Cert.quiescent_ReferenceIeIdeal := fun m ρ _ =>
  (θ_run _ _ _).mono (fun r h => ⟨fun c => (h c).2.2.2.2, sem_eq_zero_of_no_sems (by decide) r.2⟩)
    (Cert.ReferenceIeIdeal.Value.run (F := Ideal) m ρ)

theorem frame_reference_pre : Cert.quiescent_ReferenceIeIdeal_pre_finite_rows := fun m ρ _ => frame_reference m ρ trivial

instance : Subsingleton Cert.Pre_finite_rows.S_.Idx := ⟨fun a b => funext fun x => x.elim0⟩

/-- The precondition, read: rows, gain and weights are real numbers. -/
theorem finite_of_pre (h : FVec Ideal Cert.KernelIeIdeal.S4x4096x1024 .f32) (g : FVec Ideal Cert.KernelIeIdeal.S1024 .f32)
    (w : FVec Ideal Cert.KernelIeIdeal.S1024x2048 .f32) (q k : FVec Ideal Cert.KernelIeIdeal.S64 .f32)
    (hp : Cert.Pre_finite_rows.fn (F := Ideal) h g w q k = fun _ => 1#1) :
    (∀ i, ∃ r : ℝ, h i = (r : EReal)) ∧ (∀ i, ∃ r : ℝ, g i = (r : EReal)) ∧ ∀ i, ∃ r : ℝ, w i = (r : EReal) := by
  have h0 := Cert.Proof.Sb.both_bits _ _ (congrFun hp ix0)
  have h1 := Cert.Proof.Sb.both_bits _ _ h0.1
  exact ⟨fun i => ⟨_, Cert.Proof.Sb.real_of_bit _ (Host.reduce_andi_all _ _ _ _ _ h1.1 i)⟩,
    fun i => ⟨_, Cert.Proof.Sb.real_of_bit _ (Host.reduce_andi_all _ _ _ _ _ h1.2 i)⟩,
    fun i => ⟨_, Cert.Proof.Sb.real_of_bit _ (Host.reduce_andi_all _ _ _ _ _ h0.2 i)⟩⟩

/-- Kernel and reference end with the same four arrays. -/
theorem algebraic : Cert.algebraic_KernelIeIdeal_ReferenceIeIdeal_pre_finite_rows := fun m ρ m' ρ' hpre hag =>
  ⟨fun c => qArr (hA m c) (gA m c) (wA m c) (qgA m c), fun c => kArr (hA m c) (gA m c) (wA m c) (kgA m c), fun c => vArr (hA m c) (gA m c) (wA m c),
    fun c => pArr (hA m c) (gA m c) (wA m c),
    (θ_run _ _ _).mono (fun _ h c => by
      obtain ⟨hh, hg, hw⟩ := finite_of_pre _ _ _ _ _ (hpre c)
      exact ⟨(h c).1.trans (q_eq m c hh hg hw), (h c).2.1.trans (k_eq m c hh hg hw), (h c).2.2.1.trans (v_eq m c), (h c).2.2.2.1.trans (p_eq m c),
        (h c).2.2.2.2⟩)
      (Cert.KernelIeIdeal.Value.run_blocks m ρ),
    (θ_run _ _ _).mono (fun _ h c => by
      obtain ⟨e0, e1, e2, e3, e4⟩ := hag c
      obtain ⟨h0, h1, h2, h3, hargs⟩ := h c
      refine ⟨h0.trans ?_, h1.trans ?_, h2.trans ?_, h3.trans ?_, hargs⟩
      · rw [e0, e1, e2, e3]
        exact (Cert.ReferenceIeIdeal.Read.val_main_v52_eq _ _ _ _).trans (Cert.ReferenceIeIdeal.Ie.q_eq _ _ _ _)
      · rw [e0, e1, e2, e4]
        exact (Cert.ReferenceIeIdeal.Read.val_main_v53_eq _ _ _ _).trans (Cert.ReferenceIeIdeal.Ie.k_eq _ _ _ _)
      · rw [e0, e1, e2]
        exact (Cert.ReferenceIeIdeal.Read.val_main_v54_eq _ _ _).trans (Cert.ReferenceIeIdeal.Ie.v_eq _ _ _)
      · rw [e0, e1, e2]
        exact (Cert.ReferenceIeIdeal.Read.val_main_v55_eq _ _ _).trans (Cert.ReferenceIeIdeal.Ie.p_eq _ _ _))
      (Cert.ReferenceIeIdeal.Value.run (F := Ideal) m' ρ')⟩

end Cert.Proof.Ie

end
-- ==== Proof.OeStep.lean ====
/-
  The even layers' output projection: what one row block computes. A first scratch holds the block's pooled channels under
  sixteen rows from before the block (zeros where a sequence begins), a second the four pooled groups.
-/
module

public import proofs.«01_k».proof.Proof.Gen.KernelOeIdeal.Value
public import proofs.«01_k».proof.Proof.Norm
public import Idealize.ShloMosaic.Lib.Pipeline.ValueKit.Tiles
public import proofs.«01_k».proof.Proof.Words

@[expose] public section

noncomputable section

namespace Cert.KernelOeIdeal.Oe

open Idealize.ShloMosaic Idealize.ShloMosaic.TcCoe Idealize.SL.Sem Idealize.ShloMosaic.ValueIdx Idealize.ShloMosaic.Tactic
open Cert.KernelOeIdeal Cert.KernelOeIdeal.Gen Cert.KernelOeIdeal.Value Cert.Kit

/-- The group of a column, its place in the group, and the length of a group's window. -/
abbrev groupOf (n : Fin 512) : Fin 4 := ⟨n.val / 128, by have := n.isLt; omega⟩
abbrev laneOf (n : Fin 512) : Fin 128 := ⟨n.val % 128, by omega⟩
abbrev channel (g : Fin 4) (k : Fin 128) : Fin 512 := ⟨128 * g.val + k.val, by have := g.isLt; have := k.isLt; omega⟩
abbrev winOf (g : Fin 4) : Nat := 2 ^ (g.val + 1)

/-- How many entries a window of `win` ending at position `t` has. -/
def count (t win : Nat) : EReal := FloatOps.sitofp (F := Ideal) .f32 (IntOp.minsi (BitVec.ofNat 32 t + 1#32) (BitVec.ofNat 32 win))

/-! ## The position of a row in its sequence -/

/-- The number of a row block in its sequence, as the kernel computes it. -/
def blockWord (a : Nat) : BitVec 32 :=
  let v1 : BitVec 32 := Scalar.select (Scalar.cmpi .eq 8#32 0#32) 1#32 8#32
  let v2 : BitVec 32 := Scalar.remsi (BitVec.ofNat 32 a) v1
  Scalar.select (Scalar.andi (Scalar.xori (Scalar.cmpi .slt v2 0#32) (Scalar.cmpi .slt v1 0#32)) (Scalar.cmpi .ne v2 0#32)) (Scalar.addi v2 v1) v2

theorem blockWord_eq : ∀ a : Fin 32, blockWord a.val = BitVec.ofNat 32 (a.val % 8) := by decide +kernel
theorem blockWord_zero : ∀ a : Fin 32, Scalar.cmpi .eq (blockWord a.val) 0#32 = 1#1 ↔ a.val % 8 = 0 := by decide +kernel

variable (i : grid0.Coords)

theorem coord_lt : (i 0).val < 32 := (i 0).isLt

theorem position_apply (r : Fin 512) : k0_pay4 i (ix2 r u0) = BitVec.ofNat 32 ((i 0).val % 8 * 512 + r.val) := by
  show blockWord (i 0).val * 512#32 + iota .tc S512x1 32 [0] iota_S512x1_d0_w32 (ix2 r u0) = _
  rw [blockWord_eq ⟨(i 0).val, coord_lt i⟩, iota_single_apply, BitVec.ofNat_add, BitVec.ofNat_mul]

/-! ## The four tiles are one function -/

section Same
variable {F : FTy → Type} [FloatOps F]
variable (t : IVec S512x1 32) (win : BitVec 32) (acc p : FVec F S512x128 .f32) (w : FVec F S1x128x128 .bf16) (s : FVec F S1x128 .f32)

/-- The window's mean less the entry, through the group's weight, times the scale. -/
def tile : FVec F S512x128 .bf16 :=
  truncf .bf16 (mulf (matmul dot_S512x128_S128x128_S512x128_1_0_0_1_n_n none
      (truncf .bf16 (subf (divf acc (broadcastTo S512x128 (sitofp .f32 (minsi (addi t (broadcast S512x1 1#32)) (broadcast S512x1 win)) : FVec F S512x1 .f32) broadcasts_S512x1_S512x128)) p) bitsLt_bf16_f32)
      (shapeCast S128x128 w shapeCasts_S1x128x128_S128x128) (constant S512x128 .f32 0x00000000#32))
    (broadcastTo S512x128 s broadcasts_S1x128_S512x128)) bitsLt_bf16_f32

variable (a0 a1 a2 a3 a4 a5 a6 a7 a8 a9 aa ab ac ad ae af : FVec F S512x128 .f32)

theorem tile_0 : k0_pay7 a0 (k0_pay5 a0 a1) (k0_pay6 i) w s = tile (k0_pay4 i) 2#32 (addf a0 a1) a0 w s := by
  unfold k0_pay7 k0_pay5 k0_pay6 tile
  dsimp only
  rw [shapeCast_self, shapeCast_self]
theorem tile_1 : k0_pay9 (k0_pay8 t a0 a1 a2 a3 w) s = tile t 4#32 (addf (addf (addf a0 a1) a2) a3) a0 w s := by
  unfold k0_pay9 k0_pay8 tile
  dsimp only
  rw [shapeCast_self, shapeCast_self]
theorem tile_2 : k0_pay11 (k0_pay10 t a0 a1 a2 a3 a4 a5 a6 a7 w) s
    = tile t 8#32 (addf (addf (addf (addf (addf (addf (addf a0 a1) a2) a3) a4) a5) a6) a7) a0 w s := by
  unfold k0_pay11 k0_pay10 tile
  dsimp only
  rw [shapeCast_self, shapeCast_self]
theorem tile_3 : k0_pay13 t a0 (k0_pay12 a0 a1 a2 a3 a4 a5 a6 a7 a8 a9 aa ab) ac ad ae af w s
    = tile t 16#32 (addf (addf (addf (addf (addf (addf (addf (addf (addf (addf (addf (addf (addf (addf (addf a0 a1) a2) a3) a4) a5) a6) a7) a8) a9) aa) ab) ac) ad) ae) af) a0 w s := by
  unfold k0_pay13 k0_pay12 tile
  dsimp only
  rw [shapeCast_self, shapeCast_self]

end Same

theorem tile_apply (acc p : FVec Ideal S512x128 .f32) (w : FVec Ideal S1x128x128 .bf16) (s : FVec Ideal S1x128 .f32) (win : Nat) (r : Fin 512) (n : Fin 128) :
    tile (F := Ideal) (k0_pay4 i) (BitVec.ofNat 32 win) acc p w s (ix2 r n)
      = (∑ k : Fin 128, (Ideal.div (acc (ix2 r k)) (count ((i 0).val % 8 * 512 + r.val) win) - p (ix2 r k)) * w (ix3 u0 k n)) * s (ix2 u0 n) := by
  unfold tile
  refine congrArg₂ (fun p q : EReal => p * q) ?_ (rowSpread_apply _ _ _ _)
  refine (matmul_rowCol _ _ _ _ _ _ _).trans ?_
  rw [constant_apply, Ideal.ofBits_zero_f32, zero_add]
  refine Finset.sum_congr rfl fun k _ => congrArg₂ (fun p q : EReal => p * q) (congrArg (fun q : EReal => Ideal.div (acc (ix2 r k)) q - p (ix2 r k)) ?_) (dropUnit_apply _ _ _ _)
  refine (spread_apply _ _ _ _).trans ?_
  show FloatOps.sitofp (F := Ideal) .f32 (IntOp.minsi (k0_pay4 i (ix2 r u0) + 1#32) (BitVec.ofNat 32 win)) = _
  rw [position_apply]
  rfl

section Block
variable (x0 x1 : FVec Ideal S512x512 .bf16) (x2 : FVec Ideal S16x512 .bf16) (x3 : FVec Ideal S512x1024 .f32)
  (x4 : FVec Ideal S4x128x128 .bf16) (x5 : FVec Ideal S1x512 .f32) (x6 : FVec Ideal S1024x1024 .bf16)

/-- The sixteen rows before the block, then the block. -/
def stack (q n : Nat) : EReal :=
  if h : q < 528 ∧ n < 512 then
    if hq : q < 16 then if (i 0).val % 8 = 0 then 0 else x2 (ix2 (⟨q, hq⟩ : Fin 16) (⟨n, h.2⟩ : Fin 512))
    else x1 (ix2 (⟨q - 16, by omega⟩ : Fin 512) (⟨n, h.2⟩ : Fin 512))
  else 0

/-- A tile of the stacked rows, from row `o` and column `p` on. -/
def shifted (o p : Nat) : FVec Ideal S512x128 .f32 := fun x => stack i x1 x2 (o + (x 0).val) (p + (x 1).val)

/-- The stacked rows as an array. -/
def stackArr : FVec Ideal S528x512 .f32 := fun y => stack i x1 x2 (y 0).val (y 1).val

theorem upper_piece (i1 : ∀ a, (![0, 0] : Fin 2 → Nat) a + S16x512.size a ≤ S528x512.size a) (x : S16x512.Idx) :
    k0_pay2 (F := Ideal) i x2 x = stackArr i x1 x2 ((Rect.unit (s := S528x512) ![0, 0] S16x512.size i1).emb x) := by
  have hx0 : (x 0).val < 16 := (x 0).isLt
  have hx1 : (x 1).val < 512 := (x 1).isLt
  have e0 : (((Rect.unit (s := S528x512) ![0, 0] S16x512.size i1).emb x) 0).val = 0 + (x 0).val := Rect.idx_unit_val (s := S528x512) ![0, 0] S16x512.size i1 x 0
  have e1 : (((Rect.unit (s := S528x512) ![0, 0] S16x512.size i1).emb x) 1).val = 0 + (x 1).val := Rect.idx_unit_val (s := S528x512) ![0, 0] S16x512.size i1 x 1
  unfold stackArr
  rw [e0, e1, zero_add, zero_add]
  unfold stack
  rw [dif_pos ⟨by omega, hx1⟩, dif_pos hx0]
  unfold k0_pay2
  rw [shapeCast_self]
  show (Scalar.select (Scalar.cmpi .eq (blockWord (i 0).val) 0#32) (broadcast S16x512 (Scalar.ofBits (F := Ideal) .f32 0x00000000#32)) (extf .f32 x2 bitsLt_bf16_f32)) x = _
  rw [select_of (blockWord_zero ⟨(i 0).val, coord_lt i⟩)]
  by_cases h : (i 0).val % 8 = 0
  · rw [if_pos h, if_pos h]; exact Ideal.ofBits_zero_f32
  · rw [if_neg h, if_neg h]; exact congrArg x2 (eq_ix2 x)

theorem lower_piece (i1 : ∀ a, (![16, 0] : Fin 2 → Nat) a + S512x512.size a ≤ S528x512.size a) (x : S512x512.Idx) :
    k0_pay3 (F := Ideal) x1 x = stackArr i x1 x2 ((Rect.unit (s := S528x512) ![16, 0] S512x512.size i1).emb x) := by
  have hx0 : (x 0).val < 512 := (x 0).isLt
  have hx1 : (x 1).val < 512 := (x 1).isLt
  have e0 : (((Rect.unit (s := S528x512) ![16, 0] S512x512.size i1).emb x) 0).val = 16 + (x 0).val := Rect.idx_unit_val (s := S528x512) ![16, 0] S512x512.size i1 x 0
  have e1 : (((Rect.unit (s := S528x512) ![16, 0] S512x512.size i1).emb x) 1).val = 0 + (x 1).val := Rect.idx_unit_val (s := S528x512) ![16, 0] S512x512.size i1 x 1
  unfold stackArr
  rw [e0, e1, zero_add]
  unfold stack
  rw [dif_pos ⟨by omega, hx1⟩, dif_neg (by omega)]
  unfold k0_pay3
  rw [shapeCast_self]
  exact congrArg x1 (at2 _ _ _ (Nat.add_sub_cancel_left 16 (x 0).val).symm rfl)

/-- Every row of the stack is in one of its two pieces. -/
theorem stack_cover (i1 : ∀ a, (![16, 0] : Fin 2 → Nat) a + S512x512.size a ≤ S528x512.size a) (i2 : ∀ a, (![0, 0] : Fin 2 → Nat) a + S16x512.size a ≤ S528x512.size a)
    (y : S528x512.Idx) :
    ∃ q ∈ ([⟨Rect.unit (s := S528x512) ![16, 0] S512x512.size i1, k0_pay3 (F := Ideal) x1⟩, ⟨Rect.unit (s := S528x512) ![0, 0] S16x512.size i2, k0_pay2 (F := Ideal) i x2⟩] :
      List (View.Piece (Elt Ideal) S528x512 .f32)), y ∈ q.1.set := by
  have h0 : (y 0).val < 528 := (y 0).isLt
  have h1 : (y 1).val < 512 := (y 1).isLt
  by_cases h : (y 0).val < 16
  · refine ⟨⟨Rect.unit (s := S528x512) ![0, 0] S16x512.size i2, k0_pay2 (F := Ideal) i x2⟩, List.mem_cons_of_mem _ (List.mem_singleton.2 rfl), ?_⟩
    show y ∈ (Rect.unit (s := S528x512) ![0, 0] S16x512.size i2).set
    rw [Rect.mem_set_unit]
    intro a
    match a with
    | ⟨0, _⟩ => exact ⟨Nat.zero_le _, by show (y 0).val < 0 + 16; omega⟩
    | ⟨1, _⟩ => exact ⟨Nat.zero_le _, by show (y 1).val < 0 + 512; omega⟩
  · refine ⟨⟨Rect.unit (s := S528x512) ![16, 0] S512x512.size i1, k0_pay3 (F := Ideal) x1⟩, List.mem_cons_self, ?_⟩
    show y ∈ (Rect.unit (s := S528x512) ![16, 0] S512x512.size i1).set
    rw [Rect.mem_set_unit]
    intro a
    match a with
    | ⟨0, _⟩ => exact ⟨by show 16 ≤ (y 0).val; omega, by show (y 0).val < 16 + 512; omega⟩
    | ⟨1, _⟩ => exact ⟨Nat.zero_le _, by show (y 1).val < 0 + 512; omega⟩

/-- A tile read from the first scratch. -/
theorem stack_read (v : View sig .tc .vmem S528x512 .f32) (i1 : ∀ a, (![16, 0] : Fin 2 → Nat) a + S512x512.size a ≤ S528x512.size a)
    (i2 : ∀ a, (![0, 0] : Fin 2 → Nat) a + S16x512.size a ≤ S528x512.size a) (o p : Nat) (i3 : ∀ a, (![o, p] : Fin 2 → Nat) a + S512x128.size a ≤ S528x512.size a) :
    v.readCov (Val := Elt Ideal) [⟨Rect.unit (s := S528x512) ![16, 0] S512x512.size i1, k0_pay3 (F := Ideal) x1⟩, ⟨Rect.unit (s := S528x512) ![0, 0] S16x512.size i2, k0_pay2 (F := Ideal) i x2⟩]
      (Rect.unit (s := S528x512) ![o, p] S512x128.size i3).toLoadRect = shifted i x1 x2 o p := by
  rw [View.readCov_eq_canon']
  funext x
  refine (View.canon_apply_of_pieces (stackArr i x1 x2) _ ?_ _ (stack_cover i x1 x2 i1 i2 _)).trans ?_
  · intro q hq
    simp only [List.mem_cons, List.not_mem_nil, or_false] at hq
    rcases hq with rfl | rfl
    · exact lower_piece i x1 x2 i1
    · exact upper_piece i x1 x2 i2
  · exact congrArg₂ (stack i x1 x2) (Rect.idx_unit_val (s := S528x512) ![o, p] S512x128.size i3 x 0) (Rect.idx_unit_val (s := S528x512) ![o, p] S512x128.size i3 x 1)

/-- A window's mean less the entry. -/
def mixedAt (win : Nat) (r : Fin 512) (n : Nat) : EReal :=
  Ideal.div (∑ k ∈ Finset.range win, stack i x1 x2 (16 - k + r.val) n) (count ((i 0).val % 8 * 512 + r.val) win) - stack i x1 x2 (16 + r.val) n

/-- Entry of the pooled block. -/
def pooled (r n : Fin 512) : EReal :=
  (∑ k : Fin 128, mixedAt i x1 x2 (winOf (groupOf n)) r (channel (groupOf n) k).val * x4 (ix3 (groupOf n) k (laneOf n))) * x5 (ix2 u0 n)

def pooledBlock : FVec Ideal S512x512 .bf16 := fun y => pooled i x1 x2 x4 x5 (y 0) (y 1)

/-- The tile of a group is the pooled block's. -/
theorem tile_piece (g : Fin 4) (p : Nat) (hp : p = 128 * g.val) (acc : FVec Ideal S512x128 .f32)
    (hacc : ∀ (r : Fin 512) (n : Fin 128), acc (ix2 r n) = ∑ k ∈ Finset.range (winOf g), stack i x1 x2 (16 - k + r.val) (p + n.val))
    (i1 : ∀ a, (![0, p] : Fin 2 → Nat) a + S512x128.size a ≤ S512x512.size a)
    (i2 : ∀ a, (![g.val, 0, 0] : Fin 3 → Nat) a + S1x128x128.size a ≤ S4x128x128.size a)
    (i3 : ∀ a, (![0, p] : Fin 2 → Nat) a + S1x128.size a ≤ S1x512.size a) (x : S512x128.Idx) :
    tile (F := Ideal) (k0_pay4 i) (BitVec.ofNat 32 (winOf g)) acc (shifted i x1 x2 16 p) (View.ld (Val := Elt Ideal) (e' := .bf16) x4 (Rect.unit (s := S4x128x128) ![g.val, 0, 0] S1x128x128.size i2))
      (View.ld (Val := Elt Ideal) (e' := .f32) x5 (Rect.unit (s := S1x512) ![0, p] S1x128.size i3)) x
      = pooledBlock i x1 x2 x4 x5 ((Rect.unit (s := S512x512) ![0, p] S512x128.size i1).emb x) := by
  have hx0 : (x 0).val < 512 := (x 0).isLt
  have hx1 : (x 1).val < 128 := (x 1).isLt
  have hg := g.isLt
  have e0 : (((Rect.unit (s := S512x512) ![0, p] S512x128.size i1).emb x) 0).val = 0 + (x 0).val := Rect.idx_unit_val (s := S512x512) ![0, p] S512x128.size i1 x 0
  have e1 : (((Rect.unit (s := S512x512) ![0, p] S512x128.size i1).emb x) 1).val = p + (x 1).val := Rect.idx_unit_val (s := S512x512) ![0, p] S512x128.size i1 x 1
  have ex : x = ix2 (⟨(x 0).val, hx0⟩ : Fin 512) (⟨(x 1).val, hx1⟩ : Fin 128) := eq_ix2 x
  refine (congrArg _ ex).trans ?_
  rw [tile_apply]
  generalize hz : (Rect.unit (s := S512x512) ![0, p] S512x128.size i1).emb x = z at e0 e1
  unfold pooledBlock pooled
  have hr : z 0 = (⟨(x 0).val, hx0⟩ : Fin 512) := Fin.ext (by show (z 0).val = (x 0).val; omega)
  have hl : laneOf (z 1) = (⟨(x 1).val, hx1⟩ : Fin 128) := Fin.ext (by show (z 1).val % 128 = (x 1).val; omega)
  have hgr : groupOf (z 1) = g := Fin.ext (by show (z 1).val / 128 = g.val; omega)
  rw [hl, hgr, hr]
  refine congrArg₂ (fun p q : EReal => p * q) (Finset.sum_congr rfl fun k _ => congrArg₂ (fun p q : EReal => p * q) ?_ ?_) ?_
  · unfold mixedAt
    rw [hacc]
    subst hp
    rfl
  · exact View.ld_unit_apply_of (Val := Elt Ideal) (e := .bf16) (S := S4x128x128) x4 ![g.val, 0, 0] S1x128x128.size i2 (ix3 u0 k (⟨(x 1).val, hx1⟩ : Fin 128)) (ix3 g k (⟨(x 1).val, hx1⟩ : Fin 128)) fun a => match a with
      | ⟨0, _⟩ => rfl
      | ⟨1, _⟩ => (Nat.zero_add _).symm
      | ⟨2, _⟩ => (Nat.zero_add _).symm
  · exact View.ld_unit_apply_of (Val := Elt Ideal) (e := .f32) (S := S1x512) x5 ![0, p] S1x128.size i3 (ix2 u0 (⟨(x 1).val, hx1⟩ : Fin 128)) (ix2 u0 (z 1)) fun a => match a with
      | ⟨0, _⟩ => rfl
      | ⟨1, _⟩ => e1

/-- Entry of the projected block. -/
theorem result_apply (y : FVec Ideal S512x512 .bf16) (i1 : ∀ a, (![0, 0] : Fin 2 → Nat) a + S512x1024.size a ≤ S1024x1024.size a)
    (i2 : ∀ a, (![512, 0] : Fin 2 → Nat) a + S512x1024.size a ≤ S1024x1024.size a) (r : Fin 512) (d : Fin 1024) :
    k0_pay1 (F := Ideal) (k0_pay14 (F := Ideal) x3 x0 (View.ld x6 (Rect.unit (s := S1024x1024) ![0, 0] S512x1024.size i1))) y
        (View.ld x6 (Rect.unit (s := S1024x1024) ![512, 0] S512x1024.size i2)) (ix2 r d)
      = x3 (ix2 r d) + (∑ k : Fin 512, x0 (ix2 r k) * x6 (ix2 (⟨k.val, by have := k.isLt; omega⟩ : Fin 1024) d))
        + ∑ k : Fin 512, y (ix2 r k) * x6 (ix2 (⟨512 + k.val, by have := k.isLt; omega⟩ : Fin 1024) d) := by
  unfold k0_pay1 k0_pay14
  dsimp only
  rw [shapeCast_self, shapeCast_self]
  refine congrArg₂ (fun p q : EReal => x3 (ix2 r d) + p + q) ?_ ?_
  · refine (matmul_rowCol _ _ _ _ _ _ _).trans ?_
    rw [constant_apply, Ideal.ofBits_zero_f32, zero_add]
    exact Finset.sum_congr rfl fun k _ => congrArg (x0 (ix2 r k) * ·) (View.ld_unit_apply_of (Val := Elt Ideal) (e := .bf16) (S := S1024x1024) x6 ![0, 0] S512x1024.size i1 (ix2 k d) (ix2 (⟨k.val, by have := k.isLt; omega⟩ : Fin 1024) d) fun a => match a with
      | ⟨0, _⟩ => (Nat.zero_add _).symm
      | ⟨1, _⟩ => (Nat.zero_add _).symm)
  · refine (matmul_rowCol _ _ _ _ _ _ _).trans ?_
    rw [constant_apply, Ideal.ofBits_zero_f32, zero_add]
    exact Finset.sum_congr rfl fun k _ => congrArg (y (ix2 r k) * ·) (View.ld_unit_apply_of (Val := Elt Ideal) (e := .bf16) (S := S1024x1024) x6 ![512, 0] S512x1024.size i2 (ix2 k d) (ix2 (⟨512 + k.val, by have := k.isLt; omega⟩ : Fin 1024) d) fun a => match a with
      | ⟨0, _⟩ => rfl
      | ⟨1, _⟩ => (Nat.zero_add _).symm)

end Block

section Out
variable (c : Dev nD) (a1 : Memref sig .tc .vmem S512x512 .bf16) (h1 : a1.IsWhole) (a2 : Memref sig .tc .vmem S512x512 .bf16) (h2 : a2.IsWhole)
  (a3 : Memref sig .tc .vmem S16x512 .bf16) (h3 : a3.IsWhole) (a4 : Memref sig .tc .vmem S512x1024 .f32) (h4 : a4.IsWhole)
  (a5 : Memref sig .tc .vmem S4x128x128 .bf16) (h5 : a5.IsWhole) (a6 : Memref sig .tc .vmem S1x512 .f32) (h6 : a6.IsWhole)
  (a7 : Memref sig .tc .vmem S1024x1024 .bf16) (h7 : a7.IsWhole) (a8 : Memref sig .tc .vmem S512x1024 .f32) (h8 : a8.IsWhole)
  (a9 : Memref sig .tc .vmem S528x512 .f32) (h9 : a9.IsWhole) (a10 : Memref sig .tc .vmem S512x512 .bf16) (h10 : a10.IsWhole)
  (x0 x1 : Vec Ideal S512x512 .bf16) (x2 : Vec Ideal S16x512 .bf16) (x3 : Vec Ideal S512x1024 .f32) (x4 : Vec Ideal S4x128x128 .bf16) (x5 : Vec Ideal S1x512 .f32)
  (x6 : Vec Ideal S1024x1024 .bf16)

set_option maxHeartbeats 1600000 in
/-- What a point leaves in the result's block. -/
theorem out_apply (r : Fin 512) (d : Fin 1024) :
    out0_A_7 (F := Ideal) c i a1 h1 a2 h2 a3 h3 a4 h4 a5 h5 a6 h6 a7 h7 a8 h8 a9 h9 a10 h10 x0 x1 x2 x3 x4 x5 x6 (ix2 r d)
      = x3 (ix2 r d) + (∑ k : Fin 512, x0 (ix2 r k) * x6 (ix2 (⟨k.val, by have := k.isLt; omega⟩ : Fin 1024) d))
        + ∑ k : Fin 512, pooled i x1 x2 x4 x5 r k * x6 (ix2 (⟨512 + k.val, by have := k.isLt; omega⟩ : Fin 1024) d) := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S512x1024) hz2, View.ld_unit_zero (S := S512x512) hz2, View.ld_unit_zero (S := S16x512) hz2]
  simp only [stack_read i x1 x2, tile_0, tile_1, tile_2, tile_3]
  refine (result_apply x0 x3 x6 _ _ _ r d).trans ?_
  refine congrArg₂ (fun p q : EReal => x3 (ix2 r d) + p + q) rfl (Finset.sum_congr rfl fun k _ => congrArg (· * _) ?_)
  rw [View.readCov_eq_canon']
  refine (View.canon_apply_of_pieces (pooledBlock i x1 x2 x4 x5) _ ?_ _ (View.cover_of_tiled_head _ _ _ rfl _)).trans ?_
  · intro p hp
    simp only [List.mem_cons, List.not_mem_nil, or_false] at hp
    have H := fun (g : Fin 4) p hp acc hacc i1 i2 i3 => tile_piece i x1 x2 x4 x5 g p hp acc hacc i1 i2 i3
    rcases hp with rfl | rfl | rfl | rfl
    · exact H 3 384 rfl _ (fun r n => by show _ = ∑ k ∈ Finset.range 16, _; simp only [Finset.sum_range_succ, Finset.sum_range_zero, zero_add]; rfl) inb_S512x512_S512x128_0_384 inb_S4x128x128_S1x128x128_3_0_0 inb_S1x512_S1x128_0_384
    · exact H 2 256 rfl _ (fun r n => by show _ = ∑ k ∈ Finset.range 8, _; simp only [Finset.sum_range_succ, Finset.sum_range_zero, zero_add]; rfl) inb_S512x512_S512x128_0_256 inb_S4x128x128_S1x128x128_2_0_0 inb_S1x512_S1x128_0_256
    · exact H 1 128 rfl _ (fun r n => by show _ = ∑ k ∈ Finset.range 4, _; simp only [Finset.sum_range_succ, Finset.sum_range_zero, zero_add]; rfl) inb_S512x512_S512x128_0_128 inb_S4x128x128_S1x128x128_1_0_0 inb_S1x512_S1x128_0_128
    · exact H 0 0 rfl _ (fun r n => by show _ = ∑ k ∈ Finset.range 2, _; rw [Finset.sum_range_succ, Finset.sum_range_succ, Finset.sum_range_zero]; exact congrArg (· + _) (zero_add _).symm) inb_S512x512_S512x128_0_0 inb_S4x128x128_S1x128x128_0_0_0 inb_S1x512_S1x128_0_0
  · have e : (Rect.unit (s := S512x512) ![0, 0] S512x512.size inb_S512x512_S512x512_0_0).toLoadRect.idx (ix2 r k) = ix2 r k :=
      funext fun a => Fin.ext (match a with
        | ⟨0, _⟩ => (Rect.idx_unit_val (s := S512x512) ![0, 0] S512x512.size inb_S512x512_S512x512_0_0 (ix2 r k) 0).trans (Nat.zero_add _)
        | ⟨1, _⟩ => (Rect.idx_unit_val (s := S512x512) ![0, 0] S512x512.size inb_S512x512_S512x512_0_0 (ix2 r k) 1).trans (Nat.zero_add _))
    refine (congrArg (pooledBlock i x1 x2 x4 x5) e).trans ?_
    rfl

end Out

end Cert.KernelOeIdeal.Oe

end
-- ==== Proof.OeFold.lean ====
/-
  The even layers' output projection: the blocks a point reads, and the array the call leaves. The sixteen rows before a
  block are the end of the block before it, so a window's sum goes over the tokens of the sequence up to its own.
-/
module

public import proofs.«01_k».proof.Proof.OeStep

@[expose] public section

noncomputable section

namespace Cert.KernelOeIdeal.Oe

open Idealize.ShloMosaic Idealize.ShloMosaic.TcCoe Idealize.SL.Sem Idealize.ShloMosaic.ValueIdx Idealize.ShloMosaic.Tactic
open Cert.KernelOeIdeal Cert.KernelOeIdeal.Gen Cert.KernelOeIdeal.Value Cert.Kit

variable (m : (ℓ : Loc nD τ sig) → Buf (Elt Ideal) ℓ)

abbrev yA (c : Dev nD) : FVec Ideal S16384x512 .bf16 := m ((c : Thread nD τ).loc main_arg0)
abbrev pA (c : Dev nD) : FVec Ideal S16384x512 .bf16 := m ((c : Thread nD τ).loc main_arg1)
abbrev hA (c : Dev nD) : FVec Ideal S16384x1024 .f32 := m ((c : Thread nD τ).loc main_arg2)
abbrev wA (c : Dev nD) : FVec Ideal S4x128x128 .f32 := m ((c : Thread nD τ).loc main_arg3)
abbrev sA (c : Dev nD) : FVec Ideal S512 .f32 := m ((c : Thread nD τ).loc main_arg4)
abbrev oA (c : Dev nD) : FVec Ideal S1024x1024 .f32 := m ((c : Thread nD τ).loc main_arg5)

theorem points : cfg0.N = 32 := N_0

theorem index_y : ∀ t : Fin cfg0.N, win0_0.index t (0 : Fin 2) = t.val ∧ win0_0.index t (1 : Fin 2) = 0 := (by decide +kernel : ∀ t : Fin grid0.N, _)
theorem index_p : ∀ t : Fin cfg0.N, win0_1.index t (0 : Fin 2) = t.val ∧ win0_1.index t (1 : Fin 2) = 0 := (by decide +kernel : ∀ t : Fin grid0.N, _)
theorem index_q : ∀ t : Fin cfg0.N, win0_2.index t (0 : Fin 2) = 32 * t.val - 1 ∧ win0_2.index t (1 : Fin 2) = 0 := (by decide +kernel : ∀ t : Fin grid0.N, _)
theorem index_h : ∀ t : Fin cfg0.N, win0_3.index t (0 : Fin 2) = t.val ∧ win0_3.index t (1 : Fin 2) = 0 := (by decide +kernel : ∀ t : Fin grid0.N, _)
theorem index_w : ∀ t : Fin cfg0.N, win0_4.index t (0 : Fin 3) = 0 ∧ win0_4.index t (1 : Fin 3) = 0 ∧ win0_4.index t (2 : Fin 3) = 0 :=
  (by decide +kernel : ∀ t : Fin grid0.N, _)
theorem index_s : ∀ t : Fin cfg0.N, win0_5.index t (0 : Fin 2) = 0 ∧ win0_5.index t (1 : Fin 2) = 0 := (by decide +kernel : ∀ t : Fin grid0.N, _)
theorem index_o : ∀ t : Fin cfg0.N, win0_6.index t (0 : Fin 2) = 0 ∧ win0_6.index t (1 : Fin 2) = 0 := (by decide +kernel : ∀ t : Fin grid0.N, _)
theorem index_r : ∀ t : Fin cfg0.N, win0_7.index t (0 : Fin 2) = t.val ∧ win0_7.index t (1 : Fin 2) = 0 := (by decide +kernel : ∀ t : Fin grid0.N, _)
theorem coord_point : ∀ t : Fin cfg0.N, (grid0.coords t 0).val = t.val := (by decide +kernel : ∀ t : Fin grid0.N, _)

/-- Row `r` of the block of point `t`. -/
abbrev row (t : Fin cfg0.N) (r : Fin 512) : Fin 16384 := ⟨512 * t.val + r.val, by have := r.isLt; have := lt_of_lt_of_eq t.isLt points; omega⟩

/-! ## The blocks -/

theorem block_y (c : Dev nD) (t : Fin cfg0.N) (r k : Fin 512) : iblk m c 0 t (ix2 r k) = yA m c (ix2 (row t r) k) := by
  unfold iblk
  rw [View.read_apply, show yA m c = V m c main_arg0 from (V_main_arg0 m c).symm]
  refine congrArg (V m c main_arg0) (funext fun a => Fin.ext ?_)
  match a with
  | ⟨0, _⟩ => show win0_0.index t 0 * 512 + 1 * r.val = 512 * t.val + r.val; rw [(index_y t).1]; omega
  | ⟨1, _⟩ => show win0_0.index t 1 * 512 + 1 * k.val = k.val; rw [(index_y t).2]; omega

theorem block_p (c : Dev nD) (t : Fin cfg0.N) (r k : Fin 512) : iblk m c 1 t (ix2 r k) = pA m c (ix2 (row t r) k) := by
  unfold iblk
  rw [View.read_apply, show pA m c = V m c main_arg1 from (V_main_arg1 m c).symm]
  refine congrArg (V m c main_arg1) (funext fun a => Fin.ext ?_)
  match a with
  | ⟨0, _⟩ => show win0_1.index t 0 * 512 + 1 * r.val = 512 * t.val + r.val; rw [(index_p t).1]; omega
  | ⟨1, _⟩ => show win0_1.index t 1 * 512 + 1 * k.val = k.val; rw [(index_p t).2]; omega

/-- The sixteen rows before a block that does not begin the array. -/
theorem block_q (c : Dev nD) (t : Fin cfg0.N) (r : Fin 16) (k : Fin 512) (j : Fin 16384) (hj : j.val + 16 = 512 * t.val + r.val) :
    iblk m c 2 t (ix2 r k) = pA m c (ix2 j k) := by
  have hr := r.isLt
  unfold iblk
  rw [View.read_apply, show pA m c = V m c main_arg1 from (V_main_arg1 m c).symm]
  refine congrArg (V m c main_arg1) (funext fun a => Fin.ext ?_)
  match a with
  | ⟨0, _⟩ => show win0_2.index t 0 * 16 + 1 * r.val = j.val; rw [(index_q t).1]; omega
  | ⟨1, _⟩ => show win0_2.index t 1 * 512 + 1 * k.val = k.val; rw [(index_q t).2]; omega

theorem block_h (c : Dev nD) (t : Fin cfg0.N) (r : Fin 512) (k : Fin 1024) : iblk m c 3 t (ix2 r k) = hA m c (ix2 (row t r) k) := by
  unfold iblk
  rw [View.read_apply, show hA m c = V m c main_arg2 from (V_main_arg2 m c).symm]
  refine congrArg (V m c main_arg2) (funext fun a => Fin.ext ?_)
  match a with
  | ⟨0, _⟩ => show win0_3.index t 0 * 512 + 1 * r.val = 512 * t.val + r.val; rw [(index_h t).1]; omega
  | ⟨1, _⟩ => show win0_3.index t 1 * 1024 + 1 * k.val = k.val; rw [(index_h t).2]; omega

theorem host_w (c : Dev nD) (g : Fin 4) (r s : Fin 128) : V m c main_v0 (ix3 g r s) = wA m c (ix3 g r s) := by
  have h : V m c main_v0 = (truncf .bf16 (wA m c) bitsLt_bf16_f32 : FVec Ideal S4x128x128 .bf16) := by
    show StableHlo.after hostOps0 (fun b => m (c, b)) (Proc.devRef .tc main_v0) = _
    after_results
  rw [h]; rfl

theorem host_o (c : Dev nD) (k n : Fin 1024) : V m c main_v2 (ix2 k n) = oA m c (ix2 k n) := by
  have h : V m c main_v2 = (truncf .bf16 (oA m c) bitsLt_bf16_f32 : FVec Ideal S1024x1024 .bf16) := by
    show StableHlo.after hostOps0 (fun b => m (c, b)) (Proc.devRef .tc main_v2) = _
    after_results
  rw [h]; rfl

/-- The scale as one row. -/
theorem host_s (c : Dev nD) (n : Fin 512) : V m c main_v1 (ix2 u0 n) = sA m c (ix1 n) := by
  have h : V m c main_v1 = (broadcastInDim S1x512 ![1] bcast_S512_S1x512_1 (sA m c) : FVec Ideal S1x512 .f32) := by
    show StableHlo.after hostOps0 (fun b => m (c, b)) (Proc.devRef .tc main_v1) = _
    after_results
  rw [h]
  exact broadcastInDim_apply _ _ _ (ix2 u0 n) (ix1 n) (fun a => match a with | ⟨0, _⟩ => rfl)

theorem block_w (c : Dev nD) (t : Fin cfg0.N) (g : Fin 4) (r s : Fin 128) : iblk m c 4 t (ix3 g r s) = wA m c (ix3 g r s) := by
  unfold iblk
  rw [View.read_apply]
  refine (congrArg (V m c main_v0) (funext fun a => Fin.ext ?_)).trans (host_w m c g r s)
  match a with
  | ⟨0, _⟩ => show win0_4.index t 0 * 4 + 1 * g.val = g.val; rw [(index_w t).1]; omega
  | ⟨1, _⟩ => show win0_4.index t 1 * 128 + 1 * r.val = r.val; rw [(index_w t).2.1]; omega
  | ⟨2, _⟩ => show win0_4.index t 2 * 128 + 1 * s.val = s.val; rw [(index_w t).2.2]; omega

theorem block_s (c : Dev nD) (t : Fin cfg0.N) (n : Fin 512) : iblk m c 5 t (ix2 u0 n) = sA m c (ix1 n) := by
  unfold iblk
  rw [View.read_apply]
  refine (congrArg (V m c main_v1) (funext fun a => Fin.ext ?_)).trans (host_s m c n)
  match a with
  | ⟨0, _⟩ => show win0_5.index t 0 * 1 + 1 * 0 = 0; rw [(index_s t).1]
  | ⟨1, _⟩ => show win0_5.index t 1 * 512 + 1 * n.val = n.val; rw [(index_s t).2]; omega

theorem block_o (c : Dev nD) (t : Fin cfg0.N) (k n : Fin 1024) : iblk m c 6 t (ix2 k n) = oA m c (ix2 k n) := by
  unfold iblk
  rw [View.read_apply]
  refine (congrArg (V m c main_v2) (funext fun a => Fin.ext ?_)).trans (host_o m c k n)
  match a with
  | ⟨0, _⟩ => show win0_6.index t 0 * 1024 + 1 * k.val = k.val; rw [(index_o t).1]; omega
  | ⟨1, _⟩ => show win0_6.index t 1 * 1024 + 1 * n.val = n.val; rw [(index_o t).2]; omega

/-! ## The result array -/

section Array
variable (y p : FVec Ideal S16384x512 .bf16) (h : FVec Ideal S16384x1024 .f32) (w : FVec Ideal S4x128x128 .f32) (s : FVec Ideal S512 .f32)
  (o : FVec Ideal S1024x1024 .f32)

/-- The entry `k` tokens back in the sequence, zero before its first token. -/
def back (i : Fin 16384) (k : Nat) (n : Fin 512) : EReal :=
  if k ≤ i.val % 4096 then p (ix2 (⟨i.val - k, by have := i.isLt; omega⟩ : Fin 16384) n) else 0

/-- The mean of the window that ends at a token, less the token's entry. -/
def meanLess (win : Nat) (i : Fin 16384) (n : Fin 512) : EReal :=
  Ideal.div (∑ k ∈ Finset.range win, back p i k n) (count (i.val % 4096) win) - p (ix2 i n)

/-- The pooled entry. -/
def poolAt (i : Fin 16384) (n : Fin 512) : EReal :=
  (∑ k : Fin 128, meanLess p (winOf (groupOf n)) i (channel (groupOf n) k) * w (ix3 (groupOf n) k (laneOf n))) * s (ix1 n)

/-- The residual plus the projection of the attention next to the pooled entries. -/
def resultAt (i : Fin 16384) (d : Fin 1024) : EReal :=
  h (ix2 i d) + ((∑ k : Fin 512, y (ix2 i k) * o (ix2 (⟨k.val, by have := k.isLt; omega⟩ : Fin 1024) d))
    + ∑ k : Fin 512, poolAt p w s i k * o (ix2 (⟨512 + k.val, by have := k.isLt; omega⟩ : Fin 1024) d))

def resultArr : FVec Ideal S16384x1024 .f32 := fun i => resultAt y p h w s o (i 0) (i 1)
end Array

/-- The stacked rows hold the entries back from a row. -/
theorem stack_back (c : Dev nD) (t : Fin cfg0.N) (r n : Fin 512) (k : Nat) (hk : k < 16) :
    stack (grid0.coords t) (iblk m c 1 t) (iblk m c 2 t) (16 - k + r.val) n.val = back (pA m c) (row t r) k n := by
  have hr := r.isLt
  have hn := n.isLt
  have ht := lt_of_lt_of_eq t.isLt points
  unfold stack back
  rw [dif_pos ⟨by omega, hn⟩, coord_point t]
  by_cases hq : 16 - k + r.val < 16
  · rw [dif_pos hq]
    by_cases h8 : t.val % 8 = 0
    · rw [if_pos h8, if_neg (by show ¬ k ≤ (512 * t.val + r.val) % 4096; omega)]
    · rw [if_neg h8, if_pos (by show k ≤ (512 * t.val + r.val) % 4096; omega)]
      exact block_q m c t _ _ _ (by show 512 * t.val + r.val - k + 16 = 512 * t.val + (16 - k + r.val); omega)
  · rw [dif_neg hq, if_pos (by show k ≤ (512 * t.val + r.val) % 4096; omega), block_p]
    exact congrArg (fun j => pA m c (ix2 j n)) (Fin.ext (by show 512 * t.val + (16 - k + r.val - 16) = 512 * t.val + r.val - k; omega))

/-- The pooled block of a point. -/
theorem pooled_block (c : Dev nD) (t : Fin cfg0.N) (r n : Fin 512) :
    pooled (grid0.coords t) (iblk m c 1 t) (iblk m c 2 t) (iblk m c 4 t) (iblk m c 5 t) r n = poolAt (pA m c) (wA m c) (sA m c) (row t r) n := by
  have hw : winOf (groupOf n) ≤ 16 := by
    have h : (groupOf n).val + 1 ≤ 4 := (groupOf n).isLt
    exact (Nat.pow_le_pow_right (by decide) h : 2 ^ ((groupOf n).val + 1) ≤ 2 ^ 4)
  unfold pooled poolAt
  rw [block_s]
  refine congrArg (· * _) (Finset.sum_congr rfl fun k _ => ?_)
  rw [block_w]
  refine congrArg (· * _) ?_
  unfold mixedAt meanLess
  refine congr (congrArg _ (congr (congrArg Ideal.div (Finset.sum_congr rfl fun j hj => ?_)) ?_)) ?_
  · exact stack_back m c t r _ j (by have := Finset.mem_range.1 hj; omega)
  · rw [coord_point t]
    exact congrArg (fun q => count q _) (by show t.val % 8 * 512 + r.val = (512 * t.val + r.val) % 4096; have := r.isLt; omega)
  · refine (stack_back m c t r _ 0 (by decide)).trans ?_
    exact if_pos (Nat.zero_le _)

/-- An index of a block of the result, and the array's index under it. -/
abbrev cell (z : S512x1024.Idx) : S512x1024.Idx := ix2 (⟨(z 0).val, (z 0).isLt⟩ : Fin 512) (⟨(z 1).val, (z 1).isLt⟩ : Fin 1024)
abbrev spot (t : Fin cfg0.N) (z : S512x1024.Idx) : S16384x1024.Idx := ix2 (row t ⟨(z 0).val, (z 0).isLt⟩) (⟨(z 1).val, (z 1).isLt⟩ : Fin 1024)

theorem emb_spot (t : Fin cfg0.N) (y : S512x1024.Idx) (z : S16384x1024.Idx)
    (h0 : (z 0).val = win0_7.index t 0 * 512 + 1 * (y 0).val) (h1 : (z 1).val = win0_7.index t 1 * 1024 + 1 * (y 1).val) : z = spot t y := by
  funext a; apply Fin.ext
  match a with
  | ⟨0, _⟩ => show (z 0).val = 512 * t.val + (y 0).val; rw [h0, (index_r t).1]; omega
  | ⟨1, _⟩ => show (z 1).val = (y 1).val; rw [h1, (index_r t).2]; omega

/-- The point whose block holds a row. -/
abbrev owner (i : S16384x1024.Idx) : Fin cfg0.N := ⟨(i 0).val / 512, by have h : (i 0).val < 16384 := (i 0).isLt; have := points; omega⟩

theorem owner_covers (i : S16384x1024.Idx) (a : Fin 2) :
    win0_7.index (owner i) a * S512x1024.size a ≤ (i a).val ∧ (i a).val < win0_7.index (owner i) a * S512x1024.size a + S512x1024.size a := by
  have h0 : (i 0).val < 16384 := (i 0).isLt
  have h1 : (i 1).val < 1024 := (i 1).isLt
  obtain ⟨e0, e1⟩ := index_r (owner i)
  match a with
  | ⟨0, _⟩ => show win0_7.index _ 0 * 512 ≤ (i 0).val ∧ (i 0).val < win0_7.index _ 0 * 512 + 512; rw [e0]; dsimp only; omega
  | ⟨1, _⟩ => show win0_7.index _ 1 * 1024 ≤ (i 1).val ∧ (i 1).val < win0_7.index _ 1 * 1024 + 1024; rw [e1]; dsimp only; omega

theorem cell_of (y z : S512x1024.Idx) (h0 : (z 0).val = (y 0).val) (h1 : (z 1).val = (y 1).val) : z = cell y := by
  funext a; apply Fin.ext
  match a with
  | ⟨0, _⟩ => exact h0
  | ⟨1, _⟩ => exact h1

theorem result_eq (c : Dev nD) :
    (dats m 0 c).arrAt 7 cfg0.N = resultArr (yA m c) (pA m c) (hA m c) (wA m c) (sA m c) (oA m c) := by
  refine (dats m 0 c).arrAt_eq_of_cover 7 _ (fun t _ => ?_) (fun i => ⟨owner i, flush0_7 _, ?_⟩)
  · rw [flushed7_A]
    funext y
    rw [View.read_apply]
    show out0_A_7 (F := Ideal) c (grid0.coords t) _ _ _ _ _ _ _ _ _ _ _ _ _ _ _ _ _ _ _ _ (iblk m c 0 t) (iblk m c 1 t) (iblk m c 2 t) (iblk m c 3 t) (iblk m c 4 t)
        (iblk m c 5 t) (iblk m c 6 t) ((cfg0.win 7).xinj (grid0.coords t) y)
      = resultArr (yA m c) (pA m c) (hA m c) (wA m c) (sA m c) (oA m c) (((cfg0.win 7).blk t).view.emb y)
    rw [emb_spot t y (((cfg0.win 7).blk t).view.emb y) rfl rfl, cell_of y _ rfl rfl]
    refine (out_apply _ _ _ _ _ _ _ _ _ _ _ _ _ _ _ _ _ _ _ _ _ _ _ _ _ _ _ _ _ _ _).trans ?_
    rw [add_assoc, block_h]
    refine congrArg₂ (fun p q : EReal => _ + (p + q)) (Finset.sum_congr rfl fun k _ => ?_) (Finset.sum_congr rfl fun k _ => ?_)
    · rw [block_y, block_o]
    · rw [pooled_block, block_o]
  · show i ∈ ((View.whole main_v3).slice (win0_7.rect (owner i))).set
    rw [View.set_slice_whole, Rect.mem_set_unit]
    exact owner_covers i

end Cert.KernelOeIdeal.Oe

end
-- ==== Proof.OeRef.lean ====
/-
  The even layers' output projection as the reference writes it: the trailing-window sums of each channel group, their means
  less the entries, the groups' weights, and one product with the concatenated rows.
-/
module

public import proofs.«01_k».proof.Proof.OeFold
public import proofs.«01_k».proof.Proof.SbRef
public import proofs.«01_k».proof.Proof.Gen.ReferenceOeIdeal.Read

@[expose] public section

noncomputable section

namespace Cert.ReferenceOeIdeal.Oe

open Idealize.ShloMosaic Idealize.SL.Sem Idealize.ShloMosaic.ValueIdx
open Cert.ReferenceOeIdeal Cert.ReferenceOeIdeal.Gen Cert.ReferenceOeIdeal.Read Cert.Kit
open Cert.KernelOeIdeal.Oe (groupOf laneOf channel winOf count back meanLess poolAt resultAt resultArr)

/-! ## A trailing window's sum -/

/-- The places of a window are those along its middle axis. -/
def places (win : Nat) : (⟨3, ![1, win, 1]⟩ : Shape).Idx ≃ Fin win where
  toFun w := w 1
  invFun k := ix3 u0 k u0
  left_inv w := by
    funext a
    match a with
    | ⟨0, _⟩ => exact Fin.ext (by have h : (w 0).val < 1 := (w 0).isLt; show 0 = (w 0).val; omega)
    | ⟨1, _⟩ => rfl
    | ⟨2, _⟩ => exact Fin.ext (by have h : (w 2).val < 1 := (w 2).isLt; show 0 = (w 2).val; omega)
  right_inv k := rfl

/-- The window sum at position `t` takes the entries back from `t`, zero before the first. -/
theorem window_apply (lo : Nat) (x : FVec Ideal S4x4096x128 .f32) (init : FVec Ideal S_ .f32) (hi : ∀ i, init i = 0) (hw) (hu) (b : Fin 4) (t : Fin 4096) (c : Fin 128) :
    Host.reduceWindowAdd ![1, lo + 1, 1] ![1, 1, 1] ![0, lo, 0] ![0, 0, 0] x init hw hu (ix3 b t c)
      = ∑ k ∈ Finset.range (lo + 1), if k ≤ t.val then x (ix3 b (⟨t.val - k, by have := t.isLt; omega⟩ : Fin 4096) c) else 0 := by
  have hb := b.isLt; have ht := t.isLt; have hc := c.isLt
  refine (Cert.ReferenceSbIdeal.Sb.window_sum (s := S4x4096x128) (t := S4x4096x128) (u := S_) _ _ _ _ x init hw hu (ix3 b t c)).trans ?_
  rw [hi, zero_add, ← Finset.sum_range_reflect, ← Fin.sum_univ_eq_sum_range (fun j => if lo + 1 - 1 - j ≤ t.val then x (ix3 b (⟨t.val - (lo + 1 - 1 - j), by omega⟩ : Fin 4096) c) else 0)]
  refine (Equiv.sum_comp (places (lo + 1)).symm _).symm.trans ?_
  refine Finset.sum_congr rfl fun w _ => ?_
  have hwl := w.isLt
  by_cases hin : lo + 1 - 1 - w.val ≤ t.val
  · rw [if_pos hin, dif_pos (fun a => by
      match a with
      | ⟨0, _⟩ => exact ⟨Nat.zero_le _, by show b.val * 1 + 0 - 0 < 4; omega⟩
      | ⟨1, _⟩ => exact ⟨by show lo ≤ t.val * 1 + w.val; omega, by show t.val * 1 + w.val - lo < 4096; omega⟩
      | ⟨2, _⟩ => exact ⟨Nat.zero_le _, by show c.val * 1 + 0 - 0 < 128; omega⟩)]
    refine congrArg x (funext fun a => Fin.ext ?_)
    match a with
    | ⟨0, _⟩ => show b.val * 1 + 0 - 0 = b.val; omega
    | ⟨1, _⟩ => show t.val * 1 + w.val - lo = t.val - (lo + 1 - 1 - w.val); omega
    | ⟨2, _⟩ => show c.val * 1 + 0 - 0 = c.val; omega
  · rw [if_neg hin, dif_neg (fun h => by
      have h1 : lo ≤ t.val * 1 + w.val := (h 1).1
      omega)]

/-! ## The groups -/

variable (y p : FVec Ideal S16384x512 .bf16) (h : FVec Ideal S16384x1024 .f32) (w : FVec Ideal S4x128x128 .f32) (s : FVec Ideal S512 .f32)
  (o : FVec Ideal S1024x1024 .f32)

/-- The token at a position of a sequence. -/
abbrev token (b : Fin 4) (t : Fin 4096) : Fin 16384 := ⟨4096 * b.val + t.val, by have := b.isLt; have := t.isLt; omega⟩

/-- A group's mean less its entries, from the group's channels. -/
theorem mean_apply (lo : Nat) (g : Fin 4) (hg : lo + 1 = winOf g) (x : FVec Ideal S4x4096x128 .f32)
    (hx : ∀ (b : Fin 4) (t : Fin 4096) (c : Fin 128), x (ix3 b t c) = p (ix2 (token b t) (channel g c)))
    (init : FVec Ideal S_ .f32) (hi : ∀ i, init i = 0) (hw) (hu) (b : Fin 4) (t : Fin 4096) (c : Fin 128) (q : EReal) (hq : q = count t.val (lo + 1)) :
    Ideal.div (Host.reduceWindowAdd ![1, lo + 1, 1] ![1, 1, 1] ![0, lo, 0] ![0, 0, 0] x init hw hu (ix3 b t c)) q - x (ix3 b t c)
      = meanLess p (winOf g) (token b t) (channel g c) := by
  have hb := b.isLt; have ht := t.isLt
  have e : (token b t).val % 4096 = t.val := by show (4096 * b.val + t.val) % 4096 = t.val; omega
  rw [window_apply lo x init hi hw hu, hx, hq]
  unfold meanLess
  rw [e, ← hg]
  refine congrArg (fun z => Ideal.div z _ - _) (Finset.sum_congr rfl fun k _ => ?_)
  unfold back
  rw [e]
  by_cases hk : k ≤ t.val
  · rw [if_pos hk, if_pos hk, hx]
    exact congrArg (fun j => p (ix2 j (channel g c))) (Fin.ext (by show 4096 * b.val + (t.val - k) = 4096 * b.val + t.val - k; omega))
  · rw [if_neg hk, if_neg hk]

/-- A group's channels by sequence and position. -/
theorem slice_of (g : Fin 4) (b : Fin 4) (t : Fin 4096) (c : Fin 128) (z : S16384x512.Idx)
    (h0 : (z 0).val = ((b.val * 4096 + t.val) * 128 + c.val) / 128) (h1 : (z 1).val = 128 * g.val + ((b.val * 4096 + t.val) * 128 + c.val) % 128) :
    z = ix2 (token b t) (channel g c) := by
  have hc := c.isLt
  refine at2 z _ _ (h0.trans ?_) (h1.trans ?_)
  · show _ = 4096 * b.val + t.val
    omega
  · show _ = 128 * g.val + c.val
    omega

theorem slice_0 (b : Fin 4) (t : Fin 4096) (c : Fin 128) : val_main_v5 (F := Ideal) p (ix3 b t c) = p (ix2 (token b t) (channel 0 c)) := by
  rw [val_main_v5_apply, val_main_v4_apply, val_main_v1_apply]
  exact congrArg p (slice_of 0 b t c _ rfl (Nat.zero_add _).symm)
theorem slice_1 (b : Fin 4) (t : Fin 4096) (c : Fin 128) : val_main_v19 (F := Ideal) p (ix3 b t c) = p (ix2 (token b t) (channel 1 c)) := by
  rw [val_main_v19_apply, val_main_v18_apply, val_main_v1_apply]
  exact congrArg p (slice_of 1 b t c _ rfl rfl)
theorem slice_2 (b : Fin 4) (t : Fin 4096) (c : Fin 128) : val_main_v33 (F := Ideal) p (ix3 b t c) = p (ix2 (token b t) (channel 2 c)) := by
  rw [val_main_v33_apply, val_main_v32_apply, val_main_v1_apply]
  exact congrArg p (slice_of 2 b t c _ rfl rfl)
theorem slice_3 (b : Fin 4) (t : Fin 4096) (c : Fin 128) : val_main_v47 (F := Ideal) p (ix3 b t c) = p (ix2 (token b t) (channel 3 c)) := by
  rw [val_main_v47_apply, val_main_v46_apply, val_main_v1_apply]
  exact congrArg p (slice_of 3 b t c _ rfl rfl)

theorem count_0 (b : Fin 4) (t : Fin 4096) (c : Fin 128) : val_main_v14 (F := Ideal) (ix3 b t c) = count t.val 2 := by
  rw [val_main_v14_apply, val_main_v13_apply, val_main_v12_apply, val_main_v11_apply, val_main_v9_apply, val_main_v3_apply, val_main_v2_apply, val_main_v8_apply, val_main_v10_apply]
  rfl
theorem count_1 (b : Fin 4) (t : Fin 4096) (c : Fin 128) : val_main_v28 (F := Ideal) (ix3 b t c) = count t.val 4 := by
  rw [val_main_v28_apply, val_main_v27_apply, val_main_v26_apply, val_main_v25_apply, val_main_v23_apply, val_main_v3_apply, val_main_v2_apply, val_main_v22_apply, val_main_v24_apply]
  rfl
theorem count_2 (b : Fin 4) (t : Fin 4096) (c : Fin 128) : val_main_v42 (F := Ideal) (ix3 b t c) = count t.val 8 := by
  rw [val_main_v42_apply, val_main_v41_apply, val_main_v40_apply, val_main_v39_apply, val_main_v37_apply, val_main_v3_apply, val_main_v2_apply, val_main_v36_apply, val_main_v38_apply]
  rfl
theorem count_3 (b : Fin 4) (t : Fin 4096) (c : Fin 128) : val_main_v56 (F := Ideal) (ix3 b t c) = count t.val 16 := by
  rw [val_main_v56_apply, val_main_v55_apply, val_main_v54_apply, val_main_v53_apply, val_main_v51_apply, val_main_v3_apply, val_main_v2_apply, val_main_v50_apply, val_main_v52_apply]
  rfl

theorem group_0 (b : Fin 4) (t : Fin 4096) (c : Fin 128) : val_main_v16 (F := Ideal) p (ix3 b t c) = meanLess p (winOf 0) (token b t) (channel 0 c) := by
  rw [val_main_v16_apply, val_main_v15_apply]
  exact mean_apply p 1 0 rfl _ (slice_0 p) _ (fun _ => Ideal.ofBits_zero_f32) _ _ b t c _ (count_0 b t c)
theorem group_1 (b : Fin 4) (t : Fin 4096) (c : Fin 128) : val_main_v30 (F := Ideal) p (ix3 b t c) = meanLess p (winOf 1) (token b t) (channel 1 c) := by
  rw [val_main_v30_apply, val_main_v29_apply]
  exact mean_apply p 3 1 rfl _ (slice_1 p) _ (fun _ => Ideal.ofBits_zero_f32) _ _ b t c _ (count_1 b t c)
theorem group_2 (b : Fin 4) (t : Fin 4096) (c : Fin 128) : val_main_v44 (F := Ideal) p (ix3 b t c) = meanLess p (winOf 2) (token b t) (channel 2 c) := by
  rw [val_main_v44_apply, val_main_v43_apply]
  exact mean_apply p 7 2 rfl _ (slice_2 p) _ (fun _ => Ideal.ofBits_zero_f32) _ _ b t c _ (count_2 b t c)
theorem group_3 (b : Fin 4) (t : Fin 4096) (c : Fin 128) : val_main_v58 (F := Ideal) p (ix3 b t c) = meanLess p (winOf 3) (token b t) (channel 3 c) := by
  rw [val_main_v58_apply, val_main_v57_apply]
  exact mean_apply p 15 3 rfl _ (slice_3 p) _ (fun _ => Ideal.ofBits_zero_f32) _ _ b t c _ (count_3 b t c)

/-! ## The pooled entries and the result -/

/-- The sequence and the position of a token. -/
abbrev seqOf (i : Fin 16384) : Fin 4 := ⟨i.val / 4096, by have := i.isLt; omega⟩
abbrev posOf (i : Fin 16384) : Fin 4096 := ⟨i.val % 4096, by omega⟩

/-- An index of a group's flat array, unflattened. -/
theorem flat_of (i : Fin 16384) (k : Fin 128) (z : S4x4096x128.Idx) (h0 : (z 0).val = (i.val * 128 + k.val) / 524288)
    (h1 : (z 1).val = (i.val * 128 + k.val) / 128 % 4096) (h2 : (z 2).val = (i.val * 128 + k.val) % 128) : z = ix3 (seqOf i) (posOf i) k := by
  have hk := k.isLt
  funext a; apply Fin.ext
  match a with
  | ⟨0, _⟩ => show (z 0).val = i.val / 4096; omega
  | ⟨1, _⟩ => show (z 1).val = i.val % 4096; omega
  | ⟨2, _⟩ => show (z 2).val = k.val; omega

theorem token_of (i : Fin 16384) : token (seqOf i) (posOf i) = i := Fin.ext (by show 4096 * (i.val / 4096) + i.val % 4096 = i.val; omega)

/-- The four groups' arrays next to each other. -/
theorem stacked_apply (i : Fin 16384) (g : Fin 4) (k : Fin 128) :
    val_main_v64 (F := Ideal) p (ix3 i g k) = meanLess p (winOf g) i (channel g k) := by
  have f : ∀ n : Fin 4, (![val_main_v60 (F := Ideal) p, val_main_v61 (F := Ideal) p, val_main_v62 (F := Ideal) p, val_main_v63 (F := Ideal) p] : Fin 4 → FVec Ideal S16384x1x128 .f32) n (ix3 i u0 k)
      = meanLess p (winOf n) i (channel n k) := by
    intro n
    have e := token_of i
    match n with
    | ⟨0, _⟩ =>
      show val_main_v60 (F := Ideal) p (ix3 i u0 k) = _
      rw [val_main_v60_apply, val_main_v17_apply]
      exact (congrArg (val_main_v16 (F := Ideal) p) (flat_of i k _ rfl rfl rfl)).trans ((group_0 p _ _ k).trans (congrArg (fun j => meanLess p (winOf 0) j (channel 0 k)) e))
    | ⟨1, _⟩ =>
      show val_main_v61 (F := Ideal) p (ix3 i u0 k) = _
      rw [val_main_v61_apply, val_main_v31_apply]
      exact (congrArg (val_main_v30 (F := Ideal) p) (flat_of i k _ rfl rfl rfl)).trans ((group_1 p _ _ k).trans (congrArg (fun j => meanLess p (winOf 1) j (channel 1 k)) e))
    | ⟨2, _⟩ =>
      show val_main_v62 (F := Ideal) p (ix3 i u0 k) = _
      rw [val_main_v62_apply, val_main_v45_apply]
      exact (congrArg (val_main_v44 (F := Ideal) p) (flat_of i k _ rfl rfl rfl)).trans ((group_2 p _ _ k).trans (congrArg (fun j => meanLess p (winOf 2) j (channel 2 k)) e))
    | ⟨3, _⟩ =>
      show val_main_v63 (F := Ideal) p (ix3 i u0 k) = _
      rw [val_main_v63_apply, val_main_v59_apply]
      exact (congrArg (val_main_v58 (F := Ideal) p) (flat_of i k _ rfl rfl rfl)).trans ((group_3 p _ _ k).trans (congrArg (fun j => meanLess p (winOf 3) j (channel 3 k)) e))
  refine concatenate_ofFn_unit_eq (t := S16384x4x128) (s₁ := S16384x1x128) 1 (N := 4)
    (![val_main_v60 (F := Ideal) p, val_main_v61 (F := Ideal) p, val_main_v62 (F := Ideal) p, val_main_v63 (F := Ideal) p] : Fin 4 → FVec Ideal S16384x1x128 .f32) _ (ix3 i g k) _ rfl rfl
    fun n z hn hz hb => ?_
  have en : n = g := Fin.ext hn.symm
  have ez : z = ix3 i u0 k := funext fun a => Fin.ext (match a with
    | ⟨0, _⟩ => hb 0 (by decide)
    | ⟨1, _⟩ => hz
    | ⟨2, _⟩ => hb 2 (by decide))
  rw [ez, en]
  exact f g

/-- The scaled pooled entries. -/
theorem pooled_apply (i : Fin 16384) (n : Fin 512) : val_main_v70 (F := Ideal) p w s (ix2 i n) = poolAt p w s i n := by
  have hi := i.isLt
  have hn := n.isLt
  have e : idx_main_v67 (ix2 i n) = ix3 i (groupOf n) (laneOf n) := funext fun a => Fin.ext (match a with
    | ⟨0, _⟩ => by show (i.val * 512 + n.val) / 512 = i.val; omega
    | ⟨1, _⟩ => by show (i.val * 512 + n.val) / 128 % 4 = n.val / 128; omega
    | ⟨2, _⟩ => by show (i.val * 512 + n.val) % 128 = n.val % 128; omega)
  rw [val_main_v70_apply, val_main_v67_apply, e, val_main_v66_apply, val_main_v65_apply, val_main_v69_apply, val_main_v68_apply]
  refine congrArg₂ (fun a b : EReal => a * b) (Finset.sum_congr rfl fun k _ => ?_) (congrArg s (funext fun a => match a with | ⟨0, _⟩ => rfl))
  rw [mul_comm]
  refine congrArg₂ (fun a b : EReal => a * b) ?_ (congrArg w (eq_ix3 _))
  exact (congrArg (val_main_v64 (F := Ideal) p) (eq_ix3 _)).trans (stacked_apply p i (groupOf n) k)

/-- The concatenated rows: the attention, then the pooled entries. -/
theorem left_apply (i : Fin 16384) (k : Fin 512) :
    val_main_v71 (F := Ideal) y p w s (ix2 i (⟨k.val, by have := k.isLt; omega⟩ : Fin 1024)) = y (ix2 i k) := by
  unfold val_main_v71
  refine (concatenate_pair_apply_left (t := S16384x1024) (s₁ := S16384x512) (s₂ := S16384x512) 1 _ _ _ _ rfl (ix2 i k) fun a => match a with
    | ⟨0, _⟩ => rfl
    | ⟨1, _⟩ => rfl).trans ?_
  rfl

theorem right_apply (i : Fin 16384) (k : Fin 512) :
    val_main_v71 (F := Ideal) y p w s (ix2 i (⟨512 + k.val, by have := k.isLt; omega⟩ : Fin 1024)) = poolAt p w s i k := by
  unfold val_main_v71
  exact (concatenate_pair_apply_right (t := S16384x1024) (s₁ := S16384x512) (s₂ := S16384x512) 1 _ _ _ _ rfl rfl (ix2 i k) (fun a => match a with
    | ⟨0, _⟩ => fun _ => rfl
    | ⟨1, _⟩ => fun h => absurd rfl h) (Nat.add_comm _ _)).trans (pooled_apply p w s i k)

theorem result_apply (i : Fin 16384) (d : Fin 1024) : val_main_v73 (F := Ideal) y p h w s o (ix2 i d) = resultAt y p h w s o i d := by
  rw [val_main_v73_apply, val_main_v72_apply]
  refine congrArg (fun q : EReal => h (ix2 i d) + q) ?_
  refine (Fin.sum_univ_add (a := 512) (b := 512) (fun k : Fin (512 + 512) => (val_main_v71 (F := Ideal) y p w s (lidx_main_v72 (ix2 i d) k) * o (ridx_main_v72 (ix2 i d) k) : EReal))).trans ?_
  refine congrArg₂ (fun p q : EReal => p + q) (Finset.sum_congr rfl fun k _ => ?_) (Finset.sum_congr rfl fun k _ => ?_)
  · refine congrArg₂ (fun p q : EReal => p * q) ?_ (congrArg o (eq_ix2 _))
    exact (congrArg (val_main_v71 (F := Ideal) y p w s) (eq_ix2 _)).trans (left_apply y p w s i k)
  · refine congrArg₂ (fun p q : EReal => p * q) ?_ (congrArg o (eq_ix2 _))
    exact (congrArg (val_main_v71 (F := Ideal) y p w s) (eq_ix2 _)).trans (right_apply y p w s i k)

theorem result_eq : val_main_v73 (F := Ideal) y p h w s o = resultArr y p h w s o := funext fun i => by
  rw [eq_ix2 i]; exact result_apply y p h w s o _ _

end Cert.ReferenceOeIdeal.Oe

end
-- ==== Proof.OeClaims.lean ====
/-
  The claims about the even layers' output projection.
-/
module

public import proofs.«01_k».proof.Defs
public import proofs.«01_k».proof.Proof.Gen.KernelOe.Frame
public import proofs.«01_k».proof.Proof.OeRef

@[expose] public section

noncomputable section

namespace Cert.Proof.Oe

open Idealize.ShloMosaic Idealize.SL.Sem Cert.KernelOeIdeal.Oe

theorem frame_kernel : Cert.quiescent_KernelOe := fun m ρ _ => Cert.KernelOe.Gen.frame m ρ

theorem frame_ideal : Cert.quiescent_KernelOeIdeal := fun m ρ _ => Cert.KernelOeIdeal.Gen.frame m ρ

theorem frame_reference : Cert.quiescent_ReferenceOeIdeal := fun m ρ _ =>
  (θ_run _ _ _).mono (fun r h => ⟨fun c => (h c).2, sem_eq_zero_of_no_sems (by decide) r.2⟩)
    (Cert.ReferenceOeIdeal.Value.run (F := Ideal) m ρ)

/-- Kernel and reference end with the same array. -/
theorem algebraic : Cert.algebraic_KernelOeIdeal_ReferenceOeIdeal := fun m ρ m' ρ' _ hag =>
  ⟨fun c => resultArr (yA m c) (pA m c) (hA m c) (wA m c) (sA m c) (oA m c),
    (θ_run _ _ _).mono (fun _ h c => ⟨(h c).1.trans (result_eq m c), (h c).2⟩) (Cert.KernelOeIdeal.Value.run_blocks m ρ),
    (θ_run _ _ _).mono (fun _ h c => by
      obtain ⟨e0, e1, e2, e3, e4, e5⟩ := hag c
      refine ⟨(h c).1.trans ((Cert.ReferenceOeIdeal.Read.val_main_v73_eq m' c).trans ?_), (h c).2⟩
      rw [e0, e1, e2, e3, e4, e5]
      exact Cert.ReferenceOeIdeal.Oe.result_eq _ _ _ _ _ _)
      (Cert.ReferenceOeIdeal.Value.run (F := Ideal) m' ρ')⟩

end Cert.Proof.Oe

end
-- ==== Proof.BaSoft.lean ====
/-
  A weighted mean by exponentials, over all keys of a block or over a band's only: keys whose score is minus infinity weigh
  nothing.
-/
module

public import proofs.«01_k».proof.Proof.Norm

@[expose] public section

noncomputable section

namespace Cert.Kit

open Idealize.ShloMosaic Idealize.ShloMosaic.ValueIdx

variable {ι κ : Type} [Fintype ι] [Fintype κ]

/-- The weight of a key before it is normalized. -/
def weight (s : ι → EReal) (j : ι) : EReal := Ideal.exp (s j - Finset.univ.sup s)

theorem weight_bot (s : ι → EReal) (j : ι) (h : s j = ⊥) : weight s j = 0 := by
  unfold weight
  rw [h, sub_eq_add_neg, EReal.bot_add]
  rfl

theorem exp_nonneg (x : EReal) : 0 ≤ Ideal.exp x := by
  induction x with
  | bot => exact le_refl _
  | top => exact le_top
  | coe r => exact EReal.coe_nonneg.mpr (Real.exp_pos r).le

/-- A constant factor comes out of a sum. -/
theorem sum_mul_const (f : ι → EReal) (c : EReal) (h0 : 0 ≤ c) (ht : c ≠ ⊤) : (∑ j, f j) * c = ∑ j, f j * c := by
  classical
  induction (Finset.univ : Finset ι) using Finset.induction_on with
  | empty => exact zero_mul c
  | insert a s ha ih =>
    rw [Finset.sum_insert ha, Finset.sum_insert ha, ← ih, mul_comm, EReal.left_distrib_of_nonneg_of_ne_top h0 ht, mul_comm c, mul_comm c]

theorem sum_ne_top (f : ι → EReal) (h : ∀ j, f j ≠ ⊤) : ∑ j, f j ≠ ⊤ := by
  classical
  induction (Finset.univ : Finset ι) using Finset.induction_on with
  | empty => exact EReal.zero_ne_top
  | insert a s ha ih =>
    rw [Finset.sum_insert ha]
    exact EReal.add_ne_top (h a) ih

section Real
variable (t : ι → EReal) (ht : ∀ j, t j ≠ ⊤) (j₀ : ι) (h₀ : t j₀ ≠ ⊥)
include ht h₀

theorem sup_real : ∃ M : ℝ, Finset.univ.sup t = (M : EReal) := by
  have h1 : t j₀ ≤ Finset.univ.sup t := Finset.le_sup (Finset.mem_univ j₀)
  have hb : Finset.univ.sup t ≠ ⊥ := fun h => h₀ (le_bot_iff.mp (h ▸ h1))
  have hT : Finset.univ.sup t < ⊤ := (Finset.sup_lt_iff (by decide)).mpr fun j _ => lt_top_iff_ne_top.mpr (ht j)
  exact ⟨_, (EReal.coe_toReal hT.ne hb).symm⟩

theorem weight_ne_top (j : ι) : weight t j ≠ ⊤ := by
  obtain ⟨M, hM⟩ := sup_real t ht j₀ h₀
  unfold weight
  rw [hM]
  induction h : t j with
  | bot => rw [sub_eq_add_neg, EReal.bot_add]; exact EReal.zero_ne_top
  | top => exact absurd h (ht j)
  | coe r => rw [← EReal.coe_sub]; exact EReal.coe_ne_top _

/-- The weights' sum is positive and finite. -/
theorem total_real : ∃ L : ℝ, 0 < L ∧ ∑ j, weight t j = (L : EReal) := by
  have hnn : ∀ j, 0 ≤ weight t j := fun j => exp_nonneg _
  obtain ⟨M, hM⟩ := sup_real t ht j₀ h₀
  have hpos : 0 < weight t j₀ := by
    unfold weight
    rw [hM]
    induction h : t j₀ with
    | bot => exact absurd h h₀
    | top => exact absurd h (ht j₀)
    | coe r => rw [← EReal.coe_sub]; exact EReal.coe_pos.mpr (Real.exp_pos _)
  have hle : weight t j₀ ≤ ∑ j, weight t j := Finset.single_le_sum (fun j _ => hnn j) (Finset.mem_univ j₀)
  have hT := sum_ne_top (weight t) (weight_ne_top t ht j₀ h₀)
  have hlt : 0 < ∑ j, weight t j := lt_of_lt_of_le hpos hle
  have hB : ∑ j, weight t j ≠ ⊥ := fun h => absurd (h ▸ hlt) (not_lt.mpr bot_le)
  refine ⟨(∑ j, weight t j).toReal, ?_, (EReal.coe_toReal hT hB).symm⟩
  rw [← EReal.coe_pos, EReal.coe_toReal hT hB]
  exact hlt

/-- The mean over a block whose other keys have score minus infinity is the mean over the band by normalized weights. -/
theorem mean_eq (e : ι → κ) (he : Function.Injective e) (s : κ → EReal) (hs : ∀ j, s (e j) = t j) (hb : ∀ k, k ∉ Set.range e → s k = ⊥)
    (v : κ → EReal) :
    Ideal.div (∑ k, weight s k * v k) (∑ k, weight s k) = ∑ j, Ideal.div (weight t j) (∑ j, weight t j) * v (e j) := by
  have hsup : Finset.univ.sup s = Finset.univ.sup t := by
    refine le_antisymm (Finset.sup_le fun k _ => ?_) (Finset.sup_le fun j _ => ?_)
    · by_cases h : k ∈ Set.range e
      · obtain ⟨j, rfl⟩ := h
        rw [hs]
        exact Finset.le_sup (Finset.mem_univ j)
      · rw [hb k h]
        exact bot_le
    · rw [← hs]
      exact Finset.le_sup (Finset.mem_univ (e j))
  have hw : ∀ j, weight t j = weight s (e j) := fun j => by unfold weight; rw [hs, hsup]
  have hL : ∑ k, weight s k = ∑ j, weight t j :=
    (Fintype.sum_of_injective e he _ _ (fun k hk => weight_bot s k (hb k hk)) hw).symm
  have hN : ∑ k, weight s k * v k = ∑ j, weight t j * v (e j) :=
    (Fintype.sum_of_injective e he (fun j => weight t j * v (e j)) (fun k => weight s k * v k)
      (fun k hk => by show weight s k * v k = 0; rw [weight_bot s k (hb k hk), zero_mul]) (fun j => by show _ = weight s (e j) * v (e j); rw [hw])).symm
  obtain ⟨L, hpos, hLr⟩ := total_real t ht j₀ h₀
  have hne : (L : EReal) ≠ 0 := (EReal.coe_pos.mpr hpos).ne'
  rw [hL, hN, hLr]
  unfold Ideal.div
  rw [if_neg hne, ← EReal.coe_inv, sum_mul_const _ _ (EReal.coe_nonneg.mpr (inv_nonneg.mpr hpos.le)) (EReal.coe_ne_top _)]
  exact Finset.sum_congr rfl fun j _ => by rw [if_neg hne]; exact mul_right_comm _ _ _

end Real

theorem bot_word : Ideal.ofBits .f32 0xFF800000#32 = (⊥ : EReal) := by
  simp [Ideal.ofBits, Ideal.ieee]

/-- A row's greatest entry. -/
theorem rowMax_apply {m n : Nat} (src : FVec Ideal (Sh2 m n) .f32) (h : (Sh2 m n).Reduces [1] (⟨1, ![m]⟩ : Shape)) (hφ : FKind.Formats .f32)
    (hacc : 0xFF800000#32 = FKind.maximumf.neutral .f32 hφ) (a : Fin m) :
    multiReduction .maximumf [1] (⟨1, ![m]⟩ : Shape) src 0xFF800000#32 h hφ hacc (ix1 a) = Finset.univ.sup fun k : Fin n => src (ix2 a k) := by
  rw [Ideal.multiReduction_maximumf_single, show FloatOps.ofBits (F := Ideal) .f32 0xFF800000#32 = (⊥ : EReal) from bot_word]
  refine Finset.fold_congr fun k _ => congrArg src ?_
  funext c; apply Fin.ext
  fin_cases c <;> rfl

end Cert.Kit

end
-- ==== Proof.BaStep.lean ====
/-
  Chunked band attention: what one block of 128 queries computes, a pair of heads at a time.
-/
module

public import proofs.«01_k».proof.Proof.Gen.KernelBaIdeal.Value
public import proofs.«01_k».proof.Proof.BaSoft
public import Idealize.ShloMosaic.Lib.Pipeline.ValueKit.Tiles
public import Idealize.ShloMosaic.PureOps.IdealRules
public import proofs.«01_k».proof.Proof.Words

@[expose] public section

noncomputable section

namespace Cert.KernelBaIdeal.Ba

open Idealize.ShloMosaic Idealize.ShloMosaic.TcCoe Idealize.SL.Sem Idealize.ShloMosaic.ValueIdx Idealize.ShloMosaic.Tactic
open Cert.KernelBaIdeal Cert.KernelBaIdeal.Gen Cert.KernelBaIdeal.Value Cert.Kit

/-! ## The four tiles are one function -/

section Same
variable {F : FTy → Type} [FloatOps F] [Named F]

/-- The lanes of a pair of heads that belong to its first (`b = 1`) or second (`b = 0`) head. -/
def ownLanes (b : BitVec 1) : IVec S128x128 1 :=
  xori (xori (cmpi .slt (iota .tc S128x128 32 [1] iota_S128x128_d1_w32) (broadcast S128x128 64#32))
    (broadcastTo S128x128 (broadcast S128x128 b) broadcasts_S128x128_S128x128)) (constantI S128x128 1 1#1)

/-- A head's scores over the block's 640 keys. -/
def scoreV (i : grid0.Coords) (b : BitVec 1) (q : Vec F S1x128x128 .bf16) (k : Vec F S1x640x128 .bf16) (bias : Vec F S1x128x640 .f32) : FVec F S128x640 .f32 :=
  select (k0_pay2 i) (broadcast S128x640 (Named.named κ "mask" 0xF149F2CA#32))
    (addf (matmul dot_S128x128_S640x128_S128x640_1_1_0_0_n_n none
        (select (ownLanes b) (shapeCast S128x128 q shapeCasts_S1x128x128_S128x128) (broadcast S128x128 (Scalar.ofBits .bf16 0x0000#16)))
        (shapeCast S640x128 k shapeCasts_S1x640x128_S640x128) (constant S128x640 .f32 0x00000000#32))
      (shapeCast S128x640 bias shapeCasts_S1x128x640_S128x640))

/-- Their weights. -/
def expV (s : FVec F S128x640 .f32) : FVec F S128x640 .f32 :=
  exp (subf s (broadcastTo S128x640 (shapeCast S128x1 (multiReduction .maximumf [1] S128 s 0xFF800000#32 reduces_S128x640_S128 (.inl rfl) rfl) shapeCasts_S128_S128x1)
    broadcasts_S128x1_S128x640))

/-- The head's weighted mean of the values. -/
def meanV (p : FVec F S128x640 .f32) (v : Vec F S1x640x128 .bf16) : FVec F S128x128 .f32 :=
  divf (matmul dot_S128x640_S640x128_S128x128_1_0_0_1_n_n none (truncf .bf16 p bitsLt_bf16_f32) (shapeCast S640x128 v shapeCasts_S1x640x128_S640x128) (constant S128x128 .f32 0x00000000#32))
    (broadcastTo S128x128 (shapeCast S128x1 (multiReduction .add [1] S128 p 0x00000000#32 reduces_S128x640_S128 (.inl rfl) rfl) shapeCasts_S128_S128x1) broadcasts_S128x1_S128x128)

/-- Both heads side by side. -/
def tileV (i : grid0.Coords) (q : Vec F S1x128x128 .bf16) (k v : Vec F S1x640x128 .bf16) (b0 b1 : Vec F S1x128x640 .f32) : FVec F S1x128x128 .bf16 :=
  shapeCast S1x128x128 (truncf .bf16 (select (cmpi .slt (iota .tc S128x128 32 [1] iota_S128x128_d1_w32) (broadcast S128x128 64#32))
    (meanV (expV (scoreV i 1#1 q k b0)) v) (meanV (expV (scoreV i 0#1 q k b1)) v)) bitsLt_bf16_f32) shapeCasts_S128x128_S1x128x128

variable (i : grid0.Coords) (q : Vec F S1x128x128 .bf16) (k v : Vec F S1x640x128 .bf16) (b0 b1 : Vec F S1x128x640 .f32)

abbrev lanes : IVec S128x128 32 := iota .tc S128x128 32 [1] iota_S128x128_d1_w32

theorem tile_0 : k0_pay9 lanes (k0_pay2 i) (k0_pay3 q) (k0_pay4 k) (k0_pay5 v) (k0_pay7 i q k b0) (k0_pay8 i q k b0) b1 = tileV i q k v b0 b1 := rfl
theorem tile_1 : k0_pay15 lanes (k0_pay2 i) (k0_pay12 v) (k0_pay13 lanes (k0_pay2 i) (k0_pay10 q) k v b0) (k0_pay14 lanes (k0_pay10 q) k) b1 = tileV i q k v b0 b1 := rfl
theorem tile_2 : k0_pay25 lanes (k0_pay18 v) (k0_pay21 (k0_pay2 i) (k0_pay16 q) (k0_pay17 k) (k0_pay18 v) (k0_pay19 lanes) k0_pay20 b0)
    (k0_pay23 lanes (k0_pay2 i) (k0_pay16 q) (k0_pay17 k) b1) (k0_pay24 lanes (k0_pay2 i) (k0_pay16 q) (k0_pay17 k) b1) (constant S128x128 .f32 0x00000000#32) = tileV i q k v b0 b1 := rfl
theorem tile_3 : k0_pay1 (k0_pay30 lanes (k0_pay2 i) (k0_pay26 q) (k0_pay27 k) (k0_pay28 v) (k0_pay29 lanes (k0_pay2 i) q k b0) b1) = tileV i q k v b0 b1 := rfl

end Same

/-! ## A tile, entry by entry -/

theorem lane_word (r d : Fin 128) : iota .tc S128x128 32 [1] iota_S128x128_d1_w32 (ix2 r d) = BitVec.ofNat 32 d.val := iota_single_apply ..

theorem key_word (r : Fin 128) (j : Fin 640) : iota .tc S128x640 32 [1] iota_S128x640_d1_w32 (ix2 r j) = BitVec.ofNat 32 j.val := iota_single_apply ..

theorem mask_value : Named.named (F := Ideal) (φ := .f32) κ "mask" 0xF149F2CA#32 = (⊥ : EReal) :=
  IdealRules.named_const.ideal_named_scalar κ "mask" (φ := .f32) 0xF149F2CA#32 ⊥ rfl

theorem ownLanes_first (r d : Fin 128) : ownLanes 1#1 (ix2 r d) = 1#1 ↔ d.val / 64 = 0 := by
  have hd := d.isLt
  have h : ownLanes 1#1 (ix2 r d) = IntOp.cmpi .slt (BitVec.ofNat 32 d.val) (BitVec.ofNat 32 64) := by
    show (IntOp.cmpi .slt (iota .tc S128x128 32 [1] iota_S128x128_d1_w32 (ix2 r d)) (BitVec.ofNat 32 64) ^^^ 1#1) ^^^ 1#1 = _
    rw [lane_word, BitVec.xor_assoc, BitVec.xor_self, BitVec.xor_zero]
  rw [h, word_slt (by omega) (by omega)]
  omega

theorem ownLanes_second (r d : Fin 128) : ownLanes 0#1 (ix2 r d) = 1#1 ↔ d.val / 64 = 1 := by
  have hd := d.isLt
  have h : ownLanes 0#1 (ix2 r d) = IntOp.cmpi .slt (BitVec.ofNat 32 d.val) (BitVec.ofNat 32 64) ^^^ 1#1 := by
    show (IntOp.cmpi .slt (iota .tc S128x128 32 [1] iota_S128x128_d1_w32 (ix2 r d)) (BitVec.ofNat 32 64) ^^^ 0#1) ^^^ 1#1 = _
    rw [lane_word, BitVec.xor_zero]
  have h2 : ∀ b : BitVec 1, b ^^^ 1#1 = 1#1 ↔ ¬b = 1#1 := by decide
  rw [h, h2, word_slt (by omega) (by omega)]
  omega

/-- The keys from before the sequence. -/
theorem pad_bit (i : grid0.Coords) (r : Fin 128) (j : Fin 640) : k0_pay2 i (ix2 r j) = 1#1 ↔ j.val + 128 * (i 1).val < 512 := by
  have hj := j.isLt
  have hi : (i 1).val < 32 := (i 1).isLt
  have h : k0_pay2 i (ix2 r j) = IntOp.cmpi .slt (BitVec.ofNat 32 (j.val + 128 * (i 1).val)) (BitVec.ofNat 32 512) := by
    show IntOp.cmpi .slt (iota .tc S128x640 32 [1] iota_S128x640_d1_w32 (ix2 r j) + BitVec.ofNat 32 (i 1).val * BitVec.ofNat 32 128) 512#32 = _
    rw [key_word, Nat.mul_comm 128, BitVec.ofNat_add, BitVec.ofNat_mul]
  rw [h, word_slt (by omega) (by omega)]

section Tile
variable (i : grid0.Coords) (q : FVec Ideal S1x128x128 .bf16) (k v : FVec Ideal S1x640x128 .bf16) (b0 b1 : FVec Ideal S1x128x640 .f32)

/-- The score of row `r` and key `j`, under half `a` of the lanes. -/
def score (a : Nat) (bias : FVec Ideal S1x128x640 .f32) (r : Fin 128) (j : Fin 640) : EReal :=
  if j.val + 128 * (i 1).val < 512 then ⊥
  else (∑ d : Fin 128, (if d.val / 64 = a then q (ix3 u0 r d) else 0) * k (ix3 u0 j d)) + bias (ix3 u0 r j)

theorem scoreV_apply (a : Nat) (b : BitVec 1) (hb : ∀ r d, ownLanes b (ix2 r d) = 1#1 ↔ d.val / 64 = a) (bias : FVec Ideal S1x128x640 .f32) (r : Fin 128) (j : Fin 640) :
    scoreV (F := Ideal) i b q k bias (ix2 r j) = score i q k a bias r j := by
  unfold scoreV score
  refine (select_of (pad_bit i r j) _ _).trans ?_
  by_cases h : j.val + 128 * (i 1).val < 512
  · rw [if_pos h, if_pos h]
    exact mask_value
  rw [if_neg h, if_neg h]
  refine congrArg₂ (fun p q : EReal => p + q) ((matmul_rowRow _ _ _ _ _ _ _).trans ?_) (dropUnit_apply _ _ _ _)
  rw [constant_apply, Ideal.ofBits_zero_f32, zero_add]
  refine Finset.sum_congr rfl fun d _ => congrArg₂ (fun p q : EReal => p * q) ((select_of (hb r d) _ _).trans ?_) (dropUnit_apply _ _ _ _)
  by_cases h : d.val / 64 = a
  · rw [if_pos h, if_pos h]; exact dropUnit_apply _ _ _ _
  · rw [if_neg h, if_neg h]; exact (show Ideal.ofBits .bf16 0x0000#16 = 0 by simp [Ideal.ofBits, Ideal.ieee])

theorem expV_apply (s : FVec Ideal S128x640 .f32) (r : Fin 128) (j : Fin 640) : expV (F := Ideal) s (ix2 r j) = weight (fun j => s (ix2 r j)) j := by
  unfold expV weight
  show Ideal.exp (s (ix2 r j) - _) = _
  refine congrArg (fun p : EReal => Ideal.exp (s (ix2 r j) - p)) ?_
  exact (spread_apply _ _ _ _).trans ((column_apply _ _ _ _).trans (rowMax_apply _ _ _ _ _))

theorem meanV_apply (p : FVec Ideal S128x640 .f32) (r l : Fin 128) :
    meanV (F := Ideal) p v (ix2 r l) = Ideal.div (∑ j : Fin 640, p (ix2 r j) * v (ix3 u0 j l)) (∑ j : Fin 640, p (ix2 r j)) := by
  unfold meanV
  refine congrArg₂ (fun p q : EReal => Ideal.div p q) ((matmul_rowCol _ _ _ _ _ _ _).trans ?_) ?_
  · rw [constant_apply, Ideal.ofBits_zero_f32, zero_add]
    exact Finset.sum_congr rfl fun d _ => congrArg₂ (fun p q : EReal => p * q) rfl (dropUnit_apply _ _ _ _)
  · exact (spread_apply _ _ _ _).trans ((column_apply _ _ _ _).trans (rowSum_apply _ _ _ _ _ _))

/-- The weighted mean of column `l` under half `a`. -/
def mean (a : Nat) (bias : FVec Ideal S1x128x640 .f32) (r l : Fin 128) : EReal :=
  Ideal.div (∑ j : Fin 640, weight (score i q k a bias r) j * v (ix3 u0 j l)) (∑ j : Fin 640, weight (score i q k a bias r) j)

theorem head_apply (a : Nat) (b : BitVec 1) (hb : ∀ r d, ownLanes b (ix2 r d) = 1#1 ↔ d.val / 64 = a) (bias : FVec Ideal S1x128x640 .f32) (r l : Fin 128) :
    meanV (F := Ideal) (expV (scoreV i b q k bias)) v (ix2 r l) = mean i q k v a bias r l := by
  have h : ∀ j, expV (F := Ideal) (scoreV i b q k bias) (ix2 r j) = weight (score i q k a bias r) j := fun j => by
    rw [expV_apply]
    exact congrArg (fun f => weight f j) (funext fun j => scoreV_apply i q k a b hb bias r j)
  rw [meanV_apply]
  unfold mean
  exact congrArg₂ (fun p q : EReal => Ideal.div p q) (Finset.sum_congr rfl fun j _ => by rw [h]) (Finset.sum_congr rfl fun j _ => h j)

theorem tileV_apply (r l : Fin 128) :
    tileV (F := Ideal) i q k v b0 b1 (ix3 u0 r l) = mean i q k v (l.val / 64) (if l.val / 64 = 0 then b0 else b1) r l := by
  have hl := l.isLt
  unfold tileV
  refine (shapeCast_apply _ _ (ix3 u0 r l) (ix2 r l) (by
    rw [Shape.rowMajor_val_three, Shape.rowMajor_val_two]
    show r.val * 128 + l.val = (0 * 128 + r.val) * 128 + l.val
    omega)).trans ?_
  refine (select_of (P := l.val / 64 = 0) ?_ _ _).trans ?_
  · show IntOp.cmpi .slt (iota .tc S128x128 32 [1] iota_S128x128_d1_w32 (ix2 r l)) (BitVec.ofNat 32 64) = 1#1 ↔ _
    rw [lane_word, word_slt (by omega) (by omega)]
    omega
  · by_cases h : l.val / 64 = 0
    · rw [if_pos h, if_pos h, h]; exact head_apply i q k v 0 1#1 ownLanes_first b0 r l
    · rw [if_neg h, if_neg h, show l.val / 64 = 1 by omega]; exact head_apply i q k v 1 0#1 ownLanes_second b1 r l

end Tile

end Cert.KernelBaIdeal.Ba

end
-- ==== Proof.BaBand.lean ====
/-
  Chunked band attention, entry by entry: a query looks at the 576 keys of its own chunk and the eight before.
-/
module

public import proofs.«01_k».proof.Proof.BaSoft

@[expose] public section

noncomputable section

namespace Cert.Kit

open Idealize.ShloMosaic Idealize.ShloMosaic.ValueIdx

/-- The word that a distance reads the bias table at. -/
def pickW (w : BitVec 32) : BitVec 32 :=
  Scalar.select (IntOp.cmpi .slt (IntOp.addi (IntOp.minsi 128#32 (IntOp.maxsi 4294967168#32 w)) 128#32) 0#32)
    (IntOp.addi (IntOp.addi (IntOp.minsi 128#32 (IntOp.maxsi 4294967168#32 w)) 128#32) 257#32) (IntOp.addi (IntOp.minsi 128#32 (IntOp.maxsi 4294967168#32 w)) 128#32)

/-- The column of the bias table for a distance. -/
def pick (w : BitVec 32) : Fin 257 := ⟨min (pickW w).toInt.toNat (257 - 1), by omega⟩

/-- The distance from key `j` of the band to query `r` of the chunk. -/
def distW (r j : Nat) : BitVec 32 := IntOp.subi (IntOp.addi (BitVec.ofNat 32 r) 512#32) (BitVec.ofNat 32 j)

/-- The head of a column. -/
abbrev headOf (n : Fin 512) : Fin 8 := ⟨n.val / 64, by have := n.isLt; omega⟩

/-- Column `e` of the head that column `n` belongs to. -/
abbrev headCol (n : Fin 512) (e : Fin 64) : Fin 512 := ⟨64 * (n.val / 64) + e.val, by have := n.isLt; have := e.isLt; omega⟩

/-- The row of the padded keys that key `j` of the band of position `s` is. -/
abbrev bandRow (s : Fin 4096) (j : Fin 576) : Fin 4608 := ⟨64 * (s.val / 64) + j.val, by have := s.isLt; have := j.isLt; omega⟩

variable (Q : (⟨3, ![4, 4096, 512]⟩ : Shape).Idx → EReal) (K V : (⟨3, ![4, 4608, 512]⟩ : Shape).Idx → EReal) (R : (⟨2, ![8, 257]⟩ : Shape).Idx → EReal)

/-- The scores of the row at batch `b` and position `s` under the head of column `n`; the padding before the sequence scores −∞. -/
def bandScore (b : Fin 4) (s : Fin 4096) (n : Fin 512) (j : Fin 576) : EReal :=
  if (bandRow s j).val < 512 then ⊥
  else (∑ e : Fin 64, Q (ix3 b s (headCol n e)) * K (ix3 b (bandRow s j) (headCol n e))) + R (ix2 (headOf n) (pick (distW (s.val % 64) j.val)))

/-- Their softmax's mean of the values. -/
def bandMean (b : Fin 4) (s : Fin 4096) (n : Fin 512) : EReal :=
  ∑ j : Fin 576, Ideal.div (weight (bandScore Q K R b s n) j) (∑ j : Fin 576, weight (bandScore Q K R b s n) j) * V (ix3 b (bandRow s j) n)

variable (hQ : ∀ i, Q i = ((Q i).toReal : EReal)) (hK : ∀ i, K i = ((K i).toReal : EReal)) (hR : ∀ i, R i = ((R i).toReal : EReal))
include hQ hK hR

theorem bandScore_real (b : Fin 4) (s : Fin 4096) (n : Fin 512) (j : Fin 576) (h : ¬(bandRow s j).val < 512) : ∃ x : ℝ, bandScore Q K R b s n j = x := by
  refine ⟨(∑ e : Fin 64, (Q (ix3 b s (headCol n e))).toReal * (K (ix3 b (bandRow s j) (headCol n e))).toReal) + (R (ix2 (headOf n) (pick (distW (s.val % 64) j.val)))).toReal, ?_⟩
  unfold bandScore
  rw [if_neg h, EReal.coe_add, coe_sum]
  refine congrArg₂ (fun p q : EReal => p + q) (Finset.sum_congr rfl fun e _ => ?_) (hR _)
  rw [EReal.coe_mul]
  exact congrArg₂ (fun p q : EReal => p * q) (hQ _) (hK _)

theorem bandScore_ne_top (b : Fin 4) (s : Fin 4096) (n : Fin 512) (j : Fin 576) : bandScore Q K R b s n j ≠ ⊤ := by
  by_cases h : (bandRow s j).val < 512
  · unfold bandScore; rw [if_pos h]; exact bot_ne_top
  · obtain ⟨x, hx⟩ := bandScore_real Q K R hQ hK hR b s n j h
    rw [hx]; exact EReal.coe_ne_top x

theorem bandScore_own (b : Fin 4) (s : Fin 4096) (n : Fin 512) : bandScore Q K R b s n ⟨512, by decide⟩ ≠ ⊥ := by
  obtain ⟨x, hx⟩ := bandScore_real Q K R hQ hK hR b s n ⟨512, by decide⟩ (by show ¬64 * (s.val / 64) + 512 < 512; omega)
  rw [hx]; exact EReal.coe_ne_bot x

end Cert.Kit

end
-- ==== Proof.BaOut.lean ====
/-
  Chunked band attention: what a grid point leaves in the result's block.
-/
module

public import proofs.«01_k».proof.Proof.BaStep
public import proofs.«01_k».proof.Proof.BaBand

@[expose] public section

noncomputable section

namespace Cert.KernelBaIdeal.Ba

open Idealize.ShloMosaic Idealize.ShloMosaic.TcCoe Idealize.SL.Sem Idealize.ShloMosaic.ValueIdx Idealize.ShloMosaic.Tactic
open Cert.KernelBaIdeal Cert.KernelBaIdeal.Gen Cert.KernelBaIdeal.Value Cert.Kit

/-- A sum over a pair of heads' lanes, masked to one head, is the head's own. -/
theorem sum_half (a : Fin 2) (f g : Fin 128 → EReal) :
    ∑ d : Fin 128, (if d.val / 64 = a.val then f d else 0) * g d
      = ∑ e : Fin 64, f ⟨64 * a.val + e.val, by have := a.isLt; have := e.isLt; omega⟩ * g ⟨64 * a.val + e.val, by have := a.isLt; have := e.isLt; omega⟩ := by
  rw [← Equiv.sum_comp (finProdFinEquiv (m := 2) (n := 64)), Fintype.sum_prod_type, Finset.sum_eq_single a]
  · refine Finset.sum_congr rfl fun e _ => ?_
    have he := e.isLt
    have hv : (finProdFinEquiv (a, e)).val = e.val + 64 * a.val := rfl
    have hc : finProdFinEquiv (a, e) = (⟨64 * a.val + e.val, by have := a.isLt; omega⟩ : Fin 128) := Fin.ext (hv.trans (Nat.add_comm _ _))
    rw [if_pos (by rw [hv]; omega), hc]
  · intro h _ hh
    refine Finset.sum_eq_zero fun e _ => ?_
    have he := e.isLt
    have hv : (finProdFinEquiv (h, e)).val = e.val + 64 * h.val := rfl
    rw [if_neg (by rw [hv]; exact fun h' => hh (Fin.ext (by omega))), zero_mul]
  · exact fun h => absurd (Finset.mem_univ _) h

/-! ## Where a point reads its keys -/

theorem start_eq : ∀ q : Fin 32, ((BitVec.ofNat 32 q.val * 128#32 : BitVec 32)).toNat = 128 * q.val := by decide +kernel

theorem off1_eq (i : grid0.Coords) : k0_off1 i = ![0, 128 * (i 1).val, 0] := congrArg (fun p => ![0, p, 0]) (start_eq (i 1))
theorem off2_eq (i : grid0.Coords) : k0_off2 i = ![0, 128 * (i 1).val, 128] := congrArg (fun p => ![0, p, 128]) (start_eq (i 1))
theorem off3_eq (i : grid0.Coords) : k0_off3 i = ![0, 128 * (i 1).val, 256] := congrArg (fun p => ![0, p, 256]) (start_eq (i 1))
theorem off4_eq (i : grid0.Coords) : k0_off4 i = ![0, 128 * (i 1).val, 384] := congrArg (fun p => ![0, p, 384]) (start_eq (i 1))

section Block
variable (i : grid0.Coords) (x0 : FVec Ideal S1x128x512 .bf16) (x1 x2 : FVec Ideal S1x4608x512 .bf16) (x3 : FVec Ideal S8x128x640 .f32)

/-- Row `j` of the keys that the point reads. -/
abbrev keyRow (j : Fin 640) : Fin 4608 := ⟨128 * (i 1).val + j.val, by have := j.isLt; have : (i 1).val < 32 := (i 1).isLt; omega⟩

/-- The scores of row `r` under the head of column `n`. -/
def scoreAt (r : Fin 128) (n : Fin 512) (j : Fin 640) : EReal :=
  if j.val + 128 * (i 1).val < 512 then ⊥
  else (∑ e : Fin 64, x0 (ix3 u0 r (headCol n e)) * x1 (ix3 u0 (keyRow i j) (headCol n e))) + x3 (ix3 (headOf n) r j)

/-- Entry of the result's block. -/
def bandAt (r : Fin 128) (n : Fin 512) : EReal :=
  Ideal.div (∑ j : Fin 640, weight (scoreAt i x0 x1 x3 r n) j * x2 (ix3 u0 (keyRow i j) n)) (∑ j : Fin 640, weight (scoreAt i x0 x1 x3 r n) j)

def bandBlock : FVec Ideal S1x128x512 .bf16 := fun y => bandAt i x0 x1 x2 x3 (y 1) (y 2)

theorem bias_read (h : Fin 8) (o : Nat) (ho : o = h.val) (i1 : ∀ a, (![o, 0, 0] : Fin 3 → Nat) a + S1x128x640.size a ≤ S8x128x640.size a) (r : Fin 128) (j : Fin 640) :
    View.ld (Val := Elt Ideal) (e' := .f32) x3 (Rect.unit (s := S8x128x640) ![o, 0, 0] S1x128x640.size i1) (ix3 u0 r j) = x3 (ix3 h r j) :=
  View.ld_unit_apply_of (Val := Elt Ideal) (e := .f32) (S := S8x128x640) x3 ![o, 0, 0] S1x128x640.size i1 (ix3 u0 r j) (ix3 h r j) fun a => match a with
    | ⟨0, _⟩ => ho.symm
    | ⟨1, _⟩ => (Nat.zero_add _).symm
    | ⟨2, _⟩ => (Nat.zero_add _).symm

theorem key_read (x : FVec Ideal S1x4608x512 .bf16) (o : Fin 3 → Nat) (p : Nat) (ho : o = ![0, 128 * (i 1).val, p])
    (i1 : ∀ a, o a + S1x640x128.size a ≤ S1x4608x512.size a) (j : Fin 640) (d : Fin 128) (n : Fin 512) (hn : n.val = p + d.val) :
    View.ld (Val := Elt Ideal) (e' := .bf16) x (Rect.unit (s := S1x4608x512) o S1x640x128.size i1) (ix3 u0 j d) = x (ix3 u0 (keyRow i j) n) := by
  subst ho
  exact View.ld_unit_apply_of (Val := Elt Ideal) (e := .bf16) (S := S1x4608x512) x ![0, 128 * (i 1).val, p] S1x640x128.size i1 (ix3 u0 j d) (ix3 u0 (keyRow i j) n) fun a => match a with
    | ⟨0, _⟩ => rfl
    | ⟨1, _⟩ => rfl
    | ⟨2, _⟩ => hn

theorem query_read (p : Nat) (i1 : ∀ a, (![0, 0, p] : Fin 3 → Nat) a + S1x128x128.size a ≤ S1x128x512.size a) (r d : Fin 128) (n : Fin 512) (hn : n.val = p + d.val) :
    View.ld (Val := Elt Ideal) (e' := .bf16) x0 (Rect.unit (s := S1x128x512) ![0, 0, p] S1x128x128.size i1) (ix3 u0 r d) = x0 (ix3 u0 r n) :=
  View.ld_unit_apply_of (Val := Elt Ideal) (e := .bf16) (S := S1x128x512) x0 ![0, 0, p] S1x128x128.size i1 (ix3 u0 r d) (ix3 u0 r n) fun a => match a with
    | ⟨0, _⟩ => rfl
    | ⟨1, _⟩ => (Nat.zero_add _).symm
    | ⟨2, _⟩ => hn

/-- The tile of a pair of heads is the block's. -/
theorem tile_piece (g : Fin 4) (p : Nat) (hp : p = 128 * g.val) (o : Fin 3 → Nat) (ho : o = ![0, 128 * (i 1).val, p]) (o0 o1 : Nat) (ho0 : o0 = 2 * g.val) (ho1 : o1 = 2 * g.val + 1)
    (i1 : ∀ a, (![0, 0, p] : Fin 3 → Nat) a + S1x128x128.size a ≤ S1x128x512.size a) (i2 : ∀ a, o a + S1x640x128.size a ≤ S1x4608x512.size a)
    (i3 : ∀ a, (![o0, 0, 0] : Fin 3 → Nat) a + S1x128x640.size a ≤ S8x128x640.size a) (i4 : ∀ a, (![o1, 0, 0] : Fin 3 → Nat) a + S1x128x640.size a ≤ S8x128x640.size a)
    (x : S1x128x128.Idx) :
    tileV (F := Ideal) i (View.ld (Val := Elt Ideal) (e' := .bf16) x0 (Rect.unit (s := S1x128x512) ![0, 0, p] S1x128x128.size i1))
        (View.ld (Val := Elt Ideal) (e' := .bf16) x1 (Rect.unit (s := S1x4608x512) o S1x640x128.size i2)) (View.ld (Val := Elt Ideal) (e' := .bf16) x2 (Rect.unit (s := S1x4608x512) o S1x640x128.size i2))
        (View.ld (Val := Elt Ideal) (e' := .f32) x3 (Rect.unit (s := S8x128x640) ![o0, 0, 0] S1x128x640.size i3))
        (View.ld (Val := Elt Ideal) (e' := .f32) x3 (Rect.unit (s := S8x128x640) ![o1, 0, 0] S1x128x640.size i4)) x
      = bandBlock i x0 x1 x2 x3 ((Rect.unit (s := S1x128x512) ![0, 0, p] S1x128x128.size i1).emb x) := by
  have hx0 : (x 0).val < 1 := (x 0).isLt
  have hx1 : (x 1).val < 128 := (x 1).isLt
  have hx2 : (x 2).val < 128 := (x 2).isLt
  have hg := g.isLt
  have e1 : (((Rect.unit (s := S1x128x512) ![0, 0, p] S1x128x128.size i1).emb x) 1).val = 0 + (x 1).val := Rect.idx_unit_val (s := S1x128x512) ![0, 0, p] S1x128x128.size i1 x 1
  have e2 : (((Rect.unit (s := S1x128x512) ![0, 0, p] S1x128x128.size i1).emb x) 2).val = p + (x 2).val := Rect.idx_unit_val (s := S1x128x512) ![0, 0, p] S1x128x128.size i1 x 2
  have ex : x = ix3 u0 (⟨(x 1).val, hx1⟩ : Fin 128) (⟨(x 2).val, hx2⟩ : Fin 128) := funext fun a => match a with
    | ⟨0, _⟩ => Fin.ext (by show (x 0).val = 0; omega)
    | ⟨1, _⟩ => rfl
    | ⟨2, _⟩ => rfl
  refine (congrArg _ ex).trans ?_
  rw [tileV_apply]
  generalize hz : (Rect.unit (s := S1x128x512) ![0, 0, p] S1x128x128.size i1).emb x = z at e1 e2
  show _ = bandAt i x0 x1 x2 x3 (z 1) (z 2)
  have hr : z 1 = (⟨(x 1).val, hx1⟩ : Fin 128) := Fin.ext (by show (z 1).val = (x 1).val; omega)
  generalize z 2 = n at e2
  rw [hr]
  unfold mean bandAt
  have hs : ∀ j, score i (View.ld (Val := Elt Ideal) (e' := .bf16) x0 (Rect.unit (s := S1x128x512) ![0, 0, p] S1x128x128.size i1))
        (View.ld (Val := Elt Ideal) (e' := .bf16) x1 (Rect.unit (s := S1x4608x512) o S1x640x128.size i2)) ((x 2).val / 64)
        (if (x 2).val / 64 = 0 then View.ld (Val := Elt Ideal) (e' := .f32) x3 (Rect.unit (s := S8x128x640) ![o0, 0, 0] S1x128x640.size i3)
          else View.ld (Val := Elt Ideal) (e' := .f32) x3 (Rect.unit (s := S8x128x640) ![o1, 0, 0] S1x128x640.size i4)) ⟨(x 1).val, hx1⟩ j
      = scoreAt i x0 x1 x3 ⟨(x 1).val, hx1⟩ n j := by
    intro j
    unfold score scoreAt
    refine if_congr Iff.rfl rfl (congrArg₂ (fun p q : EReal => p + q) ?_ ?_)
    · refine (sum_half ⟨(x 2).val / 64, by omega⟩ _ _).trans (Finset.sum_congr rfl fun e _ => congrArg₂ (fun p q : EReal => p * q) ?_ ?_)
      · exact query_read x0 p i1 _ _ _ (by show 64 * (n.val / 64) + e.val = p + (64 * ((x 2).val / 64) + e.val); omega)
      · exact key_read i x1 o p ho i2 _ _ _ (by show 64 * (n.val / 64) + e.val = p + (64 * ((x 2).val / 64) + e.val); omega)
    · by_cases h : (x 2).val / 64 = 0
      · rw [if_pos h]; exact bias_read x3 (headOf n) o0 (by show o0 = n.val / 64; omega) i3 _ j
      · rw [if_neg h]; exact bias_read x3 (headOf n) o1 (by show o1 = n.val / 64; omega) i4 _ j
  have hw := funext hs
  refine congrArg₂ (fun p q : EReal => Ideal.div p q) (Finset.sum_congr rfl fun j _ => congrArg₂ (fun p q : EReal => p * q) (congrArg (fun f => weight f j) hw) ?_)
    (Finset.sum_congr rfl fun j _ => congrArg (fun f => weight f j) hw)
  exact key_read i x2 o p ho i2 j _ n e2

end Block

section Out
variable (c : Dev nD) (i : grid0.Coords) (a2 : Memref sig .tc .vmem S1x128x512 .bf16) (h2 : a2.IsWhole) (a3 : Memref sig .tc .vmem S1x4608x512 .bf16) (h3 : a3.IsWhole)
  (a4 : Memref sig .tc .vmem S1x4608x512 .bf16) (h4 : a4.IsWhole) (a5 : Memref sig .tc .vmem S8x128x640 .f32) (h5 : a5.IsWhole)
  (a6 : Memref sig .tc .vmem S1x128x512 .bf16) (h6 : a6.IsWhole)
  (x0 : Vec Ideal S1x128x512 .bf16) (x1 x2 : Vec Ideal S1x4608x512 .bf16) (x3 : Vec Ideal S8x128x640 .f32)

set_option maxHeartbeats 1600000 in
/-- What a point leaves in the result's block. -/
theorem out_apply (r : Fin 128) (n : Fin 512) :
    out0_A_4 (F := Ideal) c i a2 h2 a3 h3 a4 h4 a5 h5 a6 h6 x0 x1 x2 x3 (ix3 u0 r n) = bandAt i x0 x1 x2 x3 r n := by
  unfold out0_A_4
  rw [View.read_writes_eq_canon _ _ _ (cover0_A_4 c i a2 h2 a3 h3 a4 h4 a5 h5 a6 h6 x0 x1 x2 x3)]
  unfold kernelRun0_A
  dsimp only
  sl_unfold_words
  simp only [View.readAt_eq_ld, h2.read_unread, h3.read_unread, h4.read_unread, h5.read_unread]
  refine (View.canon_apply_of_pieces (bandBlock i x0 x1 x2 x3) _ ?_ _ (View.cover_of_tiled_head _ _ _ rfl _)).trans ?_
  · intro p hp
    simp only [List.mem_cons, List.not_mem_nil, or_false] at hp
    have H := fun g p hp o ho o0 o1 ho0 ho1 i1 i2 i3 i4 => tile_piece i x0 x1 x2 x3 g p hp o ho o0 o1 ho0 ho1 i1 i2 i3 i4
    rcases hp with rfl | rfl | rfl | rfl
    · exact H 3 384 rfl (k0_off4 i) (off4_eq i) 6 7 rfl rfl inb_S1x128x512_S1x128x128_0_0_384 (k0_off4_inb i) inb_S8x128x640_S1x128x640_6_0_0 inb_S8x128x640_S1x128x640_7_0_0
    · exact H 2 256 rfl (k0_off3 i) (off3_eq i) 4 5 rfl rfl inb_S1x128x512_S1x128x128_0_0_256 (k0_off3_inb i) inb_S8x128x640_S1x128x640_4_0_0 inb_S8x128x640_S1x128x640_5_0_0
    · exact H 1 128 rfl (k0_off2 i) (off2_eq i) 2 3 rfl rfl inb_S1x128x512_S1x128x128_0_0_128 (k0_off2_inb i) inb_S8x128x640_S1x128x640_2_0_0 inb_S8x128x640_S1x128x640_3_0_0
    · exact H 0 0 rfl (k0_off1 i) (off1_eq i) 0 1 rfl rfl inb_S1x128x512_S1x128x128_0_0_0 (k0_off1_inb i) inb_S8x128x640_S1x128x640_0_0_0 inb_S8x128x640_S1x128x640_1_0_0
  · rfl

end Out

end Cert.KernelBaIdeal.Ba

end
-- ==== Proof.BaGather.lean ====
/-
  Two gathers read at an index: columns of a table, one per entry of an index array; and chunks of rows, one per entry.
-/
module

public import Idealize.ShloMosaic.Lib.ValueIdxRank6
public import proofs.«01_k».proof.Proof.Norm

@[expose] public section

noncomputable section

namespace Cert.Kit

open Idealize.ShloMosaic Idealize.ShloMosaic.ValueIdx

variable {α : Type}

/-- The dimension numbers of `table[:, idx]`. -/
abbrev columnsDims (H N R C : Nat) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

theorem columns_apply {H N R C w : Nat} (hN : 0 < N) (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (columnsDims H N R C wf) x idx (ix3 h r c) = x (ix2 h ⟨min (idx (ix3 r c (0 : Fin 1))).toInt.toNat (N - 1), by omega⟩) := by
  unfold Host.gather
  congr 1
  funext a
  refine Fin.ext ?_
  show (columnsDims H N R C wf).start (ix3 h r c) idx a + (columnsDims H N R C wf).batchCoord (ix3 h r c) a + (columnsDims H N R C wf).offCoord (ix3 h r c) a = _
  rw [GatherDims.batchCoord_eq_zero _ _ _ List.not_mem_nil, Nat.add_zero]
  match a with
  | ⟨0, _⟩ =>
    show (columnsDims H N R C wf).start (ix3 h r c) idx (0 : Fin 2) + (columnsDims H N R C wf).offCoord (ix3 h r c) (0 : Fin 2) = _
    unfold GatherDims.start
    rw [dif_neg (fun h => absurd (congrArg Fin.val (List.mem_singleton.1 h)) Nat.zero_ne_one), Nat.zero_add]
    rfl
  | ⟨1, _⟩ =>
    show (columnsDims H N R C wf).start (ix3 h r c) idx (1 : Fin 2) + (columnsDims H N R C wf).offCoord (ix3 h r c) (1 : Fin 2) = _
    rw [GatherDims.offCoord_eq_zero _ _ _ (fun h => ((GatherDims.mem_sKept _ _).mp h).1 (List.mem_singleton.mpr rfl)), Nat.add_zero]
    unfold GatherDims.start
    rw [dif_pos (show (1 : Fin 2) ∈ (columnsDims H N R C wf).startIndexMap from List.mem_singleton.mpr rfl)]
    have hsi : (columnsDims H N R C wf).siIdx (ix3 h r c) ⟨List.idxOf (1 : Fin 2) (columnsDims H N R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

/-- The dimension numbers of `x[:, idx]` for a rank-5 `x`. -/
abbrev chunksDims (B N K H D R C : Nat)
    (wf : GatherDims.WF ⟨5, ![B, N, K, H, D]⟩ ⟨3, ![R, C, 1]⟩ ⟨6, ![B, R, C, K, H, D]⟩ [0, 3, 4, 5] [1] [] [1] [] 2 ![B, 1, K, H, D]) :
    GatherDims ⟨5, ![B, N, K, H, D]⟩ ⟨3, ![R, C, 1]⟩ ⟨6, ![B, R, C, K, H, D]⟩ where
  offsetDims := [0, 3, 4, 5]
  collapsedSliceDims := [1]
  operandBatchingDims := []
  startIndicesBatchingDims := []
  startIndexMap := [1]
  indexVectorDim := 2
  sliceSizes := ![B, 1, K, H, D]
  wf := wf

theorem chunks_apply {B N K H D R C w : Nat} (hN : 0 < N)
    (wf : GatherDims.WF ⟨5, ![B, N, K, H, D]⟩ ⟨3, ![R, C, 1]⟩ ⟨6, ![B, R, C, K, H, D]⟩ [0, 3, 4, 5] [1] [] [1] [] 2 ![B, 1, K, H, D])
    (x : (⟨5, ![B, N, K, H, D]⟩ : Shape).Idx → α) (idx : IVec ⟨3, ![R, C, 1]⟩ w) (b : Fin B) (r : Fin R) (c : Fin C) (k : Fin K) (h : Fin H) (d : Fin D) :
    Host.gather (chunksDims B N K H D R C wf) x idx (ix6 b r c k h d) = x (ix5 b ⟨min (idx (ix3 r c (0 : Fin 1))).toInt.toNat (N - 1), by omega⟩ k h d) := by
  unfold Host.gather
  congr 1
  funext a
  refine Fin.ext ?_
  show (chunksDims B N K H D R C wf).start (ix6 b r c k h d) idx a + (chunksDims B N K H D R C wf).batchCoord (ix6 b r c k h d) a
    + (chunksDims B N K H D R C wf).offCoord (ix6 b r c k h d) a = _
  rw [GatherDims.batchCoord_eq_zero _ _ _ List.not_mem_nil, Nat.add_zero]
  have hz : ∀ a : Fin 5, a.val ≠ 1 → (chunksDims B N K H D R C wf).start (ix6 b r c k h d) idx a = 0 := fun a ha => by
    unfold GatherDims.start
    rw [dif_neg (fun h => ha (congrArg Fin.val (List.mem_singleton.1 h)))]
  match a with
  | ⟨0, _⟩ => rw [hz _ (show (0 : Nat) ≠ 1 by decide), Nat.zero_add]; rfl
  | ⟨2, _⟩ => rw [hz _ (show (2 : Nat) ≠ 1 by decide), Nat.zero_add]; rfl
  | ⟨3, _⟩ => rw [hz _ (show (3 : Nat) ≠ 1 by decide), Nat.zero_add]; rfl
  | ⟨4, _⟩ => rw [hz _ (show (4 : Nat) ≠ 1 by decide), Nat.zero_add]; rfl
  | ⟨1, _⟩ =>
    show (chunksDims B N K H D R C wf).start (ix6 b r c k h d) idx (1 : Fin 5) + (chunksDims B N K H D R C wf).offCoord (ix6 b r c k h d) (1 : Fin 5) = _
    rw [GatherDims.offCoord_eq_zero _ _ _ (fun h => ((GatherDims.mem_sKept _ _).mp h).1 (List.mem_singleton.mpr rfl)), Nat.add_zero]
    unfold GatherDims.start
    rw [dif_pos (show (1 : Fin 5) ∈ (chunksDims B N K H D R C wf).startIndexMap from List.mem_singleton.mpr rfl)]
    have hsi : (chunksDims B N K H D R C wf).siIdx (ix6 b r c k h d) ⟨List.idxOf (1 : Fin 5) (chunksDims B N K H D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

end Cert.Kit

end
-- ==== Proof.BaHost.lean ====
/-
  Chunked band attention: the bias array that the host hands the kernel.
-/
module

public import proofs.«01_k».proof.Proof.Gen.KernelBaIdeal.Value
public import proofs.«01_k».proof.Proof.BaBand
public import proofs.«01_k».proof.Proof.BaGather
public import proofs.«01_k».proof.Proof.Words

@[expose] public section

noncomputable section

namespace Cert.KernelBaIdeal.Ba

open Idealize.ShloMosaic Idealize.ShloMosaic.TcCoe Idealize.SL.Sem Idealize.ShloMosaic.ValueIdx Idealize.ShloMosaic.Tactic
open Cert.KernelBaIdeal Cert.KernelBaIdeal.Gen Cert.KernelBaIdeal.Value Cert.Kit

/-! ## The host's integer arrays -/

def rows : IVec S128x1 32 := broadcastInDim S128x1 ![0] bcast_S128_S128x1_0 (iotaInDim S128 32 0)
def splat1 (w : BitVec 32) : IVec S128x1 32 := broadcastInDim S128x1 ![] bcast_S_S128x1 (constantI S_ 32 w)
def splat2 (w : BitVec 32) : IVec S128x640 32 := broadcastInDim S128x640 ![] bcast_S_S128x640 (constantI S_ 32 w)

/-- The chunk of each row of a block. -/
def chunks : IVec S128x1 32 :=
  select (andi (cmpi .ne (signi rows) (broadcastInDim S128x1 ![] bcast_S_S128x1 (signi (constantI S_ 32 64#32)))) (cmpi .ne (Host.remsi rows (splat1 64#32)) (splat1 0#32)))
    (subi (Host.divsi rows (splat1 64#32)) (splat1 1#32)) (Host.divsi rows (splat1 64#32))

def divisor : IVec S_ 32 := select (cmpi .eq (constantI S_ 32 64#32) (constantI S_ 32 0#32)) (constantI S_ 32 1#32) (constantI S_ 32 64#32)
def remain : IVec S128x1 32 := Host.remsi rows (broadcastInDim S128x1 ![] bcast_S_S128x1 divisor)

/-- The place of each row in its chunk. -/
def places : IVec S128x1 32 :=
  select (andi (cmpi .ne (cmpi .slt remain (splat1 0#32)) (broadcastInDim S128x1 ![] bcast_S_S128x1 (cmpi .slt divisor (constantI S_ 32 0#32)))) (cmpi .ne remain (splat1 0#32)))
    (addi remain (broadcastInDim S128x1 ![] bcast_S_S128x1 divisor)) remain

/-- The key's place in the row's band. -/
def inBand : IVec S128x640 32 :=
  subi (broadcastInDim S128x640 ![0, 1] bcast_S1x640_S128x640_0_1 (broadcastInDim S1x640 ![1] bcast_S640_S1x640_1 (iotaInDim S640 32 0)))
    (broadcastInDim S128x640 ![0, 1] bcast_S128x1_S128x640_0_1 (muli (splat1 64#32) chunks))

def offsets : IVec S128x640 32 :=
  addi (minsi (splat2 128#32) (maxsi (splat2 4294967168#32)
    (subi (broadcastInDim S128x640 ![0, 1] bcast_S128x1_S128x640_0_1 (addi places (splat1 512#32))) inBand))) (splat2 128#32)

def columns : IVec S128x640x1 32 :=
  broadcastInDim S128x640x1 ![0, 1] bcast_S128x640_S128x640x1_0_1 (select (cmpi .slt offsets (splat2 0#32)) (addi offsets (splat2 257#32)) offsets)

def banded : IVec S8x128x640 1 :=
  broadcastInDim S8x128x640 ![0, 1, 2] bcast_S1x128x640_S8x128x640_0_1_2 (broadcastInDim S1x128x640 ![1, 2] bcast_S128x640_S1x128x640_1_2
    (andi (cmpi .sge inBand (splat2 0#32)) (cmpi .slt inBand (splat2 576#32))))

variable (m : (ℓ : Loc nD τ sig) → Buf (Elt Ideal) ℓ)

abbrev relA (c : Dev nD) : FVec Ideal S8x257 .f32 := m ((c : Thread nD τ).loc main_arg3)

set_option maxHeartbeats 4000000 in
theorem host_bias (c : Dev nD) : V m c main_v31
    = (select banded (Host.gather gather_S8x257_S128x640x1_S8x128x640_0_1_n_n_1_2_81 (relA m c) columns)
        (broadcastInDim S8x128x640 ![] bcast_S_S8x128x640 (constant (F := Ideal) S_ .f32 0xFF800000#32)) : FVec Ideal S8x128x640 .f32) := by
  show StableHlo.after (List.flatten [hostOps0, hostOps0_1, hostOps0_2, hostOps0_3, hostOps0_4, hostOps0_5, hostOps0_6, hostOps0_7]) (fun b => m (c, b)) (Proc.devRef .tc main_v31) = _
  simp only [hostOps0, hostOps0_1, hostOps0_2, hostOps0_3, hostOps0_4, hostOps0_5, hostOps0_6, hostOps0_7, List.flatten_cons, List.flatten_nil, List.append_nil, List.cons_append, List.nil_append]
  after_results
  simp only [StableHlo.TRef.ofBuf_toBuf, id]
  unfold banded columns offsets inBand places remain divisor chunks splat1 splat2 rows
  rfl

end Cert.KernelBaIdeal.Ba

end
-- ==== Proof.BaBias.lean ====
/-
  Chunked band attention: the bias array, entry by entry.
-/
module

public import proofs.«01_k».proof.Proof.BaHost
public import proofs.«01_k».proof.Proof.BaGather
public import proofs.«01_k».proof.Proof.Words

@[expose] public section

noncomputable section

namespace Cert.KernelBaIdeal.Ba

open Idealize.ShloMosaic Idealize.ShloMosaic.TcCoe Idealize.SL.Sem Idealize.ShloMosaic.ValueIdx Idealize.ShloMosaic.Tactic
open Cert.KernelBaIdeal Cert.KernelBaIdeal.Gen Cert.KernelBaIdeal.Value Cert.Kit

variable (m : (ℓ : Loc nD τ sig) → Buf (Elt Ideal) ℓ)

/-! ## Read at an index -/

theorem chunks_word : ∀ r : Fin 128, chunks (ix2 r (0 : Fin 1)) = BitVec.ofNat 32 (r.val / 64) := by decide +kernel
theorem places_word : ∀ r : Fin 128, places (ix2 r (0 : Fin 1)) = BitVec.ofNat 32 (r.val % 64) := by decide +kernel

theorem inBand_word (r : Fin 128) (j : Fin 640) : inBand (ix2 r j) = BitVec.ofNat 32 j.val - 64#32 * BitVec.ofNat 32 (r.val / 64) := by
  rw [← chunks_word]; rfl

theorem columns_word (r : Fin 128) (j : Fin 640) : columns (ix3 r j (0 : Fin 1)) = pickW (IntOp.subi (IntOp.addi (places (ix2 r (0 : Fin 1))) 512#32) (inBand (ix2 r j))) := rfl

theorem banded_bit (h : Fin 8) (r : Fin 128) (j : Fin 640) : banded (ix3 h r j) = IntOp.andi (IntOp.cmpi .sge (inBand (ix2 r j)) 0#32) (IntOp.cmpi .slt (inBand (ix2 r j)) 576#32) := rfl

/-- A key in the band reads the bias of its distance. -/
theorem bias_in (c : Dev nD) (h : Fin 8) (r : Fin 128) (j : Fin 576) :
    V m c main_v31 (ix3 h r (⟨j.val + 64 * (r.val / 64), by have := j.isLt; have := r.isLt; omega⟩ : Fin 640)) = relA m c (ix2 h (pick (distW (r.val % 64) j.val))) := by
  have hj := j.isLt
  have hw : inBand (ix2 r (⟨j.val + 64 * (r.val / 64), by have := r.isLt; omega⟩ : Fin 640)) = BitVec.ofNat 32 j.val := by
    rw [inBand_word]
    show BitVec.ofNat 32 (j.val + 64 * (r.val / 64)) - BitVec.ofNat 32 64 * _ = _
    rw [BitVec.ofNat_add, BitVec.ofNat_mul, BitVec.add_sub_cancel]
  rw [host_bias]
  refine (select_of (P := True) ?_ _ _).trans ((if_pos trivial).trans ?_)
  · rw [banded_bit, hw]
    exact iff_true_intro ((by decide +kernel : ∀ j : Fin 576, IntOp.andi (IntOp.cmpi .sge (BitVec.ofNat 32 j.val) 0#32) (IntOp.cmpi .slt (BitVec.ofNat 32 j.val) 576#32) = 1#1) j)
  · refine (columns_apply (H := 8) (N := 257) (R := 128) (C := 640) (by decide) gather_S8x257_S128x640x1_S8x128x640_0_1_n_n_1_2_81_wf (relA m c) columns h r _).trans (congrArg (relA m c) (congrArg (ix2 h) (Fin.ext ?_)))
    exact congrArg (fun w : BitVec 32 => min w.toInt.toNat (257 - 1)) ((columns_word r _).trans (congrArg pickW (by rw [hw, places_word]; rfl)))

theorem band_bit : ∀ (a : Fin 2) (j : Fin 640), IntOp.andi (IntOp.cmpi .sge (BitVec.ofNat 32 j.val - 64#32 * BitVec.ofNat 32 a.val) 0#32)
    (IntOp.cmpi .slt (BitVec.ofNat 32 j.val - 64#32 * BitVec.ofNat 32 a.val) 576#32) = 1#1 ↔ 64 * a.val ≤ j.val ∧ j.val < 64 * a.val + 576 := by decide +kernel

/-- A key outside the band reads −∞. -/
theorem bias_out (c : Dev nD) (h : Fin 8) (r : Fin 128) (j : Fin 640) (hj : ¬(64 * (r.val / 64) ≤ j.val ∧ j.val < 64 * (r.val / 64) + 576)) :
    V m c main_v31 (ix3 h r j) = (⊥ : EReal) := by
  have hr := r.isLt
  rw [host_bias]
  refine (select_of (P := False) ?_ _ _).trans ((if_neg id).trans ?_)
  · rw [banded_bit, inBand_word]
    exact iff_false_intro fun hb => hj ((band_bit ⟨r.val / 64, by omega⟩ j).1 hb)
  · exact bot_word

end Cert.KernelBaIdeal.Ba

end
-- ==== Proof.BaFold.lean ====
/-
  Chunked band attention: the kernel's result array.
-/
module

public import proofs.«01_k».proof.Proof.BaOut
public import proofs.«01_k».proof.Proof.BaBias

@[expose] public section

noncomputable section

namespace Cert.KernelBaIdeal.Ba

open Idealize.ShloMosaic Idealize.ShloMosaic.TcCoe Idealize.SL.Sem Idealize.ShloMosaic.ValueIdx Idealize.ShloMosaic.Tactic
open Cert.KernelBaIdeal Cert.KernelBaIdeal.Gen Cert.KernelBaIdeal.Value Cert.Kit

variable (m : (ℓ : Loc nD τ sig) → Buf (Elt Ideal) ℓ)

abbrev qA (c : Dev nD) : FVec Ideal S4x4096x512 .bf16 := m ((c : Thread nD τ).loc main_arg0)
abbrev kA (c : Dev nD) : FVec Ideal S4x4608x512 .bf16 := m ((c : Thread nD τ).loc main_arg1)
abbrev vA (c : Dev nD) : FVec Ideal S4x4608x512 .bf16 := m ((c : Thread nD τ).loc main_arg2)

theorem points : cfg0.N = 128 := N_0

theorem coord_block : ∀ t : Fin cfg0.N, (grid0.coords t 1).val = t.val % 32 := (by decide +kernel : ∀ t : Fin grid0.N, _)

theorem index_q : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem index_k : ∀ t : Fin cfg0.N, win0_1.index t (0 : Fin 3) = t.val / 32 ∧ win0_1.index t (1 : Fin 3) = 0 ∧ win0_1.index t (2 : Fin 3) = 0 :=
  (by decide +kernel : ∀ t : Fin grid0.N, _)
theorem index_v : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem index_b : ∀ t : Fin cfg0.N, win0_3.index t (0 : Fin 3) = 0 ∧ win0_3.index t (1 : Fin 3) = 0 ∧ win0_3.index t (2 : Fin 3) = 0 :=
  (by decide +kernel : ∀ t : Fin grid0.N, _)
theorem index_o : ∀ t : Fin cfg0.N, win0_4.index t (0 : Fin 3) = t.val / 32 ∧ win0_4.index t (1 : Fin 3) = t.val % 32 ∧ win0_4.index t (2 : Fin 3) = 0 :=
  (by decide +kernel : ∀ t : Fin grid0.N, _)

/-- The batch and the rows that point `t` works on. -/
abbrev bat (t : Fin cfg0.N) : Fin 4 := ⟨t.val / 32, by have := lt_of_lt_of_eq t.isLt points; omega⟩
abbrev row (t : Fin cfg0.N) (r : Fin 128) : Fin 4096 := ⟨128 * (t.val % 32) + r.val, by have := r.isLt; omega⟩

theorem block_q (c : Dev nD) (t : Fin cfg0.N) (r : Fin 128) (n : Fin 512) : iblk m c 0 t (ix3 u0 r n) = qA m c (ix3 (bat t) (row t r) n) := by
  unfold iblk
  rw [View.read_apply, show qA m c = V m c main_arg0 from (V_main_arg0 m c).symm]
  refine congrArg (V m c main_arg0) (funext fun a => Fin.ext ?_)
  match a with
  | ⟨0, _⟩ => show win0_0.index t 0 * 1 + 1 * 0 = t.val / 32; rw [(index_q t).1]; omega
  | ⟨1, _⟩ => show win0_0.index t 1 * 128 + 1 * r.val = 128 * (t.val % 32) + r.val; rw [(index_q t).2.1]; omega
  | ⟨2, _⟩ => show win0_0.index t 2 * 512 + 1 * n.val = n.val; rw [(index_q t).2.2]; omega

theorem block_k (c : Dev nD) (t : Fin cfg0.N) (s : Fin 4608) (n : Fin 512) : iblk m c 1 t (ix3 u0 s n) = kA m c (ix3 (bat t) s n) := by
  unfold iblk
  rw [View.read_apply, show kA m c = V m c main_arg1 from (V_main_arg1 m c).symm]
  refine congrArg (V m c main_arg1) (funext fun a => Fin.ext ?_)
  match a with
  | ⟨0, _⟩ => show win0_1.index t 0 * 1 + 1 * 0 = t.val / 32; rw [(index_k t).1]; omega
  | ⟨1, _⟩ => show win0_1.index t 1 * 4608 + 1 * s.val = s.val; rw [(index_k t).2.1]; omega
  | ⟨2, _⟩ => show win0_1.index t 2 * 512 + 1 * n.val = n.val; rw [(index_k t).2.2]; omega

theorem block_v (c : Dev nD) (t : Fin cfg0.N) (s : Fin 4608) (n : Fin 512) : iblk m c 2 t (ix3 u0 s n) = vA m c (ix3 (bat t) s n) := by
  unfold iblk
  rw [View.read_apply, show vA m c = V m c main_arg2 from (V_main_arg2 m c).symm]
  refine congrArg (V m c main_arg2) (funext fun a => Fin.ext ?_)
  match a with
  | ⟨0, _⟩ => show win0_2.index t 0 * 1 + 1 * 0 = t.val / 32; rw [(index_v t).1]; omega
  | ⟨1, _⟩ => show win0_2.index t 1 * 4608 + 1 * s.val = s.val; rw [(index_v t).2.1]; omega
  | ⟨2, _⟩ => show win0_2.index t 2 * 512 + 1 * n.val = n.val; rw [(index_v t).2.2]; omega

theorem block_b (c : Dev nD) (t : Fin cfg0.N) (h : Fin 8) (r : Fin 128) (j : Fin 640) : iblk m c 3 t (ix3 h r j) = V m c main_v31 (ix3 h r j) := by
  unfold iblk
  rw [View.read_apply]
  refine congrArg (V m c main_v31) (funext fun a => Fin.ext ?_)
  match a with
  | ⟨0, _⟩ => show win0_3.index t 0 * 8 + 1 * h.val = h.val; rw [(index_b t).1]; omega
  | ⟨1, _⟩ => show win0_3.index t 1 * 128 + 1 * r.val = r.val; rw [(index_b t).2.1]; omega
  | ⟨2, _⟩ => show win0_3.index t 2 * 640 + 1 * j.val = j.val; rw [(index_b t).2.2]; omega

/-- Where a row's band lies among its block's keys. -/
def place (r : Fin 128) (j : Fin 576) : Fin 640 := ⟨j.val + 64 * (r.val / 64), by have := j.isLt; have := r.isLt; omega⟩

section Point
variable (c : Dev nD) (hq : ∀ i, qA m c i = ((qA m c i : EReal).toReal : EReal)) (hk : ∀ i, kA m c i = ((kA m c i : EReal).toReal : EReal))
  (hr : ∀ i, relA m c i = ((relA m c i : EReal).toReal : EReal)) (t : Fin cfg0.N) (r : Fin 128) (n : Fin 512)

theorem bandRow_eq (j : Fin 576) : (keyRow (grid0.coords t) (place r j)) = bandRow (row t r) j := by
  have hr := r.isLt
  apply Fin.ext
  show 128 * (grid0.coords t 1).val + (j.val + 64 * (r.val / 64)) = 64 * ((128 * (t.val % 32) + r.val) / 64) + j.val
  rw [coord_block]; omega

/-- In the band, the block's score is the row's. -/
theorem score_in (j : Fin 576) : scoreAt (grid0.coords t) (iblk m c 0 t) (iblk m c 1 t) (iblk m c 3 t) r n (place r j)
    = bandScore (qA m c) (kA m c) (relA m c) (bat t) (row t r) n j := by
  have hrl := r.isLt
  have e := congrArg Fin.val (bandRow_eq t r j)
  unfold scoreAt bandScore
  refine if_congr ?_ rfl (congrArg₂ (fun p q : EReal => p + q) (Finset.sum_congr rfl fun e _ => congrArg₂ (fun p q : EReal => p * q) (block_q m c t _ _) ?_) ?_)
  · rw [← e]
    show j.val + 64 * (r.val / 64) + 128 * (grid0.coords t 1).val < 512 ↔ 128 * (grid0.coords t 1).val + (j.val + 64 * (r.val / 64)) < 512
    omega
  · rw [block_k, bandRow_eq]
  · rw [block_b]
    refine (bias_in m c (headOf n) r j).trans ?_
    rw [show (row t r).val % 64 = r.val % 64 by show (128 * (t.val % 32) + r.val) % 64 = r.val % 64; omega]

/-- Outside it, it is −∞. -/
theorem score_out (j : Fin 640) (hj : j ∉ Set.range (place r)) : scoreAt (grid0.coords t) (iblk m c 0 t) (iblk m c 1 t) (iblk m c 3 t) r n j = ⊥ := by
  unfold scoreAt
  by_cases h : j.val + 128 * (grid0.coords t 1).val < 512
  · rw [if_pos h]
  · rw [if_neg h, block_b, bias_out m c (headOf n) r j fun ⟨h1, h2⟩ => hj ⟨⟨j.val - 64 * (r.val / 64), by omega⟩, Fin.ext (by
      show j.val - 64 * (r.val / 64) + 64 * (r.val / 64) = j.val
      omega)⟩]
    exact EReal.add_bot _

include hq hk hr

/-- What point `t` writes, entry by entry. -/
theorem point_apply :
    out0_A_4 (F := Ideal) c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (ix3 u0 r n)
      = bandMean (qA m c) (kA m c) (vA m c) (relA m c) (bat t) (row t r) n := by
  rw [out_apply]
  unfold bandAt bandMean
  refine (mean_eq (bandScore (qA m c) (kA m c) (relA m c) (bat t) (row t r) n) (bandScore_ne_top _ _ _ hq hk hr _ _ _) _ (bandScore_own _ _ _ hq hk hr _ _ _)
    (place r) (fun a b h => Fin.ext (by have := congrArg Fin.val h; change a.val + _ = b.val + _ at this; omega)) _ (score_in m c t r n) (score_out m c t r n) _).trans ?_
  refine Finset.sum_congr rfl fun j _ => congrArg (fun v : EReal => Ideal.div (weight (bandScore (qA m c) (kA m c) (relA m c) (bat t) (row t r) n) j) _ * v) ?_
  exact (block_v m c t _ _).trans (congrArg (fun s => vA m c (ix3 (bat t) s n)) (bandRow_eq t r j))

end Point

/-- The result array. -/
def G4 (c : Dev nD) : FVec Ideal S4x4096x512 .bf16 := fun i => bandMean (qA m c) (kA m c) (vA m c) (relA m c) (i 0) (i 1) (i 2)

theorem mem_block (t : Fin cfg0.N) (i : S4x4096x512.Idx) : i ∈ ((cfg0.win 4).blk t).view.set
    ↔ ∀ a : Fin 3, win0_4.index t a * S1x128x512.size a ≤ (i a).val ∧ (i a).val < win0_4.index t a * S1x128x512.size a + S1x128x512.size a := by
  show i ∈ ((View.whole main_v32).slice (win0_4.rect t)).set ↔ _
  rw [View.set_slice_whole, Rect.mem_set_unit]
  exact Iff.rfl

theorem result_eq (c : Dev nD) (hq : ∀ i, qA m c i = ((qA m c i : EReal).toReal : EReal)) (hk : ∀ i, kA m c i = ((kA m c i : EReal).toReal : EReal))
    (hr : ∀ i, relA m c i = ((relA m c i : EReal).toReal : EReal)) : (dats m 0 c).arrAt 4 cfg0.N = G4 m c := by
  refine (dats m 0 c).arrAt_eq_of_cover 4 (G4 m c) (fun t _ => ?_) (fun i => ?_)
  · rw [flushed4_A]
    funext y
    have hy0 : (y 0).val < 1 := (y 0).isLt
    have hy1 : (y 1).val < 128 := (y 1).isLt
    have hy2 : (y 2).val < 512 := (y 2).isLt
    have hl : (cfg0.win 4).xinj (grid0.coords t) y = ix3 u0 (⟨(y 1).val, hy1⟩ : Fin 128) (⟨(y 2).val, hy2⟩ : Fin 512) := by
      funext a; apply Fin.ext
      match a with
      | ⟨0, _⟩ => show (y 0).val = 0; omega
      | ⟨1, _⟩ => rfl
      | ⟨2, _⟩ => rfl
    have he : ((cfg0.win 4).blk t).view.emb y = ix3 (bat t) (row t ⟨(y 1).val, hy1⟩) (⟨(y 2).val, hy2⟩ : Fin 512) := by
      funext a; apply Fin.ext
      match a with
      | ⟨0, _⟩ => show win0_4.index t 0 * 1 + 1 * (y 0).val = t.val / 32; rw [(index_o t).1]; omega
      | ⟨1, _⟩ => show win0_4.index t 1 * 128 + 1 * (y 1).val = 128 * (t.val % 32) + (y 1).val; rw [(index_o t).2.1]; omega
      | ⟨2, _⟩ => show win0_4.index t 2 * 512 + 1 * (y 2).val = (y 2).val; rw [(index_o t).2.2]; omega
    rw [View.read_apply]
    show out0_A_4 (F := Ideal) c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) ((cfg0.win 4).xinj (grid0.coords t) y) = G4 m c (((cfg0.win 4).blk t).view.emb y)
    rw [hl, he]
    exact point_apply m c hq hk hr t _ _
  · have hi0 : (i 0).val < 4 := (i 0).isLt
    have hi1 : (i 1).val < 4096 := (i 1).isLt
    have hi2 : (i 2).val < 512 := (i 2).isLt
    have hN := points
    refine ⟨⟨32 * (i 0).val + (i 1).val / 128, by omega⟩, flush0_4 _, ?_⟩
    refine (mem_block _ i).2 ?_
    obtain ⟨e0, e1, e2⟩ := index_o ⟨32 * (i 0).val + (i 1).val / 128, by omega⟩
    intro a
    match a with
    | ⟨0, _⟩ => show win0_4.index _ 0 * 1 ≤ (i 0).val ∧ (i 0).val < win0_4.index _ 0 * 1 + 1; rw [e0]; dsimp only; omega
    | ⟨1, _⟩ => show win0_4.index _ 1 * 128 ≤ (i 1).val ∧ (i 1).val < win0_4.index _ 1 * 128 + 128; rw [e1]; dsimp only; omega
    | ⟨2, _⟩ => show win0_4.index _ 2 * 512 ≤ (i 2).val ∧ (i 2).val < win0_4.index _ 2 * 512 + 512; rw [e2]; dsimp only; omega

end Cert.KernelBaIdeal.Ba

end
-- ==== Proof.BaRefKeys.lean ====
/-
  Chunked band attention as the reference writes it: the nine chunks of keys and values of a query's chunk, the bias by
  clipped distance, and the masked scores.
-/
module

public import proofs.«01_k».proof.Proof.BaGather
public import proofs.«01_k».proof.Proof.BaBand
public import proofs.«01_k».proof.Proof.Words
public import proofs.«01_k».proof.Proof.Gen.ReferenceBaIdeal.Read

@[expose] public section

noncomputable section

namespace Cert.ReferenceBaIdeal.Ba

open Idealize.ShloMosaic Idealize.SL.Sem Idealize.ShloMosaic.ValueIdx
open Cert.ReferenceBaIdeal Cert.ReferenceBaIdeal.Gen Cert.ReferenceBaIdeal.Read Cert.Kit

variable (x0 : FVec Ideal S4x4096x512 .bf16) (x1 x2 : FVec Ideal S4x4608x512 .bf16) (x3 : FVec Ideal S8x257 .f32)

/-! ## The integer arrays -/

/-- The chunk of keys that a query chunk's band has at place `o`. -/
theorem keyChunk : ∀ (c : Fin 64) (o : Fin 9), min (val_main_v16 (F := Ideal) (ix3 c o (0 : Fin 1))).toInt.toNat (72 - 1) = c.val + o.val := by decide +kernel
theorem valueChunk : ∀ (c : Fin 64) (o : Fin 9), min (val_main_v25 (F := Ideal) (ix3 c o (0 : Fin 1))).toInt.toNat (72 - 1) = c.val + o.val := by decide +kernel

/-- The bias table's column for a query and a key of its band. -/
theorem biasColumn (i : Fin 64) (j : Fin 576) : val_main_v47 (F := Ideal) (ix3 i j (0 : Fin 1)) = pickW (distW i.val j.val) := rfl

theorem placeChunk : ∀ j : Fin 576, val_main_v55 (F := Ideal) (ix2 (0 : Fin 1) j) = BitVec.ofNat 32 (j.val / 64) := by decide +kernel

theorem realChunk : ∀ (c : Fin 64) (o : Fin 9), IntOp.cmpi .sge (IntOp.addi (IntOp.subi (BitVec.ofNat 32 c.val) 8#32) (BitVec.ofNat 32 o.val)) 0#32 = 1#1 ↔ 8 ≤ c.val + o.val := by
  decide +kernel

/-- A key is in the sequence where its row is past the padding. -/
theorem realKey (c : Fin 64) (j : Fin 576) : val_main_v60 (F := Ideal) (ix2 c j) = 1#1 ↔ ¬64 * c.val + j.val < 512 := by
  have hj := j.isLt
  have e : val_main_v60 (F := Ideal) (ix2 c j) = IntOp.cmpi .sge (IntOp.addi (IntOp.subi (BitVec.ofNat 32 c.val) 8#32) (val_main_v55 (F := Ideal) (ix2 (0 : Fin 1) j))) 0#32 := rfl
  rw [e, placeChunk]
  refine (realChunk c ⟨j.val / 64, by omega⟩).trans ?_
  show 8 ≤ c.val + j.val / 64 ↔ _
  omega

/-! ## Keys, values and queries -/

/-- A query's chunk, its place there, and a column's place in its head. -/
abbrev chunk (s : Fin 4096) : Fin 64 := ⟨s.val / 64, by have := s.isLt; omega⟩
abbrev query (s : Fin 4096) : Fin 64 := ⟨s.val % 64, by omega⟩
abbrev dim (n : Fin 512) : Fin 64 := ⟨n.val % 64, by omega⟩

theorem headCol_dim (n : Fin 512) : headCol n (dim n) = n := Fin.ext (by show 64 * (n.val / 64) + n.val % 64 = n.val; omega)

theorem chunked (x : FVec Ideal S4x4608x512 .f32) (b : Fin 4) (p : Fin 72) (k : Fin 64) (h : Fin 8) (e : Fin 64) (r : Fin 4608) (n : Fin 512)
    (hr : r.val = 64 * p.val + k.val) (hn : n.val = 64 * h.val + e.val) :
    shapeCast S4x72x64x8x64 x shapeCasts_S4x4608x512_S4x72x64x8x64 (ix5 b p k h e) = x (ix3 b r n) :=
  shapeCast_apply x shapeCasts_S4x4608x512_S4x72x64x8x64 (ix5 b p k h e) (ix3 b r n) (by
    rw [Shape.rowMajor_val_three, Shape.rowMajor_val_five]
    show (b.val * 4608 + r.val) * 512 + n.val = (((b.val * 72 + p.val) * 64 + k.val) * 8 + h.val) * 64 + e.val
    omega)

theorem joined (x : FVec Ideal S4x64x9x64x8x64 .f32) (b : Fin 4) (c : Fin 64) (j : Fin 576) (h : Fin 8) (e : Fin 64) :
    shapeCast S4x64x576x8x64 x shapeCasts_S4x64x9x64x8x64_S4x64x576x8x64 (ix5 b c j h e)
      = x (ix6 b c (⟨j.val / 64, by have := j.isLt; omega⟩ : Fin 9) (⟨j.val % 64, by omega⟩ : Fin 64) h e) :=
  shapeCast_apply x shapeCasts_S4x64x9x64x8x64_S4x64x576x8x64 (ix5 b c j h e) (ix6 b c _ _ h e) (by
    rw [Shape.rowMajor_val_six, Shape.rowMajor_val_five]
    show ((((b.val * 64 + c.val) * 9 + j.val / 64) * 64 + j.val % 64) * 8 + h.val) * 64 + e.val = (((b.val * 64 + c.val) * 576 + j.val) * 8 + h.val) * 64 + e.val
    omega)

/-- The band of a chunk, read from the rows of an array: nine chunks from the chunk's own on. -/
theorem band_apply (x : FVec Ideal S4x4608x512 .f32) (idx : IVec S64x9x1 32)
    (hidx : ∀ (c : Fin 64) (o : Fin 9), min (idx (ix3 c o (0 : Fin 1))).toInt.toNat (72 - 1) = c.val + o.val)
    (b : Fin 4) (s : Fin 4096) (j : Fin 576) (n : Fin 512) (e : Fin 64) :
    shapeCast S4x64x576x8x64 (Host.gather gather_S4x72x64x8x64_S64x9x1_S4x64x9x64x8x64_0345_1_n_n_1_2_4164864
        (shapeCast S4x72x64x8x64 x shapeCasts_S4x4608x512_S4x72x64x8x64) idx) shapeCasts_S4x64x9x64x8x64_S4x64x576x8x64 (ix5 b (chunk s) j (headOf n) e)
      = x (ix3 b (bandRow s j) (headCol n e)) := by
  have hj := j.isLt
  refine (joined _ b (chunk s) j (headOf n) e).trans ?_
  refine (chunks_apply (B := 4) (N := 72) (K := 64) (H := 8) (D := 64) (R := 64) (C := 9) (by decide) gather_S4x72x64x8x64_S64x9x1_S4x64x9x64x8x64_0345_1_n_n_1_2_4164864_wf
    _ idx b (chunk s) _ _ (headOf n) e).trans ?_
  refine chunked x b _ _ (headOf n) e (bandRow s j) (headCol n e) ?_ rfl
  show 64 * (s.val / 64) + j.val = 64 * min (idx (ix3 (chunk s) (⟨j.val / 64, _⟩ : Fin 9) (0 : Fin 1))).toInt.toNat (72 - 1) + j.val % 64
  rw [hidx]
  show 64 * (s.val / 64) + j.val = 64 * (s.val / 64 + j.val / 64) + j.val % 64
  omega

theorem key_apply (b : Fin 4) (s : Fin 4096) (j : Fin 576) (n : Fin 512) (e : Fin 64) :
    val_main_v18 (F := Ideal) x1 (ix5 b (chunk s) j (headOf n) e) = x1 (ix3 b (bandRow s j) (headCol n e)) :=
  band_apply (val_main_v1 (F := Ideal) x1) _ keyChunk b s j n e

theorem value_apply (b : Fin 4) (s : Fin 4096) (j : Fin 576) (n : Fin 512) :
    val_main_v27 (F := Ideal) x2 (ix5 b (chunk s) j (headOf n) (dim n)) = x2 (ix3 b (bandRow s j) n) :=
  (band_apply (val_main_v2 (F := Ideal) x2) _ valueChunk b s j n (dim n)).trans (congrArg (fun n => x2 (ix3 b (bandRow s j) n)) (headCol_dim n))

theorem query_apply (b : Fin 4) (s : Fin 4096) (n : Fin 512) (e : Fin 64) :
    val_main_v28 (F := Ideal) x0 (ix5 b (chunk s) (query s) (headOf n) e) = x0 (ix3 b s (headCol n e)) :=
  shapeCast_apply (val_main_v0 (F := Ideal) x0) shapeCasts_S4x4096x512_S4x64x64x8x64 (ix5 b (chunk s) (query s) (headOf n) e) (ix3 b s (headCol n e)) (by
    rw [Shape.rowMajor_val_three, Shape.rowMajor_val_five]
    show (b.val * 4096 + s.val) * 512 + (64 * (n.val / 64) + e.val) = (((b.val * 64 + s.val / 64) * 64 + s.val % 64) * 8 + n.val / 64) * 64 + e.val
    omega)

theorem bias_apply (h : Fin 8) (i : Fin 64) (j : Fin 576) : val_main_v48 (F := Ideal) x3 (ix3 h i j) = x3 (ix2 h (pick (distW i.val j.val))) :=
  (columns_apply (H := 8) (N := 257) (R := 64) (C := 576) (by decide) gather_S8x257_S64x576x1_S8x64x576_0_1_n_n_1_2_81_wf x3 (val_main_v47 (F := Ideal)) h i j).trans
    (congrArg (fun p : Fin 257 => x3 (ix2 h p)) (Fin.ext (congrArg (fun w : BitVec 32 => min w.toInt.toNat (257 - 1)) (biasColumn i j))))

/-! ## The scores -/

theorem dots_apply (b : Fin 4) (s : Fin 4096) (n : Fin 512) (j : Fin 576) :
    val_main_v29 (F := Ideal) x0 x1 (ix5 b (headOf n) (chunk s) (query s) j) = ∑ e : Fin 64, x0 (ix3 b s (headCol n e)) * x1 (ix3 b (bandRow s j) (headCol n e)) := by
  rw [val_main_v29_apply]
  refine Finset.sum_congr rfl fun e _ => congrArg₂ (fun p q : EReal => p * q) ?_ ?_
  · refine (congrArg (val_main_v28 (F := Ideal) x0) ?_).trans (query_apply x0 b s n e)
    exact eq_ix5 _
  · refine (congrArg (val_main_v18 (F := Ideal) x1) ?_).trans (key_apply x1 b s j n e)
    exact eq_ix5 _

theorem score_apply (b : Fin 4) (s : Fin 4096) (n : Fin 512) (j : Fin 576) :
    val_main_v65 (F := Ideal) x0 x1 x3 (ix5 b (headOf n) (chunk s) (query s) j) = bandScore x0 x1 x3 b s n j := by
  have hbit : val_main_call2_v1 (F := Ideal) (ix5 b (headOf n) (chunk s) (query s) j) = val_main_v60 (F := Ideal) (ix2 (chunk s) j) :=
    (val_main_call2_v1_apply _).trans ((val_main_v61_apply _).trans (congrArg (val_main_v60 (F := Ideal)) (eq_ix2 _)))
  have hbias : val_main_v63 (F := Ideal) x3 (ix5 b (headOf n) (chunk s) (query s) j) = val_main_v48 (F := Ideal) x3 (ix3 (headOf n) (query s) j) :=
    (val_main_v63_apply (F := Ideal) x3 _).trans ((val_main_v62_apply (F := Ideal) x3 _).trans (congrArg (val_main_v48 (F := Ideal) x3) (eq_ix3 _)))
  have hlow : val_main_call2_v2 (F := Ideal) (ix5 b (headOf n) (chunk s) (query s) j) = (⊥ : EReal) := by
    show Ideal.ofBits .f32 0xFF800000#32 = _
    simp [Ideal.ofBits, Ideal.ieee]
  have hsum : val_main_v64 (F := Ideal) x0 x1 x3 (ix5 b (headOf n) (chunk s) (query s) j)
      = (∑ e : Fin 64, x0 (ix3 b s (headCol n e)) * x1 (ix3 b (bandRow s j) (headCol n e))) + x3 (ix2 (headOf n) (pick (distW (s.val % 64) j.val))) :=
    congrArg₂ (fun p q : EReal => p + q) (dots_apply x0 x1 b s n j) (hbias.trans (bias_apply x3 _ _ _))
  rw [val_main_v65_apply, hbit, hlow, hsum]
  refine (select_of (realKey (chunk s) j) _ _).trans ?_
  rw [ite_not]
  rfl

end Cert.ReferenceBaIdeal.Ba

end
-- ==== Proof.BaRef.lean ====
/-
  Chunked band attention as the reference writes it: the softmax of the masked scores and the mean of the values.
-/
module

public import Idealize.ShloMosaic.Lib.KernelVsHost
public import proofs.«01_k».proof.Proof.BaSoft
public import proofs.«01_k».proof.Proof.BaRefKeys

@[expose] public section

noncomputable section

namespace Cert.ReferenceBaIdeal.Ba

open Idealize.ShloMosaic Idealize.SL.Sem Idealize.ShloMosaic.ValueIdx
open Cert.ReferenceBaIdeal Cert.ReferenceBaIdeal.Gen Cert.ReferenceBaIdeal.Read Cert.Kit

/-- The greatest entry along the last axis, from −∞. -/
theorem lastMax_apply (x : FVec Ideal S4x8x64x64x576 .f32) (b : Fin 4) (h : Fin 8) (c i : Fin 64) :
    Host.reduce (FloatOps.maximumf (F := Ideal) (φ := .f32)) x (constant (F := Ideal) S_ .f32 0xFF800000#32) reducesTo_S4x8x64x64x576_S4x8x64x64_d4 h_S_ (ix4 b h c i)
      = Finset.univ.sup fun j : Fin 576 => x (ix5 b h c i j) := by
  have hφ : FKind.Formats .f32 := by decide
  have hred : S4x8x64x64x576.Reduces [4] S4x8x64x64 := by decide
  have hacc : 0xFF800000#32 = FKind.maximumf.neutral .f32 hφ := rfl
  refine (congrFun (hostReduce_maximumf_eq_multiReduction x 0xFF800000#32 reducesTo_S4x8x64x64x576_S4x8x64x64_d4 h_S_ hred hφ hacc) _).trans ?_
  refine (Ideal.multiReduction_maximumf_single x 0xFF800000#32 hred hφ hacc (ix4 b h c i)).trans ?_
  rw [show FloatOps.ofBits (F := Ideal) .f32 0xFF800000#32 = (⊥ : EReal) from bot_word]
  refine Finset.fold_congr fun k _ => congrArg x ?_
  funext a; apply Fin.ext
  fin_cases a <;> rfl

variable (x0 : FVec Ideal S4x4096x512 .bf16) (x1 x2 : FVec Ideal S4x4608x512 .bf16) (x3 : FVec Ideal S8x257 .f32) (b : Fin 4) (s : Fin 4096) (n : Fin 512)

theorem max_apply : val_main_v68 (F := Ideal) x0 x1 x3 (ix4 b (headOf n) (chunk s) (query s)) = Finset.univ.sup (bandScore x0 x1 x3 b s n) := by
  have hlow : val_main_v67 (F := Ideal) (ix4 b (headOf n) (chunk s) (query s)) = (⊥ : EReal) := (val_main_v67_apply (F := Ideal) _).trans bot_word
  have hmax : val_main_v66 (F := Ideal) x0 x1 x3 (ix4 b (headOf n) (chunk s) (query s)) = Finset.univ.sup (bandScore x0 x1 x3 b s n) :=
    (lastMax_apply (val_main_v65 (F := Ideal) x0 x1 x3) b (headOf n) (chunk s) (query s)).trans
      (congrArg (Finset.univ.sup) (funext fun j => score_apply x0 x1 x3 b s n j))
  rw [val_main_v68_apply, hlow, hmax]
  exact max_bot_left _

theorem weight_apply (j : Fin 576) : val_main_v72 (F := Ideal) x0 x1 x3 (ix5 b (headOf n) (chunk s) (query s) j) = weight (bandScore x0 x1 x3 b s n) j := by
  have hmax : val_main_v70 (F := Ideal) x0 x1 x3 (ix5 b (headOf n) (chunk s) (query s) j) = Finset.univ.sup (bandScore x0 x1 x3 b s n) :=
    (val_main_v70_apply (F := Ideal) x0 x1 x3 _).trans ((val_main_v69_apply (F := Ideal) x0 x1 x3 _).trans
      ((congrArg (val_main_v68 (F := Ideal) x0 x1 x3) (eq_ix4 _)).trans (max_apply x0 x1 x3 b s n)))
  rw [val_main_v72_apply, val_main_v71_apply, hmax, score_apply]
  rfl

theorem total_apply : val_main_v73 (F := Ideal) x0 x1 x3 (ix4 b (headOf n) (chunk s) (query s)) = ∑ j : Fin 576, weight (bandScore x0 x1 x3 b s n) j := by
  have hzero : (val_main_cst_14 (F := Ideal)) (Shape.Idx.first h_S_) = (0 : EReal) := by
    show Ideal.ofBits .f32 0x00000000#32 = _
    simp [Ideal.ofBits, Ideal.ieee]
  rw [val_main_v73_apply, hzero, zero_add]
  exact Finset.sum_congr rfl fun j _ => (congrArg (val_main_v72 (F := Ideal) x0 x1 x3) (eq_ix5 _)).trans (weight_apply x0 x1 x3 b s n j)

theorem share_apply (j : Fin 576) : val_main_v76 (F := Ideal) x0 x1 x3 (ix5 b (headOf n) (chunk s) (query s) j)
    = Ideal.div (weight (bandScore x0 x1 x3 b s n) j) (∑ j : Fin 576, weight (bandScore x0 x1 x3 b s n) j) := by
  have htot : val_main_v75 (F := Ideal) x0 x1 x3 (ix5 b (headOf n) (chunk s) (query s) j) = ∑ j : Fin 576, weight (bandScore x0 x1 x3 b s n) j :=
    (val_main_v75_apply (F := Ideal) x0 x1 x3 _).trans ((val_main_v74_apply (F := Ideal) x0 x1 x3 _).trans
      ((congrArg (val_main_v73 (F := Ideal) x0 x1 x3) (eq_ix4 _)).trans (total_apply x0 x1 x3 b s n)))
  rw [val_main_v76_apply, htot, weight_apply]
  rfl

theorem mean_apply : val_main_v77 (F := Ideal) x0 x1 x2 x3 (ix5 b (chunk s) (headOf n) (dim n) (query s)) = bandMean x0 x1 x2 x3 b s n := by
  rw [val_main_v77_apply]
  refine Finset.sum_congr rfl fun j _ => (mul_comm _ _).trans (congrArg₂ (fun p q : EReal => p * q) ?_ ?_)
  · exact (congrArg (val_main_v76 (F := Ideal) x0 x1 x3) (eq_ix5 _)).trans (share_apply x0 x1 x3 b s n j)
  · exact (congrArg (val_main_v27 (F := Ideal) x2) (eq_ix5 _)).trans (value_apply x2 b s j n)

/-- An entry of the reference's result. -/
theorem result_apply : val_main_v80 (F := Ideal) x0 x1 x2 x3 (ix3 b s n) = bandMean x0 x1 x2 x3 b s n := by
  have hmove : val_main_v79 (F := Ideal) x0 x1 x2 x3 (ix3 b s n) = val_main_v78 (F := Ideal) x0 x1 x2 x3 (ix5 b (chunk s) (query s) (headOf n) (dim n)) :=
    shapeCast_apply (val_main_v78 (F := Ideal) x0 x1 x2 x3) shapeCasts_S4x64x64x8x64_S4x4096x512 (ix3 b s n) (ix5 b (chunk s) (query s) (headOf n) (dim n)) (by
      rw [Shape.rowMajor_val_five, Shape.rowMajor_val_three]
      show (((b.val * 64 + s.val / 64) * 64 + s.val % 64) * 8 + n.val / 64) * 64 + n.val % 64 = (b.val * 4096 + s.val) * 512 + n.val
      omega)
  refine (val_main_v80_apply (F := Ideal) x0 x1 x2 x3 _).trans (hmove.trans ((val_main_v78_apply (F := Ideal) x0 x1 x2 x3 _).trans ?_))
  exact (congrArg (val_main_v77 (F := Ideal) x0 x1 x2 x3) (eq_ix5 _)).trans (mean_apply x0 x1 x2 x3 b s n)

end Cert.ReferenceBaIdeal.Ba

end
-- ==== Proof.BaClaims.lean ====
/-
  The claims about the chunked band attention: from finite queries, keys and bias table, kernel and reference end with
  one array.
-/
module

public import proofs.«01_k».proof.Defs
public import proofs.«01_k».proof.Proof.Gen.KernelBa.Frame
public import proofs.«01_k».proof.Proof.Gen.KernelBaIdeal.Frame
public import proofs.«01_k».proof.Proof.SbClaims
public import proofs.«01_k».proof.Proof.BaFold
public import proofs.«01_k».proof.Proof.BaRef
public import Idealize.ShloMosaic.Lib.ReduceAll

@[expose] public section

noncomputable section

/-- The side conditions of the printed precondition. -/
instance Cert.Pre_finite_band.facts : Cert.Pre_finite_band.Facts := ⟨by decide, by decide, by decide, by decide, by decide, by decide, by decide, by decide⟩

namespace Cert.Proof.Ba

open Idealize.ShloMosaic Idealize.SL.Sem Idealize.ShloMosaic.ValueIdx

theorem frame_kernel : Cert.quiescent_KernelBa := fun m ρ _ => Cert.KernelBa.Gen.frame m ρ

theorem frame_ideal : Cert.quiescent_KernelBaIdeal := fun m ρ _ => Cert.KernelBaIdeal.Gen.frame m ρ

theorem frame_ideal_pre : Cert.quiescent_KernelBaIdeal_pre_finite_band := fun m ρ _ => Cert.KernelBaIdeal.Gen.frame m ρ

theorem frame_reference : Cert.quiescent_ReferenceBaIdeal := fun m ρ _ =>
  (θ_run _ _ _).mono (fun r h => ⟨fun c => (h c).2, sem_eq_zero_of_no_sems (by decide) r.2⟩)
    (Cert.ReferenceBaIdeal.Value.run (F := Ideal) m ρ)

theorem frame_reference_pre : Cert.quiescent_ReferenceBaIdeal_pre_finite_band := fun m ρ _ => frame_reference m ρ trivial

/-- The mask's literal, named, is read as −∞. -/
theorem preserves : Cert.preserves_KernelBa_KernelBaIdeal := IdealRules.named_const.statement Cert.KernelBaIdeal.κ "mask" .f32 0xF149F2CA#32 ⊥ rfl

instance : Subsingleton Cert.Pre_finite_band.S_.Idx := ⟨fun a b => funext fun x => x.elim0⟩

/-- The precondition, read: queries, keys and bias table are real numbers. -/
theorem finite_of_pre (q : FVec Ideal Cert.KernelBaIdeal.S4x4096x512 .bf16) (k v : FVec Ideal Cert.KernelBaIdeal.S4x4608x512 .bf16)
    (r : FVec Ideal Cert.KernelBaIdeal.S8x257 .f32) (h : Cert.Pre_finite_band.fn (F := Ideal) q k v r = fun _ => 1#1) :
    (∀ i, q i = ((q i : EReal).toReal : EReal)) ∧ (∀ i, k i = ((k i : EReal).toReal : EReal)) ∧ ∀ i, r i = ((r i : EReal).toReal : EReal) := by
  have h0 := Cert.Proof.Sb.both_bits _ _ (congrFun h ix0)
  have h1 := Cert.Proof.Sb.both_bits _ _ h0.1
  exact ⟨fun i => Cert.Proof.Sb.real_of_bit _ (Host.reduce_andi_all _ _ _ _ _ h1.1 i),
    fun i => Cert.Proof.Sb.real_of_bit _ (Host.reduce_andi_all _ _ _ _ _ h1.2 i),
    fun i => Cert.Proof.Sb.real_of_bit _ (Host.reduce_andi_all _ _ _ _ _ h0.2 i)⟩

/-- Kernel and reference end with one array. -/
theorem algebraic : Cert.algebraic_KernelBaIdeal_ReferenceBaIdeal_pre_finite_band := fun m ρ m' ρ' hpre hag =>
  ⟨fun c => Cert.KernelBaIdeal.Ba.G4 m c,
    (θ_run _ _ _).mono (fun _ h c => by
      obtain ⟨hq, hk, hr⟩ := finite_of_pre _ _ _ _ (hpre c)
      exact ⟨(h c).1.trans (Cert.KernelBaIdeal.Ba.result_eq m c hq hk hr), (h c).2⟩)
      (Cert.KernelBaIdeal.Value.run_blocks m ρ),
    (θ_run _ _ _).mono (fun _ h c => ⟨(h c).1.trans ((Cert.ReferenceBaIdeal.Read.val_main_v80_eq m' c).trans (by
      rw [(hag c).1, (hag c).2.1, (hag c).2.2.1, (hag c).2.2.2]
      refine funext fun i => ?_
      rw [eq_ix3 i]
      exact Cert.ReferenceBaIdeal.Ba.result_apply _ _ _ _ (i 0) (i 1) (i 2))), (h c).2⟩)
      (Cert.ReferenceBaIdeal.Value.run (F := Ideal) m' ρ')⟩

end Cert.Proof.Ba

end
-- ==== Proof.lean ====
/-
  The proof of `Cert.Claim`: each call's claims, proved in its own modules, put together.
-/
module

public import proofs.«01_k».proof.Defs
public import proofs.«01_k».proof.Proof.MoeClaims
public import proofs.«01_k».proof.Proof.SbClaims
public import proofs.«01_k».proof.Proof.IoClaims
public import proofs.«01_k».proof.Proof.OoClaims
public import proofs.«01_k».proof.Proof.IeClaims
public import proofs.«01_k».proof.Proof.OeClaims
public import proofs.«01_k».proof.Proof.BaClaims
public import proofs.«01_k».proof.Proof.Gen.KernelSb
public import proofs.«01_k».proof.Proof.Gen.KernelSb.Frame
public import proofs.«01_k».proof.Proof.Gen.KernelSbIdeal
public import proofs.«01_k».proof.Proof.Gen.KernelSbIdeal.Frame
public import proofs.«01_k».proof.Proof.Gen.KernelSbIdeal.Loops
public import proofs.«01_k».proof.Proof.Gen.KernelSbIdeal.Value
public import proofs.«01_k».proof.Proof.Gen.ReferenceSbIdeal
public import proofs.«01_k».proof.Proof.Gen.ReferenceSbIdeal.Read
public import proofs.«01_k».proof.Proof.Gen.KernelIo
public import proofs.«01_k».proof.Proof.Gen.KernelIo.Frame
public import proofs.«01_k».proof.Proof.Gen.KernelIoIdeal
public import proofs.«01_k».proof.Proof.Gen.KernelIoIdeal.Frame
public import proofs.«01_k».proof.Proof.Gen.KernelIoIdeal.Value
public import proofs.«01_k».proof.Proof.Gen.ReferenceIoIdeal
public import proofs.«01_k».proof.Proof.Gen.ReferenceIoIdeal.Read
public import proofs.«01_k».proof.Proof.Gen.KernelOo
public import proofs.«01_k».proof.Proof.Gen.KernelOo.Frame
public import proofs.«01_k».proof.Proof.Gen.KernelOoIdeal
public import proofs.«01_k».proof.Proof.Gen.KernelOoIdeal.Frame
public import proofs.«01_k».proof.Proof.Gen.KernelOoIdeal.Value
public import proofs.«01_k».proof.Proof.Gen.ReferenceOoIdeal
public import proofs.«01_k».proof.Proof.Gen.ReferenceOoIdeal.Read
public import proofs.«01_k».proof.Proof.Gen.KernelIe
public import proofs.«01_k».proof.Proof.Gen.KernelIe.Frame
public import proofs.«01_k».proof.Proof.Gen.KernelIeIdeal
public import proofs.«01_k».proof.Proof.Gen.KernelIeIdeal.Frame
public import proofs.«01_k».proof.Proof.Gen.KernelIeIdeal.Value
public import proofs.«01_k».proof.Proof.Gen.ReferenceIeIdeal
public import proofs.«01_k».proof.Proof.Gen.ReferenceIeIdeal.Read
public import proofs.«01_k».proof.Proof.Gen.KernelOe
public import proofs.«01_k».proof.Proof.Gen.KernelOe.Frame
public import proofs.«01_k».proof.Proof.Gen.KernelOeIdeal
public import proofs.«01_k».proof.Proof.Gen.KernelOeIdeal.Frame
public import proofs.«01_k».proof.Proof.Gen.KernelOeIdeal.Value
public import proofs.«01_k».proof.Proof.Gen.ReferenceOeIdeal
public import proofs.«01_k».proof.Proof.Gen.ReferenceOeIdeal.Read
public import proofs.«01_k».proof.Proof.Gen.KernelBa
public import proofs.«01_k».proof.Proof.Gen.KernelBa.Frame
public import proofs.«01_k».proof.Proof.Gen.KernelBaIdeal
public import proofs.«01_k».proof.Proof.Gen.KernelBaIdeal.Frame
public import proofs.«01_k».proof.Proof.Gen.KernelBaIdeal.Value
public import proofs.«01_k».proof.Proof.Gen.ReferenceBaIdeal
public import proofs.«01_k».proof.Proof.Gen.ReferenceBaIdeal.Read

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelSb.Gen.facts, Cert.KernelSbIdeal.Gen.facts, Cert.ReferenceSbIdeal.Gen.facts,
  Cert.KernelIo.Gen.facts, Cert.KernelIoIdeal.Gen.facts, Cert.ReferenceIoIdeal.Gen.facts,
  Cert.KernelOo.Gen.facts, Cert.KernelOoIdeal.Gen.facts, Cert.ReferenceOoIdeal.Gen.facts,
  Cert.KernelIe.Gen.facts, Cert.KernelIeIdeal.Gen.facts, Cert.ReferenceIeIdeal.Gen.facts,
  Cert.KernelOe.Gen.facts, Cert.KernelOeIdeal.Gen.facts, Cert.ReferenceOeIdeal.Gen.facts,
  Cert.KernelBa.Gen.facts, Cert.KernelBaIdeal.Gen.facts, Cert.ReferenceBaIdeal.Gen.facts,
  Cert.Pre_finite_qk.facts, Cert.Pre_finite_rows.facts, Cert.Pre_finite_band.facts,
  Moe.frame_kernel, Moe.frame_ideal, Moe.frame_reference,
  Sb.frame_kernel, Sb.frame_ideal, Sb.frame_ideal_pre, Sb.frame_reference, Sb.frame_reference_pre,
  Io.frame_kernel, Io.frame_ideal, Io.frame_reference,
  Oo.frame_kernel, Oo.frame_ideal, Oo.frame_reference,
  Ie.frame_kernel, Ie.frame_ideal, Ie.frame_ideal_pre, Ie.frame_reference, Ie.frame_reference_pre,
  Oe.frame_kernel, Oe.frame_ideal, Oe.frame_reference,
  Ba.frame_kernel, Ba.frame_ideal, Ba.frame_ideal_pre, Ba.frame_reference, Ba.frame_reference_pre,
  trivial, Moe.algebraic, trivial, Sb.algebraic, trivial, Io.algebraic, trivial, Oo.algebraic, trivial, Ie.algebraic,
  trivial, Oe.algebraic, Ba.preserves, Ba.algebraic⟩

end Cert.Proof

end
